-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v8) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v15) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v37) = v1 c
          ∧ r.2.mem ((c.tc : Thread Cert.Reference14Ideal.nD Cert.Reference14Ideal.τ).loc Cert.Reference14Ideal.main_v38) = v2 c
          ∧ r.2.mem ((c.tc : Thread Cert.Reference14Ideal.nD Cert.Reference14Ideal.τ).loc Cert.Reference14Ideal.main_v39) = v3 c
          ∧ r.2.mem ((c.tc : Thread Cert.Reference14Ideal.nD Cert.Reference14Ideal.τ).loc Cert.Reference14Ideal.main_v42) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v57) = v0 c
          ∧ r.2.mem ((c.tc : Thread Cert.Reference15Ideal.nD Cert.Reference15Ideal.τ).loc Cert.Reference15Ideal.main_v58) = v1 c
          ∧ r.2.mem ((c.tc : Thread Cert.Reference15Ideal.nD Cert.Reference15Ideal.τ).loc Cert.Reference15Ideal.main_v59) = v2 c
          ∧ r.2.mem ((c.tc : Thread Cert.Reference15Ideal.nD Cert.Reference15Ideal.τ).loc Cert.Reference15Ideal.main_v60) = v3 c
          ∧ r.2.mem ((c.tc : Thread Cert.Reference15Ideal.nD Cert.Reference15Ideal.τ).loc Cert.Reference15Ideal.main_v56) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)) (v2 : (c : Dev Cert.Kernel16Ideal.nD) → Buf (Elt Ideal) ((c.tc : Thread Cert.Kernel16Ideal.nD Cert.Kernel16Ideal.τ).loc Cert.Kernel16Ideal.main_v2_2)) (v3 : (c : Dev Cert.Kernel16Ideal.nD) → Buf (Elt Ideal) ((c.tc : Thread Cert.Kernel16Ideal.nD Cert.Kernel16Ideal.τ).loc Cert.Kernel16Ideal.main_v2_3)) (v4 : (c : Dev Cert.Kernel16Ideal.nD) → Buf (Elt Ideal) ((c.tc : Thread Cert.Kernel16Ideal.nD Cert.Kernel16Ideal.τ).loc Cert.Kernel16Ideal.main_v2_4)) (v5 : (c : Dev Cert.Kernel16Ideal.nD) → Buf (Elt Ideal) ((c.tc : Thread Cert.Kernel16Ideal.nD Cert.Kernel16Ideal.τ).loc Cert.Kernel16Ideal.main_v2_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_v2_2) = v2 c
          ∧ r.2.mem ((c.tc : Thread Cert.Kernel16Ideal.nD Cert.Kernel16Ideal.τ).loc Cert.Kernel16Ideal.main_v2_3) = v3 c
          ∧ r.2.mem ((c.tc : Thread Cert.Kernel16Ideal.nD Cert.Kernel16Ideal.τ).loc Cert.Kernel16Ideal.main_v2_4) = v4 c
          ∧ r.2.mem ((c.tc : Thread Cert.Kernel16Ideal.nD Cert.Kernel16Ideal.τ).loc Cert.Kernel16Ideal.main_v2_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v53) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v31) = v2 c
          ∧ r.2.mem ((c.tc : Thread Cert.Reference16Ideal.nD Cert.Reference16Ideal.τ).loc Cert.Reference16Ideal.main_v36) = v3 c
          ∧ r.2.mem ((c.tc : Thread Cert.Reference16Ideal.nD Cert.Reference16Ideal.τ).loc Cert.Reference16Ideal.main_v65) = v4 c
          ∧ r.2.mem ((c.tc : Thread Cert.Reference16Ideal.nD Cert.Reference16Ideal.τ).loc Cert.Reference16Ideal.main_v64) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)) (v3 : (c : Dev Cert.Kernel17Ideal.nD) → Buf (Elt Ideal) ((c.tc : Thread Cert.Kernel17Ideal.nD Cert.Kernel17Ideal.τ).loc Cert.Kernel17Ideal.main_v3_3)) (v4 : (c : Dev Cert.Kernel17Ideal.nD) → Buf (Elt Ideal) ((c.tc : Thread Cert.Kernel17Ideal.nD Cert.Kernel17Ideal.τ).loc Cert.Kernel17Ideal.main_v3_4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_v3_3) = v3 c
          ∧ r.2.mem ((c.tc : Thread Cert.Kernel17Ideal.nD Cert.Kernel17Ideal.τ).loc Cert.Kernel17Ideal.main_v3_4) = v4 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v58) = v0 c
          ∧ r.2.mem ((c.tc : Thread Cert.Reference17Ideal.nD Cert.Reference17Ideal.τ).loc Cert.Reference17Ideal.main_v66) = v1 c
          ∧ r.2.mem ((c.tc : Thread Cert.Reference17Ideal.nD Cert.Reference17Ideal.τ).loc Cert.Reference17Ideal.main_v65) = v2 c
          ∧ r.2.mem ((c.tc : Thread Cert.Reference17Ideal.nD Cert.Reference17Ideal.τ).loc Cert.Reference17Ideal.main_v42) = v3 c
          ∧ r.2.mem ((c.tc : Thread Cert.Reference17Ideal.nD Cert.Reference17Ideal.τ).loc Cert.Reference17Ideal.main_v33) = v4 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v49) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v27) = v2 c
          ∧ r.2.mem ((c.tc : Thread Cert.Reference18Ideal.nD Cert.Reference18Ideal.τ).loc Cert.Reference18Ideal.main_v32) = v3 c
          ∧ r.2.mem ((c.tc : Thread Cert.Reference18Ideal.nD Cert.Reference18Ideal.τ).loc Cert.Reference18Ideal.main_v58) = v4 c
          ∧ r.2.mem ((c.tc : Thread Cert.Reference18Ideal.nD Cert.Reference18Ideal.τ).loc Cert.Reference18Ideal.main_v57) = v5 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite2 : Cert.Pre_finite2.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4096x5120 : Shape := ⟨2, ![4096, 5120]⟩
abbrev S4096x512 : Shape := ⟨2, ![4096, 512]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x5120 .bf16) (main_arg1 : FVec F S4096x512 .bf16) : IVec S_ 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_c : IVec S_ 1 := constantI S_ 1 1#1
  let main_v4 : IVec S_ 1 := (fun x v => Host.reduce IntOp.andi x v reducesTo_S4096x5120_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  main_v10
-- ==== Pre_finite13.lean ====
abbrev S4096x5632 : Shape := ⟨2, ![4096, 5632]⟩
abbrev S2816x1024 : Shape := ⟨2, ![2816, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x5632 .bf16) (main_arg1 : FVec F S2816x1024 .bf16) (main_arg2 : FVec F S4096x1024 .bf16) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  main_v16
-- ==== Pre_finite2.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  main_v22

def fn {F : FTy → Type} [FloatOps F] (main_arg0 : FVec F S4096x1024 .bf16) (main_arg1 : FVec F S1024x5632 .bf16) (main_arg2 : FVec F S2816x1024 .bf16) (main_arg3 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  let main_v11 : FVec F S2816x1024 .f32 := (extf .f32 · bitsLt_bf16_f32) main_arg2
  let main_v12 : FVec F S2816x1024 .f32 := Host.absf main_v11
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  let main_c_3 : IVec S_ 1 := constantI S_ 1 1#1
  let main_v15 : IVec S_ 1 := (fun x v => Host.reduce IntOp.andi x v reducesTo_S2816x1024_S_d0_1 h_S_) main_v14 main_c_3
  let main_v16 : IVec S_ 1 := andi main_v10 main_v15
  let main_v17 : FVec F S4096x1024 .f32 := (extf .f32 · bitsLt_bf16_f32) main_arg3
  fn_part1 (F := F) main_v16 main_v17
-- ==== Kernel.lean ====
abbrev S4096x5120 : Shape := ⟨2, ![4096, 5120]⟩
abbrev S4096x512 : Shape := ⟨2, ![4096, 512]⟩
abbrev S_ : Shape := ⟨0, ![]⟩
abbrev S2x16x8x128 : Shape := ⟨4, ![2, 16, 8, 128]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S4096x8 : Shape := ⟨2, ![4096, 8]⟩
abbrev S256x256 : Shape := ⟨2, ![256, 256]⟩
abbrev S4096x256 : Shape := ⟨2, ![4096, 256]⟩
abbrev S1x1x8x128 : Shape := ⟨4, ![1, 1, 8, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S1024x256 : Shape := ⟨2, ![1024, 256]⟩
abbrev S256 : Shape := ⟨1, ![256]⟩
abbrev S256x1 : Shape := ⟨2, ![256, 1]⟩
abbrev S256x1024 : Shape := ⟨2, ![256, 1024]⟩

abbrev nBuf : Space → Nat
  | .hbm => 50
  | .vmem => 18
  | .smem => 0
  | _ => 0

abbrev bufTy : (tb : Table) → Fin (tcTables nBuf tb) → BufTy
  | .hbm, ⟨0, _⟩ => ⟨S4096x5120, .bf16⟩
  | .hbm, ⟨1, _⟩ => ⟨S4096x512, .bf16⟩
  | .hbm, ⟨2, _⟩ => ⟨S_, .f32⟩
  | .hbm, ⟨3, _⟩ => ⟨S2x16x8x128, .f32⟩
  | .hbm, ⟨4, _⟩ => ⟨S4096x512, .bf16⟩
  | .hbm, ⟨5, _⟩ => ⟨S4096x512, .f32⟩
  | .hbm, ⟨6, _⟩ => ⟨S4096x8x64, .f32⟩
  | .hbm, ⟨7, _⟩ => ⟨S8x4096x64, .f32⟩
  | .hbm, ⟨8, _⟩ => ⟨S4096x512, .bf16⟩
  | .hbm, ⟨9, _⟩ => ⟨S4096x512, .f32⟩
  | .hbm, ⟨10, _⟩ => ⟨S4096x8x64, .f32⟩
  | .hbm, ⟨11, _⟩ => ⟨S8x4096x64, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S4096x8, .f32⟩
  | .hbm, ⟨45, _⟩ => ⟨S4096x8x64, .f32⟩
  | .hbm, ⟨46, _⟩ => ⟨S4096x512, .f32⟩
  | .hbm, ⟨47, _⟩ => ⟨S4096x512, .bf16⟩
  | .hbm, ⟨48, _⟩ => ⟨S4096x512, .f32⟩
  | .hbm, ⟨49, _⟩ => ⟨S4096x512, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S1x1x8x128, .f32⟩
  | .local _ .vmem, ⟨11, _⟩ => ⟨S1x1x8x128, .f32⟩
  | .local _ .vmem, ⟨12, _⟩ => ⟨S256x256, .bf16⟩
  | .local _ .vmem, ⟨13, _⟩ => ⟨S256x256, .bf16⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v19 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25_0 : Ref sig .tc := ⟨.hbm, 47, rfl⟩
abbrev main_v25_1 : Ref sig .tc := ⟨.hbm, 48, rfl⟩
abbrev main_v25_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

@[reducible] def k0_t1_loop (i : grid0.Coords) (v6 : BitVec 32) : Scf.Loop 32 :=
  let arg1 : BitVec 32 := BitVec.ofNat 32 (i 1).val
  let c0_i32 : BitVec 32 := 0#32
  let v7 : BitVec 32 := Scalar.maxsi c0_i32 v6
  let v8 : BitVec 32 := Scalar.minsi arg1 v7
  let v89 : BitVec 32 := Scalar.subi arg1 v8
  let c1_i32 : BitVec 32 := 1#32
  let v91 : BitVec 32 := Scalar.divsi v89 c1_i32
  let v92 : BitVec 32 := Scalar.muli v91 c1_i32
  let v93 : BitVec 32 := Scalar.addi v8 v92
  let c1_i32_37 : BitVec 32 := 1#32
  ⟨v8, v93, c1_i32_37⟩

def k0_mult1 (i : grid0.Coords) (v6 : BitVec 32) (k0_t1 : Fin (k0_t1_loop i v6).trips) : BitVec 32 :=
  let arg1 : BitVec 32 := BitVec.ofNat 32 (i 1).val
  let c0_i32 : BitVec 32 := 0#32
  let v7 : BitVec 32 := Scalar.maxsi c0_i32 v6
  let v8 : BitVec 32 := Scalar.minsi arg1 v7
  let c1_i32_37 : BitVec 32 := 1#32
  let arg11 : BitVec 32 := Scf.iv v8 c1_i32_37 k0_t1
  let c256_i32_96 : BitVec 32 := 256#32
  let v278 : BitVec 32 := Scalar.muli arg11 c256_i32_96
  v278
def k0_off1 (i : grid0.Coords) (v6 : BitVec 32) (k0_t1 : Fin (k0_t1_loop i v6).trips) : Fin 2 → Nat :=
  let arg1 : BitVec 32 := BitVec.ofNat 32 (i 1).val
  let c0_i32 : BitVec 32 := 0#32
  let v7 : BitVec 32 := Scalar.maxsi c0_i32 v6
  let v8 : BitVec 32 := Scalar.minsi arg1 v7
  let c1_i32_37 : BitVec 32 := 1#32
  let arg11 : BitVec 32 := Scf.iv v8 c1_i32_37 k0_t1
  let c256_i32_96 : BitVec 32 := 256#32
  let v278 : BitVec 32 := Scalar.muli arg11 c256_i32_96
  let v279 : BitVec 32 := v278
  let v280 : Index := Scalar.indexCast v279
  let c0_97 : Index := 0#32
  ![v280.toNat, 0]
@[reducible] def k0_t2_loop (i : grid0.Coords) (v6 : BitVec 32) : Scf.Loop 32 :=
  let arg1 : BitVec 32 := BitVec.ofNat 32 (i 1).val
  let c0_i32 : BitVec 32 := 0#32
  let v7 : BitVec 32 := Scalar.maxsi c0_i32 v6
  let v8 : BitVec 32 := Scalar.minsi arg1 v7
  let v89 : BitVec 32 := Scalar.subi arg1 v8
  let c1_i32 : BitVec 32 := 1#32
  let v91 : BitVec 32 := Scalar.divsi v89 c1_i32
  let v92 : BitVec 32 := Scalar.muli v91 c1_i32
  let v93 : BitVec 32 := Scalar.addi v8 v92
  let v90 : BitVec 32 := Scalar.addi v8 v89
  let c1_i32_38 : BitVec 32 := 1#32
  ⟨v93, v90, c1_i32_38⟩
def k0_mult2 (i : grid0.Coords) (v6 : BitVec 32) (k0_t2 : Fin (k0_t2_loop i v6).trips) : BitVec 32 :=
  let arg1 : BitVec 32 := BitVec.ofNat 32 (i 1).val
  let c0_i32 : BitVec 32 := 0#32
  let v7 : BitVec 32 := Scalar.maxsi c0_i32 v6
  let v8 : BitVec 32 := Scalar.minsi arg1 v7
  let v89 : BitVec 32 := Scalar.subi arg1 v8
  let c1_i32 : BitVec 32 := 1#32
  let v91 : BitVec 32 := Scalar.divsi v89 c1_i32
  let v92 : BitVec 32 := Scalar.muli v91 c1_i32
  let v93 : BitVec 32 := Scalar.addi v8 v92
  let c1_i32_38 : BitVec 32 := 1#32
  let arg11 : BitVec 32 := Scf.iv v93 c1_i32_38 k0_t2
  let c256_i32_96 : BitVec 32 := 256#32
  let v278 : BitVec 32 := Scalar.muli arg11 c256_i32_96
  v278
def k0_off2 (i : grid0.Coords) (v6 : BitVec 32) (k0_t2 : Fin (k0_t2_loop i v6).trips) : Fin 2 → Nat :=
  let arg1 : BitVec 32 := BitVec.ofNat 32 (i 1).val
  let c0_i32 : BitVec 32 := 0#32
  let v7 : BitVec 32 := Scalar.maxsi c0_i32 v6
  let v8 : BitVec 32 := Scalar.minsi arg1 v7
  let v89 : BitVec 32 := Scalar.subi arg1 v8
  let c1_i32 : BitVec 32 := 1#32
  let v91 : BitVec 32 := Scalar.divsi v89 c1_i32
  let v92 : BitVec 32 := Scalar.muli v91 c1_i32
  let v93 : BitVec 32 := Scalar.addi v8 v92
  let c1_i32_38 : BitVec 32 := 1#32
  let arg11 : BitVec 32 := Scf.iv v93 c1_i32_38 k0_t2
  let c256_i32_96 : BitVec 32 := 256#32
  let v278 : BitVec 32 := Scalar.muli arg11 c256_i32_96
  let v279 : BitVec 32 := v278
  let v280 : Index := Scalar.indexCast v279
  let c0_97 : Index := 0#32
  ![v280.toNat, 0]

def k0_chk1 (i : grid0.Coords) (v6 : BitVec 32) : Prop :=
  ((k0_t1_loop i v6).OK) ∧
  (∀ k0_t1 : Fin (k0_t1_loop i v6).trips, 256 ∣ (k0_mult1 i v6 k0_t1).toNat) ∧
  (∀ k0_t1 : Fin (k0_t1_loop i v6).trips, ∀ a, (k0_off1 i v6 k0_t1) a + S256x256.size a ≤ S4096x256.size a) ∧
  ((k0_t2_loop i v6).OK) ∧
  (∀ k0_t2 : Fin (k0_t2_loop i v6).trips, 256 ∣ (k0_mult2 i v6 k0_t2).toNat) ∧
  (∀ k0_t2 : Fin (k0_t2_loop i v6).trips, ∀ a, (k0_off2 i v6 k0_t2) a + S256x256.size a ≤ S4096x256.size a)
theorem k0_t1_ok : ∀ (i : grid0.Coords) (v6 : BitVec 32) (k0_hw1 : k0_chk1 i v6), (k0_t1_loop i v6).OK := fun i v6 k0_hw1 => k0_hw1.1
theorem k0_mult1_dvd : ∀ (i : grid0.Coords) (v6 : BitVec 32) (k0_hw1 : k0_chk1 i v6) (k0_t1 : Fin (k0_t1_loop i v6).trips), 256 ∣ (k0_mult1 i v6 k0_t1).toNat := fun i v6 k0_hw1 k0_t1 => k0_hw1.2.1 k0_t1
theorem k0_off1_inb : ∀ (i : grid0.Coords) (v6 : BitVec 32) (k0_hw1 : k0_chk1 i v6) (k0_t1 : Fin (k0_t1_loop i v6).trips), ∀ a, (k0_off1 i v6 k0_t1) a + S256x256.size a ≤ S4096x256.size a := fun i v6 k0_hw1 k0_t1 => k0_hw1.2.2.1 k0_t1
theorem k0_t2_ok : ∀ (i : grid0.Coords) (v6 : BitVec 32) (k0_hw1 : k0_chk1 i v6), (k0_t2_loop i v6).OK := fun i v6 k0_hw1 => k0_hw1.2.2.2.1
theorem k0_mult2_dvd : ∀ (i : grid0.Coords) (v6 : BitVec 32) (k0_hw1 : k0_chk1 i v6) (k0_t2 : Fin (k0_t2_loop i v6).trips), 256 ∣ (k0_mult2 i v6 k0_t2).toNat := fun i v6 k0_hw1 k0_t2 => k0_hw1.2.2.2.2.1 k0_t2
theorem k0_off2_inb : ∀ (i : grid0.Coords) (v6 : BitVec 32) (k0_hw1 : k0_chk1 i v6) (k0_t2 : Fin (k0_t2_loop i v6).trips), ∀ a, (k0_off2 i v6 k0_t2) a + S256x256.size a ≤ S4096x256.size a := fun i v6 k0_hw1 k0_t2 => k0_hw1.2.2.2.2.2 k0_t2

def k0_mult3 (i : grid0.Coords) : BitVec 32 :=
  let arg1 : BitVec 32 := BitVec.ofNat 32 (i 1).val
  let c256_i32_39 : BitVec 32 := 256#32
  let v96 : BitVec 32 := Scalar.muli arg1 c256_i32_39
  v96
def k0_off3 (i : grid0.Coords) : Fin 2 → Nat :=
  let arg1 : BitVec 32 := BitVec.ofNat 32 (i 1).val
  let c256_i32_39 : BitVec 32 := 256#32
  let v96 : BitVec 32 := Scalar.muli arg1 c256_i32_39
  let v97 : BitVec 32 := v96
  let v98 : Index := Scalar.indexCast v97
  let c0_40 : Index := 0#32
  ![v98.toNat, 0]
def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x5120 : Shape := ⟨2, ![4096, 5120]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 178
  | .vmem => 0
  | .smem => 0
  | _ => 0

abbrev hbmTy0_0 (i : Nat) : BufTy := match i % 128 with
  | 0 => ⟨S4096x5120, .bf16⟩
  | 1 => ⟨S4096x512, .bf16⟩
  | 2 => ⟨S4096x512, .bf16⟩
  | 3 => ⟨S4096x512, .f32⟩
  | 4 => ⟨S4096x512, .bf16⟩
  | 5 => ⟨S4096x512, .f32⟩
  | 6 => ⟨S4096x512, .bf16⟩
  | 7 => ⟨S4096x512, .f32⟩
  | 8 => ⟨S4096x8x64, .f32⟩
  | 9 => ⟨S8x4096x64, .f32⟩
  | 10 => ⟨S4096x8x64, .f32⟩
  | 11 => ⟨S8x4096x64, .f32⟩
  | 12 => ⟨S4096x8x64, .f32⟩
  | 13 => ⟨S8x4096x64, .f32⟩
  | 14 => ⟨S8x4096x4096, .f32⟩
  | 15 => ⟨S_, .f32⟩
  | 16 => ⟨S8x4096x4096, .f32⟩
  | 17 => ⟨S8x4096x4096, .f32⟩
  | 18 => ⟨S4096, .i32⟩
  | 19 => ⟨S1x4096, .i32⟩
  | 20 => ⟨S4096, .i32⟩
  | 21 => ⟨S4096x1, .i32⟩
  | 22 => ⟨S4096x4096, .i32⟩
  | 23 => ⟨S4096x4096, .i32⟩
  | 24 => ⟨S4096x4096, .i1⟩
  | 25 => ⟨S_, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .i1⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S_, .f32⟩
  | 40 => ⟨S8x4096x4096, .f32⟩
  | 41 => ⟨S8x4096x4096, .i1⟩
  | 42 => ⟨S_, .f32⟩
  | 43 => ⟨S8x4096x4096, .f32⟩
  | 44 => ⟨S8x4096x4096, .f32⟩
  | 45 => ⟨S_, .f32⟩
  | 46 => ⟨S8x4096x4096, .f32⟩
  | 47 => ⟨S8x4096x4096, .i1⟩
  | 48 => ⟨S_, .f32⟩
  | 49 => ⟨S8x4096x4096, .f32⟩
  | 50 => ⟨S8x4096x4096, .f32⟩
  | 51 => ⟨S8x4096x4096, .f32⟩
  | 52 => ⟨S8x4096x4096, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x4096x4096, .f32⟩
  | 61 => ⟨S8x4096x4096, .i1⟩
  | 62 => ⟨S_, .f32⟩
  | 63 => ⟨S8x4096x4096, .f32⟩
  | 64 => ⟨S8x4096x4096, .f32⟩
  | 65 => ⟨S8x4096x4096, .f32⟩
  | 66 => ⟨S8x4096x4096, .f32⟩
  | 67 => ⟨S8x4096x4096, .f32⟩
  | 68 => ⟨S_, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S_, .f32⟩
  | 80 => ⟨S8x4096x4096, .f32⟩
  | 81 => ⟨S8x4096x4096, .f32⟩
  | 82 => ⟨S8x4096x4096, .f32⟩
  | 83 => ⟨S_, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .i1⟩
  | 89 => ⟨S8x4096x4096, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .i1⟩
  | 100 => ⟨S_, .f32⟩
  | 101 => ⟨S8x4096x4096, .f32⟩
  | 102 => ⟨S8x4096x4096, .f32⟩
  | 103 => ⟨S_, .f32⟩
  | 104 => ⟨S8x4096x4096, .f32⟩
  | 105 => ⟨S8x4096x4096, .i1⟩
  | 106 => ⟨S_, .f32⟩
  | 107 => ⟨S8x4096x4096, .f32⟩
  | 108 => ⟨S8x4096x4096, .f32⟩
  | 109 => ⟨S8x4096x4096, .f32⟩
  | 110 => ⟨S8x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S8x4096x4096, .f32⟩
  | 119 => ⟨S8x4096x4096, .i1⟩
  | 120 => ⟨S_, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S8x4096x4096, .f32⟩
  | _ => ⟨S4096x5120, .bf16⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S_, .f32⟩
  | 5 => ⟨S_, .f32⟩
  | 6 => ⟨S8x4096x4096, .i1⟩
  | 7 => ⟨S8x4096x4096, .f32⟩
  | 8 => ⟨S8x4096x4096, .f32⟩
  | 9 => ⟨S_, .f32⟩
  | 10 => ⟨S8x4096x4096, .f32⟩
  | 11 => ⟨S8x4096x64, .f32⟩
  | 12 => ⟨S4096x8x64, .f32⟩
  | 13 => ⟨S4096x512, .f32⟩
  | 14 => ⟨S4096x512, .f32⟩
  | 15 => ⟨S4096x8x64, .f32⟩
  | 16 => ⟨S8x4096x64, .f32⟩
  | 17 => ⟨S8x64x4096, .f32⟩
  | 18 => ⟨S8x4096x64, .f32⟩
  | 19 => ⟨S8x4096x4096, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S_, .f32⟩
  | 30 => ⟨S_, .f32⟩
  | 31 => ⟨S8x4096x4096, .f32⟩
  | 32 => ⟨S8x4096x4096, .f32⟩
  | 33 => ⟨S_, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .f32⟩
  | 41 => ⟨S8x4096x64, .f32⟩
  | 42 => ⟨S8x4096x64, .f32⟩
  | 43 => ⟨S4096x8x64, .f32⟩
  | 44 => ⟨S4096x512, .f32⟩
  | 45 => ⟨S4096x8x64, .f32⟩
  | 46 => ⟨S4096x512, .f32⟩
  | 47 => ⟨S4096x8x64, .f32⟩
  | 48 => ⟨S4096x512, .f32⟩
  | 49 => ⟨S4096x512, .bf16⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v22_0 : Ref sig .tc := ⟨.hbm, 38, rfl⟩
abbrev main_call0_cst_0 : Ref sig .tc := ⟨.hbm, 39, rfl⟩
abbrev main_call0_v13 : Ref sig .tc := ⟨.hbm, 40, rfl⟩
abbrev main_call0_v14 : Ref sig .tc := ⟨.hbm, 41, rfl⟩
abbrev main_call0_cst_1 : Ref sig .tc := ⟨.hbm, 42, rfl⟩
abbrev main_call0_v15 : Ref sig .tc := ⟨.hbm, 43, rfl⟩
abbrev main_call0_v16 : Ref sig .tc := ⟨.hbm, 44, rfl⟩
abbrev main_call0_cst_2 : Ref sig .tc := ⟨.hbm, 45, rfl⟩
abbrev main_call0_v17 : Ref sig .tc := ⟨.hbm, 46, rfl⟩
abbrev main_call0_v18 : Ref sig .tc := ⟨.hbm, 47, rfl⟩
abbrev main_call0_cst_3 : Ref sig .tc := ⟨.hbm, 48, rfl⟩
abbrev main_call0_v19 : Ref sig .tc := ⟨.hbm, 49, rfl⟩
abbrev main_call0_v20 : Ref sig .tc := ⟨.hbm, 50, rfl⟩
abbrev main_call0_v21 : Ref sig .tc := ⟨.hbm, 51, rfl⟩
abbrev main_v22_1 : Ref sig .tc := ⟨.hbm, 52, rfl⟩
abbrev main_call0_cst_4 : Ref sig .tc := ⟨.hbm, 53, rfl⟩
abbrev main_call0_cst_5 : Ref sig .tc := ⟨.hbm, 54, rfl⟩
abbrev main_call0_v23 : Ref sig .tc := ⟨.hbm, 55, rfl⟩
abbrev main_call0_cst_6 : Ref sig .tc := ⟨.hbm, 56, rfl⟩
abbrev main_call0_cst_7 : Ref sig .tc := ⟨.hbm, 57, rfl⟩
abbrev main_call0_v24 : Ref sig .tc := ⟨.hbm, 58, rfl⟩
abbrev main_call0_cst_8 : Ref sig .tc := ⟨.hbm, 59, rfl⟩
abbrev main_call0_v25 : Ref sig .tc := ⟨.hbm, 60, rfl⟩
abbrev main_call0_v26 : Ref sig .tc := ⟨.hbm, 61, rfl⟩
abbrev main_call0_cst_9 : Ref sig .tc := ⟨.hbm, 62, rfl⟩
abbrev main_call0_v27 : Ref sig .tc := ⟨.hbm, 63, rfl⟩
abbrev main_call0_v28 : Ref sig .tc := ⟨.hbm, 64, rfl⟩
abbrev main_call0_v29 : Ref sig .tc := ⟨.hbm, 65, rfl⟩
abbrev main_call0_v30 : Ref sig .tc := ⟨.hbm, 66, rfl⟩
abbrev main_call0_v31 : Ref sig .tc := ⟨.hbm, 67, rfl⟩
abbrev main_call0_cst_10 : Ref sig .tc := ⟨.hbm, 68, rfl⟩
abbrev main_call0_v32 : Ref sig .tc := ⟨.hbm, 69, rfl⟩
abbrev main_v22_2 : Ref sig .tc := ⟨.hbm, 70, rfl⟩
abbrev main_cst_0 : Ref sig .tc := ⟨.hbm, 71, rfl⟩
abbrev main_call1_v0 : Ref sig .tc := ⟨.hbm, 72, rfl⟩
abbrev main_v23_1 : Ref sig .tc := ⟨.hbm, 73, rfl⟩
abbrev main_call1_v2 : Ref sig .tc := ⟨.hbm, 74, rfl⟩
abbrev main_v23_0 : Ref sig .tc := ⟨.hbm, 75, rfl⟩
abbrev main_call1_cst : Ref sig .tc := ⟨.hbm, 76, rfl⟩
abbrev main_v23_2 : Ref sig .tc := ⟨.hbm, 77, rfl⟩
abbrev main_call2_cst : Ref sig .tc := ⟨.hbm, 78, rfl⟩
abbrev main_call2_v0 : Ref sig .tc := ⟨.hbm, 79, rfl⟩
abbrev main_v24 : Ref sig .tc := ⟨.hbm, 80, rfl⟩
abbrev main_v25 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v26_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v26_2 : Ref sig .tc := ⟨.hbm, 128, rfl⟩
abbrev main_v26_0 : Ref sig .tc := ⟨.hbm, 129, rfl⟩
abbrev main_v27 : Ref sig .tc := ⟨.hbm, 130, rfl⟩
abbrev main_v28 : Ref sig .tc := ⟨.hbm, 131, rfl⟩
abbrev main_cst_1 : Ref sig .tc := ⟨.hbm, 132, rfl⟩
abbrev main_call4_v0 : Ref sig .tc := ⟨.hbm, 133, rfl⟩
abbrev main_v29_1 : Ref sig .tc := ⟨.hbm, 134, rfl⟩
abbrev main_call4_v2 : Ref sig .tc := ⟨.hbm, 135, rfl⟩
abbrev main_v29_0 : Ref sig .tc := ⟨.hbm, 136, rfl⟩
abbrev main_call4_cst : Ref sig .tc := ⟨.hbm, 137, rfl⟩
abbrev main_v29_2 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_call5_cst : Ref sig .tc := ⟨.hbm, 148, rfl⟩
abbrev main_call5_v0 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_call6_v0 : Ref sig .tc := ⟨.hbm, 153, rfl⟩
abbrev main_call6_v1 : Ref sig .tc := ⟨.hbm, 154, rfl⟩
abbrev main_v42 : Ref sig .tc := ⟨.hbm, 155, rfl⟩
abbrev main_v43 : Ref sig .tc := ⟨.hbm, 156, rfl⟩
abbrev main_call7_cst : Ref sig .tc := ⟨.hbm, 157, rfl⟩
abbrev main_call7_v0 : Ref sig .tc := ⟨.hbm, 158, rfl⟩
abbrev main_v44 : Ref sig .tc := ⟨.hbm, 159, rfl⟩
abbrev main_v45 : Ref sig .tc := ⟨.hbm, 160, rfl⟩
abbrev main_call8_cst : Ref sig .tc := ⟨.hbm, 161, rfl⟩
abbrev main_call8_v0 : Ref sig .tc := ⟨.hbm, 162, rfl⟩
abbrev main_v46 : Ref sig .tc := ⟨.hbm, 163, rfl⟩
abbrev main_v47 : Ref sig .tc := ⟨.hbm, 164, rfl⟩
abbrev main_v48 : Ref sig .tc := ⟨.hbm, 165, rfl⟩
abbrev main_cst_2 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S2816x1024 : Shape := ⟨2, ![2816, 1024]⟩
abbrev S4x704x1024 : Shape := ⟨3, ![4, 704, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S5632x1024 : Shape := ⟨2, ![5632, 1024]⟩
abbrev S8x704x1024 : Shape := ⟨3, ![8, 704, 1024]⟩
abbrev S512x1024 : Shape := ⟨2, ![512, 1024]⟩
abbrev S2x4x512x704 : Shape := ⟨4, ![2, 4, 512, 704]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 15
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2816x1024, .bf16⟩
  | .hbm, ⟨3, _⟩ => ⟨S4096x1024, .bf16⟩
  | .hbm, ⟨4, _⟩ => ⟨S4096x1024, .f32⟩
  | .hbm, ⟨5, _⟩ => ⟨S1024x5632, .f32⟩
  | .hbm, ⟨6, _⟩ => ⟨S4x704x1024, .bf16⟩
  | .hbm, ⟨7, _⟩ => ⟨S4096x5632, .f32⟩
  | .hbm, ⟨8, _⟩ => ⟨S4096x5632, .bf16⟩
  | .hbm, ⟨9, _⟩ => ⟨S4096x2x4x704, .bf16⟩
  | .hbm, ⟨10, _⟩ => ⟨S2x4x4096x704, .bf16⟩
  | .hbm, ⟨11, _⟩ => ⟨S5632x1024, .bf16⟩
  | .hbm, ⟨12, _⟩ => ⟨S8x704x1024, .bf16⟩
  | .hbm, ⟨13, _⟩ => ⟨S2x4x4096x704, .bf16⟩
  | .hbm, ⟨14, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S4x704x1024, .bf16⟩
  | .local _ .vmem, ⟨3, _⟩ => ⟨S2x4x512x704, .bf16⟩
  | .local _ .vmem, ⟨4, _⟩ => ⟨S2x4x512x704, .bf16⟩
  | .local _ .vmem, ⟨5, _⟩ => ⟨S8x704x1024, .bf16⟩
  | .local _ .vmem, ⟨6, _⟩ => ⟨S2x4x512x704, .bf16⟩
  | .local _ .vmem, ⟨7, _⟩ => ⟨S2x4x512x704, .bf16⟩
  | .local _ .vmem, ⟨8, _⟩ => ⟨S512x1024, .f32⟩
  | .local _ .vmem, ⟨9, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2816x1024, .bf16⟩
  | .hbm, ⟨3, _⟩ => ⟨S4096x1024, .bf16⟩
  | .hbm, ⟨4, _⟩ => ⟨S4096x1024, .f32⟩
  | .hbm, ⟨5, _⟩ => ⟨S1024x5632, .f32⟩
  | .hbm, ⟨6, _⟩ => ⟨S2816x1024, .f32⟩
  | .hbm, ⟨7, _⟩ => ⟨S4096x1024, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S4096x1024, .f32⟩
  | .hbm, ⟨35, _⟩ => ⟨S4096x2x4x704, .f32⟩
  | .hbm, ⟨36, _⟩ => ⟨S2x4x4096x704, .f32⟩
  | .hbm, ⟨37, _⟩ => ⟨S2x4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S1x4096x1024 : Shape := ⟨3, ![1, 4096, 1024]⟩
abbrev S8x1x704x1024 : Shape := ⟨4, ![8, 1, 704, 1024]⟩
abbrev S4x1024x704 : Shape := ⟨3, ![4, 1024, 704]⟩
abbrev S1x1024x1024 : Shape := ⟨3, ![1, 1024, 1024]⟩
abbrev S4x1x704x1024 : Shape := ⟨4, ![4, 1, 704, 1024]⟩
abbrev S1024x1024 : Shape := ⟨2, ![1024, 1024]⟩
abbrev S1x1x704x1024 : Shape := ⟨4, ![1, 1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x5632, .f32⟩
  | .hbm, ⟨3, _⟩ => ⟨S4096x8x704, .f32⟩
  | .hbm, ⟨4, _⟩ => ⟨S8x4096x704, .f32⟩
  | .hbm, ⟨5, _⟩ => ⟨S8x4096x704, .bf16⟩
  | .hbm, ⟨6, _⟩ => ⟨S1x4096x1024, .bf16⟩
  | .hbm, ⟨7, _⟩ => ⟨S8x1x704x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S4x1x704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v47 : BitVec 1 := Scalar.cmpi .eq arg2 c3_i32
  let v48 : BitVec 32 := Scalar.extui v47
  let c0_i32_56 : BitVec 32 := 0#32
  let v49 : BitVec 1 := Scalar.cmpi .ne v48 c0_i32_56
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S8x1x704x1024 : Shape := ⟨4, ![8, 1, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S8x1x704x1024, .f32⟩
  | .hbm, ⟨11, _⟩ => ⟨S8x1x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S1x4096x1024 : Shape := ⟨3, ![1, 4096, 1024]⟩
abbrev S4x1x704x1024 : Shape := ⟨4, ![4, 1, 704, 1024]⟩
abbrev S4x1024x704 : Shape := ⟨3, ![4, 1024, 704]⟩
abbrev S1x1024x1024 : Shape := ⟨3, ![1, 1024, 1024]⟩
abbrev S1024x1024 : Shape := ⟨2, ![1024, 1024]⟩
abbrev S1x1x704x1024 : Shape := ⟨4, ![1, 1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 6
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x4x704, .bf16⟩
  | .hbm, ⟨3, _⟩ => ⟨S4x4096x704, .bf16⟩
  | .hbm, ⟨4, _⟩ => ⟨S1x4096x1024, .bf16⟩
  | .hbm, ⟨5, _⟩ => ⟨S4x1x704x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S4x1x704x1024, .bf16⟩
  | .local _ .vmem, ⟨5, _⟩ => ⟨S4x1x704x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v47 : BitVec 1 := Scalar.cmpi .eq arg2 c3_i32
  let v48 : BitVec 32 := Scalar.extui v47
  let c0_i32_56 : BitVec 32 := 0#32
  let v49 : BitVec 1 := Scalar.cmpi .ne v48 c0_i32_56
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x1x704x1024 : Shape := ⟨4, ![4, 1, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4x1x704x1024, .f32⟩
  | .hbm, ⟨10, _⟩ => ⟨S4x1x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S4096x5120 : Shape := ⟨2, ![4096, 5120]⟩
abbrev S1x4096x1024 : Shape := ⟨3, ![1, 4096, 1024]⟩
abbrev S1x8x1024x640 : Shape := ⟨4, ![1, 8, 1024, 640]⟩
abbrev S1x1024x1024 : Shape := ⟨3, ![1, 1024, 1024]⟩
abbrev S1024x2560 : Shape := ⟨2, ![1024, 2560]⟩
abbrev S1x4x1024x640 : Shape := ⟨4, ![1, 4, 1024, 640]⟩
abbrev S1024x1024 : Shape := ⟨2, ![1024, 1024]⟩
abbrev S1024x1280 : Shape := ⟨2, ![1024, 1280]⟩
abbrev S1x1x1024x640 : Shape := ⟨4, ![1, 1, 1024, 640]⟩
abbrev S1024x640 : Shape := ⟨2, ![1024, 640]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S1x4096x1024, .bf16⟩
  | .hbm, ⟨3, _⟩ => ⟨S1x8x1024x640, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1x4x1024x640, .bf16⟩
  | .local _ .vmem, ⟨5, _⟩ => ⟨S1x4x1024x640, .bf16⟩
  | .local _ .vmem, ⟨6, _⟩ => ⟨S1x4x1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_39 : BitVec 32 := 0#32
  let v41 : BitVec 1 := Scalar.cmpi .ne v40 c0_i32_39
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩
abbrev S1024x8x640 : Shape := ⟨3, ![1024, 8, 640]⟩
abbrev S8x1024x640 : Shape := ⟨3, ![8, 1024, 640]⟩
abbrev S1x8x1024x640 : Shape := ⟨4, ![1, 8, 1024, 640]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S4096x1024, .f32⟩
  | .hbm, ⟨3, _⟩ => ⟨S4096x5120, .f32⟩
  | .hbm, ⟨4, _⟩ => ⟨S_, .f32⟩
  | .hbm, ⟨5, _⟩ => ⟨S1024x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S1024x8x640, .f32⟩
  | .hbm, ⟨10, _⟩ => ⟨S8x1024x640, .f32⟩
  | .hbm, ⟨11, _⟩ => ⟨S1x8x1024x640, .f32⟩
  | .hbm, ⟨12, _⟩ => ⟨S1x8x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x5632 : Shape := ⟨2, ![1024, 5632]⟩
abbrev S5632x1024 : Shape := ⟨2, ![5632, 1024]⟩
abbrev S8x704x1024 : Shape := ⟨3, ![8, 704, 1024]⟩
abbrev S2x4x4096x704 : Shape := ⟨4, ![2, 4, 4096, 704]⟩
abbrev S4x4096x704 : Shape := ⟨3, ![4, 4096, 704]⟩
abbrev S512x1024 : Shape := ⟨2, ![512, 1024]⟩
abbrev S2x4x512x704 : Shape := ⟨4, ![2, 4, 512, 704]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩
abbrev S1x512x704 : Shape := ⟨3, ![1, 512, 704]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S5632x1024, .bf16⟩
  | .hbm, ⟨6, _⟩ => ⟨S8x704x1024, .bf16⟩
  | .hbm, ⟨7, _⟩ => ⟨S4096x1024, .bf16⟩
  | .hbm, ⟨8, _⟩ => ⟨S2x4x4096x704, .bf16⟩
  | .hbm, ⟨9, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S8x704x1024, .bf16⟩
  | .local _ .vmem, ⟨6, _⟩ => ⟨S512x1024, .bf16⟩
  | .local _ .vmem, ⟨7, _⟩ => ⟨S512x1024, .bf16⟩
  | .local _ .vmem, ⟨8, _⟩ => ⟨S2x4x512x704, .bf16⟩
  | .local _ .vmem, ⟨9, _⟩ => ⟨S2x4x512x704, .bf16⟩
  | .local _ .vmem, ⟨10, _⟩ => ⟨S4x512x704, .bf16⟩
  | .local _ .vmem, ⟨11, _⟩ => ⟨S4x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩
abbrev S4096x4x704 : Shape := ⟨3, ![4096, 4, 704]⟩
abbrev S4x4096x704 : Shape := ⟨3, ![4, 4096, 704]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x5632, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .bf16⟩
  | .hbm, ⟨42, _⟩ => ⟨S4096x2x4x704, .f32⟩
  | .hbm, ⟨43, _⟩ => ⟨S2x4x4096x704, .f32⟩
  | .hbm, ⟨44, _⟩ => ⟨S2x4x4096x704, .bf16⟩
  | .hbm, ⟨45, _⟩ => ⟨S4096x4x704, .f32⟩
  | .hbm, ⟨46, _⟩ => ⟨S4x4096x704, .f32⟩
  | .hbm, ⟨47, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel7.lean ====
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S512x1024, .bf16⟩
  | .hbm, ⟨3, _⟩ => ⟨S512x1024, .bf16⟩
  | .hbm, ⟨4, _⟩ => ⟨S4096x512, .bf16⟩
  | .hbm, ⟨5, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S512x1024, .bf16⟩
  | .hbm, ⟨3, _⟩ => ⟨S512x1024, .bf16⟩
  | .hbm, ⟨4, _⟩ => ⟨S4096x1024, .f32⟩
  | .hbm, ⟨5, _⟩ => ⟨S4096x1024, .f32⟩
  | .hbm, ⟨6, _⟩ => ⟨S512x1024, .f32⟩
  | .hbm, ⟨7, _⟩ => ⟨S512x1024, .f32⟩
  | .hbm, ⟨8, _⟩ => ⟨S_, .f32⟩
  | .hbm, ⟨9, _⟩ => ⟨S4096x512, .f32⟩
  | .hbm, ⟨10, _⟩ => ⟨S4096x1024, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x1024, .f32⟩
  | .hbm, ⟨15, _⟩ => ⟨S4096x512, .f32⟩
  | .hbm, ⟨16, _⟩ => ⟨S4096x512, .bf16⟩
  | .hbm, ⟨17, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel8.lean ====
abbrev S4096x1024 : Shape := ⟨2, ![4096, 1024]⟩
abbrev S1x4096x1024 : Shape := ⟨3, ![1, 4096, 1024]⟩
abbrev S1x1x1024x1024 : Shape := ⟨4, ![1, 1, 1024, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096x1024, .bf16⟩
  | .hbm, ⟨3, _⟩ => ⟨S1x4096x1024, .bf16⟩
  | .hbm, ⟨4, _⟩ => ⟨S1x1x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024x1024, .bf16⟩
  | .local _ .vmem, ⟨5, _⟩ => ⟨S1x1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_14 : BitVec 32 := 0#32
  let v16 : BitVec 1 := Scalar.cmpi .ne v15 c0_i32_14
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1x1024x1024, .f32⟩
  | .hbm, ⟨10, _⟩ => ⟨S1x1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x512 : Shape := ⟨2, ![4096, 512]⟩
abbrev S4096x1024 : Shape := ⟨2, ![4096, 1024]⟩
abbrev S1x4096x512 : Shape := ⟨3, ![1, 4096, 512]⟩
abbrev S1x4096x1024 : Shape := ⟨3, ![1, 4096, 1024]⟩
abbrev S1x1x512x1024 : Shape := ⟨4, ![1, 1, 512, 1024]⟩
abbrev S1x1024x512 : Shape := ⟨3, ![1, 1024, 512]⟩
abbrev S1x1024x1024 : Shape := ⟨3, ![1, 1024, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S1x4096x512, .bf16⟩
  | .hbm, ⟨3, _⟩ => ⟨S1x4096x1024, .bf16⟩
  | .hbm, ⟨4, _⟩ => ⟨S1x1x512x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x512x1024, .bf16⟩
  | .local _ .vmem, ⟨5, _⟩ => ⟨S1x1x512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_14 : BitVec 32 := 0#32
  let v16 : BitVec 1 := Scalar.cmpi .ne v15 c0_i32_14
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S1x1x512x1024 : Shape := ⟨4, ![1, 1, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S1x1x512x1024, .f32⟩
  | .hbm, ⟨10, _⟩ => ⟨S1x1x512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x5120 : Shape := ⟨2, ![1024, 5120]⟩
abbrev S1024x8x640 : Shape := ⟨3, ![1024, 8, 640]⟩
abbrev S8x1024x640 : Shape := ⟨3, ![8, 1024, 640]⟩
abbrev S4096x5120 : Shape := ⟨2, ![4096, 5120]⟩
abbrev S512x1024 : Shape := ⟨2, ![512, 1024]⟩
abbrev S512x5120 : Shape := ⟨2, ![512, 5120]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S1024x1280 : Shape := ⟨2, ![1024, 1280]⟩
abbrev S512x1280 : Shape := ⟨2, ![512, 1280]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5120, .bf16⟩
  | .hbm, ⟨5, _⟩ => ⟨S1024x8x640, .bf16⟩
  | .hbm, ⟨6, _⟩ => ⟨S8x1024x640, .bf16⟩
  | .hbm, ⟨7, _⟩ => ⟨S4096x1024, .bf16⟩
  | .hbm, ⟨8, _⟩ => ⟨S4096x5120, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S8x1024x640, .bf16⟩
  | .local _ .vmem, ⟨6, _⟩ => ⟨S512x1024, .bf16⟩
  | .local _ .vmem, ⟨7, _⟩ => ⟨S512x1024, .bf16⟩
  | .local _ .vmem, ⟨8, _⟩ => ⟨S512x5120, .bf16⟩
  | .local _ .vmem, ⟨9, _⟩ => ⟨S512x5120, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4096x1024 : Shape := ⟨2, ![4096, 1024]⟩
abbrev S1x1024 : Shape := ⟨2, ![1, 1024]⟩
abbrev S1024x5120 : Shape := ⟨2, ![1024, 5120]⟩
abbrev S_ : Shape := ⟨0, ![]⟩
abbrev S4096 : Shape := ⟨1, ![4096]⟩
abbrev S4096x1 : Shape := ⟨2, ![4096, 1]⟩
abbrev S4096x5120 : Shape := ⟨2, ![4096, 5120]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5120, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1024x5120, .f32⟩
  | .hbm, ⟨29, _⟩ => ⟨S4096x5120, .f32⟩
  | .hbm, ⟨30, _⟩ => ⟨S4096x5120, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel11.lean ====
abbrev S1024x5632 : Shape := ⟨2, ![1024, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S5632x1024 : Shape := ⟨2, ![5632, 1024]⟩
abbrev S8x704x1024 : Shape := ⟨3, ![8, 704, 1024]⟩
abbrev S4096x1024 : Shape := ⟨2, ![4096, 1024]⟩
abbrev S8x512x704 : Shape := ⟨3, ![8, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1024x5632, .bf16⟩
  | .hbm, ⟨1, _⟩ => ⟨S4096x5632, .bf16⟩
  | .hbm, ⟨2, _⟩ => ⟨S4096x8x704, .bf16⟩
  | .hbm, ⟨3, _⟩ => ⟨S8x4096x704, .bf16⟩
  | .hbm, ⟨4, _⟩ => ⟨S5632x1024, .bf16⟩
  | .hbm, ⟨5, _⟩ => ⟨S8x704x1024, .bf16⟩
  | .hbm, ⟨6, _⟩ => ⟨S4096x1024, .f32⟩
  | .local _ .vmem, ⟨0, _⟩ => ⟨S8x512x704, .bf16⟩
  | .local _ .vmem, ⟨1, _⟩ => ⟨S8x512x704, .bf16⟩
  | .local _ .vmem, ⟨2, _⟩ => ⟨S8x704x1024, .bf16⟩
  | .local _ .vmem, ⟨3, _⟩ => ⟨S512x1024, .f32⟩
  | .local _ .vmem, ⟨4, _⟩ => ⟨S512x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S1024x5632 : Shape := ⟨2, ![1024, 5632]⟩
abbrev S4096x5632 : Shape := ⟨2, ![4096, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S4096x5632, .bf16⟩
  | .hbm, ⟨2, _⟩ => ⟨S1024x5632, .f32⟩
  | .hbm, ⟨3, _⟩ => ⟨S4096x5632, .f32⟩
  | .hbm, ⟨4, _⟩ => ⟨S_, .f32⟩
  | .hbm, ⟨5, _⟩ => ⟨S4096x1024, .f32⟩
  | .hbm, ⟨6, _⟩ => ⟨S4096x5632, .f32⟩
  | .hbm, ⟨7, _⟩ => ⟨S4096x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x4x704, .bf16⟩
  | .hbm, ⟨5, _⟩ => ⟨S4x4096x704, .bf16⟩
  | .hbm, ⟨6, _⟩ => ⟨S4x704x1024, .bf16⟩
  | .hbm, ⟨7, _⟩ => ⟨S4096x1024, .f32⟩
  | .hbm, ⟨8, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel13.lean ====
abbrev S4096x5632 : Shape := ⟨2, ![4096, 5632]⟩
abbrev S2816x1024 : Shape := ⟨2, ![2816, 1024]⟩
abbrev S4096x1024 : Shape := ⟨2, ![4096, 1024]⟩
abbrev S4x704x1024 : Shape := ⟨3, ![4, 704, 1024]⟩
abbrev S4096x2x4x704 : Shape := ⟨4, ![4096, 2, 4, 704]⟩
abbrev S2x4x4096x704 : Shape := ⟨4, ![2, 4, 4096, 704]⟩
abbrev S512x1024 : Shape := ⟨2, ![512, 1024]⟩
abbrev S2x4x512x704 : Shape := ⟨4, ![2, 4, 512, 704]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 7
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .bf16⟩
  | .hbm, ⟨2, _⟩ => ⟨S4096x1024, .bf16⟩
  | .hbm, ⟨3, _⟩ => ⟨S4x704x1024, .bf16⟩
  | .hbm, ⟨4, _⟩ => ⟨S4096x2x4x704, .bf16⟩
  | .hbm, ⟨5, _⟩ => ⟨S2x4x4096x704, .bf16⟩
  | .hbm, ⟨6, _⟩ => ⟨S2x4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S4x704x1024, .bf16⟩
  | .local _ .vmem, ⟨3, _⟩ => ⟨S2x4x512x704, .bf16⟩
  | .local _ .vmem, ⟨4, _⟩ => ⟨S2x4x512x704, .bf16⟩
  | .local _ .vmem, ⟨5, _⟩ => ⟨S2x4x512x704, .bf16⟩
  | .local _ .vmem, ⟨6, _⟩ => ⟨S2x4x512x704, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩

abbrev nBuf : Space → Nat
  | .hbm => 34
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2816x1024, .bf16⟩
  | .hbm, ⟨2, _⟩ => ⟨S4096x1024, .bf16⟩
  | .hbm, ⟨3, _⟩ => ⟨S4096x5632, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x2x4x704, .f32⟩
  | .hbm, ⟨32, _⟩ => ⟨S2x4x4096x704, .f32⟩
  | .hbm, ⟨33, _⟩ => ⟨S2x4x4096x704, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel14.lean ====
abbrev S4096x512 : Shape := ⟨2, ![4096, 512]⟩
abbrev S4096x5120 : Shape := ⟨2, ![4096, 5120]⟩
abbrev S512x1024 : Shape := ⟨2, ![512, 1024]⟩
abbrev S2x1024 : Shape := ⟨2, ![2, 1024]⟩
abbrev S1024x1024 : Shape := ⟨2, ![1024, 1024]⟩
abbrev S4096x1024 : Shape := ⟨2, ![4096, 1024]⟩
abbrev S1x1024 : Shape := ⟨2, ![1, 1024]⟩
abbrev S512x512 : Shape := ⟨2, ![512, 512]⟩

abbrev nBuf : Space → Nat
  | .hbm => 14
  | .vmem => 25
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x5120, .bf16⟩
  | .hbm, ⟨3, _⟩ => ⟨S512x1024, .bf16⟩
  | .hbm, ⟨4, _⟩ => ⟨S512x1024, .bf16⟩
  | .hbm, ⟨5, _⟩ => ⟨S2x1024, .f32⟩
  | .hbm, ⟨6, _⟩ => ⟨S1024x1024, .bf16⟩
  | .hbm, ⟨7, _⟩ => ⟨S4096x1024, .f32⟩
  | .hbm, ⟨8, _⟩ => ⟨S1x1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference14Ideal.lean ====
abbrev S4096x512 : Shape := ⟨2, ![4096, 512]⟩
abbrev S4096x5120 : Shape := ⟨2, ![4096, 5120]⟩
abbrev S512x1024 : Shape := ⟨2, ![512, 1024]⟩
abbrev S2x1024 : Shape := ⟨2, ![2, 1024]⟩
abbrev S1024x1024 : Shape := ⟨2, ![1024, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x5120, .bf16⟩
  | .hbm, ⟨3, _⟩ => ⟨S512x1024, .bf16⟩
  | .hbm, ⟨4, _⟩ => ⟨S512x1024, .bf16⟩
  | .hbm, ⟨5, _⟩ => ⟨S2x1024, .f32⟩
  | .hbm, ⟨6, _⟩ => ⟨S1024x1024, .bf16⟩
  | .hbm, ⟨7, _⟩ => ⟨S4096x1024, .f32⟩
  | .hbm, ⟨8, _⟩ => ⟨S1x1024, .f32⟩
  | .hbm, ⟨9, _⟩ => ⟨S4096x512, .f32⟩
  | .hbm, ⟨10, _⟩ => ⟨S4096x512, .f32⟩
  | .hbm, ⟨11, _⟩ => ⟨S4096x5120, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S4096x1024, .bf16⟩
  | .hbm, ⟨52, _⟩ => ⟨S4096x1024, .bf16⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S4096x5120 : Shape := ⟨2, ![4096, 5120]⟩
abbrev S2x1024 : Shape := ⟨2, ![2, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 11
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x5120, .bf16⟩
  | .hbm, ⟨3, _⟩ => ⟨S4096x1024, .bf16⟩
  | .hbm, ⟨4, _⟩ => ⟨S4096x1024, .bf16⟩
  | .hbm, ⟨5, _⟩ => ⟨S2x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S2x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S2x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S2x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference15Ideal.lean ====
abbrev S4096x1024 : Shape := ⟨2, ![4096, 1024]⟩
abbrev S1024x1024 : Shape := ⟨2, ![1024, 1024]⟩
abbrev S4096x5120 : Shape := ⟨2, ![4096, 5120]⟩
abbrev S2x1024 : Shape := ⟨2, ![2, 1024]⟩
abbrev S1x1024 : Shape := ⟨2, ![1, 1024]⟩
abbrev S1024 : Shape := ⟨1, ![1024]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x5120, .bf16⟩
  | .hbm, ⟨3, _⟩ => ⟨S4096x1024, .bf16⟩
  | .hbm, ⟨4, _⟩ => ⟨S4096x1024, .bf16⟩
  | .hbm, ⟨5, _⟩ => ⟨S2x1024, .f32⟩
  | .hbm, ⟨6, _⟩ => ⟨S4096x1024, .f32⟩
  | .hbm, ⟨7, _⟩ => ⟨S1024x1024, .f32⟩
  | .hbm, ⟨8, _⟩ => ⟨S4096x5120, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S2x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S2x1024, .f32⟩
  | .hbm, ⟨74, _⟩ => ⟨S2x1024, .f32⟩
  | .hbm, ⟨75, _⟩ => ⟨S4096x1024, .bf16⟩
  | .hbm, ⟨76, _⟩ => ⟨S4096x1024, .bf16⟩
  | .hbm, ⟨77, _⟩ => ⟨S4096x1024, .bf16⟩
  | .hbm, ⟨78, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel16.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S1024x8x640 : Shape := ⟨3, ![1024, 8, 640]⟩
abbrev S8x1024x640 : Shape := ⟨3, ![8, 1024, 640]⟩
abbrev S512x5120 : Shape := ⟨2, ![512, 5120]⟩
abbrev S512x1024 : Shape := ⟨2, ![512, 1024]⟩
abbrev S1x1024x640 : Shape := ⟨3, ![1, 1024, 640]⟩
abbrev S1024x640 : Shape := ⟨2, ![1024, 640]⟩
abbrev S1024x1280 : Shape := ⟨2, ![1024, 1280]⟩
abbrev S512x1280 : Shape := ⟨2, ![512, 1280]⟩
abbrev S512 : Shape := ⟨1, ![512]⟩
abbrev S512x1 : Shape := ⟨2, ![512, 1]⟩
abbrev S1024 : Shape := ⟨1, ![1024]⟩

abbrev nBuf : Space → Nat
  | .hbm => 16
  | .vmem => 20
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S1024x8x640, .bf16⟩
  | .hbm, ⟨9, _⟩ => ⟨S8x1024x640, .bf16⟩
  | .hbm, ⟨10, _⟩ => ⟨S4096x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4096x1024, .bf16⟩
  | .hbm, ⟨15, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S8x1024x640, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference16Ideal.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S1024x5120, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S4096x5120, .f32⟩
  | .hbm, ⟨9, _⟩ => ⟨S1024x5120, .f32⟩
  | .hbm, ⟨10, _⟩ => ⟨S4096x1024, .f32⟩
  | .hbm, ⟨11, _⟩ => ⟨S_, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x5120, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1x1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S4096x1024, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Kernel17.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x4x704, .bf16⟩
  | .hbm, ⟨7, _⟩ => ⟨S4x4096x704, .bf16⟩
  | .hbm, ⟨8, _⟩ => ⟨S4x704x1024, .bf16⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference17Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev main_cst_12 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_v63 : Ref sig .tc := ⟨.hbm, 88, rfl⟩
abbrev main_cst_18 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Kernel18.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .bf16⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference18Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S_, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Proof.Words.lean ====
/-
  The words of the attention gradient's key loop. The kernel reads the first key block to visit from memory, clamps it
  into `[0, i]` and runs its loop from there to the query block `i`. Whatever the word, the clamped start is a number
  at most `i`, so the side condition the kernel checks holds; the remainder loop makes no trip.
-/
module

public import proofs.«01_k».proof.Proof.Gen.KernelIdeal.Skeleton

@[expose] public section

namespace Cert.Proof.Words

open Cert.KernelIdeal Cert.KernelIdeal.Gen Idealize.ShloMosaic Idealize.SL.Sem

/-- The start of the key loop: the word clamped into `[0, i]`. -/
def start (i : grid0.Coords) (v6 : BitVec 32) : BitVec 32 :=
  Scalar.minsi (BitVec.ofNat 32 (i 1).val) (Scalar.maxsi 0#32 v6)

/-- The clamped word is a number at most `k`. -/
theorem clamp (k : Fin 16) (v6 : BitVec 32) : ∃ n : Fin 16, n.val ≤ k.val ∧
    Scalar.minsi (BitVec.ofNat 32 k.val) (Scalar.maxsi 0#32 v6) = BitVec.ofNat 32 n.val := by
  unfold Scalar.minsi Scalar.maxsi IntOp.minsi IntOp.maxsi
  have hk : (BitVec.ofNat 32 k.val).toInt = k.val := by revert k; decide
  by_cases h0 : v6.slt 0#32
  · refine ⟨0, Nat.zero_le _, ?_⟩
    simp only [h0, if_true]
    revert k; decide
  · simp only [h0, Bool.false_eq_true, if_false]
    rw [BitVec.slt_iff_toInt_lt, not_lt, show (0#32 : BitVec 32).toInt = 0 from rfl] at h0
    by_cases h : (BitVec.ofNat 32 k.val).slt v6
    · exact ⟨k, le_rfl, by simp [h]⟩
    · rw [BitVec.slt_iff_toInt_lt, hk, not_lt] at h
      have hlt : v6.toInt.toNat < 16 := by have := k.isLt; omega
      refine ⟨⟨v6.toInt.toNat, hlt⟩, by show v6.toInt.toNat ≤ _; omega, ?_⟩
      rw [if_neg (by rw [BitVec.slt_iff_toInt_lt, hk]; omega)]
      apply BitVec.eq_of_toInt_eq
      rw [BitVec.toInt_ofNat']
      show v6.toInt = ((v6.toInt.toNat : ℕ) : ℤ).bmod _
      rw [Int.bmod_eq_of_le] <;> omega

/-- The side condition as a function of the query block and of the clamped start. -/
def chkAt (k : Fin 16) (v8 : BitVec 32) : Prop :=
  let v89 : BitVec 32 := Scalar.subi (BitVec.ofNat 32 k.val) v8
  let v93 : BitVec 32 := Scalar.addi v8 (Scalar.muli (Scalar.divsi v89 1#32) 1#32)
  let v90 : BitVec 32 := Scalar.addi v8 v89
  Scf.OK v8 v93 1#32 ∧
  (∀ t : Fin (Scf.trips v8 v93 1#32), 256 ∣ (Scalar.muli (Scf.iv v8 1#32 t) 256#32).toNat) ∧
  (∀ t : Fin (Scf.trips v8 v93 1#32), ∀ a, (![(Scalar.indexCast (Scalar.muli (Scf.iv v8 1#32 t) 256#32)).toNat, 0] : Fin 2 → ℕ) a + S256x256.size a ≤ S4096x256.size a) ∧
  Scf.OK v93 v90 1#32 ∧
  (∀ t : Fin (Scf.trips v93 v90 1#32), 256 ∣ (Scalar.muli (Scf.iv v93 1#32 t) 256#32).toNat) ∧
  (∀ t : Fin (Scf.trips v93 v90 1#32), ∀ a, (![(Scalar.indexCast (Scalar.muli (Scf.iv v93 1#32 t) 256#32)).toNat, 0] : Fin 2 → ℕ) a + S256x256.size a ≤ S4096x256.size a)

instance (k : Fin 16) (v8 : BitVec 32) : Decidable (chkAt k v8) := by unfold chkAt; infer_instance

/-- It holds at every start up to the query block. -/
theorem chkAt_ok : ∀ k n : Fin 16, n.val ≤ k.val → chkAt k (BitVec.ofNat 32 n.val) := by decide +kernel

/-- The kernel's side condition holds of every word. -/
theorem chk (i : grid0.Coords) (v6 : BitVec 32) : k0_chk1 i v6 := by
  obtain ⟨n, hn, h⟩ := clamp (i 1) v6
  have := chkAt_ok (i 1) n hn
  rw [← h] at this
  exact this

/-- The loop from a start `n` makes `k - n` trips and its remainder loop none. -/
theorem trips_ok : ∀ k n : Fin 16, n.val ≤ k.val →
    Scf.trips (BitVec.ofNat 32 n.val) (Scalar.addi (BitVec.ofNat 32 n.val) (Scalar.muli (Scalar.divsi (Scalar.subi (BitVec.ofNat 32 k.val) (BitVec.ofNat 32 n.val)) 1#32) 1#32)) 1#32 = k.val - n.val ∧
    Scf.trips (Scalar.addi (BitVec.ofNat 32 n.val) (Scalar.muli (Scalar.divsi (Scalar.subi (BitVec.ofNat 32 k.val) (BitVec.ofNat 32 n.val)) 1#32) 1#32))
      (Scalar.addi (BitVec.ofNat 32 n.val) (Scalar.subi (BitVec.ofNat 32 k.val) (BitVec.ofNat 32 n.val))) 1#32 = 0 := by
  decide +kernel

end Cert.Proof.Words
-- ==== Proof.Body.lean ====
/-
  The attention gradient's kernel body at a grid point, and its pipeline. One run of the body on any staging buffers: the
  six inputs stay as they are, the query gradient's block is stored, the two accumulators (key and value gradients) are
  read, added to and stored; at the first query block of a pair of heads they are zeroed before. What the run leaves in
  the three output buffers is the value it finds. Both frames follow from this one run, stated over any float family.
-/
module

public import proofs.«01_k».proof.Proof.Words
public import proofs.«01_k».proof.Proof.Gen.KernelIdeal.Frame
public import proofs.«01_k».proof.Proof.Gen.KernelIdeal.Loops
public import Idealize.ShloMosaic.Lib.Tactic

@[expose] public section

noncomputable section

namespace Cert.Proof.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- The run's branch word: whether this is the first query block. -/
def firstWord (i : grid0.Coords) : BitVec 1 :=
  Scalar.cmpi .ne (Scalar.extui (Scalar.cmpi .eq (BitVec.ofNat 32 (i 1).val) 0#32)) 0#32

/-- One whole store covers the query gradient's block. -/
theorem cover8 (p : Vec F S256x256 .bf16) (y : S256x256.Idx) :
    ∃ pc ∈ ([⟨Rect.unit (s := S256x256) ![0, 0] S256x256.size inb_S256x256_S256x256_0_0, p⟩] : List (View.Piece (Elt F) S256x256 .bf16)), y ∈ pc.1.set :=
  View.cover_of_tiled [⟨Rect.unit (s := S256x256) ![0, 0] S256x256.size inb_S256x256_S256x256_0_0, p⟩] S256x256.size (by rfl) y

/-- One whole store covers an accumulator. -/
theorem cover9 (p : Vec F S4096x256 .f32) (y : S4096x256.Idx) :
    ∃ pc ∈ ([⟨Rect.unit (s := S4096x256) ![0, 0] S4096x256.size inb_S4096x256_S4096x256_0_0, p⟩] : List (View.Piece (Elt F) S4096x256 .f32)), y ∈ pc.1.set :=
  View.cover_of_tiled [⟨Rect.unit (s := S4096x256) ![0, 0] S4096x256.size inb_S4096x256_S4096x256_0_0, p⟩] S4096x256.size (by rfl) y

set_option maxHeartbeats 4000000 in
/-- The body's run at a later query block: the three output buffers' contents are what the run finds. -/
def runLater (c : Dev nD) (i : grid0.Coords) (hi : firstWord i ≠ 1#1)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32) :
    Σ' (Y8 : Vec F S256x256 .bf16) (Y9 : Vec F S4096x256 .f32), { Y10 : Vec F S4096x256 .f32 //
      ∀ (E : Set ℕ) (K : PUnit → sProp 𝕄),
        iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ (∃ d, owns (c : Thread nD τ) a8 fullShare d) ∗ owns (c : Thread nD τ) a9 fullShare y9 ∗ owns (c : Thread nD τ) a10 fullShare y10
            ∗ (iprop(owns (c : Thread nD τ) a2 fullShare x2 ∗ owns (c : Thread nD τ) a3 fullShare x3 ∗ owns (c : Thread nD τ) a4 fullShare x4
                ∗ owns (c : Thread nD τ) a5 fullShare x5 ∗ owns (c : Thread nD τ) a6 fullShare x6 ∗ owns (c : Thread nD τ) a7 fullShare x7
                ∗ owns (c : Thread nD τ) a8 fullShare Y8 ∗ owns (c : Thread nD τ) a9 fullShare Y9 ∗ owns (c : Thread nD τ) a10 fullShare Y10) -∗ K ⟨⟩))
          ⊢ wp frame (wpE (defs₀ (F := F)) 𝒱₀ c none) E (cc0_attn_bwd i a2 h2 a3 h3 a4 h4 a5 h5 a6 h6 a7 h7 a8 h8 a9 h9 a10 h10) K } := by
  refine ⟨?_, ?_, ?_, fun E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := h2.eq_unread hf2; obtain rfl := h3.eq_unread hf3; obtain rfl := h4.eq_unread hf4
    obtain rfl := h5.eq_unread hf5; obtain rfl := h6.eq_unread hf6; obtain rfl := h7.eq_unread hf7
    obtain rfl := h9.eq_unread hf9; obtain rfl := h10.eq_unread hf10
    sl_unfold [cc0_attn_bwd]
    sl_exec (disch := first | exact Words.chk _ _ | sl_exact hi)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; swap; · iexact H8
      ipureintro
      refine (View.read_writes_eq_canon _ _ _ (cover8 _)).trans ?_; rfl
    isplitl [H9]
    · iexists _; isplitr; swap; · iexact H9
      ipureintro; rfl
    iexists _; isplitr; swap; · iexact H10
    ipureintro; rfl

set_option maxHeartbeats 4000000 in
/-- The body's run at the first query block, where the accumulators are zeroed before anything is added to them. -/
def runFirst (c : Dev nD) (i : grid0.Coords) (hi : firstWord i = 1#1)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) :
    Σ' (Y8 : Vec F S256x256 .bf16) (Y9 : Vec F S4096x256 .f32), { Y10 : Vec F S4096x256 .f32 //
      ∀ (E : Set ℕ) (K : PUnit → sProp 𝕄),
        iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6 ∗ owns (c : Thread nD τ) a7 fullShare x7
            ∗ (∃ d, owns (c : Thread nD τ) a8 fullShare d) ∗ (∃ d, owns (c : Thread nD τ) a9 fullShare d) ∗ (∃ d, owns (c : Thread nD τ) a10 fullShare d)
            ∗ (iprop(owns (c : Thread nD τ) a2 fullShare x2 ∗ owns (c : Thread nD τ) a3 fullShare x3 ∗ owns (c : Thread nD τ) a4 fullShare x4
                ∗ owns (c : Thread nD τ) a5 fullShare x5 ∗ owns (c : Thread nD τ) a6 fullShare x6 ∗ owns (c : Thread nD τ) a7 fullShare x7
                ∗ owns (c : Thread nD τ) a8 fullShare Y8 ∗ owns (c : Thread nD τ) a9 fullShare Y9 ∗ owns (c : Thread nD τ) a10 fullShare Y10) -∗ K ⟨⟩))
          ⊢ wp frame (wpE (defs₀ (F := F)) 𝒱₀ c none) E (cc0_attn_bwd i a2 h2 a3 h3 a4 h4 a5 h5 a6 h6 a7 h7 a8 h8 a9 h9 a10 h10) K } := by
  refine ⟨?_, ?_, ?_, fun E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := h2.eq_unread hf2; obtain rfl := h3.eq_unread hf3; obtain rfl := h4.eq_unread hf4
    obtain rfl := h5.eq_unread hf5; obtain rfl := h6.eq_unread hf6; obtain rfl := h7.eq_unread hf7
    sl_unfold [cc0_attn_bwd]
    set_option sl_exec.stopBefore "k0_part8" in sl_exec (disch := first | exact Words.chk _ _ | sl_exact hi)
    rw [h9.eq_unread (View.read_writes_eq_canon a9.view f9 _ (cover9 _)), h10.eq_unread (View.read_writes_eq_canon a10.view f10 _ (cover9 _))]
    sl_exec (disch := first | exact Words.chk _ _ | sl_exact hi)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; swap; · iexact H8
      ipureintro
      refine (View.read_writes_eq_canon _ _ _ (cover8 _)).trans ?_; rfl
    isplitl [H9]
    · iexists _; isplitr; swap; · iexact H9
      ipureintro; rfl
    iexists _; isplitr; swap; · iexact H10
    ipureintro; rfl

end Cert.Proof.Body

end
-- ==== Proof.Pipe.lean ====
/-
  The attention gradient's pipeline: what each grid point leaves in the output buffers, the body's obligation at every
  point, the run of the whole program and its frame. The key and value gradients' buffers are carried from point to point
  along the query blocks of one pair of heads and start afresh at the first.
-/
module

public import proofs.«01_k».proof.Proof.Body
public import Idealize.ShloMosaic.Lib.Claim

@[expose] public section

noncomputable section

namespace Cert.Proof.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch word at a point: the first query block of a pair of heads. -/
theorem firstWord_iff : ∀ t : Fin cfg0.N, firstWord (grid0.coords t) = 1#1 ↔ t.val % 16 = 0 := by decide

abbrev Outs (F : FTy → Type) : Type := Vec F S256x256 .bf16 × Vec F S4096x256 .f32 × Vec F S4096x256 .f32

/-- What a first point leaves. -/
def outsFirst (c : Dev nD) (t : Fin cfg0.N) (hi : firstWord (grid0.coords t) = 1#1) : Outs F :=
  let r := runFirst c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (iblk m c 5 t)
  (r.1, r.2.1, r.2.2.1)

/-- What a later point leaves, of what the point before left in the accumulators. -/
def outsLater (c : Dev nD) (t : Fin cfg0.N) (hi : firstWord (grid0.coords t) ≠ 1#1) (y9 y10 : Vec F S4096x256 .f32) : Outs F :=
  let r := runLater c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (iblk m c 5 t) y9 y10
  (r.1, r.2.1, r.2.2.1)

/-- What each point leaves in the three output buffers. -/
def outs (c : Dev nD) : (n : ℕ) → (h : n < cfg0.N) → Outs F
  | 0, h => outsFirst m c ⟨0, h⟩ ((firstWord_iff ⟨0, h⟩).2 rfl)
  | n + 1, h => if hi : firstWord (grid0.coords ⟨n + 1, h⟩) = 1#1 then outsFirst m c ⟨n + 1, h⟩ hi
      else outsLater m c ⟨n + 1, h⟩ hi (outs c n (Nat.lt_of_succ_lt h)).2.1 (outs c n (Nat.lt_of_succ_lt h)).2.2

theorem outs_first (c : Dev nD) (t : Fin cfg0.N) (hi : firstWord (grid0.coords t) = 1#1) :
    outs m c t.val t.isLt = outsFirst m c t hi := by
  obtain ⟨n, h⟩ := t
  cases n with
  | zero => rfl
  | succ n => rw [outs]; exact dif_pos hi

theorem outs_later (c : Dev nD) (t : Fin cfg0.N) (hi : firstWord (grid0.coords t) ≠ 1#1) (h' : t.val - 1 < cfg0.N) :
    outs m c t.val t.isLt = outsLater m c t hi (outs m c (t.val - 1) h').2.1 (outs m c (t.val - 1) h').2.2 := by
  obtain ⟨n, h⟩ := t
  cases n with
  | zero => exact absurd ((firstWord_iff ⟨0, h⟩).2 rfl) hi
  | succ n => rw [outs]; exact dif_neg hi

/-- The proof data: the arrays as the region finds them, each input's block kept, the outputs as the runs leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).1
    | ⟨7, _⟩ => (outs m c t.val t.isLt).2.1
    | ⟨8, _⟩ => (outs m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outs m c t.val t.isLt).1 := by dsimp only [dats]
theorem after0_7 (c : Dev nD) (t : Fin cfg0.N) : (dats m 0 c).after 7 t = (outs m c t.val t.isLt).2.1 := by dsimp only [dats]
theorem after0_8 (c : Dev nD) (t : Fin cfg0.N) : (dats m 0 c).after 8 t = (outs m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem noIdle : ∀ w i, cfg0.idle w i = false := fun _ _ => rfl

theorem noClip7 (i : cfg0.grid.Coords) (a) : (cfg0.win 7).clip i a = none := rfl
theorem noClip8 (i : cfg0.grid.Coords) (a) : (cfg0.win 8).clip i a = none := rfl

theorem prev_lt (t : Fin cfg0.N) : t.val - 1 < cfg0.N := Nat.lt_of_le_of_lt (Nat.sub_le _ _) t.isLt

theorem flush_prev {p : Fin cfg0.N → Bool} (hp : ∀ t, p t = true ↔ t.val % 16 = 15) (t : Fin cfg0.N) (ht : t.val % 16 ≠ 0) :
    p ⟨t.val - 1, prev_lt t⟩ = false := by
  rw [Bool.eq_false_iff]; intro h; have := (hp _).1 h; dsimp only at this; omega

/-- At a later point the accumulators hold what the point before left. -/
theorem before0_7 (c : Dev nD) (t : Fin cfg0.N) (ht : t.val % 16 ≠ 0) (d) :
    (dats m 0 c).before 7 t d = (outs m c (t.val - 1) (prev_lt t)).2.1 := by
  rw [Dat.before_out_kept (dats m 0 c) 7 rfl t (by omega) (flush_prev flush0_7 t ht) (noIdle 7) noClip7 d, after0_7]

theorem before0_8 (c : Dev nD) (t : Fin cfg0.N) (ht : t.val % 16 ≠ 0) (d) :
    (dats m 0 c).before 8 t d = (outs m c (t.val - 1) (prev_lt t)).2.2 := by
  rw [Dat.before_out_kept (dats m 0 c) 8 rfl t (by omega) (flush_prev flush0_8 t ht) (noIdle 8) noClip8 d, after0_8]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: a first one by its run from any accumulators, a later one by its run from the point before. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases hi : firstWord (grid0.coords t) = 1#1
  · rw [outs_first m c t hi]
    unfold outsFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (iblk m c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [outs_later m c t hi (prev_lt t)]
    have ht : t.val % 16 ≠ 0 := fun h => hi ((firstWord_iff t).2 h)
    simp only [before0_7 m c t ht, before0_8 m c t ht]
    unfold outsLater
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (iblk m c 5 t) (outs m c (t.val - 1) (prev_lt t)).2.1 (outs m c (t.val - 1) (prev_lt t)).2.2).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The run of the program: every array ends at what the proof data say, every counter at zero. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun c w _ => by dsimp only [dats])
    (howed := fun _ _ => rfl) (V := V m) (hmain := hmain m 𝒱₀) (hA := A_eq m) (hΦ := fun _ _ => rfl)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Body

end
-- ==== Proof.Same.lean ====
/-
  The kernel over float words is the same text as the kernel over the reals, so a run of one is a run of the other.
-/
module

public import proofs.«01_k».proof.Defs
public import proofs.«01_k».proof.Proof.Gen.Kernel
public import proofs.«01_k».proof.Proof.Gen.KernelIdeal

@[expose] public section

set_option maxHeartbeats 2000000

namespace Cert.Proof.Same

open Idealize.ShloMosaic Idealize.SL.Sem

theorem body_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs (F := Bits) := congrArg (Pipeline.defs _) body_eq

theorem main_eq : Cert.Kernel.main (F := Bits) = Cert.KernelIdeal.main (F := Bits) := rfl

/-- What every run of the one program satisfies, every run of the other does. -/
theorem run_of (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop)
    (h : θ_run (Cert.KernelIdeal.defs (F := Bits)) (onTc (τ := Cert.KernelIdeal.τ) (Cert.KernelIdeal.main (F := Bits))) ⟨m, fun _ => 0, ρ⟩ Q) :
    θ_run (Cert.Kernel.defs (F := Bits)) (onTc (τ := Cert.Kernel.τ) (Cert.Kernel.main (F := Bits))) ⟨m, fun _ => 0, ρ⟩ Q := by
  rw [defs_eq, main_eq]
  exact h

end Cert.Proof.Same

end
-- ==== Proof.Step.lean ====
/-
  One block of keys against one block of queries, in the kernel's own vector operations: what it does to the four heads'
  running sums, to the query gradient, and to the block's rows of the key and value gradients. The loop's trip and the
  diagonal block are this step, with and without the causal cut.
-/
module

public import proofs.«01_k».proof.Proof.Body

@[expose] public section

noncomputable section

namespace Cert.Proof.Step

open Cert.KernelIdeal Cert.KernelIdeal.Gen
open Idealize.ShloMosaic

variable {F : FTy → Type} [FloatOps F]

abbrev Col (F : FTy → Type) := FVec F S256x1 .f32
abbrev Blk (F : FTy → Type) := FVec F S256x256 .f32
abbrev Half (F : FTy → Type) := FVec F S256x256 .bf16

/-- The lanes of each of the four heads. -/
def lanes : Fin 4 → IVec S256x256 1
  | 0 => k0_pay74
  | 1 => k0_pay75
  | 2 => k0_pay76
  | 3 => k0_pay78 (iota .tc S256x256 32 [1] iota_S256x256_d1_w32) k0_pay77

/-- A block with one head's lanes kept. -/
def only (h : Fin 4) (x : Half F) : Half F := select (lanes h) x (broadcast S256x256 (Scalar.ofBits .bf16 0x0000#16))

/-- The causal cut of a diagonal block. -/
def causal (x : Blk F) : Blk F := select k0_pay73 x (broadcast S256x256 (Scalar.ofBits .f32 0x00000000#32))

/-- Four blocks on top of each other. -/
def stack (x : Fin 4 → Half F) : FVec F S1024x256 .bf16 :=
  concatenate S1024x256 0 [⟨S256x256, x 0⟩, ⟨S256x256, x 1⟩, ⟨S256x256, x 2⟩, ⟨S256x256, x 3⟩] concatenates_S256x256_S256x256_S256x256_S256x256_S1024x256_d0

/-- Four blocks side by side. -/
def beside (x : Fin 4 → Half F) : FVec F S256x1024 .bf16 :=
  concatenate S256x1024 1 [⟨S256x256, x 0⟩, ⟨S256x256, x 1⟩, ⟨S256x256, x 2⟩, ⟨S256x256, x 3⟩] concatenates_S256x256_S256x256_S256x256_S256x256_S256x1024_d1

def zero : Blk F := constant S256x256 .f32 0x00000000#32

/-- Rows of one block against rows of another. -/
def dotNT (a b : Half F) : Blk F := matmul dot_S256x256_S256x256_S256x256_1_1_0_0_n_n none a b zero
/-- The plain product. -/
def dotNN (a b : Half F) : Blk F := matmul dot_S256x256_S256x256_S256x256_1_0_0_1_n_n none a b zero

def half (x : Blk F) : Half F := truncf .bf16 x bitsLt_bf16_f32

def splat (b : BitVec 32) : Blk F := broadcast S256x256 (Scalar.ofBits .f32 b)

/-- The softplus as the kernel computes it. -/
def soft (z : Blk F) : Blk F :=
  addf (maximumf z (splat 0x00000000#32)) (log (addf (splat 0x3F800000#32) (exp (subf (splat 0x00000000#32) (absf z)))))

/-- A column repeated over the lanes. -/
def wide (x : Col F) : Blk F := broadcastTo S256x256 x broadcasts_S256x1_S256x256

/-- The attention weights of a block. -/
def att (tot e : Col F) (z s : Blk F) : Blk F := exp (subf z (subf (wide (subf tot e)) (dotNN (half s) k0_pay71)))

/-- The gradient of the scores of a block, before the cut. -/
def grad (gs : Col F) (z s g : Blk F) : Blk F := subf g (mulf (exp (subf z s)) (addf (wide gs) (dotNN (half g) k0_pay72)))

/-- A column and the sums of a block's rows. -/
def rowAdd (e : Col F) (x : Blk F) : Col F :=
  addf e (shapeCast S256x1 (multiReduction .add [1] S256 x 0x00000000#32 reduces_S256x256_S256 (.inl rfl) rfl) shapeCasts_S256_S256x1)

/-- What is carried from block to block: the sums of the softplus, those of the weights' gradient, the query gradient. -/
structure Run (F : FTy → Type) where
  e : Fin 4 → Col F
  g : Fin 4 → Col F
  dq : Blk F

/-- The carried values in the loop's order. -/
def Run.out (s : Run F) : FVec F S256x1 .f32 × FVec F S256x1 .f32 × FVec F S256x1 .f32 × FVec F S256x1 .f32 × FVec F S256x1 .f32 × FVec F S256x1 .f32 × FVec F S256x1 .f32 × FVec F S256x1 .f32 × FVec F S256x256 .f32 :=
  (s.e 0, s.e 1, s.e 2, s.e 3, s.g 0, s.g 1, s.g 2, s.g 3, s.dq)

/-- What a grid point computes once: the heads' scaled queries, their output gradients, their rows' totals. -/
structure Point (F : FTy → Type) where
  q : Half F
  o : Half F
  t : Blk F

def Point.Q (p : Point F) (h : Fin 4) : Half F := only h (k0_pay79 p.q)
def Point.D (p : Point F) (h : Fin 4) : Half F := only h p.o
def Point.T (p : Point F) (h : Fin 4) : Col F :=
  shapeCast S256x1 (multiReduction .maximumf [1] S256 (select (lanes h) (shapeCast S256x256 p.t shapeCasts_S256x256_S256x256) (splat 0x00000000#32))
    0xFF800000#32 reduces_S256x256_S256 (.inl rfl) rfl) shapeCasts_S256_S256x1

section
variable (cut : Blk F → Blk F) (p : Point F) (kb vb : Half F) (s : Run F)

def Z (h : Fin 4) : Blk F := dotNT (p.Q h) kb
def S (h : Fin 4) : Blk F := cut (soft (Z p kb h))
def A (h : Fin 4) : Blk F := cut (att (p.T h) (s.e h) (Z p kb h) (S cut p kb h))
def G (h : Fin 4) : Blk F := mulf (A cut p kb s h) (dotNT (p.D h) vb)
def DZ (h : Fin 4) : Blk F := cut (grad (s.g h) (Z p kb h) (S cut p kb h) (G cut p kb vb s h))

/-- The carried values after a block. -/
def next : Run F where
  e h := rowAdd (s.e h) (S cut p kb h)
  g h := rowAdd (s.g h) (G cut p kb vb s h)
  dq := addf s.dq (matmul dot_S256x1024_S1024x256_S256x256_1_0_0_1_n_n none (beside fun h => half (DZ cut p kb vb s h)) (stack fun h => only h kb) zero)

/-- A block's rows of the key gradient, with the block's part added. -/
def dk (old : Blk F) : Blk F :=
  addf (shapeCast S256x256 old shapeCasts_S256x256_S256x256)
    (matmul dot_S1024x256_S1024x256_S256x256_0_0_1_1_n_n none (stack fun h => half (DZ cut p kb vb s h)) (stack p.Q) zero)

/-- A block's rows of the value gradient, with the block's part added. -/
def dv (old : Blk F) : Blk F :=
  addf (shapeCast S256x256 old shapeCasts_S256x256_S256x256)
    (matmul dot_S1024x256_S1024x256_S256x256_0_0_1_1_n_n none (stack fun h => half (A cut p kb s h)) (stack p.D) zero)
end

/-- Before the first block nothing is carried. -/
def start : Run F where
  e := fun | 0 => k0_pay96 | 1 => k0_pay97 | 2 => k0_pay98 | 3 => k0_pay99
  g := fun | 0 => k0_pay96 | 1 => k0_pay97 | 2 => k0_pay98 | 3 => k0_pay99
  dq := k0_pay100

end Cert.Proof.Step

end
-- ==== Proof.Trip.lean ====
/-
  A trip of the loop over the earlier blocks of keys is the step of Step.lean, without the causal cut.
-/
module

public import proofs.«01_k».proof.Proof.Step

@[expose] public section

noncomputable section

namespace Cert.Proof.Trip

open Cert.KernelIdeal Cert.KernelIdeal.Gen
open Idealize.ShloMosaic

variable {F : FTy → Type} [FloatOps F]

theorem carried (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (arg1 : BitVec 32) (v6 : BitVec 32) (k0_hw1 : k0_chk1 i v6) (v8 : BitVec 32) (X_arg3 : BufTy.Contents (Elt F) arg3.view.ty) (X_arg4 : BufTy.Contents (Elt F) arg4.view.ty) (k : Fin (k0_t1_loop i v6).trips) (p : Step.Point F) (s : Step.Run F)
    (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg1 v6 k0_hw1 v8 k0_pay71 k0_pay72 k0_pay73 (Step.lanes 0) (Step.lanes 1) (Step.lanes 2) (Step.lanes 3) (p.Q 0) (p.Q 1) (p.Q 2) (p.Q 3) (p.D 0) (p.D 1) (p.D 2) (p.D 3) (Step.stack p.Q) (Step.stack p.D) (k0_pay90 p.t) (p.T 0) (p.T 1) (k0_pay93 (Step.lanes 2) p.t) X_arg3 X_arg4 k).1 s.out f9 f10
      = (Step.next id p (arg3.view.readAt (Elt F) (Rect.unit (s := S4096x256) (k0_off1 i v6 k) S256x256.size (k0_off1_inb i v6 k0_hw1 k)).toLoadRect X_arg3)
          (arg4.view.readAt (Elt F) (Rect.unit (s := S4096x256) (k0_off1 i v6 k) S256x256.size (k0_off1_inb i v6 k0_hw1 k)).toLoadRect X_arg4) s).out := by
  unfold trip_k0_t1; rfl

theorem keys (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (arg1 : BitVec 32) (v6 : BitVec 32) (k0_hw1 : k0_chk1 i v6) (v8 : BitVec 32) (X_arg3 : BufTy.Contents (Elt F) arg3.view.ty) (X_arg4 : BufTy.Contents (Elt F) arg4.view.ty) (k : Fin (k0_t1_loop i v6).trips) (p : Step.Point F) (s : Step.Run F)
    (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg1 v6 k0_hw1 v8 k0_pay71 k0_pay72 k0_pay73 (Step.lanes 0) (Step.lanes 1) (Step.lanes 2) (Step.lanes 3) (p.Q 0) (p.Q 1) (p.Q 2) (p.Q 3) (p.D 0) (p.D 1) (p.D 2) (p.D 3) (Step.stack p.Q) (Step.stack p.D) (k0_pay90 p.t) (p.T 0) (p.T 1) (k0_pay93 (Step.lanes 2) p.t) X_arg3 X_arg4 k).2.1 s.out f9 f10
      = [⟨(Rect.unit (s := S4096x256) (k0_off1 i v6 k) S256x256.size (k0_off1_inb i v6 k0_hw1 k)), Step.dk id p (arg3.view.readAt (Elt F) (Rect.unit (s := S4096x256) (k0_off1 i v6 k) S256x256.size (k0_off1_inb i v6 k0_hw1 k)).toLoadRect X_arg3)
          (arg4.view.readAt (Elt F) (Rect.unit (s := S4096x256) (k0_off1 i v6 k) S256x256.size (k0_off1_inb i v6 k0_hw1 k)).toLoadRect X_arg4) s
          (arg9.view.readAt (Elt F) (Rect.unit (s := S4096x256) (k0_off1 i v6 k) S256x256.size (k0_off1_inb i v6 k0_hw1 k)).toLoadRect f9)⟩] := by
  unfold trip_k0_t1; rfl

theorem values (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (arg1 : BitVec 32) (v6 : BitVec 32) (k0_hw1 : k0_chk1 i v6) (v8 : BitVec 32) (X_arg3 : BufTy.Contents (Elt F) arg3.view.ty) (X_arg4 : BufTy.Contents (Elt F) arg4.view.ty) (k : Fin (k0_t1_loop i v6).trips) (p : Step.Point F) (s : Step.Run F)
    (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg1 v6 k0_hw1 v8 k0_pay71 k0_pay72 k0_pay73 (Step.lanes 0) (Step.lanes 1) (Step.lanes 2) (Step.lanes 3) (p.Q 0) (p.Q 1) (p.Q 2) (p.Q 3) (p.D 0) (p.D 1) (p.D 2) (p.D 3) (Step.stack p.Q) (Step.stack p.D) (k0_pay90 p.t) (p.T 0) (p.T 1) (k0_pay93 (Step.lanes 2) p.t) X_arg3 X_arg4 k).2.2.1 s.out f9 f10
      = [⟨(Rect.unit (s := S4096x256) (k0_off1 i v6 k) S256x256.size (k0_off1_inb i v6 k0_hw1 k)), Step.dv id p (arg3.view.readAt (Elt F) (Rect.unit (s := S4096x256) (k0_off1 i v6 k) S256x256.size (k0_off1_inb i v6 k0_hw1 k)).toLoadRect X_arg3) s
          (arg10.view.readAt (Elt F) (Rect.unit (s := S4096x256) (k0_off1 i v6 k) S256x256.size (k0_off1_inb i v6 k0_hw1 k)).toLoadRect f10)⟩] := by
  unfold trip_k0_t1; rfl

end Cert.Proof.Trip

end
-- ==== Proof.State.lean ====
/-
  The loop over the earlier blocks of keys: its carried values and the two accumulators after `k` trips are the steps of
  Step.lean taken one after the other on the rows of block `0`, `1`, …
-/
module

public import proofs.«01_k».proof.Proof.Trip
public import Idealize.ShloMosaic.Lib.WholeRead
public import Idealize.ShloMosaic.Lib.WritesUnit
public import Idealize.ShloMosaic.Lib.ValueIdx

@[expose] public section

noncomputable section

namespace Cert.Proof.State

open Cert.KernelIdeal Cert.KernelIdeal.Gen
open Idealize.ShloMosaic Idealize.ShloMosaic.ValueIdx

variable {F : FTy → Type} [FloatOps F]

/-- The rows of block `j`. -/
def rows {α : Type} (x : S4096x256.Idx → α) (j : ℕ) : S256x256.Idx → α :=
  fun y => x (ix2 ⟨(256 * j + (y 0).val) % 4096, Nat.mod_lt _ (by norm_num)⟩ (y 1))

/-- The rows of block `j` replaced. -/
def put {α : Type} (x : S4096x256.Idx → α) (j : ℕ) (b : S256x256.Idx → α) : S4096x256.Idx → α :=
  fun y => if (y 0).val / 256 = j then b (ix2 ⟨(y 0).val % 256, Nat.mod_lt _ (by norm_num)⟩ (y 1)) else x y

theorem read_rows {e : EltTy} {a : Memref sig .tc .vmem S4096x256 e} (h : a.IsWhole) (x : S4096x256.Idx → Elt F e) (j : ℕ)
    (hj : j < 16) {off : Fin 2 → ℕ} (inb : ∀ a, off a + S256x256.size a ≤ S4096x256.size a) (hoff : off = ![256 * j, 0]) :
    a.view.readAt (Elt F) (Rect.unit (s := S4096x256) off S256x256.size inb).toLoadRect (h.unread x) = rows x j := by
  subst hoff
  funext y
  rw [h.readAt_unread]
  refine congrArg x (funext fun b => Fin.ext ?_)
  have hy : (y 0).val < 256 := (y 0).isLt
  match b with
  | ⟨0, _⟩ => show 256 * j + 1 * (y 0).val = (256 * j + (y 0).val) % 4096; omega
  | ⟨1, _⟩ => show 0 + 1 * (y 1).val = (y 1).val; omega

theorem write_rows {e : EltTy} {a : Memref sig .tc .vmem S4096x256 e} (h : a.IsWhole) (x : S4096x256.Idx → Elt F e) (j : ℕ)
    (hj : j < 16) {off : Fin 2 → ℕ} (inb : ∀ a, off a + S256x256.size a ≤ S4096x256.size a) (hoff : off = ![256 * j, 0])
    (b : S256x256.Idx → Elt F e) :
    a.view.writes (Elt F) (h.unread x) [⟨Rect.unit (s := S4096x256) off S256x256.size inb, b⟩] = h.unread (put x j b) := by
  refine h.eq_unread (funext fun y => ?_)
  have hy : (y 0).val < 4096 := (y 0).isLt
  unfold put
  by_cases hd : (y 0).val / 256 = j
  · rw [if_pos hd]
    exact View.read_writes_cons_rows_of_mem (v := a.view) (f := h.unread x) inb b [] y _ hoff
      (by show (y 0).val = 256 * j + (y 0).val % 256; omega) rfl
  · rw [if_neg hd, View.read_writes_cons_rows_of_not_mem (v := a.view) (f := h.unread x) inb b [] y hoff (W := 256) rfl (by omega)]
    exact congrFun (h.read_unread x) y

/-- The steps over the blocks `0 … k - 1`: the carried values and the two accumulators. -/
def walk (p : Step.Point F) (x3 x4 : Vec F S4096x256 .bf16) (y9 y10 : Vec F S4096x256 .f32) :
    ℕ → Step.Run F × Vec F S4096x256 .f32 × Vec F S4096x256 .f32
  | 0 => (Step.start, y9, y10)
  | k + 1 =>
    let w := walk p x3 x4 y9 y10 k
    (Step.next id p (rows x3 k) (rows x4 k) w.1, put w.2.1 k (Step.dk id p (rows x3 k) (rows x4 k) w.1 (rows w.2.1 k)),
      put w.2.2 k (Step.dv id p (rows x3 k) w.1 (rows w.2.2 k)))

theorem trips_zero : ∀ i : grid0.Coords, (k0_t1_loop i 0#32).trips = (i 1).val ∧ (k0_t2_loop i 0#32).trips = 0 := by
  decide +kernel

theorem off_zero : ∀ (i : grid0.Coords) (k : Fin (k0_t1_loop i 0#32).trips), k0_off1 i 0#32 k = ![256 * k.val, 0] := by
  decide +kernel

theorem loop (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (arg1 : BitVec 32) (v6 : BitVec 32) (k0_hw1 : k0_chk1 i v6) (v8 : BitVec 32) (hv : v6 = 0#32)
    (p : Step.Point F) (x3 x4 : Vec F S4096x256 .bf16) (y9 y10 : Vec F S4096x256 .f32) (k : ℕ) (hk : k ≤ (i 1).val) :
    (st_k0_t1 (F := F) 𝒱 c bd i arg2 harg2 arg3 harg3 arg4 harg4 arg5 harg5 arg6 harg6 arg7 harg7 arg8 harg8 arg9 harg9 arg10 harg10 arg1 v6 k0_hw1 v8 k0_pay71 k0_pay72 k0_pay73 (Step.lanes 0) (Step.lanes 1) (Step.lanes 2) (Step.lanes 3) (p.Q 0) (p.Q 1) (p.Q 2) (p.Q 3) (p.D 0) (p.D 1) (p.D 2) (p.D 3) (Step.stack p.Q) (Step.stack p.D) (k0_pay90 p.t) (p.T 0) (p.T 1) (k0_pay93 (Step.lanes 2) p.t) (harg3.unread x3) (harg4.unread x4) (harg9.unread y9) (harg10.unread y10) Step.start.out k).1 = (walk p x3 x4 y9 y10 k).1.out
      ∧ arg9.view.writes (Elt F) (harg9.unread y9) (st_k0_t1 (F := F) 𝒱 c bd i arg2 harg2 arg3 harg3 arg4 harg4 arg5 harg5 arg6 harg6 arg7 harg7 arg8 harg8 arg9 harg9 arg10 harg10 arg1 v6 k0_hw1 v8 k0_pay71 k0_pay72 k0_pay73 (Step.lanes 0) (Step.lanes 1) (Step.lanes 2) (Step.lanes 3) (p.Q 0) (p.Q 1) (p.Q 2) (p.Q 3) (p.D 0) (p.D 1) (p.D 2) (p.D 3) (Step.stack p.Q) (Step.stack p.D) (k0_pay90 p.t) (p.T 0) (p.T 1) (k0_pay93 (Step.lanes 2) p.t) (harg3.unread x3) (harg4.unread x4) (harg9.unread y9) (harg10.unread y10) Step.start.out k).2.1 = harg9.unread (walk p x3 x4 y9 y10 k).2.1
      ∧ arg10.view.writes (Elt F) (harg10.unread y10) (st_k0_t1 (F := F) 𝒱 c bd i arg2 harg2 arg3 harg3 arg4 harg4 arg5 harg5 arg6 harg6 arg7 harg7 arg8 harg8 arg9 harg9 arg10 harg10 arg1 v6 k0_hw1 v8 k0_pay71 k0_pay72 k0_pay73 (Step.lanes 0) (Step.lanes 1) (Step.lanes 2) (Step.lanes 3) (p.Q 0) (p.Q 1) (p.Q 2) (p.Q 3) (p.D 0) (p.D 1) (p.D 2) (p.D 3) (Step.stack p.Q) (Step.stack p.D) (k0_pay90 p.t) (p.T 0) (p.T 1) (k0_pay93 (Step.lanes 2) p.t) (harg3.unread x3) (harg4.unread x4) (harg9.unread y9) (harg10.unread y10) Step.start.out k).2.2 = harg10.unread (walk p x3 x4 y9 y10 k).2.2 := by
  subst hv
  induction k with
  | zero => exact ⟨rfl, rfl, rfl⟩
  | succ k ih =>
    obtain ⟨h1, h2, h3⟩ := ih (Nat.le_of_succ_le hk)
    have ht : k < (k0_t1_loop i 0#32).trips := by rw [(trips_zero i).1]; exact hk
    have h16 : k < 16 := Nat.lt_of_lt_of_le hk (Nat.le_of_lt_succ (Nat.lt_succ_of_lt (i 1).isLt))
    have ho := off_zero i ⟨k, ht⟩
    rw [st_k0_t1_succ (k := ⟨k, ht⟩)]
    dsimp only [tripR_k0_t1, tripL_k0_t1]
    rw [h1, h2, h3, Trip.carried, Trip.keys, Trip.values, View.writes_append, View.writes_append, h2, h3]
    simp only [read_rows harg3 x3 k h16 _ ho, read_rows harg4 x4 k h16 _ ho, read_rows harg9 _ k h16 _ ho, read_rows harg10 _ k h16 _ ho]
    rw [write_rows harg9 _ k h16 _ ho, write_rows harg10 _ k h16 _ ho]
    exact ⟨rfl, rfl, rfl⟩

end Cert.Proof.State

end
-- ==== Proof.Rep.lean ====
/-
  Blocks whose entries are given real numbers, and what each operation of a step makes of them over the reals.
-/
module

public import proofs.«01_k».proof.Proof.State
public import Idealize.ShloMosaic.Lib.MatmulPlain
public import Idealize.ShloMosaic.Lib.Pointwise.Contract
public import Idealize.ShloMosaic.Lib.IdealHost
public import Idealize.ShloMosaic.Lib.ValueLayoutCasts
public import Idealize.ShloMosaic.PureOps.Ideal.Laws

@[expose] public section

noncomputable section

namespace Cert.Proof.Rep

open Cert.KernelIdeal Cert.KernelIdeal.Gen
open Idealize.ShloMosaic hiding ix0 ix1 ix2 ix3 ix4 ix5
open Idealize.ShloMosaic.ValueIdx
open Cert.Proof

/-- A block's entries are the real numbers `f r c`. -/
def Is (x : S256x256.Idx → EReal) (f : ℕ → ℕ → ℝ) : Prop := ∀ r c : Fin 256, x (ix2 r c) = ((f r c : ℝ) : EReal)

/-- A column's entries are the real numbers `f r`. -/
def IsCol (x : S256x1.Idx → EReal) (f : ℕ → ℝ) : Prop := ∀ r : Fin 256, x (ix2 r (0 : Fin 1)) = ((f r : ℝ) : EReal)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem sum_fin (n : ℕ) (g : Fin n → EReal) (f : ℕ → ℝ) (h : ∀ k : Fin n, g k = ((f k : ℝ) : EReal)) :
    ∑ k : Fin n, g k = ((∑ k ∈ Finset.range n, f k : ℝ) : EReal) := by
  rw [Finset.sum_range, coe_sum]
  exact Finset.sum_congr rfl fun k _ => h k

theorem Is.congr {x : S256x256.Idx → EReal} {f g : ℕ → ℕ → ℝ} (h : Is x f) (e : ∀ r c, r < 256 → c < 256 → f r c = g r c) : Is x g :=
  fun r c => (h r c).trans (by rw [e r c r.isLt c.isLt])

theorem IsCol.congr {x : S256x1.Idx → EReal} {f g : ℕ → ℝ} (h : IsCol x f) (e : ∀ r, r < 256 → f r = g r) : IsCol x g :=
  fun r => (h r).trans (by rw [e r r.isLt])

theorem eighth_bf16 : Ideal.ofBits .bf16 0x3E00#16 = (((1 : ℝ) / 8 : ℝ) : EReal) := by
  simp [Ideal.ofBits, Ideal.ieee, -EReal.coe_mul]; norm_num

theorem eighth_f32 : Ideal.ofBits .f32 0x3E000000#32 = (((1 : ℝ) / 8 : ℝ) : EReal) := by
  simp [Ideal.ofBits, Ideal.ieee, -EReal.coe_mul]; norm_num

theorem zero_is : Is (Step.zero (F := Ideal)) (fun _ _ => 0) := fun r c => Ideal.ofBits_zero_f32

theorem splat_zero : Is (Step.splat (F := Ideal) 0x00000000#32) (fun _ _ => 0) := fun r c => Ideal.ofBits_zero_f32
theorem splat_one : Is (Step.splat (F := Ideal) 0x3F800000#32) (fun _ _ => 1) := fun r c => Ideal.ofBits_one_f32
theorem splat_eighth : Is (Step.splat (F := Ideal) 0x3E000000#32) (fun _ _ => 1 / 8) := fun r c => eighth_f32

theorem lanes_at : ∀ (h : Fin 4) (r c : Fin 256), Step.lanes h (ix2 r c) = if c.val / 64 = h.val then 1#1 else 0#1 := by
  have key : ∀ (h : Fin 4) (c : Fin 256), Step.lanes h (ix2 (0 : Fin 256) c) = if c.val / 64 = h.val then 1#1 else 0#1 := by
    decide +kernel
  intro h r c
  rw [← key h c]
  match h with
  | 0 => rfl
  | 1 => rfl
  | 2 => rfl
  | 3 => rfl

theorem toInt_small {a : ℕ} (ha : a < 4096) : (BitVec.ofNat 32 a).toInt = (a : ℤ) := by
  rw [BitVec.toInt_eq_toNat_cond, BitVec.toNat_ofNat]
  have : a % 2 ^ 32 = a := Nat.mod_eq_of_lt (by omega)
  rw [this, if_pos (by omega)]

theorem slt_small {a b : ℕ} (ha : a < 4096) (hb : b < 4096) : (BitVec.ofNat 32 a).slt (BitVec.ofNat 32 b) = decide (a < b) := by
  unfold BitVec.slt
  rw [toInt_small ha, toInt_small hb]
  exact decide_eq_decide.mpr (by omega)

theorem sle_small {a b : ℕ} (ha : a < 4096) (hb : b < 4096) : (BitVec.ofNat 32 a).sle (BitVec.ofNat 32 b) = decide (a ≤ b) := by
  unfold BitVec.sle
  rw [toInt_small ha, toInt_small hb]
  exact decide_eq_decide.mpr (by omega)

theorem causal_at (r c : Fin 256) : k0_pay73 (ix2 r c) = BitVec.ofBool (decide (c.val < r.val)) := by
  rw [← slt_small (by omega) (by omega)]
  show BitVec.ofBool ((BitVec.ofNat 32 (0 * 256 + c.val)).slt (BitVec.ofNat 32 (0 * 256 + r.val))) = _
  rw [Nat.zero_mul, Nat.zero_add, Nat.zero_add]

theorem causal_is {x : S256x256.Idx → EReal} {f : ℕ → ℕ → ℝ} (hx : Is x f) :
    Is (Step.causal (F := Ideal) x) (fun r c => if c < r then f r c else 0) := by
  intro r c
  show (if k0_pay73 (ix2 r c) = 1#1 then x (ix2 r c) else Ideal.ofBits .f32 0x00000000#32) = _
  rw [causal_at]
  by_cases e : c.val < r.val
  · simp [e, hx r c]
  · simp [e]

/-- Ones above the diagonal. -/
theorem before_is : Is (k0_pay71 (F := Ideal)) (fun r c => if r < c then 1 else 0) := by
  intro r c
  show (((((BitVec.ofBool ((BitVec.ofNat 32 (0 * 256 + r.val)).slt (BitVec.ofNat 32 (0 * 256 + c.val)))).setWidth 32).toInt : ℤ) : ℝ) : EReal) = _
  rw [Nat.zero_mul, Nat.zero_add, Nat.zero_add, slt_small (by omega) (by omega)]
  by_cases e : r.val < c.val
  · simp [e]
  · simp [e]

/-- Ones on the diagonal and above. -/
theorem upto_is : Is (k0_pay72 (F := Ideal)) (fun r c => if r ≤ c then 1 else 0) := by
  intro r c
  show (((((BitVec.ofBool ((BitVec.ofNat 32 (0 * 256 + r.val)).sle (BitVec.ofNat 32 (0 * 256 + c.val)))).setWidth 32).toInt : ℤ) : ℝ) : EReal) = _
  rw [Nat.zero_mul, Nat.zero_add, Nat.zero_add, sle_small (by omega) (by omega)]
  by_cases e : r.val ≤ c.val
  · simp [e]
  · simp [e]

theorem only_is (h : Fin 4) {x : S256x256.Idx → EReal} {f : ℕ → ℕ → ℝ} (hx : Is x f) :
    Is (Step.only (F := Ideal) h x) (fun r c => if c / 64 = h.val then f r c else 0) := by
  intro r c
  show (if Step.lanes h (ix2 r c) = 1#1 then x (ix2 r c) else Ideal.ofBits .bf16 0x0000#16) = _
  rw [lanes_at]
  by_cases e : c.val / 64 = h.val
  · simp [e, hx r c]
  · simp [e]

theorem dotNT_is {x y : S256x256.Idx → EReal} {f g : ℕ → ℕ → ℝ} (hx : Is x f) (hy : Is y g) :
    Is (Step.dotNT (F := Ideal) x y) (fun r c => ∑ l ∈ Finset.range 256, f r l * g c l) := by
  intro r c
  refine (Ideal.matmul_transposedRhs_apply (M := 256) (K := 256) (N := 256) none x y Step.zero r c).trans ?_
  rw [zero_is, sum_fin 256 _ (fun l => f r l * g c l) fun k => by rw [hx r k, hy c k, EReal.coe_mul]]
  simp

theorem dotNN_is {x y : S256x256.Idx → EReal} {f g : ℕ → ℕ → ℝ} (hx : Is x f) (hy : Is y g) :
    Is (Step.dotNN (F := Ideal) x y) (fun r c => ∑ l ∈ Finset.range 256, f r l * g l c) := by
  intro r c
  refine (Ideal.matmul_plain_apply (M := 256) (K := 256) (N := 256) none x y Step.zero r c).trans ?_
  rw [zero_is, sum_fin 256 _ (fun l => f r l * g l c) fun k => by rw [hx r k, hy k c, EReal.coe_mul]]
  simp

theorem half_is {x : S256x256.Idx → EReal} {f : ℕ → ℕ → ℝ} (hx : Is x f) : Is (Step.half (F := Ideal) x) f := hx

theorem add_is {x y : S256x256.Idx → EReal} {f g : ℕ → ℕ → ℝ} (hx : Is x f) (hy : Is y g) :
    Is (addf (F := Ideal) (φ := .f32) x y) (fun r c => f r c + g r c) :=
  fun r c => by show x _ + y _ = _; rw [hx, hy, EReal.coe_add]

theorem sub_is {x y : S256x256.Idx → EReal} {f g : ℕ → ℕ → ℝ} (hx : Is x f) (hy : Is y g) :
    Is (subf (F := Ideal) (φ := .f32) x y) (fun r c => f r c - g r c) :=
  fun r c => by show x _ - y _ = _; rw [hx, hy, EReal.coe_sub]

theorem mul_is {φ : FTy} {x y : S256x256.Idx → EReal} {f g : ℕ → ℕ → ℝ} (hx : Is x f) (hy : Is y g) :
    Is (mulf (F := Ideal) (φ := φ) x y) (fun r c => f r c * g r c) :=
  fun r c => by show x _ * y _ = _; rw [hx, hy, EReal.coe_mul]

theorem exp_is {x : S256x256.Idx → EReal} {f : ℕ → ℕ → ℝ} (hx : Is x f) :
    Is (exp (F := Ideal) (φ := .f32) x) (fun r c => Real.exp (f r c)) :=
  fun r c => by show Ideal.exp (x _) = _; rw [hx, Ideal.exp_coe]

theorem coe_max (a b : ℝ) : ((max a b : ℝ) : EReal) = max (a : EReal) (b : EReal) := EReal.coe_strictMono.monotone.map_max

theorem soft_real (a : ℝ) : max a 0 + Real.log (1 + Real.exp (0 - max a (-a))) = Real.log (1 + Real.exp a) := by
  have h1 : (0 : ℝ) < 1 + Real.exp (0 - max a (-a)) := by positivity
  have key : Real.exp (max a 0) * (1 + Real.exp (0 - max a (-a))) = 1 + Real.exp a := by
    rcases le_total 0 a with h | h
    · rw [max_eq_left h, max_eq_left (by linarith), mul_add, ← Real.exp_add]
      simp [add_comm]
    · rw [max_eq_right h, max_eq_right (by linarith)]
      simp
  rw [← key, Real.log_mul (Real.exp_ne_zero _) h1.ne', Real.log_exp]

theorem soft_is {x : S256x256.Idx → EReal} {f : ℕ → ℕ → ℝ} (hx : Is x f) :
    Is (Step.soft (F := Ideal) x) (fun r c => Real.log (1 + Real.exp (f r c))) := by
  intro r c
  show max (x (ix2 r c)) (Ideal.ofBits .f32 0x00000000#32) + Ideal.log (Ideal.ofBits .f32 0x3F800000#32 + Ideal.exp (Ideal.ofBits .f32 0x00000000#32 - max (x (ix2 r c)) (-(x (ix2 r c))))) = _
  have e1 : (1 : EReal) = ((1 : ℝ) : EReal) := by norm_cast
  have e0 : (0 : EReal) = ((0 : ℝ) : EReal) := by norm_cast
  rw [hx r c, Ideal.ofBits_zero_f32, Ideal.ofBits_one_f32, e1, e0, ← EReal.coe_neg, ← coe_max, ← coe_max, ← EReal.coe_sub, Ideal.exp_coe, ← EReal.coe_add,
    Ideal.log_coe, if_neg (by have := Real.exp_pos (0 - max (f r c) (-f r c)); linarith), ← EReal.coe_add, soft_real]

theorem wide_is {x : S256x1.Idx → EReal} {f : ℕ → ℝ} (hx : IsCol x f) : Is (Step.wide (F := Ideal) x) (fun r c => f r) := by
  intro r c
  refine Eq.trans (congrArg x ?_) (hx r)
  funext a
  match a with
  | ⟨0, _⟩ => rfl
  | ⟨1, _⟩ => rfl

theorem subCol_is {x y : S256x1.Idx → EReal} {f g : ℕ → ℝ} (hx : IsCol x f) (hy : IsCol y g) :
    IsCol (subf (F := Ideal) (φ := .f32) x y) (fun r => f r - g r) :=
  fun r => by show x _ - y _ = _; rw [hx, hy, EReal.coe_sub]

theorem rowAdd_is {e : S256x1.Idx → EReal} {x : S256x256.Idx → EReal} {f : ℕ → ℝ} {g : ℕ → ℕ → ℝ} (he : IsCol e f) (hx : Is x g) :
    IsCol (Step.rowAdd (F := Ideal) e x) (fun r => f r + ∑ c ∈ Finset.range 256, g r c) := by
  intro r
  show e _ + shapeCast S256x1 (multiReduction (F := Ideal) .add [1] S256 x 0x00000000#32 reduces_S256x256_S256 (.inl rfl) rfl) shapeCasts_S256_S256x1 (ix2 r (0 : Fin 1)) = _
  rw [he, EReal.coe_add]
  refine congrArg (((f r : ℝ) : EReal) + ·) ?_
  refine (shapeCast_a_a1_apply _ _ r (0 : Fin 1)).trans ((Ideal.multiReduction_add_single (φ := .f32) x 0x00000000#32 reduces_S256x256_S256 (.inl rfl) rfl (ix1 r)).trans ?_)
  refine sum_fin 256 _ (fun c => g r c) fun k => ?_
  refine Eq.trans (congrArg x ?_) (hx r k)
  funext a
  match a with
  | ⟨0, _⟩ => rfl
  | ⟨1, _⟩ => rfl

theorem sum_split (m : ℕ) (F : ℕ → ℕ → ℝ) :
    ∑ k ∈ Finset.range (256 * m), F (k / 256) (k % 256) = ∑ h ∈ Finset.range m, ∑ r ∈ Finset.range 256, F h r := by
  induction m with
  | zero => simp
  | succ m ih =>
    rw [Nat.mul_succ, Finset.sum_range_add, ih, Finset.sum_range_succ _ m]
    refine congrArg (_ + ·) (Finset.sum_congr rfl fun r hr => ?_)
    have := Finset.mem_range.mp hr
    rw [show (256 * m + r) / 256 = m by omega, show (256 * m + r) % 256 = r by omega]

theorem stack_piece (x : Fin 4 → S256x256.Idx → EReal) (h : Fin 4) (r l : Fin 256) (k : Fin 1024) (hk : 256 * h.val + r.val = k.val) :
    Step.stack (F := Ideal) x (ix2 k l) = x h (ix2 r l) := by
  match h, hk with
  | 0, hk =>
    refine concatenate_apply_piece (t := S1024x256) 0 [⟨S256x256, x 0⟩, ⟨S256x256, x 1⟩, ⟨S256x256, x 2⟩, ⟨S256x256, x 3⟩] _ (ix2 k l) 0 (by simp) S256x256 (x 0) rfl rfl 0 rfl (ix2 r l) ?_ hk
    intro b hb
    match b with
    | ⟨0, _⟩ => exact absurd rfl hb
    | ⟨1, _⟩ => rfl
  | 1, hk =>
    refine concatenate_apply_piece (t := S1024x256) 0 [⟨S256x256, x 0⟩, ⟨S256x256, x 1⟩, ⟨S256x256, x 2⟩, ⟨S256x256, x 3⟩] _ (ix2 k l) 1 (by simp) S256x256 (x 1) rfl rfl 256 rfl (ix2 r l) ?_ hk
    intro b hb
    match b with
    | ⟨0, _⟩ => exact absurd rfl hb
    | ⟨1, _⟩ => rfl
  | 2, hk =>
    refine concatenate_apply_piece (t := S1024x256) 0 [⟨S256x256, x 0⟩, ⟨S256x256, x 1⟩, ⟨S256x256, x 2⟩, ⟨S256x256, x 3⟩] _ (ix2 k l) 2 (by simp) S256x256 (x 2) rfl rfl 512 rfl (ix2 r l) ?_ hk
    intro b hb
    match b with
    | ⟨0, _⟩ => exact absurd rfl hb
    | ⟨1, _⟩ => rfl
  | 3, hk =>
    refine concatenate_apply_piece (t := S1024x256) 0 [⟨S256x256, x 0⟩, ⟨S256x256, x 1⟩, ⟨S256x256, x 2⟩, ⟨S256x256, x 3⟩] _ (ix2 k l) 3 (by simp) S256x256 (x 3) rfl rfl 768 rfl (ix2 r l) ?_ hk
    intro b hb
    match b with
    | ⟨0, _⟩ => exact absurd rfl hb
    | ⟨1, _⟩ => rfl

theorem beside_piece (x : Fin 4 → S256x256.Idx → EReal) (h : Fin 4) (r l : Fin 256) (k : Fin 1024) (hk : 256 * h.val + r.val = k.val) :
    Step.beside (F := Ideal) x (ix2 l k) = x h (ix2 l r) := by
  match h, hk with
  | 0, hk =>
    refine concatenate_apply_piece (t := S256x1024) 1 [⟨S256x256, x 0⟩, ⟨S256x256, x 1⟩, ⟨S256x256, x 2⟩, ⟨S256x256, x 3⟩] _ (ix2 l k) 0 (by simp) S256x256 (x 0) rfl rfl 0 rfl (ix2 l r) ?_ hk
    intro b hb
    match b with
    | ⟨0, _⟩ => rfl
    | ⟨1, _⟩ => exact absurd rfl hb
  | 1, hk =>
    refine concatenate_apply_piece (t := S256x1024) 1 [⟨S256x256, x 0⟩, ⟨S256x256, x 1⟩, ⟨S256x256, x 2⟩, ⟨S256x256, x 3⟩] _ (ix2 l k) 1 (by simp) S256x256 (x 1) rfl rfl 256 rfl (ix2 l r) ?_ hk
    intro b hb
    match b with
    | ⟨0, _⟩ => rfl
    | ⟨1, _⟩ => exact absurd rfl hb
  | 2, hk =>
    refine concatenate_apply_piece (t := S256x1024) 1 [⟨S256x256, x 0⟩, ⟨S256x256, x 1⟩, ⟨S256x256, x 2⟩, ⟨S256x256, x 3⟩] _ (ix2 l k) 2 (by simp) S256x256 (x 2) rfl rfl 512 rfl (ix2 l r) ?_ hk
    intro b hb
    match b with
    | ⟨0, _⟩ => rfl
    | ⟨1, _⟩ => exact absurd rfl hb
  | 3, hk =>
    refine concatenate_apply_piece (t := S256x1024) 1 [⟨S256x256, x 0⟩, ⟨S256x256, x 1⟩, ⟨S256x256, x 2⟩, ⟨S256x256, x 3⟩] _ (ix2 l k) 3 (by simp) S256x256 (x 3) rfl rfl 768 rfl (ix2 l r) ?_ hk
    intro b hb
    match b with
    | ⟨0, _⟩ => rfl
    | ⟨1, _⟩ => exact absurd rfl hb

theorem stack_at (x : Fin 4 → S256x256.Idx → EReal) (k : Fin 1024) (l : Fin 256) :
    Step.stack (F := Ideal) x (ix2 k l) = x ⟨k.val / 256, by omega⟩ (ix2 ⟨k.val % 256, Nat.mod_lt _ (by norm_num)⟩ l) :=
  stack_piece x _ _ l k (by show 256 * (k.val / 256) + k.val % 256 = k.val; omega)

theorem beside_at (x : Fin 4 → S256x256.Idx → EReal) (r : Fin 256) (k : Fin 1024) :
    Step.beside (F := Ideal) x (ix2 r k) = x ⟨k.val / 256, by omega⟩ (ix2 r ⟨k.val % 256, Nat.mod_lt _ (by norm_num)⟩) :=
  beside_piece x _ _ r k (by show 256 * (k.val / 256) + k.val % 256 = k.val; omega)

/-- Blocks side by side against blocks on top of each other: the sum of the products. -/
theorem across_is {x y : Fin 4 → S256x256.Idx → EReal} {f g : ℕ → ℕ → ℕ → ℝ} (hx : ∀ h : Fin 4, Is (x h) (f h)) (hy : ∀ h : Fin 4, Is (y h) (g h)) :
    Is (matmul (F := Ideal) (φ₁ := .bf16) (φ₂ := .bf16) dot_S256x1024_S1024x256_S256x256_1_0_0_1_n_n none (Step.beside (F := Ideal) x) (Step.stack (F := Ideal) y) Step.zero)
      (fun r l => ∑ h ∈ Finset.range 4, ∑ c ∈ Finset.range 256, f h r c * g h c l) := by
  intro r l
  refine (Ideal.matmul_plain_apply (M := 256) (K := 1024) (N := 256) none (Step.beside (F := Ideal) x) (Step.stack (F := Ideal) y) Step.zero r l).trans ?_
  rw [zero_is, sum_fin 1024 _ (fun k => f (k / 256) r (k % 256) * g (k / 256) (k % 256) l) fun k => by
    rw [beside_at, stack_at, hx ⟨k.val / 256, by omega⟩ r ⟨k.val % 256, Nat.mod_lt _ (by norm_num)⟩, hy, EReal.coe_mul]]
  rw [show 1024 = 256 * 4 from rfl, sum_split 4 (fun h c => f h r c * g h c l)]
  simp

/-- Blocks on top of each other, contracted over their rows. -/
theorem down_is {x y : Fin 4 → S256x256.Idx → EReal} {f g : ℕ → ℕ → ℕ → ℝ} (hx : ∀ h : Fin 4, Is (x h) (f h)) (hy : ∀ h : Fin 4, Is (y h) (g h)) :
    Is (matmul (F := Ideal) (φ₁ := .bf16) (φ₂ := .bf16) dot_S1024x256_S1024x256_S256x256_0_0_1_1_n_n none (Step.stack (F := Ideal) x) (Step.stack (F := Ideal) y) Step.zero)
      (fun c l => ∑ h ∈ Finset.range 4, ∑ r ∈ Finset.range 256, f h r c * g h r l) := by
  intro c l
  refine (Ideal.matmul_apply₁_of dot_S1024x256_S1024x256_S256x256_0_0_1_1_n_n rfl (K := 1024) rfl (Step.stack (F := Ideal) x) (Step.stack (F := Ideal) y) (Step.zero (F := Ideal)) (ix2 c l)
    (fun k => ix2 k c) (fun k => ix2 k l) ?_ ?_).trans ?_
  · intro k
    funext a
    match a with
    | ⟨0, _⟩ => rfl
    | ⟨1, _⟩ => rfl
  · intro k
    funext a
    match a with
    | ⟨0, _⟩ => rfl
    | ⟨1, _⟩ => rfl
  rw [zero_is, sum_fin 1024 _ (fun k => f (k / 256) (k % 256) c * g (k / 256) (k % 256) l) fun k => by
    rw [stack_at, stack_at, hx ⟨k.val / 256, by omega⟩ ⟨k.val % 256, Nat.mod_lt _ (by norm_num)⟩ c, hy, EReal.coe_mul]]
  rw [show 1024 = 256 * 4 from rfl, sum_split 4 (fun h r => f h r c * g h r l)]
  simp

end Cert.Proof.Rep

end
-- ==== Proof.Model.lean ====
/-
  The gradient of the attention over the reals, of one group of heads laid side by side in the lanes, and a step of the
  kernel's over a block of keys against it.
-/
module

public import proofs.«01_k».proof.Proof.Rep

@[expose] public section

noncomputable section

namespace Cert.Proof

/-- The arrays of a group of heads: queries, keys, values and output gradients. -/
structure Model where
  q : ℕ → ℕ → ℝ
  k : ℕ → ℕ → ℝ
  v : ℕ → ℕ → ℝ
  o : ℕ → ℕ → ℝ

namespace Model

variable (m : Model)

/-- The lanes of head `h`. -/
def lane (h : ℕ) (f : ℕ → ℕ → ℝ) (t l : ℕ) : ℝ := if l / 64 = h then f t l else 0

/-- The scores. -/
def Z (h t s : ℕ) : ℝ := ∑ l ∈ Finset.range 256, lane h (fun t l => m.q t l * (1 / 8)) t l * m.k s l
/-- The gradients of the weights. -/
def W (h t s : ℕ) : ℝ := ∑ l ∈ Finset.range 256, lane h m.o t l * m.v s l
/-- The softplus of the scores, where they count. -/
def SP (h t s : ℕ) : ℝ := if s < t then Real.log (1 + Real.exp (m.Z h t s)) else 0
/-- Its sums over the rows. -/
def tot (h t : ℕ) : ℝ := ∑ s ∈ Finset.range 4096, m.SP h t s
/-- The weights. -/
def A (h t s : ℕ) : ℝ := if s < t then Real.exp (m.Z h t s - (m.tot h t - ∑ s' ∈ Finset.range s, m.SP h t s')) else 0
def G (h t s : ℕ) : ℝ := m.A h t s * m.W h t s
/-- The gradients of the scores. -/
def DZ (h t s : ℕ) : ℝ :=
  if s < t then m.G h t s - Real.exp (m.Z h t s - Real.log (1 + Real.exp (m.Z h t s))) * ∑ s' ∈ Finset.range (s + 1), m.G h t s' else 0

/-- The query gradient's sum over the first `n` keys, before the scale. -/
def dq (n t l : ℕ) : ℝ := ∑ h ∈ Finset.range 4, ∑ s ∈ Finset.range n, m.DZ h t s * lane h m.k s l
/-- The key gradient's sum over the first `n` queries. -/
def dk (n s l : ℕ) : ℝ := ∑ h ∈ Finset.range 4, ∑ t ∈ Finset.range n, m.DZ h t s * lane h (fun t l => m.q t l * (1 / 8)) t l
/-- The value gradient's. -/
def dv (n s l : ℕ) : ℝ := ∑ h ∈ Finset.range 4, ∑ t ∈ Finset.range n, m.A h t s * lane h m.o t l

end Model

namespace Rep

open Cert.KernelIdeal Cert.KernelIdeal.Gen
open Idealize.ShloMosaic hiding ix0 ix1 ix2 ix3 ix4 ix5
open Idealize.ShloMosaic.ValueIdx

theorem sum_lt (f : ℕ → ℝ) (c : ℕ) (hc : c ≤ 256) :
    ∑ l ∈ Finset.range 256, f l * (if l < c then 1 else 0) = ∑ l ∈ Finset.range c, f l := by
  simp only [mul_ite, mul_one, mul_zero]
  rw [← Finset.sum_filter]
  refine Finset.sum_congr ?_ fun _ _ => rfl
  ext l
  simp only [Finset.mem_filter, Finset.mem_range]
  omega

theorem sum_le (f : ℕ → ℝ) (c : ℕ) (hc : c < 256) :
    ∑ l ∈ Finset.range 256, f l * (if l ≤ c then 1 else 0) = ∑ l ∈ Finset.range (c + 1), f l := by
  rw [← sum_lt f (c + 1) hc]
  refine Finset.sum_congr rfl fun l _ => ?_
  simp only [Nat.lt_succ_iff]

/-- A cut that keeps, of the block of keys `j` at the block of queries `i`, the keys before their query. -/
def Cuts (cut : Step.Blk Ideal → Step.Blk Ideal) (i j : ℕ) : Prop :=
  ∀ (x : S256x256.Idx → EReal) (f : ℕ → ℕ → ℝ), Is x f → Is (cut x) (fun r c => if 256 * j + c < 256 * i + r then f r c else 0)

theorem cuts_id {i j : ℕ} (h : j < i) : Cuts id i j := fun x f hx => hx.congr fun r c hr hc => by
  rw [if_pos (by omega)]

theorem cuts_causal (i : ℕ) : Cuts Step.causal i i := fun x f hx => (causal_is hx).congr fun r c hr hc => by
  simp only [Nat.add_lt_add_iff_left]

section
variable (m : Model) (i j : ℕ)

/-- The point's own blocks. -/
structure OfPoint (p : Step.Point Ideal) : Prop where
  Q : ∀ h : Fin 4, Is (p.Q h) (fun r l => Model.lane h (fun t l => m.q t l * (1 / 8)) (256 * i + r) l)
  D : ∀ h : Fin 4, Is (p.D h) (fun r l => Model.lane h m.o (256 * i + r) l)
  T : ∀ h : Fin 4, IsCol (p.T h) (fun r => m.tot h (256 * i + r))

/-- What is carried after the keys before block `j`. -/
structure OfRun (s : Step.Run Ideal) : Prop where
  e : ∀ h : Fin 4, IsCol (s.e h) (fun r => ∑ s ∈ Finset.range (256 * j), m.SP h (256 * i + r) s)
  g : ∀ h : Fin 4, IsCol (s.g h) (fun r => ∑ s ∈ Finset.range (256 * j), m.G h (256 * i + r) s)
  dq : Is s.dq (fun r l => m.dq (256 * j) (256 * i + r) l)

variable {m i j} {cut : Step.Blk Ideal → Step.Blk Ideal} (hcut : Cuts cut i j) {p : Step.Point Ideal} (hp : OfPoint m i p)
  {kb vb : Step.Half Ideal} (hk : Is kb (fun c l => m.k (256 * j + c) l)) (hv : Is vb (fun c l => m.v (256 * j + c) l))
  {s : Step.Run Ideal} (hs : OfRun m i j s)

include hp hk in
theorem Z_is (h : Fin 4) : Is (Step.Z p kb h) (fun r c => m.Z h (256 * i + r) (256 * j + c)) :=
  dotNT_is (hp.Q h) hk

include hcut hp hk in
theorem S_is (h : Fin 4) : Is (Step.S cut p kb h) (fun r c => m.SP h (256 * i + r) (256 * j + c)) :=
  hcut _ _ (soft_is (Z_is hp hk h))

include hcut hp hk hs in
theorem A_is (h : Fin 4) : Is (Step.A cut p kb s h) (fun r c => m.A h (256 * i + r) (256 * j + c)) := by
  refine (hcut _ _ (exp_is (sub_is (Z_is hp hk h) (sub_is (wide_is (subCol_is (hp.T h) (hs.e h))) (dotNN_is (half_is (S_is hcut hp hk h)) before_is))))).congr
    fun r c hr hc => ?_
  unfold Model.A
  by_cases hb : 256 * j + c < 256 * i + r
  · rw [if_pos hb, if_pos hb, sum_lt _ c hc.le, Finset.sum_range_add]
    congr 1
    ring
  · rw [if_neg hb, if_neg hb]

include hcut hp hk hv hs in
theorem G_is (h : Fin 4) : Is (Step.G cut p kb vb s h) (fun r c => m.G h (256 * i + r) (256 * j + c)) :=
  mul_is (A_is hcut hp hk hs h) (dotNT_is (hp.D h) hv)

include hcut hp hk hv hs in
theorem DZ_is (h : Fin 4) : Is (Step.DZ cut p kb vb s h) (fun r c => m.DZ h (256 * i + r) (256 * j + c)) := by
  refine (hcut _ _ (sub_is (G_is hcut hp hk hv hs h) (mul_is (exp_is (sub_is (Z_is hp hk h) (S_is hcut hp hk h)))
    (add_is (wide_is (hs.g h)) (dotNN_is (half_is (G_is hcut hp hk hv hs h)) upto_is))))).congr fun r c hr hc => ?_
  unfold Model.DZ
  by_cases hb : 256 * j + c < 256 * i + r
  · rw [if_pos hb, if_pos hb, sum_le _ c hc, Nat.add_assoc, Finset.sum_range_add _ (256 * j) (c + 1)]
    unfold Model.SP
    rw [if_pos hb]
  · rw [if_neg hb, if_neg hb]

include hcut hp hk hv hs in
theorem next_of : OfRun m i (j + 1) (Step.next cut p kb vb s) where
  e h := (rowAdd_is (hs.e h) (S_is hcut hp hk h)).congr fun r hr => by rw [Nat.mul_succ, Finset.sum_range_add]
  g h := (rowAdd_is (hs.g h) (G_is hcut hp hk hv hs h)).congr fun r hr => by rw [Nat.mul_succ, Finset.sum_range_add]
  dq := (add_is hs.dq (across_is (f := fun h r c => m.DZ h (256 * i + r) (256 * j + c)) (g := fun h c l => Model.lane h m.k (256 * j + c) l)
      (fun h => half_is (DZ_is hcut hp hk hv hs h)) (fun h => only_is h hk))).congr fun r l hr hl => by
    unfold Model.dq
    rw [← Finset.sum_add_distrib]
    refine Finset.sum_congr rfl fun h _ => ?_
    rw [Nat.mul_succ, Finset.sum_range_add]

theorem cast_self (x : S256x256.Idx → EReal) : shapeCast S256x256 x shapeCasts_S256x256_S256x256 = x := shapeCast_self x _

include hcut hp hk hv hs in
theorem dk_is {old : S256x256.Idx → EReal} (ho : Is old (fun c l => m.dk (256 * i) (256 * j + c) l)) :
    Is (Step.dk cut p kb vb s old) (fun c l => m.dk (256 * (i + 1)) (256 * j + c) l) := by
  unfold Step.dk
  rw [cast_self]
  refine (add_is ho (down_is (f := fun h r c => m.DZ h (256 * i + r) (256 * j + c)) (g := fun h r l => Model.lane h (fun t l => m.q t l * (1 / 8)) (256 * i + r) l)
    (fun h => half_is (DZ_is hcut hp hk hv hs h)) hp.Q)).congr fun c l hc hl => ?_
  unfold Model.dk
  rw [← Finset.sum_add_distrib]
  refine Finset.sum_congr rfl fun h _ => ?_
  rw [Nat.mul_succ, Finset.sum_range_add]

include hcut hp hk hs in
theorem dv_is {old : S256x256.Idx → EReal} (ho : Is old (fun c l => m.dv (256 * i) (256 * j + c) l)) :
    Is (Step.dv cut p kb s old) (fun c l => m.dv (256 * (i + 1)) (256 * j + c) l) := by
  unfold Step.dv
  rw [cast_self]
  refine (add_is ho (down_is (f := fun h r c => m.A h (256 * i + r) (256 * j + c)) (g := fun h r l => Model.lane h m.o (256 * i + r) l)
    (fun h => half_is (A_is hcut hp hk hs h)) hp.D)).congr fun c l hc hl => ?_
  unfold Model.dv
  rw [← Finset.sum_add_distrib]
  refine Finset.sum_congr rfl fun h _ => ?_
  rw [Nat.mul_succ, Finset.sum_range_add]
end

theorem start_of (m : Model) (i : ℕ) : OfRun m i 0 (Step.start (F := Ideal)) where
  e h := fun r => by
    refine Eq.trans ?_ (show (0 : EReal) = _ by simp)
    match h with
    | 0 => exact Ideal.ofBits_zero_f32
    | 1 => exact Ideal.ofBits_zero_f32
    | 2 => exact Ideal.ofBits_zero_f32
    | 3 => exact Ideal.ofBits_zero_f32
  g h := fun r => by
    refine Eq.trans ?_ (show (0 : EReal) = _ by simp)
    match h with
    | 0 => exact Ideal.ofBits_zero_f32
    | 1 => exact Ideal.ofBits_zero_f32
    | 2 => exact Ideal.ofBits_zero_f32
    | 3 => exact Ideal.ofBits_zero_f32
  dq := fun r l => by
    refine Eq.trans ?_ (show (0 : EReal) = _ by simp [Model.dq])
    exact Ideal.ofBits_zero_f32

end Rep

end Cert.Proof

end
-- ==== Proof.Point.lean ====
/-
  What a grid point leaves when no block of keys is skipped: the steps over the earlier blocks, then the diagonal block's
  with the causal cut.
-/
module

public import proofs.«01_k».proof.Proof.State
public import proofs.«01_k».proof.Proof.Body

@[expose] public section

noncomputable section

namespace Cert.Proof.Point

open Cert.KernelIdeal Cert.KernelIdeal.Gen Cert.Proof.State
open Idealize.ShloMosaic Idealize.ShloMosaic.ValueIdx
open Idealize.ShloMosaic.TcCoe Idealize.ShloMosaic.Tactic
open Idealize.SL Idealize.SL.RA Idealize.SL.BI
open Cert.Proof.Body

variable {F : FTy → Type} [FloatOps F]

/-- What grid point `j` of a group leaves: the query gradient and the two accumulators. -/
def leave (p : Step.Point F) (x3 x4 : Vec F S4096x256 .bf16) (y9 y10 : Vec F S4096x256 .f32) (j : ℕ) :
    Vec F S256x256 .bf16 × Vec F S4096x256 .f32 × Vec F S4096x256 .f32 :=
  let w := walk p x3 x4 y9 y10 j
  (k0_pay3 (Step.next Step.causal p (rows x3 j) (rows x4 j) w.1).dq,
    put w.2.1 j (Step.dk Step.causal p (rows x3 j) (rows x4 j) w.1 (rows w.2.1 j)),
    put w.2.2 j (Step.dv Step.causal p (rows x3 j) w.1 (rows w.2.2 j)))

abbrev Loop (F : FTy → Type) := FVec F S256x1 .f32 × FVec F S256x1 .f32 × FVec F S256x1 .f32 × FVec F S256x1 .f32 × FVec F S256x1 .f32 × FVec F S256x1 .f32 × FVec F S256x1 .f32 × FVec F S256x1 .f32 × FVec F S256x256 .f32

/-- The carried values out of the loop's own tuple. -/
def ofOut (o : Loop F) : Step.Run F where
  e := fun | 0 => o.1 | 1 => o.2.1 | 2 => o.2.2.1 | 3 => o.2.2.2.1
  g := fun | 0 => o.2.2.2.2.1 | 1 => o.2.2.2.2.2.1 | 2 => o.2.2.2.2.2.2.1 | 3 => o.2.2.2.2.2.2.2.1
  dq := o.2.2.2.2.2.2.2.2

theorem ofOut_out (s : Step.Run F) : ofOut s.out = s := by
  obtain ⟨e, g, dq⟩ := s
  unfold ofOut Step.Run.out
  congr 1
  · funext h; match h with | 0 => rfl | 1 => rfl | 2 => rfl | 3 => rfl
  · funext h; match h with | 0 => rfl | 1 => rfl | 2 => rfl | 3 => rfl

theorem read_whole {e : EltTy} {a : Memref sig .tc .vmem S256x256 e} (h : a.IsWhole) (x : S256x256.Idx → Elt F e)
    (inb : ∀ a, (![0, 0] : Fin 2 → ℕ) a + S256x256.size a ≤ S256x256.size a) :
    a.view.readAt (Elt F) (Rect.unit (s := S256x256) ![0, 0] S256x256.size inb).toLoadRect (h.unread x) = x := by
  funext y
  rw [h.readAt_unread]
  refine congrArg x (funext fun b => Fin.ext ?_)
  match b with
  | ⟨0, _⟩ => show 0 + 1 * (y 0).val = (y 0).val; omega
  | ⟨1, _⟩ => show 0 + 1 * (y 1).val = (y 1).val; omega

section
variable (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32)

/-- The point's own blocks as they are read. -/
def mine : Step.Point F :=
  ⟨View.readAt (Elt F) a2.view (Rect.unit ![0, 0] S256x256.size inb_S256x256_S256x256_0_0).toLoadRect (h2.unread x2),
    View.readAt (Elt F) a5.view (Rect.unit ![0, 0] S256x256.size inb_S256x256_S256x256_0_0).toLoadRect (h5.unread x5),
    View.readAt (Elt F) a6.view (Rect.unit ![0, 0] S256x256.size inb_S256x256_S256x256_0_0).toLoadRect (h6.unread x6)⟩

theorem mine_eq : mine a2 h2 a5 h5 a6 h6 x2 x5 x6 = ⟨x2, x5, x6⟩ := by
  unfold mine; rw [read_whole, read_whole, read_whole]

variable (p : Step.Point F) (v6 : BitVec 32) (hw : k0_chk1 i v6) (v8 v93 : BitVec 32)

/-- The first loop's values. -/
def one : Loop F × List (View.Piece (Elt F) S4096x256 .f32) × List (View.Piece (Elt F) S4096x256 .f32) :=
  st_k0_t1 𝒱₀ c none i a2 h2 a3 h3 a4 h4 a5 h5 a6 h6 a7 h7 a8 h8 a9 h9 a10 h10 (BitVec.ofNat 32 ↑(i 1)) v6 hw v8 k0_pay71 k0_pay72 k0_pay73 (Step.lanes 0) (Step.lanes 1) (Step.lanes 2) (Step.lanes 3) (p.Q 0) (p.Q 1) (p.Q 2) (p.Q 3) (p.D 0) (p.D 1) (p.D 2) (p.D 3) (Step.stack p.Q) (Step.stack p.D) (k0_pay90 p.t) (p.T 0) (p.T 1) (k0_pay93 (Step.lanes 2) p.t) (h3.unread x3) (h4.unread x4) (h9.unread y9) (h10.unread y10) Step.start.out (k0_t1_loop i v6).trips

/-- The second loop's. -/
def two : Loop F × List (View.Piece (Elt F) S4096x256 .f32) × List (View.Piece (Elt F) S4096x256 .f32) :=
  st_k0_t2 𝒱₀ c none i a2 h2 a3 h3 a4 h4 a5 h5 a6 h6 a7 h7 a8 h8 a9 h9 a10 h10 (BitVec.ofNat 32 ↑(i 1)) v6 hw v8 k0_pay71 k0_pay72 k0_pay73 (Step.lanes 0) (Step.lanes 1) (Step.lanes 2) (Step.lanes 3) (p.Q 0) (p.Q 1) (p.Q 2) (p.Q 3) (p.D 0) (p.D 1) (p.D 2) (p.D 3) (Step.stack p.Q) (Step.stack p.D) (k0_pay90 p.t) (p.T 0) (p.T 1) (k0_pay93 (Step.lanes 2) p.t) v93 (h3.unread x3) (h4.unread x4) (a9.view.writes (Elt F) (h9.unread y9) (one c i a2 h2 a3 h3 a4 h4 a5 h5 a6 h6 a7 h7 a8 h8 a9 h9 a10 h10 x3 x4 y9 y10 p v6 hw v8).2.1) (a10.view.writes (Elt F) (h10.unread y10) (one c i a2 h2 a3 h3 a4 h4 a5 h5 a6 h6 a7 h7 a8 h8 a9 h9 a10 h10 x3 x4 y9 y10 p v6 hw v8).2.2) (one c i a2 h2 a3 h3 a4 h4 a5 h5 a6 h6 a7 h7 a8 h8 a9 h9 a10 h10 x3 x4 y9 y10 p v6 hw v8).1 (k0_t2_loop i v6).trips

variable (inb : ∀ a, k0_off3 i a + S256x256.size a ≤ S4096x256.size a)

def keys : Vec F S256x256 .bf16 := View.readAt (Elt F) a3.view (Rect.unit (s := S4096x256) (k0_off3 i) S256x256.size inb).toLoadRect (h3.unread x3)

/-- What the body leaves, as its run finds it. -/
def found8 : Vec F S256x256 .bf16 :=
  View.canon [⟨Rect.unit ![0, 0] ![256, 256] inb_S256x256_S256x256_0_0,
    k0_pay3 (Step.next Step.causal p (keys i a3 h3 x3 inb) (keys i a4 h4 x4 inb) (ofOut (two c i a2 h2 a3 h3 a4 h4 a5 h5 a6 h6 a7 h7 a8 h8 a9 h9 a10 h10 x3 x4 y9 y10 p v6 hw v8 v93).1)).dq⟩]

def list9 : List (View.Piece (Elt F) S4096x256 .f32) :=
  (two c i a2 h2 a3 h3 a4 h4 a5 h5 a6 h6 a7 h7 a8 h8 a9 h9 a10 h10 x3 x4 y9 y10 p v6 hw v8 v93).2.1 ++ (one c i a2 h2 a3 h3 a4 h4 a5 h5 a6 h6 a7 h7 a8 h8 a9 h9 a10 h10 x3 x4 y9 y10 p v6 hw v8).2.1

def list10 : List (View.Piece (Elt F) S4096x256 .f32) :=
  (two c i a2 h2 a3 h3 a4 h4 a5 h5 a6 h6 a7 h7 a8 h8 a9 h9 a10 h10 x3 x4 y9 y10 p v6 hw v8 v93).2.2 ++ (one c i a2 h2 a3 h3 a4 h4 a5 h5 a6 h6 a7 h7 a8 h8 a9 h9 a10 h10 x3 x4 y9 y10 p v6 hw v8).2.2

def found9 : Vec F S4096x256 .f32 :=
  a9.view.read (Elt F) (a9.view.writes (Elt F) (h9.unread y9) (⟨Rect.unit (s := S4096x256) (k0_off3 i) S256x256.size inb,
    Step.dk Step.causal p (keys i a3 h3 x3 inb) (keys i a4 h4 x4 inb) (ofOut (two c i a2 h2 a3 h3 a4 h4 a5 h5 a6 h6 a7 h7 a8 h8 a9 h9 a10 h10 x3 x4 y9 y10 p v6 hw v8 v93).1)
      (View.readAt (Elt F) a9.view (Rect.unit (s := S4096x256) (k0_off3 i) S256x256.size inb).toLoadRect (a9.view.writes (Elt F) (h9.unread y9) (list9 c i a2 h2 a3 h3 a4 h4 a5 h5 a6 h6 a7 h7 a8 h8 a9 h9 a10 h10 x3 x4 y9 y10 p v6 hw v8 v93)))⟩
      :: list9 c i a2 h2 a3 h3 a4 h4 a5 h5 a6 h6 a7 h7 a8 h8 a9 h9 a10 h10 x3 x4 y9 y10 p v6 hw v8 v93))

def found10 : Vec F S4096x256 .f32 :=
  a10.view.read (Elt F) (a10.view.writes (Elt F) (h10.unread y10) (⟨Rect.unit (s := S4096x256) (k0_off3 i) S256x256.size inb,
    Step.dv Step.causal p (keys i a3 h3 x3 inb) (ofOut (two c i a2 h2 a3 h3 a4 h4 a5 h5 a6 h6 a7 h7 a8 h8 a9 h9 a10 h10 x3 x4 y9 y10 p v6 hw v8 v93).1)
      (View.readAt (Elt F) a10.view (Rect.unit (s := S4096x256) (k0_off3 i) S256x256.size inb).toLoadRect (a10.view.writes (Elt F) (h10.unread y10) (list10 c i a2 h2 a3 h3 a4 h4 a5 h5 a6 h6 a7 h7 a8 h8 a9 h9 a10 h10 x3 x4 y9 y10 p v6 hw v8 v93)))⟩
      :: list10 c i a2 h2 a3 h3 a4 h4 a5 h5 a6 h6 a7 h7 a8 h8 a9 h9 a10 h10 x3 x4 y9 y10 p v6 hw v8 v93))
end

section
variable (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32)
end

section
variable (p : Step.Point F) (kb vb : Step.Half F) (s : Step.Run F) (old : Step.Blk F)

theorem tail8 : (k0_pay139 k0_pay71 k0_pay72 k0_pay73 k0_pay74 k0_pay75 k0_pay76 (Step.lanes 3) (p.D 3) (k0_pay95 (Step.lanes 3) (k0_pay90 p.t)) ((s.e 3)) ((s.g 3)) (s.dq) (kb) (vb) (k0_pay118 k0_pay72 k0_pay73 (p.D 0) ((s.g 0)) (vb) (k0_pay113 (p.Q 0) kb) (k0_pay114 k0_pay73 (p.Q 0) kb) (k0_pay115 k0_pay71 k0_pay73 (p.Q 0) (p.T 0) (s.e 0) kb)) (k0_pay126 k0_pay73 (k0_pay122 k0_pay71 k0_pay73 (p.Q 1) (p.D 1) (p.T 1) ((s.e 1)) (kb) (vb)) (k0_pay123 k0_pay71 k0_pay72 k0_pay73 (p.Q 1) (p.D 1) (p.T 1) ((s.e 1)) ((s.g 1)) (kb) (vb)) (k0_pay124 k0_pay73 (p.Q 1) (kb))) (k0_pay131 k0_pay71 k0_pay72 k0_pay73 (p.Q 2) (p.D 2) (k0_pay94 (k0_pay93 (Step.lanes 2) p.t)) ((s.e 2)) ((s.g 2)) (kb) (vb)) (k0_pay132 (p.Q 3) (kb)) (k0_pay133 (p.Q 3) (kb)) (k0_pay134 (p.Q 3) (kb)))
    = (Step.next Step.causal p kb vb s).dq := by rfl

theorem tail9 : k0_pay1 (Step.stack p.Q) (k0_pay118 k0_pay72 k0_pay73 (p.D 0) ((s.g 0)) (vb) (k0_pay113 (p.Q 0) kb) (k0_pay114 k0_pay73 (p.Q 0) kb) (k0_pay115 k0_pay71 k0_pay73 (p.Q 0) (p.T 0) (s.e 0) kb)) (k0_pay126 k0_pay73 (k0_pay122 k0_pay71 k0_pay73 (p.Q 1) (p.D 1) (p.T 1) ((s.e 1)) (kb) (vb)) (k0_pay123 k0_pay71 k0_pay72 k0_pay73 (p.Q 1) (p.D 1) (p.T 1) ((s.e 1)) ((s.g 1)) (kb) (vb)) (k0_pay124 k0_pay73 (p.Q 1) (kb))) (k0_pay131 k0_pay71 k0_pay72 k0_pay73 (p.Q 2) (p.D 2) (k0_pay94 (k0_pay93 (Step.lanes 2) p.t)) ((s.e 2)) ((s.g 2)) (kb) (vb)) (k0_pay138 k0_pay71 k0_pay72 k0_pay73 (p.D 3) (k0_pay95 (Step.lanes 3) (k0_pay90 p.t)) ((s.e 3)) ((s.g 3)) (vb) (k0_pay132 (p.Q 3) (kb)) (k0_pay133 (p.Q 3) (kb)) (k0_pay134 (p.Q 3) (kb))) old = Step.dk Step.causal p kb vb s old := by rfl

theorem tail10 : k0_pay2 (Step.stack p.D) (k0_pay117 k0_pay73 (k0_pay113 (p.Q 0) kb) (k0_pay115 k0_pay71 k0_pay73 (p.Q 0) (p.T 0) (s.e 0) kb)) (k0_pay125 (k0_pay121 k0_pay71 k0_pay73 (p.Q 1) (p.T 1) ((s.e 1)) (kb))) (k0_pay130 k0_pay71 k0_pay73 (p.Q 2) (k0_pay94 (k0_pay93 (Step.lanes 2) p.t)) ((s.e 2)) (kb)) (k0_pay137 k0_pay71 k0_pay73 (k0_pay95 (Step.lanes 3) (k0_pay90 p.t)) ((s.e 3)) (k0_pay132 (p.Q 3) (kb)) (k0_pay133 (p.Q 3) (kb)) (k0_pay134 (p.Q 3) (kb))) old = Step.dv Step.causal p kb s old := by rfl
end

/-- The accumulators zeroed. -/
def zero9 : Vec F S4096x256 .f32 := View.canon [⟨Rect.unit ![0, 0] ![4096, 256] inb_S4096x256_S4096x256_0_0, k0_pay69⟩]
def zero10 : Vec F S4096x256 .f32 := View.canon [⟨Rect.unit ![0, 0] ![4096, 256] inb_S4096x256_S4096x256_0_0, k0_pay70⟩]

def oneLater (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32) :
    Loop F × List (View.Piece (Elt F) S4096x256 .f32) × List (View.Piece (Elt F) S4096x256 .f32) :=
  st_k0_t1 𝒱₀ c none i a2 h2 a3 h3 a4 h4 a5 h5 a6 h6 a7 h7 a8 h8 a9 h9 a10 h10 (BitVec.ofNat 32 ↑(i 1)) (runLater.sl.v6 c a7 h7 x7) (Words.chk _ _) (runLater.sl.v8 c i a7 h7 x7) k0_pay71 k0_pay72 k0_pay73 k0_pay74 k0_pay75 k0_pay76 (k0_pay78 runLater.sl.v23 k0_pay77) (runLater.sl.r c a2 h2 x2) (runLater.sl.r_1 c a2 h2 x2) (runLater.sl.r_2 c a2 h2 x2) (runLater.sl.r_3 c a2 h2 x2) (runLater.sl.r_4 c a5 h5 x5) (runLater.sl.r_5 c a5 h5 x5) (runLater.sl.r_6 c a5 h5 x5) (runLater.sl.r_7 c a5 h5 x5) (runLater.sl.r_8 c a2 h2 x2) (runLater.sl.r_9 c a5 h5 x5) (runLater.sl.r_10 c a6 h6 x6) (runLater.sl.r_11 c a6 h6 x6) (runLater.sl.r_12 c a6 h6 x6) (runLater.sl.r_13 c a6 h6 x6) (h3.unread x3) (h4.unread x4) (h9.unread y9) (h10.unread y10) (k0_pay96, k0_pay97, k0_pay98, k0_pay99, k0_pay96, k0_pay97, k0_pay98, k0_pay99, k0_pay100) (k0_t1_loop i (runLater.sl.v6 c a7 h7 x7)).trips

def twoLater (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32) :
    Loop F × List (View.Piece (Elt F) S4096x256 .f32) × List (View.Piece (Elt F) S4096x256 .f32) :=
  st_k0_t2 𝒱₀ c none i a2 h2 a3 h3 a4 h4 a5 h5 a6 h6 a7 h7 a8 h8 a9 h9 a10 h10 (BitVec.ofNat 32 ↑(i 1)) (runLater.sl.v6 c a7 h7 x7) (Words.chk _ _) (runLater.sl.v8 c i a7 h7 x7) k0_pay71 k0_pay72 k0_pay73 k0_pay74 k0_pay75 k0_pay76 (k0_pay78 runLater.sl.v23 k0_pay77) (runLater.sl.r c a2 h2 x2) (runLater.sl.r_1 c a2 h2 x2) (runLater.sl.r_2 c a2 h2 x2) (runLater.sl.r_3 c a2 h2 x2) (runLater.sl.r_4 c a5 h5 x5) (runLater.sl.r_5 c a5 h5 x5) (runLater.sl.r_6 c a5 h5 x5) (runLater.sl.r_7 c a5 h5 x5) (runLater.sl.r_8 c a2 h2 x2) (runLater.sl.r_9 c a5 h5 x5) (runLater.sl.r_10 c a6 h6 x6) (runLater.sl.r_11 c a6 h6 x6) (runLater.sl.r_12 c a6 h6 x6) (runLater.sl.r_13 c a6 h6 x6) (runLater.sl.v93 c i a7 h7 x7) (h3.unread x3) (h4.unread x4) (a9.view.writes (Elt F) (h9.unread y9) (oneLater c i a2 h2 a3 h3 a4 h4 a5 h5 a6 h6 a7 h7 a8 h8 a9 h9 a10 h10 x2 x3 x4 x5 x6 x7 y9 y10).2.1) (a10.view.writes (Elt F) (h10.unread y10) (oneLater c i a2 h2 a3 h3 a4 h4 a5 h5 a6 h6 a7 h7 a8 h8 a9 h9 a10 h10 x2 x3 x4 x5 x6 x7 y9 y10).2.2) (oneLater c i a2 h2 a3 h3 a4 h4 a5 h5 a6 h6 a7 h7 a8 h8 a9 h9 a10 h10 x2 x3 x4 x5 x6 x7 y9 y10).1 (k0_t2_loop i (runLater.sl.v6 c a7 h7 x7)).trips

theorem oneLater_eq (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32) :
    oneLater c i a2 h2 a3 h3 a4 h4 a5 h5 a6 h6 a7 h7 a8 h8 a9 h9 a10 h10 x2 x3 x4 x5 x6 x7 y9 y10 = one c i a2 h2 a3 h3 a4 h4 a5 h5 a6 h6 a7 h7 a8 h8 a9 h9 a10 h10 x3 x4 y9 y10 (mine a2 h2 a5 h5 a6 h6 x2 x5 x6) (runLater.sl.v6 c a7 h7 x7) (Words.chk _ _) (runLater.sl.v8 c i a7 h7 x7) := by
  unfold oneLater one; rfl

theorem twoLater_eq (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32) :
    twoLater c i a2 h2 a3 h3 a4 h4 a5 h5 a6 h6 a7 h7 a8 h8 a9 h9 a10 h10 x2 x3 x4 x5 x6 x7 y9 y10 = two c i a2 h2 a3 h3 a4 h4 a5 h5 a6 h6 a7 h7 a8 h8 a9 h9 a10 h10 x3 x4 y9 y10 (mine a2 h2 a5 h5 a6 h6 x2 x5 x6) (runLater.sl.v6 c a7 h7 x7) (Words.chk _ _) (runLater.sl.v8 c i a7 h7 x7) (runLater.sl.v93 c i a7 h7 x7) := by
  unfold twoLater two; rw [oneLater_eq]; rfl

set_option maxHeartbeats 1000000 in
theorem later8 (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32)
    (hi : firstWord i ≠ 1#1) (inb : ∀ a, k0_off3 i a + S256x256.size a ≤ S4096x256.size a) :
    (runLater c i hi a2 h2 a3 h3 a4 h4 a5 h5 a6 h6 a7 h7 a8 h8 a9 h9 a10 h10 x2 x3 x4 x5 x6 x7 y9 y10).1
      = found8 c i a2 h2 a3 h3 a4 h4 a5 h5 a6 h6 a7 h7 a8 h8 a9 h9 a10 h10 x3 x4 y9 y10 (mine a2 h2 a5 h5 a6 h6 x2 x5 x6) (runLater.sl.v6 c a7 h7 x7) (Words.chk _ _) (runLater.sl.v8 c i a7 h7 x7) (runLater.sl.v93 c i a7 h7 x7) inb := by
  unfold found8
  rw [← twoLater_eq, ← tail8]

  rfl

set_option maxHeartbeats 1000000 in
theorem later9 (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32)
    (hi : firstWord i ≠ 1#1) (inb : ∀ a, k0_off3 i a + S256x256.size a ≤ S4096x256.size a) :
    (runLater c i hi a2 h2 a3 h3 a4 h4 a5 h5 a6 h6 a7 h7 a8 h8 a9 h9 a10 h10 x2 x3 x4 x5 x6 x7 y9 y10).2.1
      = found9 c i a2 h2 a3 h3 a4 h4 a5 h5 a6 h6 a7 h7 a8 h8 a9 h9 a10 h10 x3 x4 y9 y10 (mine a2 h2 a5 h5 a6 h6 x2 x5 x6) (runLater.sl.v6 c a7 h7 x7) (Words.chk _ _) (runLater.sl.v8 c i a7 h7 x7) (runLater.sl.v93 c i a7 h7 x7) inb := by
  unfold found9 list9
  rw [← twoLater_eq, ← tail9]
  rw [← oneLater_eq]
  rfl

set_option maxHeartbeats 1000000 in
theorem later10 (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32)
    (hi : firstWord i ≠ 1#1) (inb : ∀ a, k0_off3 i a + S256x256.size a ≤ S4096x256.size a) :
    (runLater c i hi a2 h2 a3 h3 a4 h4 a5 h5 a6 h6 a7 h7 a8 h8 a9 h9 a10 h10 x2 x3 x4 x5 x6 x7 y9 y10).2.2.1
      = found10 c i a2 h2 a3 h3 a4 h4 a5 h5 a6 h6 a7 h7 a8 h8 a9 h9 a10 h10 x3 x4 y9 y10 (mine a2 h2 a5 h5 a6 h6 x2 x5 x6) (runLater.sl.v6 c a7 h7 x7) (Words.chk _ _) (runLater.sl.v8 c i a7 h7 x7) (runLater.sl.v93 c i a7 h7 x7) inb := by
  unfold found10 list10
  rw [← twoLater_eq, ← tail10]
  rw [← oneLater_eq]
  rfl

def oneFirst (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) :
    Loop F × List (View.Piece (Elt F) S4096x256 .f32) × List (View.Piece (Elt F) S4096x256 .f32) :=
  st_k0_t1 𝒱₀ c none i a2 h2 a3 h3 a4 h4 a5 h5 a6 h6 a7 h7 a8 h8 a9 h9 a10 h10 (BitVec.ofNat 32 ↑(i 1)) (runFirst.sl.v6 c a7 h7 x7) (Words.chk _ _) (runFirst.sl.v8 c i a7 h7 x7) k0_pay71 k0_pay72 k0_pay73 k0_pay74 k0_pay75 k0_pay76 (k0_pay78 runFirst.sl.v23 k0_pay77) (runFirst.sl.r c a2 h2 x2) (runFirst.sl.r_1 c a2 h2 x2) (runFirst.sl.r_2 c a2 h2 x2) (runFirst.sl.r_3 c a2 h2 x2) (runFirst.sl.r_4 c a5 h5 x5) (runFirst.sl.r_5 c a5 h5 x5) (runFirst.sl.r_6 c a5 h5 x5) (runFirst.sl.r_7 c a5 h5 x5) (runFirst.sl.r_8 c a2 h2 x2) (runFirst.sl.r_9 c a5 h5 x5) (runFirst.sl.r_10 c a6 h6 x6) (runFirst.sl.r_11 c a6 h6 x6) (runFirst.sl.r_12 c a6 h6 x6) (runFirst.sl.r_13 c a6 h6 x6) (h3.unread x3) (h4.unread x4) (h9.unread zero9) (h10.unread zero10) (k0_pay96, k0_pay97, k0_pay98, k0_pay99, k0_pay96, k0_pay97, k0_pay98, k0_pay99, k0_pay100) (k0_t1_loop i (runFirst.sl.v6 c a7 h7 x7)).trips

def twoFirst (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) :
    Loop F × List (View.Piece (Elt F) S4096x256 .f32) × List (View.Piece (Elt F) S4096x256 .f32) :=
  st_k0_t2 𝒱₀ c none i a2 h2 a3 h3 a4 h4 a5 h5 a6 h6 a7 h7 a8 h8 a9 h9 a10 h10 (BitVec.ofNat 32 ↑(i 1)) (runFirst.sl.v6 c a7 h7 x7) (Words.chk _ _) (runFirst.sl.v8 c i a7 h7 x7) k0_pay71 k0_pay72 k0_pay73 k0_pay74 k0_pay75 k0_pay76 (k0_pay78 runFirst.sl.v23 k0_pay77) (runFirst.sl.r c a2 h2 x2) (runFirst.sl.r_1 c a2 h2 x2) (runFirst.sl.r_2 c a2 h2 x2) (runFirst.sl.r_3 c a2 h2 x2) (runFirst.sl.r_4 c a5 h5 x5) (runFirst.sl.r_5 c a5 h5 x5) (runFirst.sl.r_6 c a5 h5 x5) (runFirst.sl.r_7 c a5 h5 x5) (runFirst.sl.r_8 c a2 h2 x2) (runFirst.sl.r_9 c a5 h5 x5) (runFirst.sl.r_10 c a6 h6 x6) (runFirst.sl.r_11 c a6 h6 x6) (runFirst.sl.r_12 c a6 h6 x6) (runFirst.sl.r_13 c a6 h6 x6) (runFirst.sl.v93 c i a7 h7 x7) (h3.unread x3) (h4.unread x4) (a9.view.writes (Elt F) (h9.unread zero9) (oneFirst c i a2 h2 a3 h3 a4 h4 a5 h5 a6 h6 a7 h7 a8 h8 a9 h9 a10 h10 x2 x3 x4 x5 x6 x7).2.1) (a10.view.writes (Elt F) (h10.unread zero10) (oneFirst c i a2 h2 a3 h3 a4 h4 a5 h5 a6 h6 a7 h7 a8 h8 a9 h9 a10 h10 x2 x3 x4 x5 x6 x7).2.2) (oneFirst c i a2 h2 a3 h3 a4 h4 a5 h5 a6 h6 a7 h7 a8 h8 a9 h9 a10 h10 x2 x3 x4 x5 x6 x7).1 (k0_t2_loop i (runFirst.sl.v6 c a7 h7 x7)).trips

theorem oneFirst_eq (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) :
    oneFirst c i a2 h2 a3 h3 a4 h4 a5 h5 a6 h6 a7 h7 a8 h8 a9 h9 a10 h10 x2 x3 x4 x5 x6 x7 = one c i a2 h2 a3 h3 a4 h4 a5 h5 a6 h6 a7 h7 a8 h8 a9 h9 a10 h10 x3 x4 zero9 zero10 (mine a2 h2 a5 h5 a6 h6 x2 x5 x6) (runFirst.sl.v6 c a7 h7 x7) (Words.chk _ _) (runFirst.sl.v8 c i a7 h7 x7) := by
  unfold oneFirst one; rfl

theorem twoFirst_eq (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) :
    twoFirst c i a2 h2 a3 h3 a4 h4 a5 h5 a6 h6 a7 h7 a8 h8 a9 h9 a10 h10 x2 x3 x4 x5 x6 x7 = two c i a2 h2 a3 h3 a4 h4 a5 h5 a6 h6 a7 h7 a8 h8 a9 h9 a10 h10 x3 x4 zero9 zero10 (mine a2 h2 a5 h5 a6 h6 x2 x5 x6) (runFirst.sl.v6 c a7 h7 x7) (Words.chk _ _) (runFirst.sl.v8 c i a7 h7 x7) (runFirst.sl.v93 c i a7 h7 x7) := by
  unfold twoFirst two; rw [oneFirst_eq]; rfl

set_option maxHeartbeats 1000000 in
theorem first8 (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32)
    (hi : firstWord i = 1#1) (inb : ∀ a, k0_off3 i a + S256x256.size a ≤ S4096x256.size a) :
    (runFirst c i hi a2 h2 a3 h3 a4 h4 a5 h5 a6 h6 a7 h7 a8 h8 a9 h9 a10 h10 x2 x3 x4 x5 x6 x7).1
      = found8 c i a2 h2 a3 h3 a4 h4 a5 h5 a6 h6 a7 h7 a8 h8 a9 h9 a10 h10 x3 x4 zero9 zero10 (mine a2 h2 a5 h5 a6 h6 x2 x5 x6) (runFirst.sl.v6 c a7 h7 x7) (Words.chk _ _) (runFirst.sl.v8 c i a7 h7 x7) (runFirst.sl.v93 c i a7 h7 x7) inb := by
  unfold found8
  rw [← twoFirst_eq, ← tail8]

  rfl

set_option maxHeartbeats 1000000 in
theorem first9 (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32)
    (hi : firstWord i = 1#1) (inb : ∀ a, k0_off3 i a + S256x256.size a ≤ S4096x256.size a) :
    (runFirst c i hi a2 h2 a3 h3 a4 h4 a5 h5 a6 h6 a7 h7 a8 h8 a9 h9 a10 h10 x2 x3 x4 x5 x6 x7).2.1
      = found9 c i a2 h2 a3 h3 a4 h4 a5 h5 a6 h6 a7 h7 a8 h8 a9 h9 a10 h10 x3 x4 zero9 zero10 (mine a2 h2 a5 h5 a6 h6 x2 x5 x6) (runFirst.sl.v6 c a7 h7 x7) (Words.chk _ _) (runFirst.sl.v8 c i a7 h7 x7) (runFirst.sl.v93 c i a7 h7 x7) inb := by
  unfold found9 list9
  rw [← twoFirst_eq, ← tail9]
  rw [← oneFirst_eq]
  rfl

set_option maxHeartbeats 1000000 in
theorem first10 (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32)
    (hi : firstWord i = 1#1) (inb : ∀ a, k0_off3 i a + S256x256.size a ≤ S4096x256.size a) :
    (runFirst c i hi a2 h2 a3 h3 a4 h4 a5 h5 a6 h6 a7 h7 a8 h8 a9 h9 a10 h10 x2 x3 x4 x5 x6 x7).2.2.1
      = found10 c i a2 h2 a3 h3 a4 h4 a5 h5 a6 h6 a7 h7 a8 h8 a9 h9 a10 h10 x3 x4 zero9 zero10 (mine a2 h2 a5 h5 a6 h6 x2 x5 x6) (runFirst.sl.v6 c a7 h7 x7) (Words.chk _ _) (runFirst.sl.v8 c i a7 h7 x7) (runFirst.sl.v93 c i a7 h7 x7) inb := by
  unfold found10 list10
  rw [← twoFirst_eq, ← tail10]
  rw [← oneFirst_eq]
  rfl

end Cert.Proof.Point

end
-- ==== Proof.Leave.lean ====
/-
  With the start word zero a grid point's found values are those of the steps.
-/
module

public import proofs.«01_k».proof.Proof.Point
public import Idealize.ShloMosaic.Lib.Pipeline.ValueKit.Basic

@[expose] public section

noncomputable section

namespace Cert.Proof.Point

open Cert.KernelIdeal Cert.KernelIdeal.Gen Cert.Proof.State
open Idealize.ShloMosaic Idealize.ShloMosaic.ValueIdx
open Idealize.ShloMosaic.TcCoe Idealize.ShloMosaic.Tactic
open Idealize.SL Idealize.SL.RA Idealize.SL.BI
open Cert.Proof.Body

variable {F : FTy → Type} [FloatOps F]

theorem writes_one {κ : Kind} {sp : Space} {s : Shape} {e : EltTy} (v : View sig κ sp s e) (f : v.ty.Contents (Elt F))
    (q : View.Piece (Elt F) s e) (L : List (View.Piece (Elt F) s e)) :
    v.writes (Elt F) f (q :: L) = v.writes (Elt F) (v.writes (Elt F) f L) [q] :=
  View.writes_append v f [q] L

section
variable (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x3 x4 : Vec F S4096x256 .bf16) (y9 y10 : Vec F S4096x256 .f32)
    (p : Step.Point F) (v6 : BitVec 32) (hw : k0_chk1 i v6) (v8 v93 : BitVec 32) (hv : v6 = 0#32)
    (inb : ∀ a, k0_off3 i a + S256x256.size a ≤ S4096x256.size a)
include hv

theorem two_one : two c i a2 h2 a3 h3 a4 h4 a5 h5 a6 h6 a7 h7 a8 h8 a9 h9 a10 h10 x3 x4 y9 y10 p v6 hw v8 v93 = ((one c i a2 h2 a3 h3 a4 h4 a5 h5 a6 h6 a7 h7 a8 h8 a9 h9 a10 h10 x3 x4 y9 y10 p v6 hw v8).1, [], []) := by
  unfold two
  rw [show (k0_t2_loop i v6).trips = 0 by subst hv; exact (trips_zero i).2]
  rfl

theorem one_walk :
    (one c i a2 h2 a3 h3 a4 h4 a5 h5 a6 h6 a7 h7 a8 h8 a9 h9 a10 h10 x3 x4 y9 y10 p v6 hw v8).1 = (walk p x3 x4 y9 y10 (i 1).val).1.out
      ∧ a9.view.writes (Elt F) (h9.unread y9) (one c i a2 h2 a3 h3 a4 h4 a5 h5 a6 h6 a7 h7 a8 h8 a9 h9 a10 h10 x3 x4 y9 y10 p v6 hw v8).2.1 = h9.unread (walk p x3 x4 y9 y10 (i 1).val).2.1
      ∧ a10.view.writes (Elt F) (h10.unread y10) (one c i a2 h2 a3 h3 a4 h4 a5 h5 a6 h6 a7 h7 a8 h8 a9 h9 a10 h10 x3 x4 y9 y10 p v6 hw v8).2.2 = h10.unread (walk p x3 x4 y9 y10 (i 1).val).2.2 := by
  unfold one
  rw [show (k0_t1_loop i v6).trips = (i 1).val by subst hv; exact (trips_zero i).1]
  exact loop (hv := hv) (hk := le_rfl) ..

theorem keys_rows {a : Memref sig .tc .vmem S4096x256 .bf16} (h : a.IsWhole) (x : Vec F S4096x256 .bf16) :
    keys i a h x inb = rows x (i 1).val :=
  read_rows h x (i 1).val (i 1).isLt inb (k0_off3_eq i)

theorem found8_leave : found8 c i a2 h2 a3 h3 a4 h4 a5 h5 a6 h6 a7 h7 a8 h8 a9 h9 a10 h10 x3 x4 y9 y10 p v6 hw v8 v93 inb = (leave p x3 x4 y9 y10 (i 1).val).1 := by
  unfold found8 leave
  rw [two_one (hv := hv), keys_rows (hv := hv), keys_rows (hv := hv)]
  dsimp only
  rw [(one_walk (hv := hv) ..).1, ofOut_out]
  exact View.canon_cons_unit_lit _ _ _ (by intro a; match a with | ⟨0, _⟩ => rfl | ⟨1, _⟩ => rfl)

theorem found9_leave : found9 c i a2 h2 a3 h3 a4 h4 a5 h5 a6 h6 a7 h7 a8 h8 a9 h9 a10 h10 x3 x4 y9 y10 p v6 hw v8 v93 inb = (leave p x3 x4 y9 y10 (i 1).val).2.1 := by
  unfold found9 list9 leave
  rw [two_one (hv := hv), keys_rows (hv := hv), keys_rows (hv := hv)]
  dsimp only
  rw [List.nil_append, writes_one, (one_walk (hv := hv) ..).1, (one_walk (hv := hv) ..).2.1, ofOut_out,
    read_rows h9 _ (i 1).val (i 1).isLt inb (k0_off3_eq i), write_rows h9 _ (i 1).val (i 1).isLt inb (k0_off3_eq i), h9.read_unread]

theorem found10_leave : found10 c i a2 h2 a3 h3 a4 h4 a5 h5 a6 h6 a7 h7 a8 h8 a9 h9 a10 h10 x3 x4 y9 y10 p v6 hw v8 v93 inb = (leave p x3 x4 y9 y10 (i 1).val).2.2 := by
  unfold found10 list10 leave
  rw [two_one (hv := hv), keys_rows (hv := hv)]
  dsimp only
  rw [List.nil_append, writes_one, (one_walk (hv := hv) ..).1, (one_walk (hv := hv) ..).2.2, ofOut_out,
    read_rows h10 _ (i 1).val (i 1).isLt inb (k0_off3_eq i), write_rows h10 _ (i 1).val (i 1).isLt inb (k0_off3_eq i), h10.read_unread]
end

theorem zero9_eq : (zero9 : Vec F S4096x256 .f32) = k0_pay69 :=
  View.canon_cons_unit_lit _ _ _ (by intro a; match a with | ⟨0, _⟩ => rfl | ⟨1, _⟩ => rfl)

theorem zero10_eq : (zero10 : Vec F S4096x256 .f32) = k0_pay70 :=
  View.canon_cons_unit_lit _ _ _ (by intro a; match a with | ⟨0, _⟩ => rfl | ⟨1, _⟩ => rfl)

theorem later_leave (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (y9 y10 : Vec F S4096x256 .f32) (hi : firstWord i ≠ 1#1) (hv : Scalar.fptosi 32 (k0_pay68 (View.readAt (Elt F) a7.view (Rect.unit ![0, 0, 0, 0] S1x1x8x128.size inb_S1x1x8x128_S1x1x8x128_0_0_0_0).toLoadRect (h7.unread x7))) = 0#32) :
    (runLater c i hi a2 h2 a3 h3 a4 h4 a5 h5 a6 h6 a7 h7 a8 h8 a9 h9 a10 h10 x2 x3 x4 x5 x6 x7 y9 y10).1 = (leave ⟨x2, x5, x6⟩ x3 x4 y9 y10 (i 1).val).1 ∧ (runLater c i hi a2 h2 a3 h3 a4 h4 a5 h5 a6 h6 a7 h7 a8 h8 a9 h9 a10 h10 x2 x3 x4 x5 x6 x7 y9 y10).2.1 = (leave ⟨x2, x5, x6⟩ x3 x4 y9 y10 (i 1).val).2.1 ∧ (runLater c i hi a2 h2 a3 h3 a4 h4 a5 h5 a6 h6 a7 h7 a8 h8 a9 h9 a10 h10 x2 x3 x4 x5 x6 x7 y9 y10).2.2.1 = (leave ⟨x2, x5, x6⟩ x3 x4 y9 y10 (i 1).val).2.2 := by
  replace hv : runLater.sl.v6 c a7 h7 x7 = 0#32 := hv
  refine ⟨?_, ?_, ?_⟩
  · rw [later8 (inb := k0_off3_inb i), found8_leave (hv := hv), mine_eq]
  · rw [later9 (inb := k0_off3_inb i), found9_leave (hv := hv), mine_eq]
  · rw [later10 (inb := k0_off3_inb i), found10_leave (hv := hv), mine_eq]

theorem first_leave (c : Dev nD) (i : grid0.Coords)
    (a2 : Memref sig .tc .vmem S256x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S256x256 .bf16) (h5 : a5.IsWhole)
    (a6 : Memref sig .tc .vmem S256x256 .f32) (h6 : a6.IsWhole) (a7 : Memref sig .tc .vmem S1x1x8x128 .f32) (h7 : a7.IsWhole)
    (a8 : Memref sig .tc .vmem S256x256 .bf16) (h8 : a8.IsWhole) (a9 : Memref sig .tc .vmem S4096x256 .f32) (h9 : a9.IsWhole)
    (a10 : Memref sig .tc .vmem S4096x256 .f32) (h10 : a10.IsWhole)
    (x2 : Vec F S256x256 .bf16) (x3 x4 : Vec F S4096x256 .bf16) (x5 : Vec F S256x256 .bf16) (x6 : Vec F S256x256 .f32)
    (x7 : Vec F S1x1x8x128 .f32) (hi : firstWord i = 1#1) (hv : Scalar.fptosi 32 (k0_pay68 (View.readAt (Elt F) a7.view (Rect.unit ![0, 0, 0, 0] S1x1x8x128.size inb_S1x1x8x128_S1x1x8x128_0_0_0_0).toLoadRect (h7.unread x7))) = 0#32) :
    (runFirst c i hi a2 h2 a3 h3 a4 h4 a5 h5 a6 h6 a7 h7 a8 h8 a9 h9 a10 h10 x2 x3 x4 x5 x6 x7).1 = (leave ⟨x2, x5, x6⟩ x3 x4 k0_pay69 k0_pay70 (i 1).val).1 ∧ (runFirst c i hi a2 h2 a3 h3 a4 h4 a5 h5 a6 h6 a7 h7 a8 h8 a9 h9 a10 h10 x2 x3 x4 x5 x6 x7).2.1 = (leave ⟨x2, x5, x6⟩ x3 x4 k0_pay69 k0_pay70 (i 1).val).2.1 ∧ (runFirst c i hi a2 h2 a3 h3 a4 h4 a5 h5 a6 h6 a7 h7 a8 h8 a9 h9 a10 h10 x2 x3 x4 x5 x6 x7).2.2.1 = (leave ⟨x2, x5, x6⟩ x3 x4 k0_pay69 k0_pay70 (i 1).val).2.2 := by
  replace hv : runFirst.sl.v6 c a7 h7 x7 = 0#32 := hv
  refine ⟨?_, ?_, ?_⟩
  · rw [first8 (inb := k0_off3_inb i), found8_leave (hv := hv), mine_eq, zero9_eq, zero10_eq]
  · rw [first9 (inb := k0_off3_inb i), found9_leave (hv := hv), mine_eq, zero9_eq, zero10_eq]
  · rw [first10 (inb := k0_off3_inb i), found10_leave (hv := hv), mine_eq, zero9_eq, zero10_eq]

end Cert.Proof.Point

end
-- ==== Proof.Walk.lean ====
/-
  A grid point against the gradient over the reals: its query gradient, and the accumulators with its queries added.
-/
module

public import proofs.«01_k».proof.Proof.Model
public import proofs.«01_k».proof.Proof.Leave

@[expose] public section

noncomputable section

namespace Cert.Proof

namespace Model
variable (m : Model)

theorem SP_nonneg (h t s : ℕ) : 0 ≤ m.SP h t s := by
  unfold SP
  split
  · exact Real.log_nonneg (by have := Real.exp_pos (m.Z h t s); linarith)
  · exact le_rfl

theorem tot_nonneg (h t : ℕ) : 0 ≤ m.tot h t := Finset.sum_nonneg fun s _ => m.SP_nonneg h t s

theorem dq_all (n N t l : ℕ) (hn : t ≤ n) (hN : n ≤ N) : m.dq n t l = m.dq N t l := by
  unfold dq
  refine Finset.sum_congr rfl fun h _ => Finset.sum_subset (Finset.range_mono hN) fun s _ hs => ?_
  have : ¬ s < t := by simp only [Finset.mem_range] at hs; omega
  unfold DZ
  rw [if_neg this, zero_mul]

theorem dk_from (n N s l : ℕ) (hs : N ≤ s + 1) (hN : n ≤ N) : m.dk n s l = m.dk N s l := by
  unfold dk
  refine Finset.sum_congr rfl fun h _ => Finset.sum_subset (Finset.range_mono hN) fun t ht _ => ?_
  have : ¬ s < t := by simp only [Finset.mem_range] at ht; omega
  unfold DZ
  rw [if_neg this, zero_mul]

theorem dv_from (n N s l : ℕ) (hs : N ≤ s + 1) (hN : n ≤ N) : m.dv n s l = m.dv N s l := by
  unfold dv
  refine Finset.sum_congr rfl fun h _ => Finset.sum_subset (Finset.range_mono hN) fun t ht _ => ?_
  have : ¬ s < t := by simp only [Finset.mem_range] at ht; omega
  unfold A
  rw [if_neg this, zero_mul]

end Model

namespace Rep

open Cert.KernelIdeal Cert.KernelIdeal.Gen Cert.Proof.State
open Idealize.ShloMosaic hiding ix0 ix1 ix2 ix3 ix4 ix5
open Idealize.ShloMosaic.ValueIdx

/-- An array of all the rows holds the real numbers `f s l`. -/
def IsBig (x : S4096x256.Idx → EReal) (f : ℕ → ℕ → ℝ) : Prop := ∀ (s : Fin 4096) (l : Fin 256), x (ix2 s l) = ((f s l : ℝ) : EReal)

theorem IsBig.congr {x : S4096x256.Idx → EReal} {f g : ℕ → ℕ → ℝ} (h : IsBig x f) (e : ∀ s l, s < 4096 → l < 256 → f s l = g s l) : IsBig x g :=
  fun s l => (h s l).trans (by rw [e s l s.isLt l.isLt])

theorem rows_is {x : S4096x256.Idx → EReal} {f : ℕ → ℕ → ℝ} (hx : IsBig x f) (j : ℕ) (hj : j < 16) :
    Is (rows x j) (fun c l => f (256 * j + c) l) := by
  intro c l
  refine (hx ⟨(256 * j + c.val) % 4096, Nat.mod_lt _ (by norm_num)⟩ l).trans ?_
  have : (256 * j + c.val) % 4096 = 256 * j + c.val := Nat.mod_eq_of_lt (by omega)
  simp only [this]

theorem put_is {x : S4096x256.Idx → EReal} {f : ℕ → ℕ → ℝ} (hx : IsBig x f) {b : S256x256.Idx → EReal} {g : ℕ → ℕ → ℝ} (j : ℕ)
    (hb : Is b (fun c l => g (256 * j + c) l)) :
    IsBig (put x j b) (fun s l => if s / 256 = j then g s l else f s l) := by
  intro s l
  show (if s.val / 256 = j then b (ix2 ⟨s.val % 256, _⟩ l) else x (ix2 s l)) = ((if s.val / 256 = j then g s.val l.val else f s.val l.val : ℝ) : EReal)
  by_cases h : s.val / 256 = j
  · rw [if_pos h, if_pos h]
    refine (hb ⟨s.val % 256, Nat.mod_lt _ (by norm_num)⟩ l).trans ?_
    have : 256 * j + s.val % 256 = s.val := by omega
    simp only [this]
  · rw [if_neg h, if_neg h]; exact hx s l

section
variable {m : Model} {i : ℕ} (hi : i < 16) {p : Step.Point Ideal} (hp : OfPoint m i p)
  {x3 x4 : Vec Ideal S4096x256 .bf16} (h3 : IsBig x3 m.k) (h4 : IsBig x4 m.v)
  {y9 y10 : Vec Ideal S4096x256 .f32} (h9 : IsBig y9 (m.dk (256 * i))) (h10 : IsBig y10 (m.dv (256 * i)))
include hi hp h3 h4 h9 h10

theorem walk_of (k : ℕ) (hk : k ≤ i) :
    OfRun m i k (walk p x3 x4 y9 y10 k).1
      ∧ IsBig (walk p x3 x4 y9 y10 k).2.1 (fun s l => if s < 256 * k then m.dk (256 * (i + 1)) s l else m.dk (256 * i) s l)
      ∧ IsBig (walk p x3 x4 y9 y10 k).2.2 (fun s l => if s < 256 * k then m.dv (256 * (i + 1)) s l else m.dv (256 * i) s l) := by
  induction k with
  | zero =>
    refine ⟨start_of m i, h9.congr fun s l _ _ => ?_, h10.congr fun s l _ _ => ?_⟩
    · rw [if_neg (by omega)]
    · rw [if_neg (by omega)]
  | succ k ih =>
    obtain ⟨hs, e9, e10⟩ := ih (by omega)
    have hki : k < i := by omega
    have hc := cuts_id hki
    have hkb := rows_is h3 k (by omega)
    have hvb := rows_is h4 k (by omega)
    refine ⟨next_of hc hp hkb hvb hs, (put_is e9 k (g := m.dk (256 * (i + 1))) (dk_is hc hp hkb hvb hs ((rows_is e9 k (by omega)).congr ?_))).congr ?_,
      (put_is e10 k (g := m.dv (256 * (i + 1))) (dv_is hc hp hkb hs ((rows_is e10 k (by omega)).congr ?_))).congr ?_⟩
    · intro c l hc hl; rw [if_neg (by omega)]
    · intro s l hs hl
      by_cases h : s / 256 = k
      · rw [if_pos h, if_pos (by omega)]
      · rw [if_neg h]; by_cases h' : s < 256 * k
        · rw [if_pos h', if_pos (by omega)]
        · rw [if_neg h', if_neg (by omega)]
    · intro c l hc hl; rw [if_neg (by omega)]
    · intro s l hs hl
      by_cases h : s / 256 = k
      · rw [if_pos h, if_pos (by omega)]
      · rw [if_neg h]; by_cases h' : s < 256 * k
        · rw [if_pos h', if_pos (by omega)]
        · rw [if_neg h', if_neg (by omega)]

theorem leave_of :
    Is (Point.leave p x3 x4 y9 y10 i).1 (fun r l => m.dq 4096 (256 * i + r) l * (1 / 8))
      ∧ IsBig (Point.leave p x3 x4 y9 y10 i).2.1 (m.dk (256 * (i + 1)))
      ∧ IsBig (Point.leave p x3 x4 y9 y10 i).2.2 (m.dv (256 * (i + 1))) := by
  obtain ⟨hs, e9, e10⟩ := walk_of hi hp h3 h4 h9 h10 i le_rfl
  have hc := cuts_causal i
  have hkb := rows_is h3 i hi
  have hvb := rows_is h4 i hi
  refine ⟨(mul_is (next_of hc hp hkb hvb hs).dq splat_eighth).congr ?_,
    (put_is e9 i (g := m.dk (256 * (i + 1))) (dk_is hc hp hkb hvb hs ((rows_is e9 i hi).congr ?_))).congr ?_,
    (put_is e10 i (g := m.dv (256 * (i + 1))) (dv_is hc hp hkb hs ((rows_is e10 i hi).congr ?_))).congr ?_⟩
  · intro r l hr hl; rw [m.dq_all (256 * (i + 1)) 4096 (256 * i + r) l (by omega) (by omega)]
  · intro c l hc hl; rw [if_neg (by omega)]
  · intro s l hs hl
    by_cases h : s / 256 = i
    · rw [if_pos h]
    · rw [if_neg h]; by_cases h' : s < 256 * i
      · rw [if_pos h']
      · rw [if_neg h']; exact m.dk_from _ _ s l (by omega) (by omega)
  · intro c l hc hl; rw [if_neg (by omega)]
  · intro s l hs hl
    by_cases h : s / 256 = i
    · rw [if_pos h]
    · rw [if_neg h]; by_cases h' : s < 256 * i
      · rw [if_pos h']
      · rw [if_neg h']; exact m.dv_from _ _ s l (by omega) (by omega)
end

theorem zero9_is : IsBig (k0_pay69 (F := Ideal)) (fun _ _ => 0) := fun s l => Ideal.ofBits_zero_f32
theorem zero10_is : IsBig (k0_pay70 (F := Ideal)) (fun _ _ => 0) := fun s l => Ideal.ofBits_zero_f32

theorem max_fold (n : ℕ) (g : Fin n → EReal) (b : EReal) (a : EReal) (hb : b ≤ a) (hle : ∀ k, g k ≤ a) (k₀ : Fin n) (h₀ : g k₀ = a) :
    (Finset.univ : Finset (Fin n)).fold max b g = a := by
  refine le_antisymm ?_ ?_
  · exact (Finset.fold_max_le _).mpr ⟨hb, fun k _ => hle k⟩
  · exact (Finset.le_fold_max _).mpr (Or.inr ⟨k₀, Finset.mem_univ _, h₀.ge⟩)

theorem tot_is {x6 : S256x256.Idx → EReal} {f : ℕ → ℕ → ℝ} (h6 : Is x6 (fun r l => f (l / 64) r)) (hf : ∀ h r, 0 ≤ f h r) (q o : Step.Half Ideal) (h : Fin 4) :
    IsCol ((⟨q, o, x6⟩ : Step.Point Ideal).T h) (f h.val) := by
  intro r
  refine (shapeCast_a_a1_apply _ _ r (0 : Fin 1)).trans ((Ideal.multiReduction_maximumf_single (φ := .f32) _ 0xFF800000#32 reduces_S256x256_S256 (.inl rfl) rfl (ix1 r)).trans ?_)
  have at_ (k : Fin 256) : select (Step.lanes h) (shapeCast S256x256 x6 shapeCasts_S256x256_S256x256) (Step.splat (F := Ideal) 0x00000000#32) (ix2 r k)
      = ((if k.val / 64 = h.val then f h.val r.val else 0 : ℝ) : EReal) := by
    show (if Step.lanes h (ix2 r k) = 1#1 then shapeCast S256x256 x6 shapeCasts_S256x256_S256x256 (ix2 r k) else Step.splat (F := Ideal) 0x00000000#32 (ix2 r k)) = _
    rw [cast_self, lanes_at, h6 r k, splat_zero r k]
    by_cases e : k.val / 64 = h.val
    · simp [e]
    · simp [e]
  have lift_ (k : Fin 256) : (reduces_S256x256_S256).lift (ix1 r) k = ix2 r k := by
    funext a
    match a with
    | ⟨0, _⟩ => rfl
    | ⟨1, _⟩ => rfl
  have h4 := h.isLt
  refine max_fold 256 _ _ _ ?_ ?_ ⟨64 * h.val, by omega⟩ ?_
  · refine le_trans (b := (⊥ : EReal)) ?_ bot_le
    exact le_of_eq (by simp [Ideal.ofBits, Ideal.ieee])
  · intro k
    show select (Step.lanes h) _ _ ((reduces_S256x256_S256).lift (ix1 r) k) ≤ _
    rw [lift_, at_]
    refine EReal.coe_le_coe_iff.mpr ?_
    split
    · exact le_rfl
    · exact hf _ _
  · show select (Step.lanes h) _ _ ((reduces_S256x256_S256).lift (ix1 r) _) = _
    rw [lift_, at_, if_pos (by show 64 * h.val / 64 = h.val; omega)]

theorem point_of {m : Model} {i : ℕ} {x2 x5 : S256x256.Idx → EReal} {x6 : S256x256.Idx → EReal}
    (h2 : Is x2 (fun r l => m.q (256 * i + r) l)) (h5 : Is x5 (fun r l => m.o (256 * i + r) l)) (h6 : Is x6 (fun r l => m.tot (l / 64) (256 * i + r))) :
    OfPoint m i (⟨x2, x5, x6⟩ : Step.Point Ideal) where
  Q h := only_is h (mul_is (φ := .bf16) h2 (g := fun _ _ => 1 / 8) fun r c => eighth_bf16)
  D h := only_is h h5
  T h := tot_is (f := fun h r => m.tot h (256 * i + r)) h6 (fun h r => m.tot_nonneg _ _) _ _ h

end Rep

end Cert.Proof

end
-- ==== Proof.Values.lean ====
/-
  The pipeline's values over the reals: each grid point's input blocks, what it leaves in the output buffers, and the three
  result arrays after the run.
-/
module

public import proofs.«01_k».proof.Proof.Pipe
public import proofs.«01_k».proof.Proof.Walk
public import Idealize.ShloMosaic.Lib.Pipeline.ValueKit

@[expose] public section

set_option maxRecDepth 16384

noncomputable section

namespace Cert.Proof.Values

open Cert.KernelIdeal Cert.KernelIdeal.Gen Cert.Proof.Rep Cert.Proof.Body
open Idealize.ShloMosaic hiding ix0 ix1 ix2 ix3 ix4 ix5
open Idealize.ShloMosaic.ValueIdx
open Idealize.ShloMosaic.TcCoe Idealize.ShloMosaic.Tactic

/-- The arrays of the group of heads `g`, out of the projections' and the output gradient's. -/
def group (P O : ℕ → ℕ → ℝ) (g : ℕ) : Model where
  q t l := P t (256 * (6 + g) + l)
  k t l := P t (256 * (8 + g) + l)
  v t l := P t (256 * (10 + g) + l)
  o t l := O t (256 * g + l)

/-- The arrays the region finds, over the reals. -/
structure Enters (m : (ℓ : Loc nD τ sig) → Buf (Elt Ideal) ℓ) (c : Dev nD) (P O : ℕ → ℕ → ℝ) : Prop where
  proj : ∀ (r : Fin 4096) (l : Fin 5120), V m c main_arg0 (ix2 r l) = ((P r l : ℝ) : EReal)
  grad : ∀ (r : Fin 4096) (l : Fin 512), V m c main_arg1 (ix2 r l) = ((O r l : ℝ) : EReal)
  tot : ∀ (r : Fin 4096) (l : Fin 512), V m c main_v24 (ix2 r l) = (((group P O (l / 256)).tot (l % 256 / 64) r : ℝ) : EReal)
  start : ∀ i, V m c main_v0 i = (0 : EReal)

section
variable {m : (ℓ : Loc nD τ sig) → Buf (Elt Ideal) ℓ} {c : Dev nD} {P O : ℕ → ℕ → ℝ} (h : Enters m c P O)

theorem index0 : ∀ t : Fin cfg0.N, win0_0.index t = ![t.val % 16, 6 + t.val / 16] := by decide +kernel
theorem index1 : ∀ t : Fin cfg0.N, win0_1.index t = ![0, 8 + t.val / 16] := by decide +kernel
theorem index2 : ∀ t : Fin cfg0.N, win0_2.index t = ![0, 10 + t.val / 16] := by decide +kernel
theorem index3 : ∀ t : Fin cfg0.N, win0_3.index t = ![t.val % 16, t.val / 16] := by decide +kernel
theorem index4 : ∀ t : Fin cfg0.N, win0_4.index t = ![t.val % 16, t.val / 16] := by decide +kernel
theorem index6 : ∀ t : Fin cfg0.N, win0_6.index t = ![t.val % 16, t.val / 16] := by decide +kernel
theorem index7 : ∀ t : Fin cfg0.N, win0_7.index t = ![0, t.val / 16] := by decide +kernel
theorem index8 : ∀ t : Fin cfg0.N, win0_8.index t = ![0, t.val / 16] := by decide +kernel
theorem coord1 : ∀ t : Fin cfg0.N, ((grid0.coords t) 1).val = t.val % 16 := by decide +kernel

theorem lt_points (t : Fin cfg0.N) : t.val < 32 := lt_of_lt_of_eq t.isLt (by decide)

include h in
theorem q_block (t : Fin cfg0.N) : Is (iblk m c 0 t) (fun r l => (group P O (t.val / 16)).q (256 * (t.val % 16) + r) l) := by
  intro r l
  have ht := lt_points t
  have e : iblk m c 0 t (ix2 r l) = V m c main_arg0 (ix2 ⟨256 * (t.val % 16) + r.val, by omega⟩ ⟨256 * (6 + t.val / 16) + l.val, by omega⟩) := by
    blk_ext [iblk, index0 t]
    all_goals first | (change _ + r.val = _; omega) | (change _ + l.val = _; omega)
  exact e.trans (h.proj _ _)

include h in
theorem k_block (t : Fin cfg0.N) : IsBig (iblk m c 1 t) (group P O (t.val / 16)).k := by
  intro r l
  have ht := lt_points t
  have e : iblk m c 1 t (ix2 r l) = V m c main_arg0 (ix2 r ⟨256 * (8 + t.val / 16) + l.val, by omega⟩) := by
    blk_ext [iblk, index1 t]
    all_goals first | (change _ + r.val = _; omega) | (change _ + l.val = _; omega)
  exact e.trans (h.proj _ _)

include h in
theorem v_block (t : Fin cfg0.N) : IsBig (iblk m c 2 t) (group P O (t.val / 16)).v := by
  intro r l
  have ht := lt_points t
  have e : iblk m c 2 t (ix2 r l) = V m c main_arg0 (ix2 r ⟨256 * (10 + t.val / 16) + l.val, by omega⟩) := by
    blk_ext [iblk, index2 t]
    all_goals first | (change _ + r.val = _; omega) | (change _ + l.val = _; omega)
  exact e.trans (h.proj _ _)

include h in
theorem o_block (t : Fin cfg0.N) : Is (iblk m c 3 t) (fun r l => (group P O (t.val / 16)).o (256 * (t.val % 16) + r) l) := by
  intro r l
  have ht := lt_points t
  have e : iblk m c 3 t (ix2 r l) = V m c main_arg1 (ix2 ⟨256 * (t.val % 16) + r.val, by omega⟩ ⟨256 * (t.val / 16) + l.val, by omega⟩) := by
    blk_ext [iblk, index3 t]
    all_goals first | (change _ + r.val = _; omega) | (change _ + l.val = _; omega)
  exact e.trans (h.grad _ _)

include h in
theorem tot_block (t : Fin cfg0.N) : Is (iblk m c 4 t) (fun r l => (group P O (t.val / 16)).tot (l / 64) (256 * (t.val % 16) + r)) := by
  intro r l
  have ht := lt_points t
  have e : iblk m c 4 t (ix2 r l) = V m c main_v24 (ix2 ⟨256 * (t.val % 16) + r.val, by omega⟩ ⟨256 * (t.val / 16) + l.val, by omega⟩) := by
    blk_ext [iblk, index4 t]
    all_goals first | (change _ + r.val = _; omega) | (change _ + l.val = _; omega)
  refine e.trans ((h.tot _ _).trans ?_)
  show (((group P O ((256 * (t.val / 16) + l.val) / 256)).tot ((256 * (t.val / 16) + l.val) % 256 / 64) (256 * (t.val % 16) + r.val) : ℝ) : EReal) = _
  rw [show (256 * (t.val / 16) + l.val) / 256 = t.val / 16 by omega, show (256 * (t.val / 16) + l.val) % 256 = l.val by omega]

include h in
theorem point_is (t : Fin cfg0.N) : OfPoint (group P O (t.val / 16)) (t.val % 16) (⟨iblk m c 0 t, iblk m c 3 t, iblk m c 4 t⟩ : Step.Point Ideal) :=
  point_of (q_block h t) (o_block h t) (tot_block h t)

include h in
theorem start_block (t : Fin cfg0.N) (i) : iblk m c 5 t i = (0 : EReal) := by
  unfold iblk
  exact h.start _

theorem fold_const {ι : Type} (A : Finset ι) (f : ι → EReal) (b a : EReal) (hb : b ≤ a) (hf : ∀ k, f k = a) (hA : A.Nonempty) :
    A.fold max b f = a := by
  refine le_antisymm ?_ ?_
  · exact (Finset.fold_max_le _).mpr ⟨hb, fun k _ => (hf k).le⟩
  · obtain ⟨k, hk⟩ := hA
    exact (Finset.le_fold_max _).mpr (Or.inr ⟨k, hk, (hf k).ge⟩)

/-- No block of keys is skipped. -/
theorem start_word (x : Vec Ideal S1x1x8x128 .f32) (hx : ∀ i, x i = (0 : EReal)) : Scalar.fptosi 32 (k0_pay68 (F := Ideal) x) = 0#32 := by
  have e : k0_pay68 (F := Ideal) x = ((0 : ℝ) : EReal) := by
    refine (multiReduction_maximumf_eq_fold (F := Ideal) (φ := .f32) _ 0xFF800000#32 reduces_S1x8x128_S1 (.inl rfl) rfl _).trans ?_
    refine fold_const _ _ _ _ ?_ (fun i => hx _) ⟨ix3 (0 : Fin 1) (0 : Fin 8) (0 : Fin 128), ?_⟩
    · refine le_trans (b := (⊥ : EReal)) ?_ bot_le
      exact le_of_eq (by simp [Ideal.ofBits, Ideal.ieee])
    · rw [Finset.mem_filter]
      refine ⟨Finset.mem_univ _, funext fun a => ?_⟩
      match a with
      | ⟨0, _⟩ => exact Subsingleton.elim (α := Fin 1) _ _
  rw [e]
  show BitVec.ofInt 32 (Ideal.toIntClamped _ _ ((0 : ℝ) : EReal)) = 0#32
  rw [Ideal.toIntClamped_coe, if_pos le_rfl, Int.floor_zero]
  decide

end

end Cert.Proof.Values

end
-- ==== Proof.Arrays.lean ====
/-
  What each grid point leaves over the reals, by induction along the query blocks of a group of heads, and the result
  arrays after the run.
-/
module

public import proofs.«01_k».proof.Proof.Values
public import Idealize.ShloMosaic.Lib.WholeRead

@[expose] public section

set_option maxRecDepth 16384

noncomputable section

namespace Cert.Proof.Values

open Cert.KernelIdeal Cert.KernelIdeal.Gen Cert.Proof.Rep Cert.Proof.Body
open Idealize.ShloMosaic hiding ix0 ix1 ix2 ix3 ix4 ix5
open Idealize.ShloMosaic.ValueIdx
open Idealize.ShloMosaic.TcCoe Idealize.ShloMosaic.Tactic

/-- A run's found values as one triple. -/
def pack {A B C : Type} {Q : A → B → C → Prop} (r : (a : A) ×' (b : B) ×' { c : C // Q a b c }) : A × B × C := (r.1, r.2.1, r.2.2.1)

theorem pack_eq {A B C : Type} {Q : A → B → C → Prop} (r : (a : A) ×' (b : B) ×' { c : C // Q a b c }) (y : A × B × C)
    (e : r.1 = y.1 ∧ r.2.1 = y.2.1 ∧ r.2.2.1 = y.2.2) : pack r = y := Prod.ext e.1 (Prod.ext e.2.1 e.2.2)

section
variable {m : (ℓ : Loc nD τ sig) → Buf (Elt Ideal) ℓ} {c : Dev nD} {P O : ℕ → ℕ → ℝ} (h : Enters m c P O)

include h in
theorem first_point (t : Fin cfg0.N) (hi : firstWord (grid0.coords t) = 1#1) :
    outsFirst m c t hi = Point.leave (F := Ideal) (⟨iblk m c 0 t, iblk m c 3 t, iblk m c 4 t⟩ : Step.Point Ideal) (iblk m c 1 t) (iblk m c 2 t) (k0_pay69 (F := Ideal)) (k0_pay70 (F := Ideal)) ((grid0.coords t) 1).val := by
  unfold outsFirst
  refine pack_eq _ _ ?_
  exact Point.first_leave (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (iblk m c 5 t) hi
    (start_word _ fun i => (Memref.IsWhole.readAt_unread _ _ _ _).trans (start_block h t _))

include h in
theorem later_point (t : Fin cfg0.N) (hi : firstWord (grid0.coords t) ≠ 1#1) (y9 y10 : Vec Ideal S4096x256 .f32) :
    outsLater m c t hi y9 y10 = Point.leave (F := Ideal) (⟨iblk m c 0 t, iblk m c 3 t, iblk m c 4 t⟩ : Step.Point Ideal) (iblk m c 1 t) (iblk m c 2 t) y9 y10 ((grid0.coords t) 1).val := by
  unfold outsLater
  refine pack_eq _ _ ?_
  exact Point.later_leave (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (iblk m c 0 t) (iblk m c 1 t) (iblk m c 2 t) (iblk m c 3 t) (iblk m c 4 t) (iblk m c 5 t) y9 y10 hi
    (start_word _ fun i => (Memref.IsWhole.readAt_unread _ _ _ _).trans (start_block h t _))

/-- What a point leaves, over the reals. -/
def Left (M : Model) (i : ℕ) (y : Outs Ideal) : Prop :=
  Is y.1 (fun r l => M.dq 4096 (256 * i + r) l * (1 / 8)) ∧ IsBig y.2.1 (M.dk (256 * (i + 1))) ∧ IsBig y.2.2 (M.dv (256 * (i + 1)))

include h in
theorem outs_is : ∀ (n : ℕ) (t : Fin cfg0.N), t.val % 16 = n → Left (group P O (t.val / 16)) n (outs m c t.val t.isLt) := by
  intro n
  induction n with
  | zero =>
    intro t ht
    have hi := (firstWord_iff t).2 ht
    have hp := point_is h t
    rw [ht] at hp
    rw [outs_first m c t hi, first_point h t hi, coord1, ht]
    have z9 : IsBig (k0_pay69 (F := Ideal)) ((group P O (t.val / 16)).dk (256 * 0)) := fun s l => by
      rw [zero9_is s l]; simp [Model.dk]
    have z10 : IsBig (k0_pay70 (F := Ideal)) ((group P O (t.val / 16)).dv (256 * 0)) := fun s l => by
      rw [zero10_is s l]; simp [Model.dv]
    exact leave_of (by decide) hp (k_block h t) (v_block h t) z9 z10
  | succ n ih =>
    intro t ht
    have hlt := lt_points t
    have hi : firstWord (grid0.coords t) ≠ 1#1 := fun e => by have := (firstWord_iff t).1 e; omega
    have hp := point_is h t
    rw [ht] at hp
    have hl := ih ⟨t.val - 1, prev_lt t⟩ (by show (t.val - 1) % 16 = n; omega)
    rw [show (⟨t.val - 1, prev_lt t⟩ : Fin cfg0.N).val / 16 = t.val / 16 by show (t.val - 1) / 16 = t.val / 16; omega] at hl
    rw [outs_later m c t hi (prev_lt t), later_point h t hi, coord1, ht]
    exact leave_of (by omega) hp (k_block h t) (v_block h t) hl.2.1 hl.2.2

/-- The query gradient's array. -/
def resQ (P O : ℕ → ℕ → ℝ) (i : S4096x512.Idx) : EReal :=
  (((group P O ((i 1).val / 256)).dq 4096 (i 0).val ((i 1).val % 256) * (1 / 8) : ℝ) : EReal)
/-- The key gradient's. -/
def resK (P O : ℕ → ℕ → ℝ) (i : S4096x512.Idx) : EReal :=
  (((group P O ((i 1).val / 256)).dk 4096 (i 0).val ((i 1).val % 256) : ℝ) : EReal)
/-- The value gradient's. -/
def resV (P O : ℕ → ℕ → ℝ) (i : S4096x512.Idx) : EReal :=
  (((group P O ((i 1).val / 256)).dv 4096 (i 0).val ((i 1).val % 256) : ℝ) : EReal)

include h in
theorem array_q : (dats m 0 c).arrAt 6 (cfgs 0).N = resQ P O := by
  refine (dats m 0 c).arrAt_eq_of_covers 6 _ (by decide +kernel) fun t hf y => ?_
  have hlt := lt_points t
  blk_simp [index6 t]
  rw [after0_6]
  obtain ⟨a, b, rfl⟩ : ∃ (a : Fin 256) (b : Fin 256), y = ix2 a b := ⟨y 0, y 1, ValueIdx.eq_ix2 y⟩
  refine ((outs_is h _ t rfl).1 a b).trans ?_
  have e0 : (((win0_6.blk t).view.emb (ix2 a b)) 0).val = 256 * (t.val % 16) + a.val := by
    blk_simp [index6 t]
    change _ + a.val = _
    omega
  have e1 : (((win0_6.blk t).view.emb (ix2 a b)) 1).val = 256 * (t.val / 16) + b.val := by
    blk_simp [index6 t]
    change _ + b.val = _
    omega
  have d : (256 * (t.val / 16) + b.val) / 256 = t.val / 16 := by omega
  have r : (256 * (t.val / 16) + b.val) % 256 = b.val := by omega
  unfold resQ
  rw [e0, e1, d, r]

include h in
theorem array_k : (dats m 0 c).arrAt 7 (cfgs 0).N = resK P O := by
  refine (dats m 0 c).arrAt_eq_of_covers 7 _ (by decide +kernel) fun t hf y => ?_
  have hlt := lt_points t
  blk_simp [index7 t]
  rw [after0_7]
  obtain ⟨a, b, rfl⟩ : ∃ (a : Fin 4096) (b : Fin 256), y = ix2 a b := ⟨y 0, y 1, ValueIdx.eq_ix2 y⟩
  have h15 := (flush0_7 t).1 hf
  have hl := outs_is h _ t h15
  refine (hl.2.1 a b).trans ?_
  have e0 : (((win0_7.blk t).view.emb (ix2 a b)) 0).val = a.val := by
    blk_simp [index7 t]
    rfl
  have e1 : (((win0_7.blk t).view.emb (ix2 a b)) 1).val = 256 * (t.val / 16) + b.val := by
    blk_simp [index7 t]
    change _ + b.val = _
    omega
  have d : (256 * (t.val / 16) + b.val) / 256 = t.val / 16 := by omega
  have r : (256 * (t.val / 16) + b.val) % 256 = b.val := by omega
  unfold resK
  rw [e0, e1, d, r]

include h in
theorem array_v : (dats m 0 c).arrAt 8 (cfgs 0).N = resV P O := by
  refine (dats m 0 c).arrAt_eq_of_covers 8 _ (by decide +kernel) fun t hf y => ?_
  have hlt := lt_points t
  blk_simp [index8 t]
  rw [after0_8]
  obtain ⟨a, b, rfl⟩ : ∃ (a : Fin 4096) (b : Fin 256), y = ix2 a b := ⟨y 0, y 1, ValueIdx.eq_ix2 y⟩
  have h15 := (flush0_8 t).1 hf
  have hl := outs_is h _ t h15
  refine (hl.2.2 a b).trans ?_
  have e0 : (((win0_8.blk t).view.emb (ix2 a b)) 0).val = a.val := by
    blk_simp [index8 t]
    rfl
  have e1 : (((win0_8.blk t).view.emb (ix2 a b)) 1).val = 256 * (t.val / 16) + b.val := by
    blk_simp [index8 t]
    change _ + b.val = _
    omega
  have d : (256 * (t.val / 16) + b.val) / 256 = t.val / 16 := by omega
  have r : (256 * (t.val / 16) + b.val) % 256 = b.val := by omega
  unfold resV
  rw [e0, e1, d, r]

end

end Cert.Proof.Values

end
-- ==== Proof.Heads.lean ====
/-
  The textbook's operations on arrays of heads whose entries are given real numbers.
-/
module

public import proofs.«01_k».proof.Proof.Rep
public import proofs.«01_k».proof.Proof.Gen.ReferenceIdeal
public import Idealize.ShloMosaic.Lib.Pipeline.Value
public import Idealize.ShloMosaic.Lib.IdealHost

@[expose] public section

set_option maxRecDepth 16384

noncomputable section

namespace Cert.Proof.Heads

open Cert.ReferenceIdeal Cert.ReferenceIdeal.Gen
open Idealize.ShloMosaic hiding ix0 ix1 ix2 ix3 ix4 ix5
open Idealize.ShloMosaic.ValueIdx
open Cert.Proof.Rep (sum_fin coe_sum coe_max soft_real eighth_f32 slt_small)

/-- A matrix's entries are the real numbers `f r c`. -/
def Mat {a b : ℕ} (x : (⟨2, ![a, b]⟩ : Shape).Idx → EReal) (f : ℕ → ℕ → ℝ) : Prop :=
  ∀ (r : Fin a) (c : Fin b), x (ix2 r c) = ((f r c : ℝ) : EReal)

/-- A stack of matrices' entries are the real numbers `f h r c`. -/
def Stack {n a b : ℕ} (x : (⟨3, ![n, a, b]⟩ : Shape).Idx → EReal) (f : ℕ → ℕ → ℕ → ℝ) : Prop :=
  ∀ (h : Fin n) (r : Fin a) (c : Fin b), x (ix3 h r c) = ((f h r c : ℝ) : EReal)

theorem Stack.congr {n a b : ℕ} {x : (⟨3, ![n, a, b]⟩ : Shape).Idx → EReal} {f g : ℕ → ℕ → ℕ → ℝ} (hx : Stack x f)
    (e : ∀ h r c, h < n → r < a → c < b → f h r c = g h r c) : Stack x g :=
  fun h r c => (hx h r c).trans (by rw [e h r c h.isLt r.isLt c.isLt])

/-- A columns' cut. -/
theorem slice_is (off : ℕ) (ho : off + 512 ≤ 5120) {x : S4096x5120.Idx → EReal} {f : ℕ → ℕ → ℝ} (hx : Mat x f)
    (w : S4096x5120.Slices ![0, off] S4096x512) :
    Mat (extractStridedSlice S4096x512 ![0, off] x w) (fun r c => f r (off + c)) := by
  intro r c
  refine (extractStridedSlice_apply ![0, off] x w (ix2 r c) (ix2 r ⟨off + c.val, by omega⟩) ?_).trans (hx r _)
  intro a
  match a with
  | ⟨0, _⟩ => exact (Nat.zero_add r.val).symm
  | ⟨1, _⟩ => rfl

/-- The heads of a matrix of rows. -/
def heads (x : S4096x512.Idx → EReal) : S8x4096x64.Idx → EReal :=
  transpose S8x4096x64 [1, 0, 2] (shapeCast _ x shapeCasts_S4096x512_S4096x8x64) transposes_S4096x8x64_S8x4096x64_1_0_2

theorem heads_is {x : S4096x512.Idx → EReal} {f : ℕ → ℕ → ℝ} (hx : Mat x f) : Stack (heads x) (fun h t d => f t (64 * h + d)) := by
  intro h t d
  unfold heads
  refine (transpose_apply [1, 0, 2] _ _ (ix3 h t d) (ix3 t h d) ?_).trans ?_
  · intro b
    match b with
    | ⟨0, _⟩ => rfl
    | ⟨1, _⟩ => rfl
    | ⟨2, _⟩ => rfl
  · refine (shapeCast_apply x _ (ix3 t h d) (ix2 t ⟨64 * h.val + d.val, by omega⟩) ?_).trans (hx t _)
    rw [Shape.rowMajor_val_two, Shape.rowMajor_val_three]
    show t.val * 512 + (64 * h.val + d.val) = (t.val * 8 + h.val) * 64 + d.val
    omega

/-- The matrix of rows of the heads. -/
def rows (x : S8x4096x64.Idx → EReal) : S4096x512.Idx → EReal :=
  shapeCast _ (transpose S4096x8x64 [1, 0, 2] x transposes_S8x4096x64_S4096x8x64_1_0_2) shapeCasts_S4096x8x64_S4096x512

theorem rows_is {x : S8x4096x64.Idx → EReal} {f : ℕ → ℕ → ℕ → ℝ} (hx : Stack x f) : Mat (rows x) (fun t c => f (c / 64) t (c % 64)) := by
  intro t c
  have hc := c.isLt
  unfold rows
  refine (shapeCast_apply _ _ (ix2 t c) (ix3 t ⟨c.val / 64, by omega⟩ ⟨c.val % 64, by omega⟩) ?_).trans ?_
  · rw [Shape.rowMajor_val_two, Shape.rowMajor_val_three]
    show (t.val * 8 + c.val / 64) * 64 + c.val % 64 = t.val * 512 + c.val
    omega
  · refine (transpose_apply [1, 0, 2] x _ (ix3 t _ _) (ix3 ⟨c.val / 64, by omega⟩ t ⟨c.val % 64, by omega⟩) ?_).trans (hx _ _ _)
    intro b
    match b with
    | ⟨0, _⟩ => rfl
    | ⟨1, _⟩ => rfl
    | ⟨2, _⟩ => rfl

theorem turn_is {x : S8x64x4096.Idx → EReal} {f : ℕ → ℕ → ℕ → ℝ} (hx : Stack x f) :
    Stack (transpose S8x4096x64 [0, 2, 1] x transposes_S8x64x4096_S8x4096x64_0_2_1) (fun h s d => f h d s) :=
  fun h s d => (transpose_ix3_021_apply x _ h s d).trans (hx h d s)

/-! ### The products -/

theorem dot22_is {x y : S8x4096x64.Idx → EReal} {f g : ℕ → ℕ → ℕ → ℝ} (hx : Stack x f) (hy : Stack y g) :
    Stack (Host.dotGeneral (F := Ideal) (φ₁ := .f32) (φ₂ := .f32) dot_S8x4096x64_S8x4096x64_S8x4096x4096_2_2_1_1_0_0 none x y)
      (fun h t s => ∑ d ∈ Finset.range 64, f h t d * g h s d) := by
  intro h t s
  refine (Ideal.matmul_apply₁_of dot_S8x4096x64_S8x4096x64_S8x4096x4096_2_2_1_1_0_0 rfl (K := 64) rfl x y (fun _ => 0) (ix3 h t s)
    (fun k => ix3 h t k) (fun k => ix3 h s k) ?_ ?_).trans ?_
  · intro k
    funext a
    match a with
    | ⟨0, _⟩ => rfl
    | ⟨1, _⟩ => rfl
    | ⟨2, _⟩ => rfl
  · intro k
    funext a
    match a with
    | ⟨0, _⟩ => rfl
    | ⟨1, _⟩ => rfl
    | ⟨2, _⟩ => rfl
  rw [zero_add, sum_fin 64 _ (fun d => f h t d * g h s d) fun k => by rw [hx, hy, EReal.coe_mul]]

theorem dot21_is {x : S8x4096x4096.Idx → EReal} {y : S8x4096x64.Idx → EReal} {f g : ℕ → ℕ → ℕ → ℝ} (hx : Stack x f) (hy : Stack y g) :
    Stack (Host.dotGeneral (F := Ideal) (φ₁ := .f32) (φ₂ := .f32) dot_S8x4096x4096_S8x4096x64_S8x4096x64_2_1_1_2_0_0 none x y)
      (fun h t d => ∑ s ∈ Finset.range 4096, f h t s * g h s d) := by
  intro h t d
  refine (Ideal.matmul_apply₁_of dot_S8x4096x4096_S8x4096x64_S8x4096x64_2_1_1_2_0_0 rfl (K := 4096) rfl x y (fun _ => 0) (ix3 h t d)
    (fun k => ix3 h t k) (fun k => ix3 h k d) ?_ ?_).trans ?_
  · intro k
    funext a
    match a with
    | ⟨0, _⟩ => rfl
    | ⟨1, _⟩ => rfl
    | ⟨2, _⟩ => rfl
  · intro k
    funext a
    match a with
    | ⟨0, _⟩ => rfl
    | ⟨1, _⟩ => rfl
    | ⟨2, _⟩ => rfl
  rw [zero_add, sum_fin 4096 _ (fun s => f h t s * g h s d) fun k => by rw [hx, hy, EReal.coe_mul]]

theorem dot11_is {x : S8x4096x4096.Idx → EReal} {y : S8x4096x64.Idx → EReal} {f g : ℕ → ℕ → ℕ → ℝ} (hx : Stack x f) (hy : Stack y g) :
    Stack (Host.dotGeneral (F := Ideal) (φ₁ := .f32) (φ₂ := .f32) dot_S8x4096x4096_S8x4096x64_S8x4096x64_1_1_2_2_0_0 none x y)
      (fun h s d => ∑ t ∈ Finset.range 4096, f h t s * g h t d) := by
  intro h s d
  refine (Ideal.matmul_apply₁_of dot_S8x4096x4096_S8x4096x64_S8x4096x64_1_1_2_2_0_0 rfl (K := 4096) rfl x y (fun _ => 0) (ix3 h s d)
    (fun k => ix3 h k s) (fun k => ix3 h k d) ?_ ?_).trans ?_
  · intro k
    funext a
    match a with
    | ⟨0, _⟩ => rfl
    | ⟨1, _⟩ => rfl
    | ⟨2, _⟩ => rfl
  · intro k
    funext a
    match a with
    | ⟨0, _⟩ => rfl
    | ⟨1, _⟩ => rfl
    | ⟨2, _⟩ => rfl
  rw [zero_add, sum_fin 4096 _ (fun t => f h t s * g h t d) fun k => by rw [hx, hy, EReal.coe_mul]]

theorem dot11T_is {x : S8x4096x64.Idx → EReal} {y : S8x4096x4096.Idx → EReal} {f g : ℕ → ℕ → ℕ → ℝ} (hx : Stack x f) (hy : Stack y g) :
    Stack (Host.dotGeneral (F := Ideal) (φ₁ := .f32) (φ₂ := .f32) dot_S8x4096x64_S8x4096x4096_S8x64x4096_1_1_2_2_0_0 none x y)
      (fun h d s => ∑ t ∈ Finset.range 4096, f h t d * g h t s) := by
  intro h d s
  refine (Ideal.matmul_apply₁_of dot_S8x4096x64_S8x4096x4096_S8x64x4096_1_1_2_2_0_0 rfl (K := 4096) rfl x y (fun _ => 0) (ix3 h d s)
    (fun k => ix3 h k d) (fun k => ix3 h k s) ?_ ?_).trans ?_
  · intro k
    funext a
    match a with
    | ⟨0, _⟩ => rfl
    | ⟨1, _⟩ => rfl
    | ⟨2, _⟩ => rfl
  · intro k
    funext a
    match a with
    | ⟨0, _⟩ => rfl
    | ⟨1, _⟩ => rfl
    | ⟨2, _⟩ => rfl
  rw [zero_add, sum_fin 4096 _ (fun t => f h t d * g h t s) fun k => by rw [hx, hy, EReal.coe_mul]]

/-! ### Entry by entry -/

section
variable {n a b : ℕ} {x y : (⟨3, ![n, a, b]⟩ : Shape).Idx → EReal} {f g : ℕ → ℕ → ℕ → ℝ}

theorem add_is (hx : Stack x f) (hy : Stack y g) : Stack (addf (F := Ideal) (φ := .f32) x y) (fun h t s => f h t s + g h t s) :=
  fun h t s => by show x _ + y _ = _; rw [hx, hy, EReal.coe_add]
theorem sub_is (hx : Stack x f) (hy : Stack y g) : Stack (subf (F := Ideal) (φ := .f32) x y) (fun h t s => f h t s - g h t s) :=
  fun h t s => by show x _ - y _ = _; rw [hx, hy, EReal.coe_sub]
theorem mul_is (hx : Stack x f) (hy : Stack y g) : Stack (mulf (F := Ideal) (φ := .f32) x y) (fun h t s => f h t s * g h t s) :=
  fun h t s => by show x _ * y _ = _; rw [hx, hy, EReal.coe_mul]
theorem neg_is (hx : Stack x f) : Stack (Host.negf (F := Ideal) (φ := .f32) x) (fun h t s => - f h t s) :=
  fun h t s => by show -(x _) = _; rw [hx, EReal.coe_neg]
theorem exp_is (hx : Stack x f) : Stack (Host.exp (F := Ideal) (φ := .f32) x) (fun h t s => Real.exp (f h t s)) :=
  fun h t s => by show Ideal.exp (x _) = _; rw [hx, Ideal.exp_coe]

end

/-- A number everywhere. -/
def splat (w : BitVec 32) : S8x4096x4096.Idx → EReal :=
  broadcastInDim S8x4096x4096 ![] bcast_S_S8x4096x4096 (constant (F := Ideal) S_ .f32 w)

theorem splat_zero : Stack (splat 0x00000000#32) (fun _ _ _ => 0) := fun _ _ _ => Ideal.ofBits_zero_f32
theorem splat_eighth : Stack (splat 0x3E000000#32) (fun _ _ _ => 1 / 8) := fun _ _ _ => eighth_f32
theorem splat_top (i : S8x4096x4096.Idx) : splat 0x7F800000#32 i = ⊤ := by
  show Ideal.ofBits .f32 0x7F800000#32 = ⊤
  simp [Ideal.ofBits, Ideal.ieee]

/-- The logarithm of one more than the exponential. -/
def soft (x : S8x4096x4096.Idx → EReal) : S8x4096x4096.Idx → EReal :=
  select (cmpf (F := Ideal) (φ := .f32) .une (subf (F := Ideal) (φ := .f32) x (splat 0x00000000#32)) (subf (F := Ideal) (φ := .f32) x (splat 0x00000000#32)))
    (addf (F := Ideal) (φ := .f32) x (splat 0x00000000#32))
    (addf (F := Ideal) (φ := .f32) (maximumf (F := Ideal) (φ := .f32) x (splat 0x00000000#32))
      (Host.log1p (F := Ideal) (φ := .f32) (Host.exp (F := Ideal) (φ := .f32) (Host.negf (F := Ideal) (φ := .f32) (Host.absf (F := Ideal) (φ := .f32) (subf (F := Ideal) (φ := .f32) x (splat 0x00000000#32)))))))

theorem soft_is {x : S8x4096x4096.Idx → EReal} {f : ℕ → ℕ → ℕ → ℝ} (hx : Stack x f) :
    Stack (soft x) (fun h t s => Real.log (1 + Real.exp (f h t s))) := by
  intro h t s
  have e : ∀ u : EReal, Ideal.cmp .une u u = 0#1 := fun u => by simp [Ideal.cmp]
  show (if Ideal.cmp .une (x (ix3 h t s) - splat 0x00000000#32 (ix3 h t s)) (x (ix3 h t s) - splat 0x00000000#32 (ix3 h t s)) = 1#1 then x (ix3 h t s) + splat 0x00000000#32 (ix3 h t s)
    else max (x (ix3 h t s)) (splat 0x00000000#32 (ix3 h t s)) + Ideal.log (1 + Ideal.exp (-(max (x (ix3 h t s) - splat 0x00000000#32 (ix3 h t s)) (-(x (ix3 h t s) - splat 0x00000000#32 (ix3 h t s))))))) = _
  rw [e, if_neg (by decide), hx, splat_zero]
  have e1 : (1 : EReal) = ((1 : ℝ) : EReal) := by norm_cast
  rw [e1, ← EReal.coe_sub, ← EReal.coe_neg, ← coe_max, ← coe_max, ← EReal.coe_neg, Ideal.exp_coe, ← EReal.coe_add,
    Ideal.log_coe, if_neg (by have := Real.exp_pos (-max (f h t s - 0) (-(f h t s - 0))); linarith), ← EReal.coe_add]
  refine congrArg _ ?_
  show max (f h t s) 0 + Real.log (1 + Real.exp (-max (f h t s - 0) (-(f h t s - 0)))) = Real.log (1 + Real.exp (f h t s))
  rw [← soft_real (f h t s), sub_zero, zero_sub]

/-- A number, zero for an infinity. -/
theorem capped_is {x : S8x4096x4096.Idx → EReal} {f : ℕ → ℕ → ℕ → ℝ} (hx : Stack x f) :
    Stack (select (cmpf (F := Ideal) (φ := .f32) .oeq x (splat 0x7F800000#32)) (splat 0x00000000#32) x) f := by
  intro h t s
  show (if Ideal.cmp .oeq (x (ix3 h t s)) (splat 0x7F800000#32 (ix3 h t s)) = 1#1 then splat 0x00000000#32 (ix3 h t s) else x (ix3 h t s)) = _
  rw [splat_top, hx]
  have : Ideal.cmp .oeq ((f h t s : ℝ) : EReal) ⊤ = 0#1 := by simp [Ideal.cmp]
  rw [this, if_neg (by decide)]

/-- The slope of `soft`. -/
def slope (x : S8x4096x4096.Idx → EReal) : S8x4096x4096.Idx → EReal :=
  Host.exp (F := Ideal) (φ := .f32) (subf (F := Ideal) (φ := .f32)
    (select (cmpf (F := Ideal) (φ := .f32) .oeq x (splat 0x7F800000#32)) (splat 0x00000000#32) x)
    (select (cmpf (F := Ideal) (φ := .f32) .oeq (soft x) (splat 0x7F800000#32)) (splat 0x00000000#32) (soft x)))

theorem slope_is {x : S8x4096x4096.Idx → EReal} {f : ℕ → ℕ → ℕ → ℝ} (hx : Stack x f) :
    Stack (slope x) (fun h t s => Real.exp (f h t s - Real.log (1 + Real.exp (f h t s)))) :=
  exp_is (sub_is (capped_is hx) (capped_is (soft_is hx)))

/-- The keys before their query. -/
def valid : S8x4096x4096.Idx → BitVec 1 :=
  broadcastInDim S8x4096x4096 ![1, 2] bcast_S4096x4096_S8x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

theorem valid_at (h : Fin 8) (t s : Fin 4096) : valid (ix3 h t s) = BitVec.ofBool (decide (s.val < t.val)) := by
  rw [← slt_small s.isLt t.isLt]
  rfl

theorem where_is {x z : S8x4096x4096.Idx → EReal} {f : ℕ → ℕ → ℕ → ℝ} (hx : Stack x f) (hz : Stack z (fun _ _ _ => 0)) :
    Stack (select valid x z) (fun h t s => if s < t then f h t s else 0) := by
  intro h t s
  show (if valid (ix3 h t s) = 1#1 then x (ix3 h t s) else z (ix3 h t s)) = _
  rw [valid_at, hx, hz]
  by_cases e : s.val < t.val
  · simp [e]
  · simp [e]

/-! ### The sums along the keys -/

/-- A fold of additions over a list is the sum. -/
theorem fold_add {n : ℕ} (g : Fin n → EReal) (v : EReal) : (List.finRange n).foldl (fun r k => r + g k) v = v + ∑ k, g k := by
  rw [← List.foldl_map (f := g) (g := fun r k => r + k), ← List.sum_ofFn, List.ofFn_eq_map]
  generalize (List.finRange n).map g = l
  induction l generalizing v with
  | nil => simp
  | cons a l ih => rw [List.foldl_cons, ih, List.sum_cons, add_assoc]

/-- A window along the keys: its indices are its last coordinates. -/
def along : Fin 4096 ≃ (⟨3, ![1, 1, 4096]⟩ : Shape).Idx where
  toFun k := ix3 (0 : Fin 1) (0 : Fin 1) k
  invFun w := w 2
  left_inv _ := rfl
  right_inv w := by
    funext a
    match a with
    | ⟨0, _⟩ => exact Fin.ext (by have := (w 0).isLt; show 0 = (w 0).val; change (w 0).val < 1 at this; omega)
    | ⟨1, _⟩ => exact Fin.ext (by have := (w 1).isLt; show 0 = (w 1).val; change (w 1).val < 1 at this; omega)
    | ⟨2, _⟩ => rfl

/-- What a window's place `p` holds. -/
def place (lo : Fin 3 → ℕ) (x : S8x4096x4096.Idx → EReal) (p : Fin 3 → ℕ) : EReal :=
  if hin : ∀ a : Fin 3, lo a ≤ p a ∧ p a - lo a < S8x4096x4096.size a then x (fun a => ⟨p a - lo a, (hin a).2⟩) else 0

theorem place_eq (lo : Fin 3 → ℕ) (x : S8x4096x4096.Idx → EReal) (p : Fin 3 → ℕ)
    [d : Decidable (∀ a : Fin 3, lo a ≤ p a ∧ p a - lo a < S8x4096x4096.size a)] :
    (if hin : ∀ a : Fin 3, lo a ≤ p a ∧ p a - lo a < S8x4096x4096.size a then x (fun a => ⟨p a - lo a, (hin a).2⟩) else 0) = place lo x p := by
  unfold place
  by_cases hin : ∀ a : Fin 3, lo a ≤ p a ∧ p a - lo a < S8x4096x4096.size a
  · rw [dif_pos hin, dif_pos hin]
  · rw [dif_neg hin, dif_neg hin]

theorem window_sum (lo hi : Fin 3 → ℕ) (w : S8x4096x4096.ReduceWindows (![1, 1, 4096] : Fin 3 → Nat) ![1, 1, 1] lo hi S8x4096x4096)
    (x : S8x4096x4096.Idx → EReal) (h : Fin 8) (t s : Fin 4096) :
    Ideal.hostReduceWindowAdd (s := S8x4096x4096) (![1, 1, 4096] : Fin 3 → Nat) ![1, 1, 1] lo hi w x 0 (ix3 h t s)
      = ∑ k : Fin 4096, place lo x ![h.val, t.val, s.val + k.val] := by
  refine (fold_add _ _).trans ?_
  rw [zero_add]
  refine (Finset.sum_congr rfl fun k _ => (?_ : _ = (fun q : (⟨3, ![1, 1, 4096]⟩ : Shape).Idx => place lo x fun a => ((ix3 h t s) a).val * (![1, 1, 1] : Fin 3 → ℕ) a + (q a).val)
    ((⟨3, ![1, 1, 4096]⟩ : Shape).rowMajor.symm k))).trans ?_
  · exact @place_eq lo x (fun a => ((ix3 h t s) a).val * (![1, 1, 1] : Fin 3 → ℕ) a + (((⟨3, ![1, 1, 4096]⟩ : Shape).rowMajor.symm k) a).val) (Nat.decidableForallFin _)
  refine ((⟨3, ![1, 1, 4096]⟩ : Shape).rowMajor.symm.sum_comp (fun q => place lo x fun a => ((ix3 h t s) a).val * (![1, 1, 1] : Fin 3 → ℕ) a + (q a).val)).trans ?_
  rw [← along.sum_comp]
  refine Finset.sum_congr rfl fun k _ => congrArg (place lo x) ?_
  funext a
  match a with
  | ⟨0, _⟩ => exact (Nat.mul_one h.val)
  | ⟨1, _⟩ => exact (Nat.mul_one t.val)
  | ⟨2, _⟩ => exact congrArg (· + k.val) (Nat.mul_one s.val)

theorem place_is {x : S8x4096x4096.Idx → EReal} {f : ℕ → ℕ → ℕ → ℝ} (hx : Stack x f) (l : ℕ) (h : Fin 8) (t : Fin 4096) (p : ℕ) :
    place ![0, 0, l] x ![h.val, t.val, p] = ((if l ≤ p ∧ p - l < 4096 then f h t (p - l) else 0 : ℝ) : EReal) := by
  unfold place
  by_cases e : l ≤ p ∧ p - l < 4096
  · have hin : ∀ a : Fin 3, (![0, 0, l] : Fin 3 → ℕ) a ≤ (![h.val, t.val, p] : Fin 3 → ℕ) a
        ∧ (![h.val, t.val, p] : Fin 3 → ℕ) a - (![0, 0, l] : Fin 3 → ℕ) a < S8x4096x4096.size a := by
      intro a
      match a with
      | ⟨0, _⟩ => exact ⟨Nat.zero_le _, h.isLt⟩
      | ⟨1, _⟩ => exact ⟨Nat.zero_le _, t.isLt⟩
      | ⟨2, _⟩ => exact e
    rw [dif_pos hin, if_pos e]
    refine Eq.trans (congrArg x ?_) (hx h t ⟨p - l, e.2⟩)
    funext a
    match a with
    | ⟨0, _⟩ => rfl
    | ⟨1, _⟩ => rfl
    | ⟨2, _⟩ => rfl
  · rw [dif_neg (fun hin => e (hin 2)), if_neg e, EReal.coe_zero]

/-- The sum from a key on. -/
theorem sum_from (f : ℕ → ℝ) (s : ℕ) (hs : s < 4096) :
    ∑ k ∈ Finset.range 4096, (if 0 ≤ s + k ∧ s + k - 0 < 4096 then f (s + k - 0) else 0)
      = ∑ k ∈ Finset.range 4096, f k - ∑ k ∈ Finset.range s, f k := by
  have e1 := Finset.sum_range_add (fun k => (if 0 ≤ s + k ∧ s + k - 0 < 4096 then f (s + k - 0) else 0)) (4096 - s) s
  rw [show 4096 - s + s = 4096 by omega] at e1
  have e2 := Finset.sum_range_add f s (4096 - s)
  rw [show s + (4096 - s) = 4096 by omega] at e2
  rw [e1, e2, add_sub_cancel_left]
  rw [Finset.sum_eq_zero (s := Finset.range s) fun k hk => if_neg (by omega), add_zero]
  refine Finset.sum_congr rfl fun k hk => ?_
  rw [Finset.mem_range] at hk
  rw [if_pos (by omega), Nat.sub_zero]

/-- The sum up to a key. -/
theorem sum_upto (f : ℕ → ℝ) (s : ℕ) (hs : s < 4096) :
    ∑ k ∈ Finset.range 4096, (if 4095 ≤ s + k ∧ s + k - 4095 < 4096 then f (s + k - 4095) else 0) = ∑ k ∈ Finset.range (s + 1), f k := by
  have e1 := Finset.sum_range_add (fun k => (if 4095 ≤ s + k ∧ s + k - 4095 < 4096 then f (s + k - 4095) else 0)) (4095 - s) (s + 1)
  rw [show 4095 - s + (s + 1) = 4096 by omega] at e1
  rw [e1, Finset.sum_eq_zero (s := Finset.range (4095 - s)) fun k hk => if_neg (by rw [Finset.mem_range] at hk; omega), zero_add]
  refine Finset.sum_congr rfl fun k hk => ?_
  rw [Finset.mem_range] at hk
  rw [if_pos (by omega), show s + (4095 - s + k) - 4095 = k by omega]

/-- The number a sum starts from. -/
def start : S_.Idx → EReal := broadcastInDim S_ ![] bcast_S_S_ (constant (F := Ideal) S_ .f32 0x00000000#32)

theorem start_at (i : S_.Idx) : start i = 0 := Ideal.ofBits_zero_f32

theorem host_window (lo hi : Fin 3 → ℕ) (w : S8x4096x4096.ReduceWindows (![1, 1, 4096] : Fin 3 → Nat) ![1, 1, 1] lo hi S8x4096x4096)
    (x : S8x4096x4096.Idx → EReal) (hu : 0 < S_.numel) :
    Host.reduceWindowAdd (F := Ideal) (φ := .f32) (s := S8x4096x4096) (![1, 1, 4096] : Fin 3 → Nat) ![1, 1, 1] lo hi x start w hu
      = Ideal.hostReduceWindowAdd (s := S8x4096x4096) (![1, 1, 4096] : Fin 3 → Nat) ![1, 1, 1] lo hi w x 0 := by
  unfold Host.reduceWindowAdd
  rw [start_at, Ideal.hostReduceWindowAdd_def]

theorem from_is {x : S8x4096x4096.Idx → EReal} {f : ℕ → ℕ → ℕ → ℝ} (hx : Stack x f) :
    Stack (Host.reduceWindowAdd (F := Ideal) (φ := .f32) ![1, 1, 4096] ![1, 1, 1] ![0, 0, 0] ![0, 0, 4095] x start
      reduceWindows_S8x4096x4096_S8x4096x4096_w1s1p0_0_w1s1p0_0_w4096s1p0_4095 h_S_)
      (fun h t s => ∑ k ∈ Finset.range 4096, f h t k - ∑ k ∈ Finset.range s, f h t k) := by
  intro h t s
  rw [host_window, window_sum, sum_fin 4096 _ (fun k => if 0 ≤ s.val + k ∧ s.val + k - 0 < 4096 then f h t (s.val + k - 0) else 0) fun k => place_is hx 0 h t (s.val + k.val), sum_from _ _ s.isLt]

theorem upto_is {x : S8x4096x4096.Idx → EReal} {f : ℕ → ℕ → ℕ → ℝ} (hx : Stack x f) :
    Stack (Host.reduceWindowAdd (F := Ideal) (φ := .f32) ![1, 1, 4096] ![1, 1, 1] ![0, 0, 4095] ![0, 0, 0] x start
      reduceWindows_S8x4096x4096_S8x4096x4096_w1s1p0_0_w1s1p0_0_w4096s1p4095_0 h_S_)
      (fun h t s => ∑ k ∈ Finset.range (s + 1), f h t k) := by
  intro h t s
  rw [host_window, window_sum, sum_fin 4096 _ (fun k => if 4095 ≤ s.val + k ∧ s.val + k - 4095 < 4096 then f h t (s.val + k - 4095) else 0) fun k => place_is hx 4095 h t (s.val + k.val), sum_upto _ _ s.isLt]

end Cert.Proof.Heads

end
-- ==== Proof.Textbook.lean ====
/-
  The textbook's gradients of the attention over the reals: each of its results is the kernel's, head by head.
-/
module

public import proofs.«01_k».proof.Proof.Heads
public import proofs.«01_k».proof.Proof.Arrays
public import proofs.«01_k».proof.Proof.Gen.ReferenceIdeal.Run

@[expose] public section

set_option maxRecDepth 16384

noncomputable section

namespace Cert.Proof.Heads

open Cert.ReferenceIdeal Cert.ReferenceIdeal.Gen
open Idealize.ShloMosaic hiding ix0 ix1 ix2 ix3 ix4 ix5
open Idealize.ShloMosaic.ValueIdx Idealize.ShloMosaic.TcCoe
open Cert.Proof Cert.Proof.Values

/-! ### Over the reals -/

theorem lane_sum (f b : ℕ → ℕ → ℝ) (j t s : ℕ) (hj : j < 4) :
    ∑ l ∈ Finset.range 256, Model.lane j f t l * b s l = ∑ d ∈ Finset.range 64, f t (64 * j + d) * b s (64 * j + d) := by
  unfold Model.lane
  simp only [ite_mul, zero_mul]
  rw [← Finset.sum_filter]
  refine Finset.sum_nbij' (fun l => l - 64 * j) (fun d => 64 * j + d) ?_ ?_ ?_ ?_ ?_
  · intro l hl
    simp only [Finset.mem_filter, Finset.mem_range] at hl ⊢
    omega
  · intro d hd
    simp only [Finset.mem_filter, Finset.mem_range] at hd ⊢
    omega
  · intro l hl
    simp only [Finset.mem_filter, Finset.mem_range] at hl
    omega
  · intro d hd
    omega
  · intro l hl
    simp only [Finset.mem_filter, Finset.mem_range] at hl
    rw [show 64 * j + (l - 64 * j) = l by omega]

theorem log_neg (a : ℝ) : -Real.log (1 + Real.exp (-a)) = a - Real.log (1 + Real.exp a) := by
  have h : 1 + Real.exp a = Real.exp a * (1 + Real.exp (-a)) := by
    rw [mul_add, ← Real.exp_add]; simp [add_comm]
  have p : (0 : ℝ) < 1 + Real.exp (-a) := by positivity
  rw [h, Real.log_mul (Real.exp_ne_zero a) p.ne', Real.log_exp]
  ring

theorem slopes (a : ℝ) : Real.exp (-a - Real.log (1 + Real.exp (-a))) = 1 - Real.exp (a - Real.log (1 + Real.exp a)) := by
  have p : (0 : ℝ) < 1 + Real.exp a := by positivity
  have e : -a - Real.log (1 + Real.exp (-a)) = -Real.log (1 + Real.exp a) := by
    have := log_neg a
    linarith
  rw [e, Real.exp_neg, Real.exp_sub, Real.exp_log p, eq_sub_iff_add_eq, inv_eq_one_div, ← add_div, div_self p.ne']

section
variable (P O : ℕ → ℕ → ℝ)

/-- The group of heads of head `h`. -/
def of (h : ℕ) : Model := group P O (h / 4)

theorem score_eq (h t s : ℕ) (hh : h < 8) :
    (∑ d ∈ Finset.range 64, P t (1536 + (64 * h + d)) * P s (2048 + (64 * h + d))) * (1 / 8) = (of P O h).Z (h % 4) t s := by
  unfold Model.Z
  rw [lane_sum _ (of P O h).k (h % 4) t s (Nat.mod_lt _ (by norm_num)), Finset.sum_mul]
  refine Finset.sum_congr rfl fun d hd => ?_
  show _ = P t (256 * (6 + h / 4) + (64 * (h % 4) + d)) * (1 / 8) * P s (256 * (8 + h / 4) + (64 * (h % 4) + d))
  rw [show 256 * (6 + h / 4) + (64 * (h % 4) + d) = 1536 + (64 * h + d) by omega,
    show 256 * (8 + h / 4) + (64 * (h % 4) + d) = 2048 + (64 * h + d) by omega]
  ring

theorem weight_eq (h t s : ℕ) (hh : h < 8) :
    ∑ d ∈ Finset.range 64, O t (64 * h + d) * P s (2560 + (64 * h + d)) = (of P O h).W (h % 4) t s := by
  unfold Model.W
  rw [lane_sum _ (of P O h).v (h % 4) t s (Nat.mod_lt _ (by norm_num))]
  refine Finset.sum_congr rfl fun d hd => ?_
  show _ = O t (256 * (h / 4) + (64 * (h % 4) + d)) * P s (256 * (10 + h / 4) + (64 * (h % 4) + d))
  rw [show 256 * (h / 4) + (64 * (h % 4) + d) = 64 * h + d by omega,
    show 256 * (10 + h / 4) + (64 * (h % 4) + d) = 2560 + (64 * h + d) by omega]

end

theorem pick (l : ℕ) (hl : l < 256) (F : ℕ → ℕ → ℝ) (n : ℕ) (f : ℕ → ℕ → ℝ) :
    ∑ h ∈ Finset.range 4, ∑ s ∈ Finset.range n, F h s * Model.lane h f s l = ∑ s ∈ Finset.range n, F (l / 64) s * f s l := by
  rw [Finset.sum_eq_single (l / 64)]
  · refine Finset.sum_congr rfl fun s _ => ?_
    unfold Model.lane
    rw [if_pos rfl]
  · intro h _ hne
    refine Finset.sum_eq_zero fun s _ => ?_
    unfold Model.lane
    rw [if_neg (fun e => hne e.symm), mul_zero]
  · intro hn
    exact absurd (Finset.mem_range.mpr (by omega)) hn

/-! ### The textbook's stages -/

section
variable (x0 : S4096x5120.Idx → EReal) (x1 : S4096x512.Idx → EReal)

def qs : S8x4096x64.Idx → EReal := heads (extf (F := Ideal) (φ := .bf16) .f32 (extractStridedSlice S4096x512 ![0, 1536] x0 slices_S4096x5120_S4096x512_0_1536) bitsLt_bf16_f32)
def ks : S8x4096x64.Idx → EReal := heads (extf (F := Ideal) (φ := .bf16) .f32 (extractStridedSlice S4096x512 ![0, 2048] x0 slices_S4096x5120_S4096x512_0_2048) bitsLt_bf16_f32)
def vs : S8x4096x64.Idx → EReal := heads (extf (F := Ideal) (φ := .bf16) .f32 (extractStridedSlice S4096x512 ![0, 2560] x0 slices_S4096x5120_S4096x512_0_2560) bitsLt_bf16_f32)
def os : S8x4096x64.Idx → EReal := heads (extf (F := Ideal) (φ := .bf16) .f32 x1 bitsLt_bf16_f32)
/-- The scores. -/
def sc : S8x4096x4096.Idx → EReal :=
  mulf (F := Ideal) (φ := .f32) (Host.dotGeneral (F := Ideal) (φ₁ := .f32) (φ₂ := .f32) dot_S8x4096x64_S8x4096x64_S8x4096x4096_2_2_1_1_0_0 none (qs x0) (ks x0)) (splat 0x3E000000#32)
def nsc : S8x4096x4096.Idx → EReal := Host.negf (F := Ideal) (φ := .f32) (sc x0)
/-- Their softplus, where they count. -/
def sp : S8x4096x4096.Idx → EReal := select valid (soft (sc x0)) (splat 0x00000000#32)
/-- The logarithms of the weights. -/
def lw : S8x4096x4096.Idx → EReal :=
  subf (F := Ideal) (φ := .f32) (Host.negf (F := Ideal) (φ := .f32) (soft (nsc x0)))
    (subf (F := Ideal) (φ := .f32) (Host.reduceWindowAdd (F := Ideal) (φ := .f32) ![1, 1, 4096] ![1, 1, 1] ![0, 0, 0] ![0, 0, 4095] (sp x0) start
      reduceWindows_S8x4096x4096_S8x4096x4096_w1s1p0_0_w1s1p0_0_w4096s1p0_4095 h_S_) (sp x0))
/-- The weights before the cut. -/
def ew : S8x4096x4096.Idx → EReal := Host.exp (F := Ideal) (φ := .f32) (lw x0)
def aw : S8x4096x4096.Idx → EReal := select valid (ew x0) (splat 0x00000000#32)
/-- The gradients of the logarithms of the weights. -/
def gw : S8x4096x4096.Idx → EReal :=
  mulf (F := Ideal) (φ := .f32) (select valid (Host.dotGeneral (F := Ideal) (φ₁ := .f32) (φ₂ := .f32) dot_S8x4096x64_S8x4096x64_S8x4096x4096_2_2_1_1_0_0 none (os x1) (vs x0)) (splat 0x00000000#32)) (ew x0)
def ngw : S8x4096x4096.Idx → EReal := Host.negf (F := Ideal) (φ := .f32) (gw x0 x1)
/-- The gradients of the scores. -/
def ds : S8x4096x4096.Idx → EReal :=
  addf (F := Ideal) (φ := .f32) (Host.negf (F := Ideal) (φ := .f32) (mulf (F := Ideal) (φ := .f32) (ngw x0 x1) (slope (nsc x0))))
    (mulf (F := Ideal) (φ := .f32) (select valid (addf (F := Ideal) (φ := .f32) (Host.negf (F := Ideal) (φ := .f32) (ngw x0 x1))
      (Host.reduceWindowAdd (F := Ideal) (φ := .f32) ![1, 1, 4096] ![1, 1, 1] ![0, 0, 4095] ![0, 0, 0] (ngw x0 x1) start
        reduceWindows_S8x4096x4096_S8x4096x4096_w1s1p0_0_w1s1p0_0_w4096s1p4095_0 h_S_)) (splat 0x00000000#32)) (slope (sc x0)))
def ds8 : S8x4096x4096.Idx → EReal := mulf (F := Ideal) (φ := .f32) (ds x0 x1) (splat 0x3E000000#32)

def outV : S4096x512.Idx → EReal :=
  rows (transpose S8x4096x64 [0, 2, 1] (Host.dotGeneral (F := Ideal) (φ₁ := .f32) (φ₂ := .f32) dot_S8x4096x64_S8x4096x4096_S8x64x4096_1_1_2_2_0_0 none (os x1) (aw x0)) transposes_S8x64x4096_S8x4096x64_0_2_1)
def outK : S4096x512.Idx → EReal :=
  rows (Host.dotGeneral (F := Ideal) (φ₁ := .f32) (φ₂ := .f32) dot_S8x4096x4096_S8x4096x64_S8x4096x64_1_1_2_2_0_0 none (ds8 x0 x1) (qs x0))
def outQ : S4096x512.Idx → EReal :=
  rows (Host.dotGeneral (F := Ideal) (φ₁ := .f32) (φ₂ := .f32) dot_S8x4096x4096_S8x4096x64_S8x4096x64_2_1_1_2_0_0 none (ds8 x0 x1) (ks x0))

end

section
variable {x0 : S4096x5120.Idx → EReal} {x1 : S4096x512.Idx → EReal} {P O : ℕ → ℕ → ℝ} (h0 : Mat x0 P) (h1 : Mat x1 O)

include h0 in
theorem qs_is : Stack (qs x0) (fun h t d => P t (1536 + (64 * h + d))) := heads_is (slice_is 1536 (by norm_num) h0 slices_S4096x5120_S4096x512_0_1536)
include h0 in
theorem ks_is : Stack (ks x0) (fun h t d => P t (2048 + (64 * h + d))) := heads_is (slice_is 2048 (by norm_num) h0 slices_S4096x5120_S4096x512_0_2048)
include h0 in
theorem vs_is : Stack (vs x0) (fun h t d => P t (2560 + (64 * h + d))) := heads_is (slice_is 2560 (by norm_num) h0 slices_S4096x5120_S4096x512_0_2560)
include h1 in
theorem os_is : Stack (os x1) (fun h t d => O t (64 * h + d)) := heads_is h1

include h0 in
theorem sc_is : Stack (sc x0) (fun h t s => (of P O h).Z (h % 4) t s) :=
  (mul_is (dot22_is (qs_is h0) (ks_is h0)) splat_eighth).congr fun h t s hh _ _ => score_eq P O h t s hh

include h0 in
theorem sp_is : Stack (sp x0) (fun h t s => (of P O h).SP (h % 4) t s) :=
  where_is (soft_is (sc_is (O := O) h0)) splat_zero

include h0 in
theorem ew_is : Stack (ew x0) (fun h t s => Real.exp (-Real.log (1 + Real.exp (-(of P O h).Z (h % 4) t s))
    - ((∑ k ∈ Finset.range 4096, (of P O h).SP (h % 4) t k - ∑ k ∈ Finset.range s, (of P O h).SP (h % 4) t k) - (of P O h).SP (h % 4) t s))) :=
  exp_is (sub_is (neg_is (soft_is (neg_is (sc_is (O := O) h0)))) (sub_is (from_is (sp_is h0)) (sp_is h0)))

theorem weights (M : Model) (j t s : ℕ) (e : s < t) :
    Real.exp (-Real.log (1 + Real.exp (-M.Z j t s))
      - ((∑ k ∈ Finset.range 4096, M.SP j t k - ∑ k ∈ Finset.range s, M.SP j t k) - M.SP j t s)) = M.A j t s := by
  have e1 : M.SP j t s = Real.log (1 + Real.exp (M.Z j t s)) := if_pos e
  have e2 : M.A j t s = Real.exp (M.Z j t s - (M.tot j t - ∑ s' ∈ Finset.range s, M.SP j t s')) := if_pos e
  rw [e2, log_neg, e1]
  congr 1
  unfold Model.tot
  ring

include h0 in
theorem aw_is : Stack (aw x0) (fun h t s => (of P O h).A (h % 4) t s) :=
  (where_is (ew_is (O := O) h0) splat_zero).congr fun h t s _ _ _ => by
    by_cases e : s < t
    · rw [if_pos e, weights _ _ _ _ e]
    · rw [if_neg e]; exact (if_neg e).symm

include h0 h1 in
theorem gw_is : Stack (gw x0 x1) (fun h t s => (of P O h).G (h % 4) t s) :=
  (mul_is (where_is (dot22_is (os_is h1) (vs_is h0)) splat_zero) (ew_is (O := O) h0)).congr fun h t s hh _ _ => by
    unfold Model.G
    by_cases e : s < t
    · rw [if_pos e, weights _ _ _ _ e, weight_eq P O h t s hh, mul_comm]
    · rw [if_neg e, zero_mul]
      have : (of P O h).A (h % 4) t s = 0 := if_neg e
      rw [this, zero_mul]

include h0 h1 in
theorem ds_is : Stack (ds x0 x1) (fun h t s => (of P O h).DZ (h % 4) t s) := by
  have hn : Stack (ngw x0 x1) (fun h t s => -(of P O h).G (h % 4) t s) := neg_is (gw_is h0 h1)
  refine Stack.congr (add_is (neg_is (mul_is hn (slope_is (neg_is (sc_is (O := O) h0)))))
    (mul_is (where_is (add_is (neg_is hn) (upto_is hn)) splat_zero) (slope_is (sc_is (O := O) h0)))) fun h t s _ _ _ => ?_
  by_cases e : s < t
  · have e1 : (of P O h).DZ (h % 4) t s = (of P O h).G (h % 4) t s
        - Real.exp ((of P O h).Z (h % 4) t s - Real.log (1 + Real.exp ((of P O h).Z (h % 4) t s))) * ∑ s' ∈ Finset.range (s + 1), (of P O h).G (h % 4) t s' := if_pos e
    rw [if_pos e, e1, slopes, Finset.sum_neg_distrib]
    ring
  · have e1 : (of P O h).DZ (h % 4) t s = 0 := if_neg e
    have e2 : (of P O h).A (h % 4) t s = 0 := if_neg e
    have e3 : (of P O h).G (h % 4) t s = 0 := by unfold Model.G; rw [e2, zero_mul]
    rw [if_neg e, e1, e3]
    ring

include h0 h1 in
theorem ds8_is : Stack (ds8 x0 x1) (fun h t s => (of P O h).DZ (h % 4) t s * (1 / 8)) := mul_is (ds_is h0 h1) splat_eighth

theorem mat_eq {x : S4096x512.Idx → EReal} {f : ℕ → ℕ → ℝ} (hx : Mat x f) (i : S4096x512.Idx) : x i = ((f (i 0).val (i 1).val : ℝ) : EReal) := by
  rw [ValueIdx.eq_ix2 i]
  exact hx (i 0) (i 1)

theorem lt_cols (i : S4096x512.Idx) : (i 1).val < 512 := (i 1).isLt

include h0 h1 in
theorem outV_eq : outV x0 x1 = resV P O := by
  funext i
  have hc := lt_cols i
  refine (mat_eq (rows_is (turn_is (dot11T_is (os_is h1) (aw_is (O := O) h0)))) i).trans (congrArg _ ?_)
  show ∑ t ∈ Finset.range 4096, O t (64 * ((i 1).val / 64) + (i 1).val % 64) * (of P O ((i 1).val / 64)).A ((i 1).val / 64 % 4) t (i 0).val
    = (group P O ((i 1).val / 256)).dv 4096 (i 0).val ((i 1).val % 256)
  unfold Model.dv
  rw [pick _ (Nat.mod_lt _ (by norm_num)) (fun h t => (group P O ((i 1).val / 256)).A h t (i 0).val)]
  refine Finset.sum_congr rfl fun t _ => ?_
  show O t _ * (group P O ((i 1).val / 64 / 4)).A _ _ _ = _ * O t (256 * ((i 1).val / 256) + (i 1).val % 256)
  rw [show (i 1).val / 64 / 4 = (i 1).val / 256 by omega, show (i 1).val / 64 % 4 = (i 1).val % 256 / 64 by omega,
    show 64 * ((i 1).val / 64) + (i 1).val % 64 = (i 1).val by omega, show 256 * ((i 1).val / 256) + (i 1).val % 256 = (i 1).val by omega, mul_comm]

include h0 h1 in
theorem outK_eq : outK x0 x1 = resK P O := by
  funext i
  have hc := lt_cols i
  refine (mat_eq (rows_is (dot11_is (ds8_is h0 h1) (qs_is h0))) i).trans (congrArg _ ?_)
  show ∑ t ∈ Finset.range 4096, (of P O ((i 1).val / 64)).DZ ((i 1).val / 64 % 4) t (i 0).val * (1 / 8) * P t (1536 + (64 * ((i 1).val / 64) + (i 1).val % 64))
    = (group P O ((i 1).val / 256)).dk 4096 (i 0).val ((i 1).val % 256)
  unfold Model.dk
  rw [pick _ (Nat.mod_lt _ (by norm_num)) (fun h t => (group P O ((i 1).val / 256)).DZ h t (i 0).val)]
  refine Finset.sum_congr rfl fun t _ => ?_
  show (group P O ((i 1).val / 64 / 4)).DZ _ _ _ * (1 / 8) * P t _ = _ * (P t (256 * (6 + (i 1).val / 256) + (i 1).val % 256) * (1 / 8))
  rw [show (i 1).val / 64 / 4 = (i 1).val / 256 by omega, show (i 1).val / 64 % 4 = (i 1).val % 256 / 64 by omega,
    show 256 * (6 + (i 1).val / 256) + (i 1).val % 256 = 1536 + (64 * ((i 1).val / 64) + (i 1).val % 64) by omega]
  ring

include h0 h1 in
theorem outQ_eq : outQ x0 x1 = resQ P O := by
  funext i
  have hc := lt_cols i
  refine (mat_eq (rows_is (dot21_is (ds8_is h0 h1) (ks_is h0))) i).trans (congrArg _ ?_)
  show ∑ s ∈ Finset.range 4096, (of P O ((i 1).val / 64)).DZ ((i 1).val / 64 % 4) (i 0).val s * (1 / 8) * P s (2048 + (64 * ((i 1).val / 64) + (i 1).val % 64))
    = (group P O ((i 1).val / 256)).dq 4096 (i 0).val ((i 1).val % 256) * (1 / 8)
  unfold Model.dq
  rw [pick _ (Nat.mod_lt _ (by norm_num)) (fun h s => (group P O ((i 1).val / 256)).DZ h (i 0).val s), Finset.sum_mul]
  refine Finset.sum_congr rfl fun s _ => ?_
  show (group P O ((i 1).val / 64 / 4)).DZ _ _ _ * (1 / 8) * P s _ = _ * P s (256 * (8 + (i 1).val / 256) + (i 1).val % 256) * (1 / 8)
  rw [show (i 1).val / 64 / 4 = (i 1).val / 256 by omega, show (i 1).val / 64 % 4 = (i 1).val % 256 / 64 by omega,
    show 256 * (8 + (i 1).val / 256) + (i 1).val % 256 = 2048 + (64 * ((i 1).val / 64) + (i 1).val % 64) by omega]
  ring

end

/-! ### The run's results -/

section
variable (m : (ℓ : Loc nD τ sig) → Buf (Elt Ideal) ℓ) (c : Dev nD)

theorem res_v : Value.res_main_v54 m c = outV (m ((c.tc : Thread nD τ).loc main_arg0)) (m ((c.tc : Thread nD τ).loc main_arg1)) := by
  unfold Value.res_main_v54; rfl
theorem res_k : Value.res_main_v56 m c = outK (m ((c.tc : Thread nD τ).loc main_arg0)) (m ((c.tc : Thread nD τ).loc main_arg1)) := by
  unfold Value.res_main_v56; rfl
theorem res_q : Value.res_main_v59 m c = outQ (m ((c.tc : Thread nD τ).loc main_arg0)) (m ((c.tc : Thread nD τ).loc main_arg1)) := by
  unfold Value.res_main_v59; rfl

end

end Cert.Proof.Heads

end
-- ==== Proof.Entry.lean ====
/-
  What the region finds, over the reals: the rows' sums of the softplus of the scores, out of the host's operations.
-/
module

public import proofs.«01_k».proof.Proof.Textbook
public import proofs.«01_k».proof.Pre_finite
public import Idealize.ShloMosaic.Lib.ReduceAll
public import Idealize.ShloMosaic.Lib.Claim

@[expose] public section

set_option maxRecDepth 16384

noncomputable section

namespace Cert.Proof.Entry

open Cert.KernelIdeal Cert.KernelIdeal.Gen
open Idealize.ShloMosaic hiding ix0 ix1 ix2 ix3 ix4 ix5
open Idealize.ShloMosaic.ValueIdx Idealize.ShloMosaic.TcCoe
open Cert.Proof Cert.Proof.Values Cert.Proof.Heads
open Cert.Proof.Rep (sum_fin)

/-- The sums along the keys. -/
def sums (x0 : S4096x5120.Idx → EReal) : S8x4096.Idx → EReal :=
  Host.reduceAdd (F := Ideal) (φ := .f32) (sp x0) (constant (F := Ideal) S_ .f32 0x00000000#32) reducesTo_S8x4096x4096_S8x4096_d2 h_S_

/-- The same, a column a lane of its head. -/
def tots (x0 : S4096x5120.Idx → EReal) : S4096x512.Idx → EReal :=
  shapeCast _ (broadcastInDim S4096x8x64 ![0, 1] bcast_S4096x8_S4096x8x64_0_1 (transpose S4096x8 [1, 0] (sums x0) transposes_S8x4096_S4096x8_1_0)) shapeCasts_S4096x8x64_S4096x512

section
variable {x0 : S4096x5120.Idx → EReal} {P O : ℕ → ℕ → ℝ} (h0 : Mat x0 P)

theorem red : S8x4096x4096.Reduces [2] S8x4096 := by decide

include h0 in
theorem sums_is : Mat (sums x0) (fun h t => (of P O h).tot (h % 4) t) := by
  intro h t
  unfold sums
  rw [hostReduceAdd_apply]
  refine (Ideal.hostReduceAdd_single _ red _ _ _).trans ?_
  have e : (constant (F := Ideal) S_ .f32 0x00000000#32) (Shape.Idx.first h_S_) = (0 : EReal) := Ideal.ofBits_zero_f32
  rw [e, zero_add]
  refine sum_fin 4096 _ (fun s => (of P O h).SP (h % 4) t s) fun k => ?_
  refine Eq.trans (congrArg (sp x0) ?_) (sp_is h0 h t k)
  funext a
  match a with
  | ⟨0, _⟩ => rfl
  | ⟨1, _⟩ => rfl
  | ⟨2, _⟩ => rfl

include h0 in
theorem tots_is : Mat (tots x0) (fun r l => (group P O (l / 256)).tot (l % 256 / 64) r) := by
  intro r l
  have hl := l.isLt
  unfold tots
  refine (shapeCast_apply _ _ (ix2 r l) (ix3 r ⟨l.val / 64, by omega⟩ ⟨l.val % 64, by omega⟩) ?_).trans ?_
  · rw [Shape.rowMajor_val_two, Shape.rowMajor_val_three]
    show (r.val * 8 + l.val / 64) * 64 + l.val % 64 = r.val * 512 + l.val
    omega
  refine (broadcastInDim_apply ![0, 1] _ _ _ (ix2 r ⟨l.val / 64, by omega⟩) ?_).trans ?_
  · intro a
    match a with
    | ⟨0, _⟩ => rfl
    | ⟨1, _⟩ => rfl
  refine (transpose_apply [1, 0] _ _ (ix2 r _) (ix2 ⟨l.val / 64, by omega⟩ r) ?_).trans ((sums_is (O := O) h0 _ _).trans ?_)
  · intro b
    match b with
    | ⟨0, _⟩ => rfl
    | ⟨1, _⟩ => rfl
  show (((group P O (l.val / 64 / 4)).tot (l.val / 64 % 4) r.val : ℝ) : EReal) = (((group P O (l.val / 256)).tot (l.val % 256 / 64) r.val : ℝ) : EReal)
  rw [show l.val / 64 / 4 = l.val / 256 by omega, show l.val / 64 % 4 = l.val % 256 / 64 by omega]

end

section
variable (m : (ℓ : Loc nD τ sig) → Buf (Elt Ideal) ℓ) (c : Dev nD)

theorem V_tots : V m c main_v24 = tots (m ((c.tc : Thread nD τ).loc main_arg0)) := by
  entry_read
  rfl

theorem V_start (i : S2x16x8x128.Idx) : V m c main_v0 i = (0 : EReal) := by
  entry_read
  exact Ideal.ofBits_zero_f32

theorem enters {P O : ℕ → ℕ → ℝ} (h0 : Mat (a := 4096) (b := 5120) (m ((c.tc : Thread nD τ).loc main_arg0)) P)
    (h1 : Mat (a := 4096) (b := 512) (m ((c.tc : Thread nD τ).loc main_arg1)) O) : Enters m c P O where
  proj r l := by rw [V_main_arg0]; exact h0 r l
  grad r l := by rw [V_main_arg1]; exact h1 r l
  tot r l := by rw [V_tots]; exact tots_is h0 r l
  start i := V_start m c i

end

/-! ### The finite arguments -/

/-- The precondition's side conditions. -/
theorem finite_facts : Cert.Pre_finite.Facts where
  bitsLt_bf16_f32 := by decide
  bcast_S_S4096x5120 := by decide
  reducesTo_S4096x5120_S_d0_1 := by decide
  h_S_ := by decide
  bcast_S_S4096x512 := by decide
  reducesTo_S4096x512_S_d0_1 := by decide

/-- A matrix's entries as numbers. -/
def nums {a b : ℕ} (x : (⟨2, ![a, b]⟩ : Shape).Idx → EReal) (r c : ℕ) : ℝ :=
  if h : r < a ∧ c < b then (x (ix2 ⟨r, h.1⟩ ⟨c, h.2⟩)).toReal else 0

theorem nums_is {a b : ℕ} {x : (⟨2, ![a, b]⟩ : Shape).Idx → EReal} (hx : ∀ i, Ideal.cmp .olt (max (x i) (-(x i))) (Ideal.ofBits .f32 0x7F800000#32) = 1#1) :
    Mat x (nums x) := by
  intro r c
  have e : Ideal.ofBits .f32 0x7F800000#32 = ⊤ := by simp [Ideal.ofBits, Ideal.ieee]
  have h := hx (ix2 r c)
  rw [e] at h
  have lt : max (x (ix2 r c)) (-(x (ix2 r c))) < ⊤ := by
    by_contra hn
    simp [Ideal.cmp, hn] at h
  unfold nums
  rw [dif_pos ⟨r.isLt, c.isLt⟩]
  refine (EReal.coe_toReal ?_ ?_).symm
  · intro ht
    rw [show x (ix2 (⟨r.val, r.isLt⟩ : Fin a) (⟨c.val, c.isLt⟩ : Fin b)) = x (ix2 r c) from rfl] at ht
    rw [ht] at lt
    simp at lt
  · intro hb
    rw [show x (ix2 (⟨r.val, r.isLt⟩ : Fin a) (⟨c.val, c.isLt⟩ : Fin b)) = x (ix2 r c) from rfl] at hb
    rw [hb] at lt
    simp at lt

theorem finite_mats [hf : Cert.Pre_finite.Facts] {x0 : S4096x5120.Idx → EReal} {x1 : S4096x512.Idx → EReal}
    (h : Cert.Pre_finite.fn (F := Ideal) x0 x1 = fun _ => 1#1) : Mat x0 (nums x0) ∧ Mat x1 (nums x1) := by
  have e := congrFun h (Shape.Idx.first Cert.Pre_finite.Facts.h_S_)
  obtain ⟨e0, e1⟩ := (IntOp.andi_eq_one).1 e
  have : Subsingleton Cert.Pre_finite.S_.Idx := ⟨fun a b => funext fun i => i.elim0⟩
  exact ⟨nums_is fun i => Host.reduce_andi_all _ _ _ _ _ e0 i, nums_is fun i => Host.reduce_andi_all _ _ _ _ _ e1 i⟩

end Cert.Proof.Entry

end
-- ==== Proof.Tiles.lean ====
/-
  Arrays whose entries are given by functions of the positions, over the extended reals: what products, slices and
  changes of layout make of them.
-/
module

public import proofs.«01_k».proof.Proof.Rep
public import Idealize.ShloMosaic.Lib.Pipeline.Value

@[expose] public section

noncomputable section

namespace Cert.Proof.Tiles

open Idealize.ShloMosaic hiding ix0 ix1 ix2 ix3 ix4 ix5
open Idealize.ShloMosaic.ValueIdx

/-- A matrix's entries are `f i j`. -/
def On2 {a b : ℕ} (x : (⟨2, ![a, b]⟩ : Shape).Idx → EReal) (f : ℕ → ℕ → EReal) : Prop :=
  ∀ (i : Fin a) (j : Fin b), x (ix2 i j) = f i j

def On3 {a b c : ℕ} (x : (⟨3, ![a, b, c]⟩ : Shape).Idx → EReal) (f : ℕ → ℕ → ℕ → EReal) : Prop :=
  ∀ (i : Fin a) (j : Fin b) (k : Fin c), x (ix3 i j k) = f i j k

def On4 {a b c d : ℕ} (x : (⟨4, ![a, b, c, d]⟩ : Shape).Idx → EReal) (f : ℕ → ℕ → ℕ → ℕ → EReal) : Prop :=
  ∀ (i : Fin a) (j : Fin b) (k : Fin c) (l : Fin d), x (ix4 i j k l) = f i j k l

/-- A matrix's entries, zero outside it. -/
def at2 {a b : ℕ} (x : (⟨2, ![a, b]⟩ : Shape).Idx → EReal) (i j : ℕ) : EReal :=
  if h : i < a ∧ j < b then x (ix2 ⟨i, h.1⟩ ⟨j, h.2⟩) else 0

theorem on_at2 {a b : ℕ} (x : (⟨2, ![a, b]⟩ : Shape).Idx → EReal) : On2 x (at2 x) := fun i j => by
  unfold at2
  rw [dif_pos ⟨i.isLt, j.isLt⟩]

theorem On2.congr {a b : ℕ} {x : (⟨2, ![a, b]⟩ : Shape).Idx → EReal} {f g : ℕ → ℕ → EReal} (h : On2 x f)
    (e : ∀ i j, i < a → j < b → f i j = g i j) : On2 x g :=
  fun i j => (h i j).trans (e _ _ i.isLt j.isLt)

theorem On2.ext {a b : ℕ} {x y : (⟨2, ![a, b]⟩ : Shape).Idx → EReal} {f : ℕ → ℕ → EReal} (hx : On2 x f) (hy : On2 y f) : x = y := by
  funext i
  rw [ValueIdx.eq_ix2 i]
  exact (hx _ _).trans (hy _ _).symm

theorem On3.ext {a b c : ℕ} {x y : (⟨3, ![a, b, c]⟩ : Shape).Idx → EReal} {f : ℕ → ℕ → ℕ → EReal} (hx : On3 x f) (hy : On3 y f) : x = y := by
  funext i
  rw [ValueIdx.eq_ix3 i]
  exact (hx _ _ _).trans (hy _ _ _).symm

theorem On4.ext {a b c d : ℕ} {x y : (⟨4, ![a, b, c, d]⟩ : Shape).Idx → EReal} {f : ℕ → ℕ → ℕ → ℕ → EReal} (hx : On4 x f) (hy : On4 y f) : x = y := by
  funext i
  rw [ValueIdx.eq_ix4 i]
  exact (hx _ _ _ _).trans (hy _ _ _ _).symm

/-! ### Sums -/

theorem sum_up (n : ℕ) (g : Fin n → EReal) (f : ℕ → EReal) (h : ∀ k : Fin n, g k = f k) : ∑ k : Fin n, g k = ∑ k ∈ Finset.range n, f k := by
  rw [Finset.sum_range]
  exact Finset.sum_congr rfl fun k _ => h k

/-- A sum over `n * b` positions, a chunk of `b` at a time. -/
theorem sum_chunks (f : ℕ → EReal) (b : ℕ) : ∀ n : ℕ, ∑ k ∈ Finset.range (n * b), f k = ∑ q ∈ Finset.range n, ∑ k ∈ Finset.range b, f (b * q + k) := by
  intro n
  induction n with
  | zero => simp
  | succ n ih =>
    rw [Finset.sum_range_succ, ← ih, show (n + 1) * b = n * b + b by ring, Finset.sum_range_add]
    congr 1
    exact Finset.sum_congr rfl fun k _ => by rw [Nat.mul_comm]

/-! ### Layouts -/

/-- A matrix's columns a chunk of `c` at a time. -/
theorem cast_24 {a p q b n : ℕ} {x : (⟨2, ![a, n]⟩ : Shape).Idx → EReal} {f : ℕ → ℕ → EReal} (hn : n = p * q * b) (h) (hx : On2 x f) :
    On4 (shapeCast ⟨4, ![a, p, q, b]⟩ x h) (fun i s t k => f i (q * b * s + b * t + k)) := by
  intro i s t k
  have b1 : b * t.val + k.val < q * b := by
    calc b * t.val + k.val < b * t.val + b := by omega
      _ = b * (t.val + 1) := by ring
      _ ≤ b * q := Nat.mul_le_mul_left _ t.isLt
      _ = q * b := Nat.mul_comm ..
  have b2 : q * b * s.val + (b * t.val + k.val) < n := by
    calc q * b * s.val + (b * t.val + k.val) < q * b * s.val + q * b := by omega
      _ = q * b * (s.val + 1) := by ring
      _ ≤ q * b * p := Nat.mul_le_mul_left _ s.isLt
      _ = n := by rw [hn]; ring
  refine (shapeCast_apply x _ (ix4 i s t k) (ix2 i ⟨q * b * s.val + b * t.val + k.val, by omega⟩) ?_).trans (hx _ _)
  rw [Shape.rowMajor_val_two, Shape.rowMajor_val_four]
  show i.val * n + (q * b * s.val + b * t.val + k.val) = ((i.val * p + s.val) * q + t.val) * b + k.val
  rw [hn]; ring

/-- A matrix's rows a chunk of `b` at a time. -/
theorem cast_23 {n p b c : ℕ} {x : (⟨2, ![n, c]⟩ : Shape).Idx → EReal} {f : ℕ → ℕ → EReal} (hn : n = p * b) (h) (hx : On2 x f) :
    On3 (shapeCast ⟨3, ![p, b, c]⟩ x h) (fun s k j => f (b * s + k) j) := by
  intro s k j
  have b2 : b * s.val + k.val < n := by
    calc b * s.val + k.val < b * s.val + b := by omega
      _ = b * (s.val + 1) := by ring
      _ ≤ b * p := Nat.mul_le_mul_left _ s.isLt
      _ = n := by rw [hn]; ring
  refine (shapeCast_apply x _ (ix3 s k j) (ix2 ⟨b * s.val + k.val, b2⟩ j) ?_).trans (hx _ _)
  rw [Shape.rowMajor_val_two, Shape.rowMajor_val_three]
  show (b * s.val + k.val) * c + j.val = (s.val * b + k.val) * c + j.val
  ring

/-- A matrix's columns a chunk of `b` at a time. -/
theorem cast_cols {a n p b : ℕ} {x : (⟨2, ![a, n]⟩ : Shape).Idx → EReal} {f : ℕ → ℕ → EReal} (hn : n = p * b) (h) (hx : On2 x f) :
    On3 (shapeCast ⟨3, ![a, p, b]⟩ x h) (fun i s k => f i (b * s + k)) := by
  intro i s k
  have b2 : b * s.val + k.val < n := by
    calc b * s.val + k.val < b * s.val + b := by omega
      _ = b * (s.val + 1) := by ring
      _ ≤ b * p := Nat.mul_le_mul_left _ s.isLt
      _ = n := by rw [hn]; ring
  refine (shapeCast_apply x _ (ix3 i s k) (ix2 i ⟨b * s.val + k.val, b2⟩) ?_).trans (hx _ _)
  rw [Shape.rowMajor_val_two, Shape.rowMajor_val_three]
  show i.val * n + (b * s.val + k.val) = (i.val * p + s.val) * b + k.val
  rw [hn]; ring

/-- A leading axis of one, taken off or put on. -/
theorem cast_off {a b : ℕ} {x : (⟨3, ![1, a, b]⟩ : Shape).Idx → EReal} {f : ℕ → ℕ → EReal} (h) (hx : On3 x fun _ => f) :
    On2 (shapeCast ⟨2, ![a, b]⟩ x h) f := by
  intro i j
  refine (shapeCast_apply x _ (ix2 i j) (ix3 (0 : Fin 1) i j) ?_).trans (hx _ _ _)
  rw [Shape.rowMajor_val_two, Shape.rowMajor_val_three]
  show (0 * a + i.val) * b + j.val = i.val * b + j.val
  ring

theorem cast_on {a b : ℕ} {x : (⟨2, ![a, b]⟩ : Shape).Idx → EReal} {f : ℕ → ℕ → EReal} (h) (hx : On2 x f) :
    On3 (shapeCast ⟨3, ![1, a, b]⟩ x h) (fun _ => f) := by
  intro z i j
  refine (shapeCast_apply x _ (ix3 z i j) (ix2 i j) ?_).trans (hx _ _)
  rw [Shape.rowMajor_val_two, Shape.rowMajor_val_three]
  show i.val * b + j.val = (z.val * a + i.val) * b + j.val
  have : z.val = 0 := by omega
  rw [this]; ring

theorem cast_off2 {a b : ℕ} {x : (⟨4, ![1, 1, a, b]⟩ : Shape).Idx → EReal} {f : ℕ → ℕ → EReal} (h) (hx : On4 x fun _ _ => f) :
    On2 (shapeCast ⟨2, ![a, b]⟩ x h) f := by
  intro i j
  refine (shapeCast_apply x _ (ix2 i j) (ix4 (0 : Fin 1) (0 : Fin 1) i j) ?_).trans (hx _ _ _ _)
  rw [Shape.rowMajor_val_two, Shape.rowMajor_val_four]
  show ((0 * 1 + 0) * a + i.val) * b + j.val = i.val * b + j.val
  ring

theorem cast_on2 {a b : ℕ} {x : (⟨2, ![a, b]⟩ : Shape).Idx → EReal} {f : ℕ → ℕ → EReal} (h) (hx : On2 x f) :
    On4 (shapeCast ⟨4, ![1, 1, a, b]⟩ x h) (fun _ _ => f) := by
  intro z y i j
  refine (shapeCast_apply x _ (ix4 z y i j) (ix2 i j) ?_).trans (hx _ _)
  rw [Shape.rowMajor_val_two, Shape.rowMajor_val_four]
  show i.val * b + j.val = ((z.val * 1 + y.val) * a + i.val) * b + j.val
  have e : z.val = 0 := by omega
  have e' : y.val = 0 := by omega
  rw [e, e']; ring

theorem flip {a b : ℕ} {x : (⟨2, ![a, b]⟩ : Shape).Idx → EReal} {f : ℕ → ℕ → EReal} (h) (hx : On2 x f) :
    On2 (transpose ⟨2, ![b, a]⟩ [1, 0] x h) (fun i j => f j i) := by
  intro i j
  refine (transpose_apply [1, 0] x h (ix2 i j) (ix2 j i) ?_).trans (hx _ _)
  intro b
  match b with
  | ⟨0, _⟩ => rfl
  | ⟨1, _⟩ => rfl

theorem turn_1203 {a b c d : ℕ} {x : (⟨4, ![a, b, c, d]⟩ : Shape).Idx → EReal} {f : ℕ → ℕ → ℕ → ℕ → EReal} (h) (hx : On4 x f) :
    On4 (transpose ⟨4, ![b, c, a, d]⟩ [1, 2, 0, 3] x h) (fun s t i k => f i s t k) := by
  intro s t i k
  refine (transpose_apply [1, 2, 0, 3] x h (ix4 s t i k) (ix4 i s t k) ?_).trans (hx _ _ _ _)
  intro b
  match b with
  | ⟨0, _⟩ => rfl
  | ⟨1, _⟩ => rfl
  | ⟨2, _⟩ => rfl
  | ⟨3, _⟩ => rfl

theorem turn_102 {a b c : ℕ} {x : (⟨3, ![a, b, c]⟩ : Shape).Idx → EReal} {f : ℕ → ℕ → ℕ → EReal} (h) (hx : On3 x f) :
    On3 (transpose ⟨3, ![b, a, c]⟩ [1, 0, 2] x h) (fun s i k => f i s k) := by
  intro s i k
  refine (transpose_apply [1, 0, 2] x h (ix3 s i k) (ix3 i s k) ?_).trans (hx _ _ _)
  intro b
  match b with
  | ⟨0, _⟩ => rfl
  | ⟨1, _⟩ => rfl
  | ⟨2, _⟩ => rfl

/-- Columns from `o` on. -/
theorem slice_cols {a n b o : ℕ} {x : (⟨2, ![a, n]⟩ : Shape).Idx → EReal} {f : ℕ → ℕ → EReal} (ho : o + b ≤ n) (h) (hx : On2 x f) :
    On2 (extractStridedSlice ⟨2, ![a, b]⟩ ![0, o] x h) (fun i j => f i (o + j)) := by
  intro i j
  refine (extractStridedSlice_apply ![0, o] x h (ix2 i j) (ix2 i ⟨o + j.val, by omega⟩) ?_).trans (hx _ _)
  intro b
  match b with
  | ⟨0, _⟩ => exact (Nat.zero_add _).symm
  | ⟨1, _⟩ => rfl

/-- Two matrices side by side. -/
theorem beside {a b c n : ℕ} {x : (⟨2, ![a, b]⟩ : Shape).Idx → EReal} {y : (⟨2, ![a, c]⟩ : Shape).Idx → EReal} {f : ℕ → ℕ → EReal}
    (hn : n = b + c) (h) (hx : On2 x f) (hy : On2 y fun i j => f i (b + j)) :
    On2 (concatenate ⟨2, ![a, n]⟩ 1 [⟨⟨2, ![a, b]⟩, x⟩, ⟨⟨2, ![a, c]⟩, y⟩] h) f := by
  intro i j
  by_cases hj : j.val < b
  · refine (concatenate_pair_apply_left 1 x y h (ix2 i j) rfl (ix2 i ⟨j.val, hj⟩) ?_).trans (hx _ _)
    intro d
    match d with
    | ⟨0, _⟩ => rfl
    | ⟨1, _⟩ => rfl
  · refine (concatenate_pair_apply_right 1 x y h (ix2 i j) rfl rfl (ix2 i ⟨j.val - b, by omega⟩) ?_ ?_).trans ((hy _ _).trans ?_)
    · intro d hd
      match d with
      | ⟨0, _⟩ => rfl
      | ⟨1, _⟩ => exact absurd rfl hd
    · show j.val - b + b = j.val
      omega
    · show f i.val (b + (j.val - b)) = _
      rw [Nat.add_sub_cancel' (by omega)]

/-! ### Products -/

/-- A matrix against another's rows. -/
theorem times {M K N : ℕ} {φ₁ φ₂ : FTy} {x : (⟨2, ![M, K]⟩ : Shape).Idx → EReal} {y : (⟨2, ![K, N]⟩ : Shape).Idx → EReal}
    {z : (⟨2, ![M, N]⟩ : Shape).Idx → EReal} {f g : ℕ → ℕ → EReal} (hx : On2 x f) (hy : On2 y g) (hz : On2 z fun _ _ => 0) :
    On2 (FloatOps.matmul (F := Ideal) (φ₁ := φ₁) (φ₂ := φ₂) (DotDims.plain M K N) none x y z) (fun i j => ∑ k ∈ Finset.range K, f i k * g k j) := by
  intro i j
  refine (Ideal.matmul_plain_apply (M := M) (K := K) (N := N) (φ₁ := φ₁) (φ₂ := φ₂) none x y z i j).trans ?_
  rw [hz i j, zero_add]
  exact sum_up K _ (fun k => f i k * g k j) fun k => by rw [hx, hy]

/-- A matrix against another's columns. -/
theorem times_turned {M K N : ℕ} {φ₁ φ₂ : FTy} {x : (⟨2, ![M, K]⟩ : Shape).Idx → EReal} {y : (⟨2, ![N, K]⟩ : Shape).Idx → EReal}
    {z : (⟨2, ![M, N]⟩ : Shape).Idx → EReal} {f g : ℕ → ℕ → EReal} (hx : On2 x f) (hy : On2 y g) (hz : On2 z fun _ _ => 0) :
    On2 (FloatOps.matmul (F := Ideal) (φ₁ := φ₁) (φ₂ := φ₂) (DotDims.transposedRhs M K N) none x y z) (fun i j => ∑ k ∈ Finset.range K, f i k * g j k) := by
  intro i j
  refine (Ideal.matmul_transposedRhs_apply (M := M) (K := K) (N := N) (φ₁ := φ₁) (φ₂ := φ₂) none x y z i j).trans ?_
  rw [hz i j, zero_add]
  exact sum_up K _ (fun k => f i k * g j k) fun k => by rw [hx, hy]

theorem zeros {a b : ℕ} : On2 (constant (F := Ideal) ⟨2, ![a, b]⟩ .f32 0x00000000#32) (fun _ _ => 0) := fun i j => Ideal.ofBits_zero_f32

theorem add_on {a b : ℕ} {x y : (⟨2, ![a, b]⟩ : Shape).Idx → EReal} {f g : ℕ → ℕ → EReal} (hx : On2 x f) (hy : On2 y g) :
    On2 (addf (F := Ideal) (φ := .f32) x y) (fun i j => f i j + g i j) := fun i j => by
  show x _ + y _ = _
  rw [hx, hy]

end Cert.Proof.Tiles

end
-- ==== Proof.Mlp.lean ====
/-
  The gradient of the feed-forward pair: what each block of tokens leaves, and the two result arrays after the run.
-/
module

public import proofs.«01_k».proof.Proof.Tiles
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import Idealize.ShloMosaic.Lib.WholeRead
public import Idealize.ShloMosaic.Lib.Pipeline.ValueKit.Tiles

@[expose] public section

set_option maxRecDepth 16384

noncomputable section

namespace Cert.Proof.Mlp

open Cert.Kernel2Ideal Cert.Kernel2Ideal.Gen Cert.Proof.Tiles
open Idealize.ShloMosaic hiding ix0 ix1 ix2 ix3 ix4 ix5
open Idealize.ShloMosaic.ValueIdx
open Idealize.ShloMosaic.TcCoe Idealize.ShloMosaic.Tactic

/-- The logistic function as one divided by one plus an exponential. -/
def logis (x : EReal) : EReal := Ideal.div 1 (1 + Ideal.exp (-x))

/-- The slope of the gate's half. -/
def gateSlope (g up : EReal) : EReal := up * logis g * (1 + g * (1 - logis g))

/-- The slope of the other half. -/
def upSlope (g : EReal) : EReal := g * logis g

/-! ### One block of tokens against one chunk of the inner width -/

section
variable {v0 : Vec Ideal S512x1024 .bf16} {v1 : Vec Ideal S1x704x1024 .bf16} {v4 v7 : Vec Ideal S1x1x512x704 .bf16}
  {y w g up : ℕ → ℕ → EReal} (h0 : On2 v0 y) (h1 : On3 v1 fun _ => w) (h4 : On4 v4 fun _ _ => g) (h7 : On4 v7 fun _ _ => up)

include h0 h1 in
theorem dact_on : On2 (k0_pay3 (F := Ideal) v0 v1) (fun r f => ∑ d ∈ Finset.range 1024, y r d * w f d) :=
  times_turned (φ₁ := .bf16) (φ₂ := .bf16) h0 (cast_off shapeCasts_S1x704x1024_S704x1024 h1) zeros

include h4 in
theorem gate_on : On2 (k0_pay4 (F := Ideal) v4) g := cast_off2 shapeCasts_S1x1x512x704_S512x704 h4

include h4 in
theorem sig_on : On2 (k0_pay5 (F := Ideal) v4) (fun r f => logis (g r f)) := fun r f => by
  show Ideal.div (Ideal.ofBits .f32 0x3F800000#32) (Ideal.ofBits .f32 0x3F800000#32 + Ideal.exp (Ideal.ofBits .f32 0x00000000#32 - k0_pay4 (F := Ideal) v4 (ix2 r f))) = _
  rw [gate_on h4, Ideal.ofBits_zero_f32, Ideal.ofBits_one_f32, zero_sub]
  rfl

include h4 in
theorem silu_on : On2 (k0_pay6 (F := Ideal) v4) (fun r f => upSlope (g r f)) := fun r f => by
  show k0_pay4 (F := Ideal) v4 (ix2 r f) * k0_pay5 (F := Ideal) v4 (ix2 r f) = _
  rw [gate_on h4, sig_on h4]
  rfl

include h0 h1 h4 h7 in
theorem left_on : On2 (k0_pay7 (F := Ideal) v0 v1 v4 v7) (fun r f => (∑ d ∈ Finset.range 1024, y r d * w f d) * gateSlope (g r f) (up r f)) := fun r f => by
  show k0_pay3 (F := Ideal) v0 v1 (ix2 r f) * (shapeCast S512x704 v7 shapeCasts_S1x1x512x704_S512x704 (ix2 r f) * k0_pay5 (F := Ideal) v4 (ix2 r f)
    * (Ideal.ofBits .f32 0x3F800000#32 + k0_pay4 (F := Ideal) v4 (ix2 r f) * (Ideal.ofBits .f32 0x3F800000#32 - k0_pay5 (F := Ideal) v4 (ix2 r f)))) = _
  rw [dact_on h0 h1, gate_on h4, sig_on h4, cast_off2 shapeCasts_S1x1x512x704_S512x704 h7, Ideal.ofBits_one_f32]
  rfl

include h0 h1 h4 in
theorem right_on : On2 (k0_pay10 (F := Ideal) (k0_pay3 v0 v1) (k0_pay6 v4)) (fun r f => (∑ d ∈ Finset.range 1024, y r d * w f d) * upSlope (g r f)) := fun r f => by
  show k0_pay3 (F := Ideal) v0 v1 (ix2 r f) * k0_pay6 (F := Ideal) v4 (ix2 r f) = _
  rw [dact_on h0 h1, silu_on h4]

end

/-- A block of the inner gradient against a chunk of the weight. -/
def back (x : FVec Ideal S512x704 .bf16) (v : Vec Ideal S1x704x1024 .bf16) : FVec Ideal S512x1024 .f32 :=
  matmul dot_S512x704_S704x1024_S512x1024_1_0_0_1_n_n none x (shapeCast S704x1024 v shapeCasts_S1x704x1024_S704x1024 : FVec Ideal S704x1024 .bf16) (constant S512x1024 .f32 0x00000000#32)

theorem back_on {x : FVec Ideal S512x704 .bf16} {v : Vec Ideal S1x704x1024 .bf16} {f w : ℕ → ℕ → EReal} (hx : On2 x f) (hv : On3 v fun _ => w) :
    On2 (back x v) (fun r d => ∑ k ∈ Finset.range 704, f r k * w k d) :=
  times (φ₁ := .bf16) (φ₂ := .bf16) hx (cast_off shapeCasts_S1x704x1024_S704x1024 hv) zeros

/-! ### What a block leaves -/

/-- Chunk `j` of the down projection's weight, of the two halves, and of the other weight. -/
def chunk1 (x : Vec Ideal S4x704x1024 .bf16) (j : Fin 4) : Vec Ideal S1x704x1024 .bf16 := fun i => x (ix3 j (i 1) (i 2))
def chunk2 (x : Vec Ideal S2x4x512x704 .bf16) (s : Fin 2) (j : Fin 4) : Vec Ideal S1x1x512x704 .bf16 := fun i => x (ix4 s j (i 2) (i 3))
def chunk3 (x : Vec Ideal S8x704x1024 .bf16) (q : Fin 8) : Vec Ideal S1x704x1024 .bf16 := fun i => x (ix3 q (i 1) (i 2))

def leftB (x0 : Vec Ideal S512x1024 .bf16) (x1 : Vec Ideal S4x704x1024 .bf16) (x2 : Vec Ideal S2x4x512x704 .bf16) (j : Fin 4) : FVec Ideal S512x704 .bf16 :=
  k0_pay7 x0 (chunk1 x1 j) (chunk2 x2 0 j) (chunk2 x2 1 j)
def rightB (x0 : Vec Ideal S512x1024 .bf16) (x1 : Vec Ideal S4x704x1024 .bf16) (x2 : Vec Ideal S2x4x512x704 .bf16) (j : Fin 4) : FVec Ideal S512x704 .bf16 :=
  k0_pay10 (k0_pay3 x0 (chunk1 x1 j)) (k0_pay6 (chunk2 x2 0 j))

theorem ld0 (x : Vec Ideal S512x1024 .bf16) : View.ld x r0_0 = x := View.ld_unit_lit _ _ (by decide)

theorem ld1 (x : Vec Ideal S4x704x1024 .bf16) (j : Fin 4) (h) :
    View.ld x (Rect.unit (s := S4x704x1024) ![j.val, 0, 0] S1x704x1024.size h) = chunk1 x j := by
  funext i
  refine View.ld_unit_apply_of x _ _ _ i _ fun a => ?_
  have z : (i 0).val < 1 := (i 0).isLt
  match a with
  | ⟨0, _⟩ => show j.val = j.val + (i 0).val; omega
  | ⟨1, _⟩ => exact (Nat.zero_add _).symm
  | ⟨2, _⟩ => exact (Nat.zero_add _).symm

theorem ld2 (x : Vec Ideal S2x4x512x704 .bf16) (s : Fin 2) (j : Fin 4) (h) :
    View.ld x (Rect.unit (s := S2x4x512x704) ![s.val, j.val, 0, 0] S1x1x512x704.size h) = chunk2 x s j := by
  funext i
  refine View.ld_unit_apply_of x _ _ _ i _ fun a => ?_
  have z : (i 0).val < 1 := (i 0).isLt
  have z1 : (i 1).val < 1 := (i 1).isLt
  match a with
  | ⟨0, _⟩ => show s.val = s.val + (i 0).val; omega
  | ⟨1, _⟩ => show j.val = j.val + (i 1).val; omega
  | ⟨2, _⟩ => exact (Nat.zero_add _).symm
  | ⟨3, _⟩ => exact (Nat.zero_add _).symm

theorem ld3 (x : Vec Ideal S8x704x1024 .bf16) (q : Fin 8) (h) :
    View.ld x (Rect.unit (s := S8x704x1024) ![q.val, 0, 0] S1x704x1024.size h) = chunk3 x q := by
  funext i
  refine View.ld_unit_apply_of x _ _ _ i _ fun a => ?_
  have z : (i 0).val < 1 := (i 0).isLt
  match a with
  | ⟨0, _⟩ => show q.val = q.val + (i 0).val; omega
  | ⟨1, _⟩ => exact (Nat.zero_add _).symm
  | ⟨2, _⟩ => exact (Nat.zero_add _).symm

/-- The sum of the eight chunks' products, in the order the block adds them. -/
def backs (x0 : Vec Ideal S512x1024 .bf16) (x1 : Vec Ideal S4x704x1024 .bf16) (x2 : Vec Ideal S2x4x512x704 .bf16) (x3 : Vec Ideal S8x704x1024 .bf16) : FVec Ideal S512x1024 .f32 :=
  addf (addf (addf (addf (addf (addf (addf (back (leftB x0 x1 x2 0) (chunk3 x3 0)) (back (rightB x0 x1 x2 0) (chunk3 x3 4)))
    (back (leftB x0 x1 x2 1) (chunk3 x3 1))) (back (rightB x0 x1 x2 1) (chunk3 x3 5)))
    (back (leftB x0 x1 x2 2) (chunk3 x3 2))) (back (rightB x0 x1 x2 2) (chunk3 x3 6)))
    (back (leftB x0 x1 x2 3) (chunk3 x3 3))) (back (rightB x0 x1 x2 3) (chunk3 x3 7))

theorem out5_eq (x0 : Vec Ideal S512x1024 .bf16) (x1 : Vec Ideal S4x704x1024 .bf16) (x2 : Vec Ideal S2x4x512x704 .bf16) (x3 : Vec Ideal S8x704x1024 .bf16) :
    out0_5 x0 x1 x2 x3 = backs x0 x1 x2 x3 := by
  unfold out0_5
  rw [View.canon_unit_zero (by funext a; match a with | ⟨0, _⟩ => rfl | ⟨1, _⟩ => rfl)]
  unfold k0_pay40 k0_pay41 k0_pay42 k0_pay43 k0_pay44 k0_pay45 k0_pay46 k0_pay47 k0_pay48 k0_pay49 k0_pay50 k0_pay51 k0_pay52
  unfold k0_pay51 k0_pay50
  rw [ld0, show View.ld x1 r0_1 = chunk1 x1 0 from ld1 x1 0 _, show View.ld x1 r0_6 = chunk1 x1 1 from ld1 x1 1 _,
    show View.ld x1 r0_11 = chunk1 x1 2 from ld1 x1 2 _, show View.ld x1 r0_16 = chunk1 x1 3 from ld1 x1 3 _,
    show View.ld x2 r0_2 = chunk2 x2 0 0 from ld2 x2 0 0 _, show View.ld x2 r0_3 = chunk2 x2 1 0 from ld2 x2 1 0 _,
    show View.ld x2 r0_7 = chunk2 x2 0 1 from ld2 x2 0 1 _, show View.ld x2 r0_8 = chunk2 x2 1 1 from ld2 x2 1 1 _,
    show View.ld x2 r0_12 = chunk2 x2 0 2 from ld2 x2 0 2 _, show View.ld x2 r0_13 = chunk2 x2 1 2 from ld2 x2 1 2 _,
    show View.ld x2 r0_17 = chunk2 x2 0 3 from ld2 x2 0 3 _, show View.ld x2 r0_18 = chunk2 x2 1 3 from ld2 x2 1 3 _,
    show View.ld x3 r0_4 = chunk3 x3 0 from ld3 x3 0 _, show View.ld x3 r0_5 = chunk3 x3 4 from ld3 x3 4 _,
    show View.ld x3 r0_9 = chunk3 x3 1 from ld3 x3 1 _, show View.ld x3 r0_10 = chunk3 x3 5 from ld3 x3 5 _,
    show View.ld x3 r0_14 = chunk3 x3 2 from ld3 x3 2 _, show View.ld x3 r0_15 = chunk3 x3 6 from ld3 x3 6 _,
    show View.ld x3 r0_19 = chunk3 x3 3 from ld3 x3 3 _, show View.ld x3 r0_20 = chunk3 x3 7 from ld3 x3 7 _]
  rfl

/-- The inner gradient's piece of half `s` and chunk `j`. -/
def piece (x0 : Vec Ideal S512x1024 .bf16) (x1 : Vec Ideal S4x704x1024 .bf16) (x2 : Vec Ideal S2x4x512x704 .bf16) (s : Fin 2) (j : Fin 4) : FVec Ideal S1x1x512x704 .bf16 :=
  shapeCast S1x1x512x704 (if s = 0 then leftB x0 x1 x2 j else rightB x0 x1 x2 j) shapeCasts_S512x704_S1x1x512x704

theorem out4_eq (x0 : Vec Ideal S512x1024 .bf16) (x1 : Vec Ideal S4x704x1024 .bf16) (x2 : Vec Ideal S2x4x512x704 .bf16) (x3 : Vec Ideal S8x704x1024 .bf16) :
    out0_4 x0 x1 x2 x3 = View.canon [⟨r0_18, piece x0 x1 x2 1 3⟩, ⟨r0_17, piece x0 x1 x2 0 3⟩, ⟨r0_13, piece x0 x1 x2 1 2⟩, ⟨r0_12, piece x0 x1 x2 0 2⟩,
      ⟨r0_8, piece x0 x1 x2 1 1⟩, ⟨r0_7, piece x0 x1 x2 0 1⟩, ⟨r0_3, piece x0 x1 x2 1 0⟩, ⟨r0_2, piece x0 x1 x2 0 0⟩] := by
  unfold out0_4
  unfold k0_pay40 k0_pay41 k0_pay42 k0_pay43 k0_pay44 k0_pay45 k0_pay46 k0_pay47 k0_pay48 k0_pay49 k0_pay50 k0_pay51 k0_pay52
  unfold k0_pay51 k0_pay50
  rw [ld0, show View.ld x1 r0_1 = chunk1 x1 0 from ld1 x1 0 _, show View.ld x1 r0_6 = chunk1 x1 1 from ld1 x1 1 _,
    show View.ld x1 r0_11 = chunk1 x1 2 from ld1 x1 2 _, show View.ld x1 r0_16 = chunk1 x1 3 from ld1 x1 3 _,
    show View.ld x2 r0_2 = chunk2 x2 0 0 from ld2 x2 0 0 _, show View.ld x2 r0_3 = chunk2 x2 1 0 from ld2 x2 1 0 _,
    show View.ld x2 r0_7 = chunk2 x2 0 1 from ld2 x2 0 1 _, show View.ld x2 r0_8 = chunk2 x2 1 1 from ld2 x2 1 1 _,
    show View.ld x2 r0_12 = chunk2 x2 0 2 from ld2 x2 0 2 _, show View.ld x2 r0_13 = chunk2 x2 1 2 from ld2 x2 1 2 _,
    show View.ld x2 r0_17 = chunk2 x2 0 3 from ld2 x2 0 3 _, show View.ld x2 r0_18 = chunk2 x2 1 3 from ld2 x2 1 3 _]
  rfl

/-- The inner gradient of row `r` (of the block) in half `s`, column `c`. -/
def inner (y wd : ℕ → ℕ → EReal) (gu : ℕ → ℕ → EReal) (s r c : ℕ) : EReal :=
  (∑ d ∈ Finset.range 1024, y r d * wd c d) * (if s = 0 then gateSlope (gu r c) (gu r (2816 + c)) else upSlope (gu r c))

section
variable {x0 : Vec Ideal S512x1024 .bf16} {x1 : Vec Ideal S4x704x1024 .bf16} {x2 : Vec Ideal S2x4x512x704 .bf16} {x3 : Vec Ideal S8x704x1024 .bf16}
  {y wd gu w : ℕ → ℕ → EReal} (h0 : On2 x0 y) (h1 : On3 x1 fun j k d => wd (704 * j + k) d) (h2 : On4 x2 fun s j r k => gu r (2816 * s + 704 * j + k))
  (h3 : On3 x3 fun q k d => w d (704 * q + k))

include h0 h1 h2 in
theorem leftB_on (j : Fin 4) : On2 (leftB x0 x1 x2 j) (fun r k => inner y wd gu 0 r (704 * j + k)) := fun r k => by
  refine (left_on (v1 := chunk1 x1 j) (v4 := chunk2 x2 0 j) (v7 := chunk2 x2 1 j) h0 (w := fun k d => wd (704 * j + k) d)
    (g := fun r k => gu r (2816 * 0 + 704 * j + k)) (up := fun r k => gu r (2816 * 1 + 704 * j + k)) ?_ ?_ ?_ r k).trans ?_
  · exact fun z a b => h1 j a b
  · exact fun z z' a b => h2 0 j a b
  · exact fun z z' a b => h2 1 j a b
  · show _ * gateSlope (gu r (2816 * 0 + 704 * j + k)) (gu r (2816 * 1 + 704 * j + k)) = _ * gateSlope (gu r (704 * j + k)) (gu r (2816 + (704 * j + k)))
    rw [show 2816 * 0 + 704 * j.val + k.val = 704 * j.val + k.val by omega, show 2816 * 1 + 704 * j.val + k.val = 2816 + (704 * j.val + k.val) by omega]

include h0 h1 h2 in
theorem rightB_on (j : Fin 4) : On2 (rightB x0 x1 x2 j) (fun r k => inner y wd gu 1 r (704 * j + k)) := fun r k => by
  refine (right_on (v1 := chunk1 x1 j) (v4 := chunk2 x2 0 j) h0 (w := fun k d => wd (704 * j + k) d)
    (g := fun r k => gu r (2816 * 0 + 704 * j + k)) ?_ ?_ r k).trans ?_
  · exact fun z a b => h1 j a b
  · exact fun z z' a b => h2 0 j a b
  · show _ * upSlope (gu r (2816 * 0 + 704 * j + k)) = _ * upSlope (gu r (704 * j + k))
    rw [show 2816 * 0 + 704 * j.val + k.val = 704 * j.val + k.val by omega]

include h0 h1 h2 in
theorem piece_on (s : Fin 2) (j : Fin 4) : On4 (piece x0 x1 x2 s j) (fun _ _ r k => inner y wd gu s r (704 * j + k)) := by
  unfold piece
  match s with
  | 0 => exact cast_on2 _ (leftB_on h0 h1 h2 j)
  | 1 => exact cast_on2 _ (rightB_on h0 h1 h2 j)

include h0 h1 h2 in
theorem out4_on : On4 (out0_4 x0 x1 x2 x3) (fun s j r k => inner y wd gu s r (704 * j + k)) := by
  have all : ∀ i : S2x4x512x704.Idx, out0_4 x0 x1 x2 x3 i = inner y wd gu (i 0).val (i 2).val (704 * (i 1).val + (i 3).val) := by
    intro i
    rw [out4_eq]
    have key : ∀ (s' : Fin 2) (j' : Fin 4) (x : S1x1x512x704.Idx), (i 0).val = s'.val + (x 0).val → (i 1).val = j'.val + (x 1).val →
        (i 2).val = (x 2).val → (i 3).val = (x 3).val → piece x0 x1 x2 s' j' x = inner y wd gu (i 0).val (i 2).val (704 * (i 1).val + (i 3).val) := by
      intro s' j' x e0 e1 e2 e3
      have z0 : (x 0).val < 1 := (x 0).isLt
      have z1 : (x 1).val < 1 := (x 1).isLt
      rw [e2, e3, show (i 0).val = s'.val by omega, show (i 1).val = j'.val by omega]
      rw [ValueIdx.eq_ix4 x]
      exact piece_on h0 h1 h2 s' j' _ _ _ _
    canon_tiles x e
    case piece0 => exact key 1 3 x (by change (i 0).val = 1 + (x 0).val; omega) (by change (i 1).val = 3 + (x 1).val; omega) e2 e3
    case piece1 => exact key 0 3 x (by change (i 0).val = 0 + (x 0).val; omega) (by change (i 1).val = 3 + (x 1).val; omega) e2 e3
    case piece2 => exact key 1 2 x (by change (i 0).val = 1 + (x 0).val; omega) (by change (i 1).val = 2 + (x 1).val; omega) e2 e3
    case piece3 => exact key 0 2 x (by change (i 0).val = 0 + (x 0).val; omega) (by change (i 1).val = 2 + (x 1).val; omega) e2 e3
    case piece4 => exact key 1 1 x (by change (i 0).val = 1 + (x 0).val; omega) (by change (i 1).val = 1 + (x 1).val; omega) e2 e3
    case piece5 => exact key 0 1 x (by change (i 0).val = 0 + (x 0).val; omega) (by change (i 1).val = 1 + (x 1).val; omega) e2 e3
    case piece6 => exact key 1 0 x (by change (i 0).val = 1 + (x 0).val; omega) (by change (i 1).val = 0 + (x 1).val; omega) e2 e3
    case piece7 => exact key 0 0 x (by change (i 0).val = 0 + (x 0).val; omega) (by change (i 1).val = 0 + (x 1).val; omega) e2 e3
  exact fun s j r k => all (ix4 s j r k)

theorem eight (f : ℕ → EReal) : ∑ q ∈ Finset.range 8, f q = f 0 + f (4 + 0) + f 1 + f (4 + 1) + f 2 + f (4 + 2) + f 3 + f (4 + 3) := by
  simp only [Finset.sum_range_succ, Finset.sum_range_zero, zero_add, Nat.reduceAdd]
  abel

/-- The inner gradient's columns, the two halves side by side. -/
def flat (y wd gu : ℕ → ℕ → EReal) (r c : ℕ) : EReal := inner y wd gu (c / 2816) r (c % 2816)

include h0 h1 h2 h3 in
theorem out5_on : On2 (out0_5 x0 x1 x2 x3) (fun r d => ∑ c ∈ Finset.range 5632, flat y wd gu r c * w d c) := by
  intro r d
  rw [out5_eq]
  have hl : ∀ j : Fin 4, On2 (back (leftB x0 x1 x2 j) (chunk3 x3 ⟨j.val, by omega⟩)) (fun r d => ∑ k ∈ Finset.range 704, flat y wd gu r (704 * j + k) * w d (704 * j + k)) := fun j r d => by
    have hj := j.isLt
    refine (back_on (leftB_on h0 h1 h2 j) (w := fun k d => w d (704 * j + k)) (fun _ a b => h3 _ a b) r d).trans (Finset.sum_congr rfl fun k hk => ?_)
    have := Finset.mem_range.1 hk
    unfold flat
    rw [show (704 * j.val + k) / 2816 = 0 by omega, show (704 * j.val + k) % 2816 = 704 * j.val + k by omega]
  have hr : ∀ j : Fin 4, On2 (back (rightB x0 x1 x2 j) (chunk3 x3 ⟨4 + j.val, by omega⟩)) (fun r d => ∑ k ∈ Finset.range 704, flat y wd gu r (704 * (4 + j) + k) * w d (704 * (4 + j) + k)) := fun j r d => by
    have hj := j.isLt
    refine (back_on (rightB_on h0 h1 h2 j) (w := fun k d => w d (704 * (4 + j) + k)) (fun _ a b => h3 _ a b) r d).trans (Finset.sum_congr rfl fun k hk => ?_)
    have := Finset.mem_range.1 hk
    unfold flat
    rw [show (704 * (4 + j.val) + k) / 2816 = 1 by omega, show (704 * (4 + j.val) + k) % 2816 = 704 * j.val + k by omega]
  refine (add_on (add_on (add_on (add_on (add_on (add_on (add_on (hl 0) (hr 0)) (hl 1)) (hr 1)) (hl 2)) (hr 2)) (hl 3)) (hr 3) r d).trans ?_
  show _ = ∑ c ∈ Finset.range (8 * 704), flat y wd gu r c * w d c
  rw [sum_chunks]
  exact (eight fun q => ∑ k ∈ Finset.range 704, flat y wd gu r (704 * q + k) * w d (704 * q + k)).symm

end

end Cert.Proof.Mlp

end
-- ==== Proof.MlpRun.lean ====
/-
  The gradient of the feed-forward pair: what the region finds, and the two result arrays after the run.
-/
module

public import proofs.«01_k».proof.Proof.Mlp
public import Idealize.ShloMosaic.Lib.Pipeline.ValueKit
public import Idealize.ShloMosaic.Lib.Claim

@[expose] public section

set_option maxRecDepth 16384

noncomputable section

namespace Cert.Proof.Mlp

open Cert.Kernel2Ideal Cert.Kernel2Ideal.Gen Cert.Proof.Tiles
open Idealize.ShloMosaic hiding ix0 ix1 ix2 ix3 ix4 ix5
open Idealize.ShloMosaic.ValueIdx
open Idealize.ShloMosaic.TcCoe Idealize.ShloMosaic.Tactic

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![0, 0, t.val, 0] := by decide +kernel
theorem index3 : ∀ t : Fin cfg0.N, win0_3.index t = ![0, 0, 0] := by decide +kernel
theorem index4 : ∀ t : Fin cfg0.N, win0_4.index t = ![0, 0, t.val, 0] := by decide +kernel
theorem index5 : ∀ t : Fin cfg0.N, win0_5.index t = ![t.val, 0] := by decide +kernel
theorem lt_points (t : Fin cfg0.N) : t.val < 8 := t.isLt

section
variable (m : (ℓ : Loc nD τ sig) → Buf (Elt Ideal) ℓ) (c : Dev nD)

/-- The arguments' entries. -/
def us : ℕ → ℕ → EReal := at2 (a := 4096) (b := 1024) (m ((c : Thread nD τ).loc main_arg0))
def ws : ℕ → ℕ → EReal := at2 (a := 1024) (b := 5632) (m ((c : Thread nD τ).loc main_arg1))
def ds : ℕ → ℕ → EReal := at2 (a := 2816) (b := 1024) (m ((c : Thread nD τ).loc main_arg2))
def ys : ℕ → ℕ → EReal := at2 (a := 4096) (b := 1024) (m ((c : Thread nD τ).loc main_arg3))

/-- The first product. -/
def gus (u w : ℕ → ℕ → EReal) (r n : ℕ) : EReal := ∑ d ∈ Finset.range 1024, u r d * w d n

theorem V_down : On3 (a := 4) (b := 704) (c := 1024) (V m c main_v2) (fun j k d => ds m c (704 * j + k) d) := by
  have e : V m c main_v2 = shapeCast S4x704x1024 (m ((c : Thread nD τ).loc main_arg2)) shapeCasts_S2816x1024_S4x704x1024 := by
    entry_read; rfl
  rw [e]
  exact cast_23 rfl _ (on_at2 _)

theorem V_gu : On4 (a := 2) (b := 4) (c := 4096) (d := 704) (V m c main_v6) (fun s j r k => gus (us m c) (ws m c) r (2816 * s + 704 * j + k)) := by
  have e : V m c main_v6 = transpose S2x4x4096x704 [1, 2, 0, 3] (shapeCast S4096x2x4x704 (Host.dotGeneral (F := Ideal) (φ₁ := .f32) (φ₂ := .f32) dot_S4096x1024_S1024x5632_S4096x5632_1_0_0_1_n_n none
      (m ((c : Thread nD τ).loc main_arg0)) (m ((c : Thread nD τ).loc main_arg1))) shapeCasts_S4096x5632_S4096x2x4x704) transposes_S4096x2x4x704_S2x4x4096x704_1_2_0_3 := by
    entry_read; rfl
  rw [e]
  exact turn_1203 _ (cast_24 (p := 2) (q := 4) (b := 704) rfl _ (times (φ₁ := .f32) (φ₂ := .f32) (z := fun _ => 0) (on_at2 _) (on_at2 _) fun _ _ => rfl))

theorem V_up : On3 (a := 8) (b := 704) (c := 1024) (V m c main_v8) (fun q k d => ws m c d (704 * q + k)) := by
  have e : V m c main_v8 = shapeCast S8x704x1024 (transpose S5632x1024 [1, 0] (m ((c : Thread nD τ).loc main_arg1)) transposes_S1024x5632_S5632x1024_1_0) shapeCasts_S5632x1024_S8x704x1024 := by
    entry_read; rfl
  rw [e]
  exact cast_23 rfl _ (flip _ (on_at2 _))

theorem block0 (t : Fin cfg0.N) : On2 (a := 512) (b := 1024) (iblk m c 0 t) (fun r d => ys m c (512 * t.val + r) d) := by
  intro r d
  have ht := lt_points t
  have e : iblk m c 0 t (ix2 r d) = V m c main_arg3 (ix2 ⟨512 * t.val + r.val, by omega⟩ d) := by
    blk_ext [iblk, index0 t]
    all_goals first | (change _ + r.val = _; omega) | (change _ + d.val = _; omega)
  rw [e, V_main_arg3]
  exact on_at2 _ _ _

theorem block1 (t : Fin cfg0.N) : On3 (a := 4) (b := 704) (c := 1024) (iblk m c 1 t) (fun j k d => ds m c (704 * j + k) d) := by
  intro j k d
  have e : iblk m c 1 t (ix3 j k d) = V m c main_v2 (ix3 j k d) := by
    blk_ext [iblk, index1 t]
    all_goals first | (change _ + j.val = _; omega) | (change _ + k.val = _; omega) | (change _ + d.val = _; omega)
  exact e.trans (V_down m c j k d)

theorem block2 (t : Fin cfg0.N) : On4 (a := 2) (b := 4) (c := 512) (d := 704) (iblk m c 2 t) (fun s j r k => gus (us m c) (ws m c) (512 * t.val + r) (2816 * s + 704 * j + k)) := by
  intro s j r k
  have ht := lt_points t
  have e : iblk m c 2 t (ix4 s j r k) = V m c main_v6 (ix4 s j ⟨512 * t.val + r.val, by omega⟩ k) := by
    blk_ext [iblk, index2 t]
    all_goals first | (change _ + s.val = _; omega) | (change _ + j.val = _; omega) | (change _ + r.val = _; omega) | (change _ + k.val = _; omega)
  exact e.trans (V_gu m c s j _ k)

theorem block3 (t : Fin cfg0.N) : On3 (a := 8) (b := 704) (c := 1024) (iblk m c 3 t) (fun q k d => ws m c d (704 * q + k)) := by
  intro q k d
  have e : iblk m c 3 t (ix3 q k d) = V m c main_v8 (ix3 q k d) := by
    blk_ext [iblk, index3 t]
    all_goals first | (change _ + q.val = _; omega) | (change _ + k.val = _; omega) | (change _ + d.val = _; omega)
  exact e.trans (V_up m c q k d)

/-- The inner gradient's array. -/
def resInner : S2x4x4096x704.Idx → EReal := fun i =>
  inner (ys m c) (ds m c) (gus (us m c) (ws m c)) (i 0).val (i 2).val (704 * (i 1).val + (i 3).val)

/-- The input gradient's array. -/
def resInput : S4096x1024.Idx → EReal := fun i =>
  ∑ n ∈ Finset.range 5632, flat (ys m c) (ds m c) (gus (us m c) (ws m c)) (i 0).val n * ws m c (i 1).val n

theorem array4 : (dats m 0 c).arrAt 4 (cfgs 0).N = resInner m c := by
  refine (dats m 0 c).arrAt_eq_of_covers 4 _ (by decide +kernel) fun t hf y => ?_
  have ht := lt_points t
  blk_simp [index4 t]
  rw [after0_4]
  obtain ⟨s, j, r, k, rfl⟩ : ∃ (s : Fin 2) (j : Fin 4) (r : Fin 512) (k : Fin 704), y = ix4 s j r k := ⟨y 0, y 1, y 2, y 3, ValueIdx.eq_ix4 y⟩
  refine (out4_on (block0 m c t) (block1 m c t) (block2 m c t) s j r k).trans ?_
  have e0 : (((win0_4.blk t).view.emb (ix4 s j r k)) 0).val = s.val := by
    blk_simp [index4 t]
    rfl
  have e1 : (((win0_4.blk t).view.emb (ix4 s j r k)) 1).val = j.val := by
    blk_simp [index4 t]
    rfl
  have e2 : (((win0_4.blk t).view.emb (ix4 s j r k)) 2).val = 512 * t.val + r.val := by
    blk_simp [index4 t]
    change _ + r.val = _
    omega
  have e3 : (((win0_4.blk t).view.emb (ix4 s j r k)) 3).val = k.val := by
    blk_simp [index4 t]
    rfl
  unfold resInner
  rw [e0, e1, e2, e3]
  rfl

theorem array5 : (dats m 0 c).arrAt 5 (cfgs 0).N = resInput m c := by
  refine (dats m 0 c).arrAt_eq_of_covers 5 _ (by decide +kernel) fun t hf y => ?_
  have ht := lt_points t
  blk_simp [index5 t]
  rw [after0_5]
  obtain ⟨r, d, rfl⟩ : ∃ (r : Fin 512) (d : Fin 1024), y = ix2 r d := ⟨y 0, y 1, ValueIdx.eq_ix2 y⟩
  refine (out5_on (block0 m c t) (block1 m c t) (block2 m c t) (block3 m c t) r d).trans ?_
  have e0 : (((win0_5.blk t).view.emb (ix2 r d)) 0).val = 512 * t.val + r.val := by
    blk_simp [index5 t]
    change _ + r.val = _
    omega
  have e1 : (((win0_5.blk t).view.emb (ix2 r d)) 1).val = d.val := by
    blk_simp [index5 t]
    rfl
  unfold resInput
  rw [e0, e1]
  rfl

end

end Cert.Proof.Mlp

end
-- ==== Proof.MlpRef.lean ====
/-
  The reference's gradient of the feed-forward pair, entry by entry; it is the kernel's over finite arguments.
-/
module

public import proofs.«01_k».proof.Proof.MlpRun
public import proofs.«01_k».proof.Proof.Entry
public import proofs.«01_k».proof.Pre_finite2
public import proofs.«01_k».proof.Proof.Gen.Reference2Ideal
public import proofs.«01_k».proof.Proof.Gen.Reference2Ideal.Run

@[expose] public section

set_option maxRecDepth 16384

noncomputable section

namespace Cert.Proof.MlpRef

open Cert.Reference2Ideal Cert.Reference2Ideal.Gen Cert.Proof.Tiles Cert.Proof.Mlp
open Idealize.ShloMosaic hiding ix0 ix1 ix2 ix3 ix4 ix5
open Idealize.ShloMosaic.ValueIdx

/-! ### Real numbers among the extended reals -/

def Real (x : EReal) : Prop := ∃ r : ℝ, x = (r : EReal)

theorem real_mul {x y : EReal} (hx : Real x) (hy : Real y) : Real (x * y) := by
  obtain ⟨a, rfl⟩ := hx
  obtain ⟨b, rfl⟩ := hy
  exact ⟨a * b, (EReal.coe_mul a b).symm⟩

theorem real_sum (n : ℕ) (f : ℕ → EReal) (h : ∀ k, k < n → Real (f k)) : Real (∑ k ∈ Finset.range n, f k) := by
  induction n with
  | zero => exact ⟨0, by simp⟩
  | succ n ih =>
    obtain ⟨a, ea⟩ := ih fun k hk => h k (by omega)
    obtain ⟨b, eb⟩ := h n (by omega)
    exact ⟨a + b, by rw [Finset.sum_range_succ, ea, eb, EReal.coe_add]⟩

theorem logis_coe (g : ℝ) : logis (g : EReal) = ((1 / (1 + Real.exp (-g)) : ℝ) : EReal) := by
  unfold logis
  have hne : (1 + _root_.Real.exp (-g)) ≠ 0 := by positivity
  rw [← EReal.coe_neg, Ideal.exp_coe, ← EReal.coe_one, ← EReal.coe_add, Ideal.div_coe hne, ← EReal.coe_mul, one_mul]

/-- The gate's slope, as the product rule writes it and gathered. -/
theorem gather {d g up : EReal} (hd : Real d) (hg : Real g) (hu : Real up) :
    d * up * logis g + g * (d * up) * (logis g * (1 - logis g)) = d * gateSlope g up := by
  obtain ⟨d, rfl⟩ := hd
  obtain ⟨g, rfl⟩ := hg
  obtain ⟨up, rfl⟩ := hu
  unfold gateSlope
  rw [logis_coe]
  generalize (1 / (1 + _root_.Real.exp (-g)) : ℝ) = s
  simp only [← EReal.coe_one, ← EReal.coe_mul, ← EReal.coe_sub, ← EReal.coe_add]
  exact congrArg _ (by ring)

/-! ### The reference's stages -/

section
variable (x0 : FVec Ideal S4096x1024 .bf16) (x1 : FVec Ideal S1024x5632 .bf16) (x2 : FVec Ideal S2816x1024 .bf16) (x3 : FVec Ideal S4096x1024 .bf16)

def prodR : FVec Ideal S4096x5632 .f32 := Host.dotGeneral dot_S4096x1024_S1024x5632_S4096x5632_1_0_0_1_n_n none (extf .f32 x0 bitsLt_bf16_f32) (extf .f32 x1 bitsLt_bf16_f32)
def gateR : FVec Ideal S4096x2816 .f32 := extractStridedSlice S4096x2816 ![0, 0] (prodR x0 x1) slices_S4096x5632_S4096x2816_0_0
def upR : FVec Ideal S4096x2816 .f32 := extractStridedSlice S4096x2816 ![0, 2816] (prodR x0 x1) slices_S4096x5632_S4096x2816_0_2816
def dactR : FVec Ideal S4096x2816 .f32 := Host.dotGeneral dot_S4096x1024_S2816x1024_S4096x2816_1_1_0_0_n_n none (extf .f32 x3 bitsLt_bf16_f32) (extf .f32 x2 bitsLt_bf16_f32)
def oneR : FVec Ideal S4096x2816 .f32 := broadcastInDim S4096x2816 ![] bcast_S_S4096x2816 (constant S_ .f32 0x3F800000#32)
def logisR : FVec Ideal S4096x2816 .f32 := Host.divf oneR (addf oneR (Host.exp (Host.negf (gateR x0 x1))))
def leftR : FVec Ideal S4096x2816 .f32 :=
  addf (mulf (mulf (dactR x2 x3) (upR x0 x1)) (logisR x0 x1)) (mulf (mulf (gateR x0 x1) (mulf (dactR x2 x3) (upR x0 x1))) (mulf (logisR x0 x1) (subf oneR (logisR x0 x1))))
def rightR : FVec Ideal S4096x2816 .f32 := mulf (mulf (gateR x0 x1) (logisR x0 x1)) (dactR x2 x3)
def innerR : FVec Ideal S4096x5632 .f32 := concatenate S4096x5632 1 [⟨S4096x2816, leftR x0 x1 x2 x3⟩, ⟨S4096x2816, rightR x0 x1 x2 x3⟩] concatenates_S4096x2816_S4096x2816_S4096x5632_d1
def outInner : FVec Ideal S2x4x4096x704 .bf16 :=
  truncf .bf16 (transpose S2x4x4096x704 [1, 2, 0, 3] (shapeCast S4096x2x4x704 (innerR x0 x1 x2 x3) shapeCasts_S4096x5632_S4096x2x4x704 : FVec Ideal S4096x2x4x704 .f32) transposes_S4096x2x4x704_S2x4x4096x704_1_2_0_3) bitsLt_bf16_f32
def outInput : FVec Ideal S4096x1024 .f32 :=
  Host.dotGeneral dot_S4096x5632_S1024x5632_S4096x1024_1_1_0_0_n_n none (innerR x0 x1 x2 x3) (extf .f32 x1 bitsLt_bf16_f32)

end

theorem res_inner (m : (ℓ : Loc nD τ Reference2Ideal.sig) → Buf (Elt Ideal) ℓ) (c : Dev nD) :
    Value.res_main_v18 m c = outInner (m ((c.tc : Thread nD τ).loc main_arg0)) (m ((c.tc : Thread nD τ).loc main_arg1)) (m ((c.tc : Thread nD τ).loc main_arg2)) (m ((c.tc : Thread nD τ).loc main_arg3)) := rfl

theorem res_input (m : (ℓ : Loc nD τ Reference2Ideal.sig) → Buf (Elt Ideal) ℓ) (c : Dev nD) :
    Value.res_main_v15 m c = outInput (m ((c.tc : Thread nD τ).loc main_arg0)) (m ((c.tc : Thread nD τ).loc main_arg1)) (m ((c.tc : Thread nD τ).loc main_arg2)) (m ((c.tc : Thread nD τ).loc main_arg3)) := rfl

section
variable {x0 : FVec Ideal S4096x1024 .bf16} {x1 : FVec Ideal S1024x5632 .bf16} {x2 : FVec Ideal S2816x1024 .bf16} {x3 : FVec Ideal S4096x1024 .bf16}
  {u w wd y : ℕ → ℕ → EReal} (h0 : On2 x0 u) (h1 : On2 x1 w) (h2 : On2 x2 wd) (h3 : On2 x3 y)
  (f0 : ∀ r d, r < 4096 → d < 1024 → Real (u r d)) (f1 : ∀ d n, d < 1024 → n < 5632 → Real (w d n))
  (f2 : ∀ n d, n < 2816 → d < 1024 → Real (wd n d)) (f3 : ∀ r d, r < 4096 → d < 1024 → Real (y r d))

include h0 h1 in
theorem prod_on : On2 (prodR x0 x1) (gus u w) := times (φ₁ := .f32) (φ₂ := .f32) (z := fun _ => 0) h0 h1 fun _ _ => rfl

include h0 h1 in
theorem gate_on : On2 (gateR x0 x1) (gus u w) := (slice_cols (by decide) _ (prod_on h0 h1)).congr fun i j _ _ => by rw [Nat.zero_add]

include h0 h1 in
theorem up_on : On2 (upR x0 x1) (fun r n => gus u w r (2816 + n)) := slice_cols (by decide) _ (prod_on h0 h1)

include h2 h3 in
theorem dact_on : On2 (dactR x2 x3) (fun r n => ∑ d ∈ Finset.range 1024, y r d * wd n d) :=
  times_turned (φ₁ := .f32) (φ₂ := .f32) (z := fun _ => 0) h3 h2 fun _ _ => rfl

theorem one_on (i : S4096x2816.Idx) : oneR i = (1 : EReal) := Ideal.ofBits_one_f32

include h0 h1 in
theorem logis_on : On2 (logisR x0 x1) (fun r n => logis (gus u w r n)) := fun r n => by
  show Ideal.div (oneR _) (oneR _ + Ideal.exp (-(gateR x0 x1 (ix2 r n)))) = _
  rw [one_on, gate_on h0 h1]
  rfl

include h0 h1 h2 h3 f0 f1 f2 f3 in
theorem left_on : On2 (leftR x0 x1 x2 x3) (fun r n => inner y wd (gus u w) 0 r n) := fun r n => by
  have hr := r.isLt
  have hn := n.isLt
  show dactR x2 x3 (ix2 r n) * upR x0 x1 (ix2 r n) * logisR x0 x1 (ix2 r n)
    + gateR x0 x1 (ix2 r n) * (dactR x2 x3 (ix2 r n) * upR x0 x1 (ix2 r n)) * (logisR x0 x1 (ix2 r n) * (oneR (ix2 r n) - logisR x0 x1 (ix2 r n))) = _
  rw [dact_on h2 h3, up_on h0 h1, logis_on h0 h1, gate_on h0 h1, one_on]
  exact gather (real_sum _ _ fun d hd => real_mul (f3 _ _ hr hd) (f2 _ _ hn hd))
    (real_sum _ _ fun d hd => real_mul (f0 _ _ hr hd) (f1 _ _ hd (by omega)))
    (real_sum _ _ fun d hd => real_mul (f0 _ _ hr hd) (f1 _ _ hd (by omega)))

include h0 h1 h2 h3 in
theorem right_on : On2 (rightR x0 x1 x2 x3) (fun r n => inner y wd (gus u w) 1 r n) := fun r n => by
  show gateR x0 x1 (ix2 r n) * logisR x0 x1 (ix2 r n) * dactR x2 x3 (ix2 r n) = _
  rw [dact_on h2 h3, logis_on h0 h1, gate_on h0 h1, mul_comm]
  rfl

include h0 h1 h2 h3 f0 f1 f2 f3 in
theorem inner_on : On2 (innerR x0 x1 x2 x3) (flat y wd (gus u w)) := by
  refine beside rfl _ ((left_on h0 h1 h2 h3 f0 f1 f2 f3).congr fun i j _ hj => ?_) ((right_on h0 h1 h2 h3).congr fun i j _ hj => ?_)
  · unfold flat
    rw [show j / 2816 = 0 by omega, show j % 2816 = j by omega]
  · unfold flat
    rw [show (2816 + j) / 2816 = 1 by omega, show (2816 + j) % 2816 = j by omega]

include h0 h1 h2 h3 f0 f1 f2 f3 in
theorem outInner_on : On4 (outInner x0 x1 x2 x3) (fun s j r k => flat y wd (gus u w) r (2816 * s + 704 * j + k)) :=
  turn_1203 (a := 4096) (b := 2) (c := 4) (d := 704) _ (cast_24 (p := 2) (q := 4) (b := 704) rfl _ (inner_on h0 h1 h2 h3 f0 f1 f2 f3))

include h0 h1 h2 h3 f0 f1 f2 f3 in
theorem outInput_on : On2 (outInput x0 x1 x2 x3) (fun r d => ∑ n ∈ Finset.range 5632, flat y wd (gus u w) r n * w d n) :=
  times_turned (φ₁ := .f32) (φ₂ := .f32) (z := fun _ => 0) (inner_on h0 h1 h2 h3 f0 f1 f2 f3) h1 fun _ _ => rfl

end

/-! ### Both programs' results -/

theorem real_at2 {a b : ℕ} {x : (⟨2, ![a, b]⟩ : Shape).Idx → EReal} (hx : ∀ i, Ideal.cmp .olt (max (x i) (-(x i))) (Ideal.ofBits .f32 0x7F800000#32) = 1#1) (i j : ℕ)
    (hi : i < a) (hj : j < b) : Real (at2 x i j) := by
  unfold at2
  rw [dif_pos ⟨hi, hj⟩]
  exact ⟨_, Entry.nums_is hx ⟨i, hi⟩ ⟨j, hj⟩⟩

theorem finite2_facts : Cert.Pre_finite2.Facts := by constructor <;> decide

/-- The arguments are real numbers throughout. -/
structure Finite (m : (ℓ : Loc Kernel2Ideal.nD Kernel2Ideal.τ Kernel2Ideal.sig) → Buf (Elt Ideal) ℓ) (c : Dev Kernel2Ideal.nD) : Prop where
  u : ∀ r d, r < 4096 → d < 1024 → Real (us m c r d)
  w : ∀ d n, d < 1024 → n < 5632 → Real (ws m c d n)
  wd : ∀ n d, n < 2816 → d < 1024 → Real (ds m c n d)
  y : ∀ r d, r < 4096 → d < 1024 → Real (ys m c r d)

theorem finite_of [hf : Cert.Pre_finite2.Facts] {m : (ℓ : Loc Kernel2Ideal.nD Kernel2Ideal.τ Kernel2Ideal.sig) → Buf (Elt Ideal) ℓ} {c : Dev Kernel2Ideal.nD}
    (h : Cert.Pre_finite2.fn (F := Ideal) (m ((c.tc : Thread Kernel2Ideal.nD Kernel2Ideal.τ).loc Kernel2Ideal.main_arg0)) (m ((c.tc : Thread Kernel2Ideal.nD Kernel2Ideal.τ).loc Kernel2Ideal.main_arg1))
      (m ((c.tc : Thread Kernel2Ideal.nD Kernel2Ideal.τ).loc Kernel2Ideal.main_arg2)) (m ((c.tc : Thread Kernel2Ideal.nD Kernel2Ideal.τ).loc Kernel2Ideal.main_arg3)) = fun _ => 1#1) : Finite m c := by
  have e := congrFun h (Shape.Idx.first Cert.Pre_finite2.Facts.h_S_)
  obtain ⟨e, e3⟩ := (IntOp.andi_eq_one).1 e
  obtain ⟨e, e2⟩ := (IntOp.andi_eq_one).1 e
  obtain ⟨e0, e1⟩ := (IntOp.andi_eq_one).1 e
  have : Subsingleton Cert.Pre_finite2.S_.Idx := ⟨fun a b => funext fun i => i.elim0⟩
  exact ⟨real_at2 fun i => Host.reduce_andi_all _ _ _ _ _ e0 i, real_at2 fun i => Host.reduce_andi_all _ _ _ _ _ e1 i,
    real_at2 fun i => Host.reduce_andi_all _ _ _ _ _ e2 i, real_at2 fun i => Host.reduce_andi_all _ _ _ _ _ e3 i⟩

section
variable {m : (ℓ : Loc Kernel2Ideal.nD Kernel2Ideal.τ Kernel2Ideal.sig) → Buf (Elt Ideal) ℓ} {c : Dev Kernel2Ideal.nD} (f : Finite m c)

include f in
theorem outInner_eq : outInner (m ((c.tc : Thread Kernel2Ideal.nD Kernel2Ideal.τ).loc Kernel2Ideal.main_arg0)) (m ((c.tc : Thread Kernel2Ideal.nD Kernel2Ideal.τ).loc Kernel2Ideal.main_arg1))
    (m ((c.tc : Thread Kernel2Ideal.nD Kernel2Ideal.τ).loc Kernel2Ideal.main_arg2)) (m ((c.tc : Thread Kernel2Ideal.nD Kernel2Ideal.τ).loc Kernel2Ideal.main_arg3)) = resInner m c := by
  refine On4.ext (a := 2) (b := 4) (c := 4096) (d := 704) (outInner_on (u := us m c) (w := ws m c) (wd := ds m c) (y := ys m c) (on_at2 _) (on_at2 _) (on_at2 _) (on_at2 _) f.u f.w f.wd f.y) fun s j r k => ?_
  have hs := s.isLt
  have hj := j.isLt
  have hk := k.isLt
  show inner _ _ _ s.val r.val (704 * j.val + k.val) = flat _ _ _ r.val (2816 * s.val + 704 * j.val + k.val)
  unfold flat
  rw [show (2816 * s.val + 704 * j.val + k.val) / 2816 = s.val by omega, show (2816 * s.val + 704 * j.val + k.val) % 2816 = 704 * j.val + k.val by omega]

include f in
theorem outInput_eq : outInput (m ((c.tc : Thread Kernel2Ideal.nD Kernel2Ideal.τ).loc Kernel2Ideal.main_arg0)) (m ((c.tc : Thread Kernel2Ideal.nD Kernel2Ideal.τ).loc Kernel2Ideal.main_arg1))
    (m ((c.tc : Thread Kernel2Ideal.nD Kernel2Ideal.τ).loc Kernel2Ideal.main_arg2)) (m ((c.tc : Thread Kernel2Ideal.nD Kernel2Ideal.τ).loc Kernel2Ideal.main_arg3)) = resInput m c :=
  On2.ext (a := 4096) (b := 1024) (outInput_on (u := us m c) (w := ws m c) (wd := ds m c) (y := ys m c) (on_at2 _) (on_at2 _) (on_at2 _) (on_at2 _) f.u f.w f.wd f.y) fun r d => rfl

end

end Cert.Proof.MlpRef

end
-- ==== Proof.Chunks.lean ====
/-
  Products that contract the rows of both factors, summed a chunk of rows at a time into an array of tiles.
-/
module

public import proofs.«01_k».proof.Proof.Tiles
public import Idealize.ShloMosaic.Lib.Pipeline.ValueKit
public import Idealize.ShloMosaic.Lib.Pipeline.ValueKit.Tiles
public import Idealize.ShloMosaic.Lib.Pipeline.ReadBack

@[expose] public section

noncomputable section

namespace Cert.Proof.Chunks

open Cert.Proof.Tiles
open Idealize.ShloMosaic hiding ix0 ix1 ix2 ix3 ix4 ix5
open Idealize.ShloMosaic.ValueIdx

/-- `[K, M] × [K, N]`, both contracted over their rows. -/
def rowDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : ([1, 0] : List (Fin 2)).Perm (List.finRange 2)),
    (by decide : ([1, 0] : List (Fin 2)).Perm (List.finRange 2)), rfl, Nat.two_pos, fun b => by fin_cases b <;> rfl⟩

theorem times_rows {K M N : ℕ} {φ₁ φ₂ : FTy} {x : (⟨2, ![K, M]⟩ : Shape).Idx → EReal} {y : (⟨2, ![K, N]⟩ : Shape).Idx → EReal}
    {z : (⟨2, ![M, N]⟩ : Shape).Idx → EReal} {f g : ℕ → ℕ → EReal} (hx : On2 x f) (hy : On2 y g) (hz : On2 z fun _ _ => 0) :
    On2 (FloatOps.matmul (F := Ideal) (φ₁ := φ₁) (φ₂ := φ₂) (rowDims K M N) none x y z) (fun i j => ∑ k ∈ Finset.range K, f k i * g k j) := by
  intro i j
  refine (Ideal.matmul_apply₁_of (rowDims K M N) (a := 0) rfl (K := K) rfl x y z (ix2 i j) (fun k => ix2 k i) (fun k => ix2 k j)
    (fun k => ?_) (fun k => ?_)).trans ?_
  · rw [Shape.Idx.norm_def]
    funext a; apply Fin.ext
    match a with
    | ⟨0, _⟩ => rfl
    | ⟨1, _⟩ => rfl
  · rw [Shape.Idx.norm_def]
    funext a; apply Fin.ext
    match a with
    | ⟨0, _⟩ => rfl
    | ⟨1, _⟩ => rfl
  rw [hz i j, zero_add]
  exact sum_up K _ (fun k => f k i * g k j) fun k => by rw [hx, hy]

/-- A tile with a product added to it. -/
theorem bump {K M N : ℕ} {w : (⟨3, ![1, K, N]⟩ : Shape).Idx → EReal} {old : (⟨4, ![1, 1, M, N]⟩ : Shape).Idx → EReal}
    {x : (⟨3, ![1, K, M]⟩ : Shape).Idx → EReal} {f g v r : ℕ → ℕ → EReal} (h1) (h2) (h3) (h4)
    (hw : On3 w fun _ => v) (ho : On4 old fun _ _ => f) (hx : On3 x fun _ => g)
    (hr : ∀ i j, f i j + ∑ k ∈ Finset.range K, g k i * v k j = r i j) :
    On4 (shapeCast ⟨4, ![1, 1, M, N]⟩ (addf (F := Ideal) (φ := .f32) (shapeCast ⟨2, ![M, N]⟩ old h1)
      (FloatOps.matmul (F := Ideal) (φ₁ := .bf16) (φ₂ := .bf16) (rowDims K M N) none (shapeCast ⟨2, ![K, M]⟩ x h2) (shapeCast ⟨2, ![K, N]⟩ w h3)
        (constant (F := Ideal) ⟨2, ![M, N]⟩ .f32 0x00000000#32))) h4) (fun _ _ => r) :=
  cast_on2 _ ((add_on (cast_off2 _ ho) (times_rows (cast_off _ hx) (cast_off _ hw) zeros)).congr fun i j _ _ => hr i j)

/-! ### Tiles of an array -/

theorem tile_mem {P Q a b : ℕ} (p q : ℕ) (inb) (y : (⟨4, ![P, Q, a, b]⟩ : Shape).Idx) (h0 : (y 0).val = p) (h1 : (y 1).val = q) :
    y ∈ (Rect.unit (s := ⟨4, ![P, Q, a, b]⟩) ![p, q, 0, 0] ![1, 1, a, b] inb).set := by
  have e : (Rect.unit (s := ⟨4, ![P, Q, a, b]⟩) ![p, q, 0, 0] ![1, 1, a, b] inb).emb (ix4 (0 : Fin 1) (0 : Fin 1) (y 2) (y 3)) = y := by
    funext k
    apply Fin.ext
    refine (ValueKit.rect_emb_unit_val _ _ inb _ k).trans ?_
    match k with
    | ⟨0, _⟩ => exact h0.symm
    | ⟨1, _⟩ => exact h1.symm
    | ⟨2, _⟩ => exact Nat.zero_add _
    | ⟨3, _⟩ => exact Nat.zero_add _
  rw [← e]
  exact LoadRect.idx_mem _ _

theorem tile_is {P Q a b : ℕ} {p q : ℕ} {inb} {v : (⟨4, ![1, 1, a, b]⟩ : Shape).Idx → EReal} {f : ℕ → ℕ → ℕ → ℕ → EReal} (h : On4 v fun _ _ => f p q)
    (x : (⟨4, ![1, 1, a, b]⟩ : Shape).Idx) : v x = (fun y : (⟨4, ![P, Q, a, b]⟩ : Shape).Idx => f (y 0).val (y 1).val (y 2).val (y 3).val)
      ((Rect.unit (s := ⟨4, ![P, Q, a, b]⟩) ![p, q, 0, 0] ![1, 1, a, b] inb).emb x) := by
  have e (k) := ValueKit.rect_emb_unit_val (s := ⟨4, ![P, Q, a, b]⟩) ![p, q, 0, 0] ![1, 1, a, b] inb x k
  have z0 : (x 0).val < 1 := (x 0).isLt
  have z1 : (x 1).val < 1 := (x 1).isLt
  have e0 := e 0
  have e1 := e 1
  have e2 := e 2
  have e3 := e 3
  change _ = p + (x 0).val at e0
  change _ = q + (x 1).val at e1
  change _ = 0 + (x 2).val at e2
  change _ = 0 + (x 3).val at e3
  show _ = f _ _ _ _
  rw [e0, e1, e2, e3, show p + (x 0).val = p by omega, show q + (x 1).val = q by omega, Nat.zero_add, Nat.zero_add]
  conv_lhs => rw [ValueIdx.eq_ix4 x]
  exact h _ _ _ _

/-- The same for a slab of a three-dimensional array. -/
theorem slab_is {P a b : ℕ} {p : ℕ} {inb} {v : (⟨3, ![1, a, b]⟩ : Shape).Idx → EReal} {f : ℕ → ℕ → ℕ → EReal} (h : On3 v fun _ => f p)
    (x : (⟨3, ![1, a, b]⟩ : Shape).Idx) : v x = (fun y : (⟨3, ![P, a, b]⟩ : Shape).Idx => f (y 0).val (y 1).val (y 2).val)
      ((Rect.unit (s := ⟨3, ![P, a, b]⟩) ![p, 0, 0] ![1, a, b] inb).emb x) := by
  have e (k) := ValueKit.rect_emb_unit_val (s := ⟨3, ![P, a, b]⟩) ![p, 0, 0] ![1, a, b] inb x k
  have z0 : (x 0).val < 1 := (x 0).isLt
  have e0 := e 0
  have e1 := e 1
  have e2 := e 2
  change _ = p + (x 0).val at e0
  change _ = 0 + (x 1).val at e1
  change _ = 0 + (x 2).val at e2
  show _ = f _ _ _
  rw [e0, e1, e2, show p + (x 0).val = p by omega, Nat.zero_add, Nat.zero_add]
  conv_lhs => rw [ValueIdx.eq_ix3 x]
  exact h _ _ _

/-- A tile read out of an array. -/
theorem tile_ld {P Q a b : ℕ} {X : (⟨4, ![P, Q, a, b]⟩ : Shape).Idx → EReal} {f : ℕ → ℕ → ℕ → ℕ → EReal} (p q : ℕ) (inb) (h : On4 X f) :
    On4 (a := 1) (b := 1) (c := a) (d := b) (View.ld (Val := Elt Ideal) (e' := .f32) X (Rect.unit (s := ⟨4, ![P, Q, a, b]⟩) ![p, q, 0, 0] ![1, 1, a, b] inb)) (fun _ _ => f p q) := by
  intro s t i j
  have b0 : p + 1 ≤ P := inb 0
  have b1 : q + 1 ≤ Q := inb 1
  refine (View.ld_unit_apply_of (Val := Elt Ideal) (e := .f32) X _ _ _ _ (ix4 (⟨p, by omega⟩ : Fin P) (⟨q, by omega⟩ : Fin Q) i j) fun k => ?_).trans (h _ _ _ _)
  match k with
  | ⟨0, _⟩ => show p = p + s.val; omega
  | ⟨1, _⟩ => show q = q + t.val; omega
  | ⟨2, _⟩ => exact (Nat.zero_add _).symm
  | ⟨3, _⟩ => exact (Nat.zero_add _).symm

theorem slab_ld {P a b : ℕ} {X : (⟨3, ![P, a, b]⟩ : Shape).Idx → EReal} {f : ℕ → ℕ → ℕ → EReal} (p : ℕ) (inb) (h : On3 X f) :
    On3 (a := 1) (b := a) (c := b) (View.ld (Val := Elt Ideal) (e' := .bf16) X (Rect.unit (s := ⟨3, ![P, a, b]⟩) ![p, 0, 0] ![1, a, b] inb)) (fun _ => f p) := by
  intro s i j
  have b0 : p + 1 ≤ P := inb 0
  refine (View.ld_unit_apply_of (Val := Elt Ideal) (e := .bf16) X _ _ _ _ (ix3 (⟨p, by omega⟩ : Fin P) i j) fun k => ?_).trans (h _ _ _)
  match k with
  | ⟨0, _⟩ => show p = p + s.val; omega
  | ⟨1, _⟩ => exact (Nat.zero_add _).symm
  | ⟨2, _⟩ => exact (Nat.zero_add _).symm

section
variable {a b : ℕ} {v0 v1 v2 v3 : (⟨4, ![1, 1, a, b]⟩ : Shape).Idx → EReal} {f : ℕ → ℕ → ℕ → ℕ → EReal}

/-- Four tiles stored one after the other along the first axis. -/
theorem down (i0) (i1) (i2) (i3) (L : List (View.Piece (Elt Ideal) ⟨4, ![4, 1, a, b]⟩ .f32))
    (h0 : On4 v0 fun _ _ => f 0 0) (h1 : On4 v1 fun _ _ => f 1 0) (h2 : On4 v2 fun _ _ => f 2 0) (h3 : On4 v3 fun _ _ => f 3 0) :
    On4 (a := 4) (b := 1) (c := a) (d := b) (View.canon (Val := Elt Ideal) (s := ⟨4, ![4, 1, a, b]⟩) (e := .f32)
      (⟨Rect.unit ![3, 0, 0, 0] ![1, 1, a, b] i3, v3⟩ :: ⟨Rect.unit ![2, 0, 0, 0] ![1, 1, a, b] i2, v2⟩ ::
        ⟨Rect.unit ![1, 0, 0, 0] ![1, 1, a, b] i1, v1⟩ :: ⟨Rect.unit ![0, 0, 0, 0] ![1, 1, a, b] i0, v0⟩ :: L)) f := by
  intro p q i j
  have hq : q.val = 0 := by omega
  refine View.canon_append_of_piecesOf (Val := Elt Ideal) (e := .f32) (fun y : (⟨4, ![4, 1, a, b]⟩ : Shape).Idx => f (y 0).val (y 1).val (y 2).val (y 3).val) L
    [⟨Rect.unit ![3, 0, 0, 0] ![1, 1, a, b] i3, v3⟩, ⟨Rect.unit ![2, 0, 0, 0] ![1, 1, a, b] i2, v2⟩,
      ⟨Rect.unit ![1, 0, 0, 0] ![1, 1, a, b] i1, v1⟩, ⟨Rect.unit ![0, 0, 0, 0] ![1, 1, a, b] i0, v0⟩]
    ⟨tile_is (inb := i3) h3, tile_is (inb := i2) h2, tile_is (inb := i1) h1, tile_is (inb := i0) h0, trivial⟩ (ix4 p q i j) ?_
  match p with
  | ⟨0, _⟩ => exact ⟨_, .tail _ (.tail _ (.tail _ (.head _))), tile_mem 0 0 i0 _ rfl hq⟩
  | ⟨1, _⟩ => exact ⟨_, .tail _ (.tail _ (.head _)), tile_mem 1 0 i1 _ rfl hq⟩
  | ⟨2, _⟩ => exact ⟨_, .tail _ (.head _), tile_mem 2 0 i2 _ rfl hq⟩
  | ⟨3, _⟩ => exact ⟨_, .head _, tile_mem 3 0 i3 _ rfl hq⟩

/-- The same along the second axis. -/
theorem across (i0) (i1) (i2) (i3) (L : List (View.Piece (Elt Ideal) ⟨4, ![1, 4, a, b]⟩ .f32))
    (h0 : On4 v0 fun _ _ => f 0 0) (h1 : On4 v1 fun _ _ => f 0 1) (h2 : On4 v2 fun _ _ => f 0 2) (h3 : On4 v3 fun _ _ => f 0 3) :
    On4 (a := 1) (b := 4) (c := a) (d := b) (View.canon (Val := Elt Ideal) (s := ⟨4, ![1, 4, a, b]⟩) (e := .f32)
      (⟨Rect.unit ![0, 3, 0, 0] ![1, 1, a, b] i3, v3⟩ :: ⟨Rect.unit ![0, 2, 0, 0] ![1, 1, a, b] i2, v2⟩ ::
        ⟨Rect.unit ![0, 1, 0, 0] ![1, 1, a, b] i1, v1⟩ :: ⟨Rect.unit ![0, 0, 0, 0] ![1, 1, a, b] i0, v0⟩ :: L)) f := by
  intro p q i j
  have hp : p.val = 0 := by omega
  refine View.canon_append_of_piecesOf (Val := Elt Ideal) (e := .f32) (fun y : (⟨4, ![1, 4, a, b]⟩ : Shape).Idx => f (y 0).val (y 1).val (y 2).val (y 3).val) L
    [⟨Rect.unit ![0, 3, 0, 0] ![1, 1, a, b] i3, v3⟩, ⟨Rect.unit ![0, 2, 0, 0] ![1, 1, a, b] i2, v2⟩,
      ⟨Rect.unit ![0, 1, 0, 0] ![1, 1, a, b] i1, v1⟩, ⟨Rect.unit ![0, 0, 0, 0] ![1, 1, a, b] i0, v0⟩]
    ⟨tile_is (inb := i3) h3, tile_is (inb := i2) h2, tile_is (inb := i1) h1, tile_is (inb := i0) h0, trivial⟩ (ix4 p q i j) ?_
  match q with
  | ⟨0, _⟩ => exact ⟨_, .tail _ (.tail _ (.tail _ (.head _))), tile_mem 0 0 i0 _ hp rfl⟩
  | ⟨1, _⟩ => exact ⟨_, .tail _ (.tail _ (.head _)), tile_mem 0 1 i1 _ hp rfl⟩
  | ⟨2, _⟩ => exact ⟨_, .tail _ (.head _), tile_mem 0 2 i2 _ hp rfl⟩
  | ⟨3, _⟩ => exact ⟨_, .head _, tile_mem 0 3 i3 _ hp rfl⟩

end

/-! ### Tiles loaded again -/

section
variable {sig : RefSig} {κ : Kind} {sp : Space} {P Q a b : ℕ} {v : View sig κ sp ⟨4, ![P, Q, a, b]⟩ .f32}

/-- A store elsewhere is not seen. -/
theorem skip {r : Rect ⟨4, ![P, Q, a, b]⟩} {w : r.shape.Idx → EReal} {L : List (View.Piece (Elt Ideal) ⟨4, ![P, Q, a, b]⟩ .f32)} {p q : ℕ} {inb} {f : ℕ → ℕ → EReal}
    (h : LoadRect.disj r (Rect.unit (s := ⟨4, ![P, Q, a, b]⟩) ![p, q, 0, 0] ![1, 1, a, b] inb).toLoadRect = true)
    (hL : On4 (a := 1) (b := 1) (c := a) (d := b) (v.readCov (Val := Elt Ideal) L (Rect.unit (s := ⟨4, ![P, Q, a, b]⟩) ![p, q, 0, 0] ![1, 1, a, b] inb).toLoadRect) (fun _ _ => f)) :
    On4 (a := 1) (b := 1) (c := a) (d := b) (v.readCov (Val := Elt Ideal) (⟨r, w⟩ :: L) (Rect.unit (s := ⟨4, ![P, Q, a, b]⟩) ![p, q, 0, 0] ![1, 1, a, b] inb).toLoadRect) (fun _ _ => f) := by
  rw [View.readCov_skip (Val := Elt Ideal) v r w L _ h]
  exact hL

/-- A tile of an array filled at once. -/
theorem filled {Z : (⟨4, ![P, Q, a, b]⟩ : Shape).Idx → EReal} {inb'} {L : List (View.Piece (Elt Ideal) ⟨4, ![P, Q, a, b]⟩ .f32)} {p q : ℕ} {inb} {f : ℕ → ℕ → ℕ → ℕ → EReal} (h : On4 Z f) :
    On4 (a := 1) (b := 1) (c := a) (d := b) (v.readCov (Val := Elt Ideal) (⟨Rect.unit (s := ⟨4, ![P, Q, a, b]⟩) ![0, 0, 0, 0] ![P, Q, a, b] inb', Z⟩ :: L)
      (Rect.unit (s := ⟨4, ![P, Q, a, b]⟩) ![p, q, 0, 0] ![1, 1, a, b] inb).toLoadRect) (fun _ _ => f p q) := by
  have e := View.readCov_fill (Val := Elt Ideal) v inb' Z L (Rect.unit (s := ⟨4, ![P, Q, a, b]⟩) ![p, q, 0, 0] ![1, 1, a, b] inb) fun k => by fin_cases k <;> rfl
  rw [show v.readCov (Val := Elt Ideal) (⟨Rect.unit (s := ⟨4, ![P, Q, a, b]⟩) ![0, 0, 0, 0] ![P, Q, a, b] inb', Z⟩ :: L)
      (Rect.unit (s := ⟨4, ![P, Q, a, b]⟩) ![p, q, 0, 0] ![1, 1, a, b] inb).toLoadRect = _ from e]
  exact tile_ld p q inb h

/-- The whole array loaded. -/
theorem loaded {L : List (View.Piece (Elt Ideal) ⟨4, ![P, Q, a, b]⟩ .f32)} {inb} {f : ℕ → ℕ → ℕ → ℕ → EReal}
    (h : On4 (a := P) (b := Q) (c := a) (d := b) (View.canon (Val := Elt Ideal) L) f) :
    On4 (a := P) (b := Q) (c := a) (d := b) (v.readCov (Val := Elt Ideal) L (Rect.unit (s := ⟨4, ![P, Q, a, b]⟩) ![0, 0, 0, 0] ![P, Q, a, b] inb).toLoadRect) f := by
  intro s t i j
  rw [View.readCov_eq_canon']
  refine Eq.trans (congrArg (View.canon (Val := Elt Ideal) L) ?_) (h s t i j)
  funext k
  apply Fin.ext
  refine (Rect.idx_unit_val _ _ inb _ k).trans ?_
  match k with
  | ⟨0, _⟩ => exact Nat.zero_add _
  | ⟨1, _⟩ => exact Nat.zero_add _
  | ⟨2, _⟩ => exact Nat.zero_add _
  | ⟨3, _⟩ => exact Nat.zero_add _

end

/-- A matrix's rows a chunk of `b` at a time, with an axis of one between. -/
theorem cast_rows4 {n p b c : ℕ} {x : (⟨2, ![n, c]⟩ : Shape).Idx → EReal} {f : ℕ → ℕ → EReal} (hn : n = p * b) (h) (hx : On2 x f) :
    On4 (shapeCast ⟨4, ![p, 1, b, c]⟩ x h) (fun s _ k j => f (b * s + k) j) := by
  intro s z k j
  have b2 : b * s.val + k.val < n := by
    calc b * s.val + k.val < b * s.val + b := by omega
      _ = b * (s.val + 1) := by ring
      _ ≤ b * p := Nat.mul_le_mul_left _ s.isLt
      _ = n := by rw [hn]; ring
  refine (shapeCast_apply x _ (ix4 s z k j) (ix2 ⟨b * s.val + k.val, b2⟩ j) ?_).trans (hx _ _)
  rw [Shape.rowMajor_val_two, Shape.rowMajor_val_four]
  show (b * s.val + k.val) * c + j.val = ((s.val * 1 + z.val) * b + k.val) * c + j.val
  rw [show z.val = 0 by omega]
  ring

/-- A leading axis of one, put on by a broadcast. -/
theorem lead {a b : ℕ} {x : (⟨2, ![a, b]⟩ : Shape).Idx → EReal} {f : ℕ → ℕ → EReal} (h) (ha : a ≠ 1) (hb : b ≠ 1) (hx : On2 x f) :
    On3 (broadcastInDim ⟨3, ![1, a, b]⟩ ![1, 2] h x) (fun _ => f) := by
  intro z i j
  refine (broadcastInDim_apply ![1, 2] h x _ (ix2 i j) fun k => ?_).trans (hx _ _)
  match k with
  | ⟨0, _⟩ => exact (if_neg ha).symm
  | ⟨1, _⟩ => exact (if_neg hb).symm

theorem lead2 {a b : ℕ} {x : (⟨2, ![a, b]⟩ : Shape).Idx → EReal} {f : ℕ → ℕ → EReal} (h) (ha : a ≠ 1) (hb : b ≠ 1) (hx : On2 x f) :
    On4 (broadcastInDim ⟨4, ![1, 1, a, b]⟩ ![2, 3] h x) (fun _ _ => f) := by
  intro z y i j
  refine (broadcastInDim_apply ![2, 3] h x _ (ix2 i j) fun k => ?_).trans (hx _ _)
  match k with
  | ⟨0, _⟩ => exact (if_neg ha).symm
  | ⟨1, _⟩ => exact (if_neg hb).symm

theorem lead3 {a b d : ℕ} {x : (⟨3, ![a, b, d]⟩ : Shape).Idx → EReal} {f : ℕ → ℕ → ℕ → EReal} (h) (ha : a ≠ 1) (hb : b ≠ 1) (hd : d ≠ 1) (hx : On3 x f) :
    On4 (broadcastInDim ⟨4, ![1, a, b, d]⟩ ![1, 2, 3] h x) (fun _ => f) := by
  intro z i j l
  refine (broadcastInDim_apply ![1, 2, 3] h x _ (ix3 i j l) fun k => ?_).trans (hx _ _ _)
  match k with
  | ⟨0, _⟩ => exact (if_neg ha).symm
  | ⟨1, _⟩ => exact (if_neg hb).symm
  | ⟨2, _⟩ => exact (if_neg hd).symm

/-- The sum over a chunk of 1024 rows of one matrix's column against another's. -/
def part (f g : ℕ → ℕ → EReal) (q i j : ℕ) : EReal := ∑ k ∈ Finset.range 1024, f (1024 * q + k) i * g (1024 * q + k) j

/-- The sum of the first chunks. -/
def tally (f g : ℕ → ℕ → EReal) (n i j : ℕ) : EReal := ∑ q ∈ Finset.range n, part f g q i j

theorem tally_next (f g : ℕ → ℕ → EReal) (n i j : ℕ) : tally f g n i j + ∑ k ∈ Finset.range 1024, f (1024 * n + k) i * g (1024 * n + k) j = tally f g (n + 1) i j :=
  (Finset.sum_range_succ (fun q => part f g q i j) n).symm

/-- Four chunks are the whole column. -/
theorem tally_all (f g : ℕ → ℕ → EReal) (i j : ℕ) : tally f g 4 i j = ∑ k ∈ Finset.range 4096, f k i * g k j :=
  (sum_chunks (fun k => f k i * g k j) 1024 4).symm

/-- An array of zeros, broadcast. -/
theorem blank {P Q a b : ℕ} {f : ℕ → ℕ → ℕ → ℕ → EReal} (h) (hf : ∀ p q i j, f p q i j = 0) : On4 (a := P) (b := Q) (c := a) (d := b) (shapeCast ⟨4, ![P, Q, a, b]⟩ (broadcast ⟨4, ![P, Q, a, b]⟩
    (Scalar.ofBits (F := Ideal) .f32 0x00000000#32 : EReal)) h) f := fun p q i j => Ideal.ofBits_zero_f32.trans (hf _ _ _ _).symm

/-- What is kept between the points of a run of four, from what the first leaves and what the others make of it. -/
theorem kept {N : ℕ} {X : Type} (s : (n : ℕ) → n < N → X) (P : ℕ → ℕ → X → Prop) (first : ∀ t : Fin N, t.val % 4 = 0 → P (t.val / 4) (t.val % 4 + 1) (s t.val t.isLt))
    (next : ∀ t : Fin N, ¬t.val % 4 = 0 → ¬t.val % 4 = 3 → P (t.val / 4) (t.val % 4) (s (t.val - 1) (Nat.lt_of_le_of_lt (Nat.sub_le _ _) t.isLt)) →
      P (t.val / 4) (t.val % 4 + 1) (s t.val t.isLt)) : ∀ (n : ℕ) (h : n < N), ¬n % 4 = 3 → P (n / 4) (n % 4 + 1) (s n h) := by
  intro n
  induction n with
  | zero => exact fun h _ => first ⟨0, h⟩ rfl
  | succ n ih =>
    intro h h1
    by_cases h0 : (n + 1) % 4 = 0
    · exact first ⟨n + 1, h⟩ h0
    · have := ih (Nat.lt_of_succ_lt h) (by omega)
      rw [show n / 4 = (n + 1) / 4 by omega, show n % 4 + 1 = (n + 1) % 4 by omega] at this
      exact next ⟨n + 1, h⟩ h0 h1 this

/-- The same just before the last point. -/
theorem kept_before {N : ℕ} {X : Type} (s : (n : ℕ) → n < N → X) (P : ℕ → ℕ → X → Prop) (h : ∀ (n : ℕ) (h : n < N), ¬n % 4 = 3 → P (n / 4) (n % 4 + 1) (s n h))
    (t : Fin N) (h1 : t.val % 4 = 3) : P (t.val / 4) (t.val % 4) (s (t.val - 1) (Nat.lt_of_le_of_lt (Nat.sub_le _ _) t.isLt)) := by
  have := h (t.val - 1) (Nat.lt_of_le_of_lt (Nat.sub_le _ _) t.isLt) (by omega)
  rwa [show (t.val - 1) / 4 = t.val / 4 by omega, show (t.val - 1) % 4 + 1 = t.val % 4 by omega] at this

/-! ### The gradient of a weight stored by rows: four tiles of 704 rows at each point -/

section
variable {f g : ℕ → ℕ → EReal} {g0 n : ℕ} {x : (⟨3, ![4, 1024, 704]⟩ : Shape).Idx → EReal} {w : (⟨3, ![1, 1024, 1024]⟩ : Shape).Idx → EReal}
  {o0 o1 o2 o3 : (⟨4, ![1, 1, 704, 1024]⟩ : Shape).Idx → EReal}

/-- The four sums before a point. -/
def rowsOf (f g : ℕ → ℕ → EReal) (g0 n : ℕ) (p q i j : ℕ) : EReal := tally f g n (704 * (4 * g0 + p) + i) j

/-- A tile with its part of the product added. -/
def moreRows (w : (⟨3, ![1, 1024, 1024]⟩ : Shape).Idx → EReal) (o : (⟨4, ![1, 1, 704, 1024]⟩ : Shape).Idx → EReal) (x : (⟨3, ![1, 1024, 704]⟩ : Shape).Idx → EReal)
    (h1 : (⟨4, ![1, 1, 704, 1024]⟩ : Shape).ShapeCasts ⟨2, ![704, 1024]⟩) (h2 : (⟨3, ![1, 1024, 704]⟩ : Shape).ShapeCasts ⟨2, ![1024, 704]⟩)
    (h3 : (⟨3, ![1, 1024, 1024]⟩ : Shape).ShapeCasts ⟨2, ![1024, 1024]⟩) (h4 : (⟨2, ![704, 1024]⟩ : Shape).ShapeCasts ⟨4, ![1, 1, 704, 1024]⟩) :
    (⟨4, ![1, 1, 704, 1024]⟩ : Shape).Idx → EReal :=
  shapeCast ⟨4, ![1, 1, 704, 1024]⟩ (addf (F := Ideal) (φ := .f32) (shapeCast ⟨2, ![704, 1024]⟩ o h1)
    (FloatOps.matmul (F := Ideal) (φ₁ := .bf16) (φ₂ := .bf16) (rowDims 1024 704 1024) none (shapeCast ⟨2, ![1024, 704]⟩ x h2) (shapeCast ⟨2, ![1024, 1024]⟩ w h3)
      (constant (F := Ideal) ⟨2, ![704, 1024]⟩ .f32 0x00000000#32))) h4

theorem stepped_rows (i0) (i1) (i2) (i3) (j0) (j1) (j2) (j3) (e1) (e2) (e3) (e4) (L : List (View.Piece (Elt Ideal) ⟨4, ![4, 1, 704, 1024]⟩ .f32))
    (hx : On3 x fun p k i => f (1024 * n + k) (704 * (4 * g0 + p) + i)) (hw : On3 w fun _ k j => g (1024 * n + k) j)
    (h0 : On4 o0 fun _ _ => rowsOf f g g0 n 0 0) (h1 : On4 o1 fun _ _ => rowsOf f g g0 n 1 0) (h2 : On4 o2 fun _ _ => rowsOf f g g0 n 2 0) (h3 : On4 o3 fun _ _ => rowsOf f g g0 n 3 0) :
    On4 (a := 4) (b := 1) (c := 704) (d := 1024) (View.canon (Val := Elt Ideal) (s := ⟨4, ![4, 1, 704, 1024]⟩) (e := .f32)
      (⟨Rect.unit ![3, 0, 0, 0] ![1, 1, 704, 1024] i3, moreRows w o3 (View.ld (Val := Elt Ideal) (e' := .bf16) x (Rect.unit (s := ⟨3, ![4, 1024, 704]⟩) ![3, 0, 0] ![1, 1024, 704] j3)) e1 e2 e3 e4⟩ ::
        ⟨Rect.unit ![2, 0, 0, 0] ![1, 1, 704, 1024] i2, moreRows w o2 (View.ld (Val := Elt Ideal) (e' := .bf16) x (Rect.unit (s := ⟨3, ![4, 1024, 704]⟩) ![2, 0, 0] ![1, 1024, 704] j2)) e1 e2 e3 e4⟩ ::
        ⟨Rect.unit ![1, 0, 0, 0] ![1, 1, 704, 1024] i1, moreRows w o1 (View.ld (Val := Elt Ideal) (e' := .bf16) x (Rect.unit (s := ⟨3, ![4, 1024, 704]⟩) ![1, 0, 0] ![1, 1024, 704] j1)) e1 e2 e3 e4⟩ ::
        ⟨Rect.unit ![0, 0, 0, 0] ![1, 1, 704, 1024] i0, moreRows w o0 (View.ld (Val := Elt Ideal) (e' := .bf16) x (Rect.unit (s := ⟨3, ![4, 1024, 704]⟩) ![0, 0, 0] ![1, 1024, 704] j0)) e1 e2 e3 e4⟩ :: L))
      (rowsOf f g g0 (n + 1)) := by
  have hr (p i j : ℕ) : rowsOf f g g0 n p 0 i j + ∑ k ∈ Finset.range 1024, f (1024 * n + k) (704 * (4 * g0 + p) + i) * g (1024 * n + k) j = rowsOf f g g0 (n + 1) p 0 i j :=
    tally_next f g n _ j
  exact down _ _ _ _ _ (bump _ _ _ _ hw h0 (slab_ld 0 _ hx) (hr 0)) (bump _ _ _ _ hw h1 (slab_ld 1 _ hx) (hr 1))
    (bump _ _ _ _ hw h2 (slab_ld 2 _ hx) (hr 2)) (bump _ _ _ _ hw h3 (slab_ld 3 _ hx) (hr 3))

end

/-! ### The gradient of a weight stored by columns: four tiles of 640 columns at each point, two to a product -/

section
variable {f g : ℕ → ℕ → EReal} {g0 n : ℕ} {x : (⟨3, ![1, 1024, 1024]⟩ : Shape).Idx → EReal} {w : (⟨2, ![1024, 2560]⟩ : Shape).Idx → EReal}
  {o o0 o1 o2 o3 : (⟨4, ![1, 1, 1024, 640]⟩ : Shape).Idx → EReal}

def colsOf (f g : ℕ → ℕ → EReal) (g0 n : ℕ) (p q i j : ℕ) : EReal := tally f g n i (640 * (4 * g0 + q) + j)

/-- Columns read out of a matrix. -/
theorem cols_ld (o : ℕ) (inb) (h : On2 w fun k c => g (1024 * n + k) (2560 * g0 + c)) :
    On2 (a := 1024) (b := 1280) (View.ld (Val := Elt Ideal) (e' := .bf16) w (Rect.unit (s := ⟨2, ![1024, 2560]⟩) ![0, o] ![1024, 1280] inb))
      (fun k c => g (1024 * n + k) (2560 * g0 + (o + c))) := by
  intro k c
  have b0 : o + 1280 ≤ 2560 := inb 1
  refine (View.ld_unit_apply_of (Val := Elt Ideal) (e := .bf16) w _ _ _ _ (ix2 k (⟨o + c.val, by omega⟩ : Fin 2560)) fun a => ?_).trans (h _ _)
  match a with
  | ⟨0, _⟩ => exact (Nat.zero_add _).symm
  | ⟨1, _⟩ => rfl

theorem moreCols {v : (⟨2, ![1024, 1280]⟩ : Shape).Idx → EReal} {q : ℕ} (o d : ℕ) (ho : o + 640 ≤ 1280) (hq : 2560 * g0 + (d + o) = 640 * (4 * g0 + q)) (h1) (h2) (h3) (h4)
    (hx : On3 x fun _ k i => f (1024 * n + k) i) (hv : On2 v fun k c => g (1024 * n + k) (2560 * g0 + (d + c))) (h : On4 o0 fun _ _ => colsOf f g g0 n 0 q) :
    On4 (shapeCast ⟨4, ![1, 1, 1024, 640]⟩ (addf (F := Ideal) (φ := .f32) (shapeCast ⟨2, ![1024, 640]⟩ o0 h1)
      (extractStridedSlice ⟨2, ![1024, 640]⟩ ![0, o] (FloatOps.matmul (F := Ideal) (φ₁ := .bf16) (φ₂ := .bf16) (rowDims 1024 1024 1280) none (shapeCast ⟨2, ![1024, 1024]⟩ x h2) v
        (constant (F := Ideal) ⟨2, ![1024, 1280]⟩ .f32 0x00000000#32) : (⟨2, ![1024, 1280]⟩ : Shape).Idx → EReal) h3)) h4) (fun _ _ => colsOf f g g0 (n + 1) 0 q) :=
  cast_on2 _ ((add_on (cast_off2 _ h) (slice_cols ho _ (times_rows (cast_off _ hx) hv zeros))).congr fun i j _ _ => by
    rw [show 2560 * g0 + (d + (o + j)) = 640 * (4 * g0 + q) + j by omega]
    exact tally_next f g n i _)

end

/-! ### The gradient of a weight that is one tile -/

section
variable {M N : ℕ} {f g : ℕ → ℕ → EReal}

/-- The tile with a chunk's product added. -/
def oneMore (w : (⟨3, ![1, 1024, N]⟩ : Shape).Idx → EReal) (o : (⟨4, ![1, 1, M, N]⟩ : Shape).Idx → EReal) (x : (⟨3, ![1, 1024, M]⟩ : Shape).Idx → EReal)
    (h1 : (⟨4, ![1, 1, M, N]⟩ : Shape).ShapeCasts ⟨2, ![M, N]⟩) (h2 : (⟨3, ![1, 1024, M]⟩ : Shape).ShapeCasts ⟨2, ![1024, M]⟩)
    (h3 : (⟨3, ![1, 1024, N]⟩ : Shape).ShapeCasts ⟨2, ![1024, N]⟩) (h4 : (⟨2, ![M, N]⟩ : Shape).ShapeCasts ⟨4, ![1, 1, M, N]⟩) :
    (⟨4, ![1, 1, M, N]⟩ : Shape).Idx → EReal :=
  shapeCast ⟨4, ![1, 1, M, N]⟩ (addf (F := Ideal) (φ := .f32) (shapeCast ⟨2, ![M, N]⟩ o h1)
    (FloatOps.matmul (F := Ideal) (φ₁ := .bf16) (φ₂ := .bf16) (rowDims 1024 M N) none (shapeCast ⟨2, ![1024, M]⟩ x h2) (shapeCast ⟨2, ![1024, N]⟩ w h3)
      (constant (F := Ideal) ⟨2, ![M, N]⟩ .f32 0x00000000#32))) h4

/-- Four points, the first from zeros: the last holds the whole column's sum. -/
theorem one_tile {n : ℕ} (x : Fin n → (⟨3, ![1, 1024, M]⟩ : Shape).Idx → EReal) (w : Fin n → (⟨3, ![1, 1024, N]⟩ : Shape).Idx → EReal)
    (s : (t : ℕ) → t < n → (⟨4, ![1, 1, M, N]⟩ : Shape).Idx → EReal) (h1) (h2) (h3) (h4) (h5)
    (hx : ∀ t, On3 (x t) fun _ k i => f (1024 * (t.val % 4) + k) i) (hw : ∀ t, On3 (w t) fun _ k j => g (1024 * (t.val % 4) + k) j)
    (first : ∀ t : Fin n, t.val % 4 = 0 → s t.val t.isLt = oneMore (w t) (shapeCast ⟨4, ![1, 1, M, N]⟩ (broadcast ⟨4, ![1, 1, M, N]⟩
      (Scalar.ofBits (F := Ideal) .f32 0x00000000#32 : EReal)) h5) (x t) h1 h2 h3 h4)
    (next : ∀ t : Fin n, ¬t.val % 4 = 0 → ¬t.val % 4 = 3 →
      s t.val t.isLt = oneMore (w t) (s (t.val - 1) (Nat.lt_of_le_of_lt (Nat.sub_le _ _) t.isLt)) (x t) h1 h2 h3 h4)
    (t : Fin n) (h : t.val % 4 = 3) :
    On4 (oneMore (w t) (s (t.val - 1) (Nat.lt_of_le_of_lt (Nat.sub_le _ _) t.isLt)) (x t) h1 h2 h3 h4) (fun _ _ i j => ∑ k ∈ Finset.range 4096, f k i * g k j) := by
  have step (t : Fin n) (o : (⟨4, ![1, 1, M, N]⟩ : Shape).Idx → EReal) (ho : On4 o fun _ _ => tally f g (t.val % 4)) :
      On4 (oneMore (w t) o (x t) h1 h2 h3 h4) (fun _ _ => tally f g (t.val % 4 + 1)) :=
    bump h1 h2 h3 h4 (hw t) ho (hx t) fun i j => tally_next f g _ i j
  have all := kept s (fun _ q y => On4 y fun _ _ => tally f g q)
    (fun t h0 => by rw [first t h0]; exact step t _ (blank _ fun _ _ i j => by rw [h0]; exact Finset.sum_range_zero _))
    (fun t h0 h3 ih => by rw [next t h0 h3]; exact step t _ ih)
  have := step t _ (kept_before s (fun _ q y => On4 y fun _ _ => tally f g q) all t h)
  rw [h] at this
  exact fun p q i j => (this p q i j).trans (tally_all f g _ _)

/-- The plain gradient: the product over all rows, turned, with two leading axes of one. -/
theorem one_plain {φ : FTy} {x : (⟨2, ![4096, M]⟩ : Shape).Idx → EReal} {y : (⟨2, ![4096, N]⟩ : Shape).Idx → EReal} {z : (⟨2, ![N, M]⟩ : Shape).Idx → EReal} (hM : M ≠ 1) (hN : N ≠ 1) (e1) (e2)
    (hz : On2 z fun _ _ => 0) (hx : On2 x f) (hy : On2 y g) :
    On4 (broadcastInDim ⟨4, ![1, 1, M, N]⟩ ![2, 3] e2 (transpose ⟨2, ![M, N]⟩ [1, 0] (FloatOps.matmul (F := Ideal) (φ₁ := φ) (φ₂ := φ) (rowDims 4096 N M) none y x z) e1))
      (fun _ _ i j => ∑ k ∈ Finset.range 4096, f k i * g k j) := fun p q i j =>
  (lead2 _ hM hN (flip _ (times_rows hy hx hz)) p q i j).trans (Finset.sum_congr rfl fun k _ => mul_comm _ _)

end

end Cert.Proof.Chunks

end
-- ==== Proof.GradUp.lean ====
/-
  The gradient of the first feed-forward weight: the sums kept over a run of points, the result array after the run, and
  the reference's result.
-/
module

public import proofs.«01_k».proof.Proof.Chunks
public import proofs.«01_k».proof.Proof.Gen.Kernel3Ideal.Value
public import proofs.«01_k».proof.Proof.Gen.Reference3Ideal.Run
public import Idealize.ShloMosaic.Lib.Claim

@[expose] public section
set_option maxRecDepth 16384
noncomputable section
namespace Cert.Proof.GradUp
open Cert.Kernel3Ideal Cert.Kernel3Ideal.Gen Cert.Proof.Tiles Cert.Proof.Chunks
open Idealize.ShloMosaic hiding ix0 ix1 ix2 ix3 ix4 ix5
open Idealize.ShloMosaic.ValueIdx
open Idealize.ShloMosaic.TcCoe Idealize.ShloMosaic.Tactic

theorem index0 : ∀ t : Fin cfg0.N, win0_0.index t = ![t.val / 4, t.val % 4, 0] := by decide +kernel
theorem index1 : ∀ t : Fin cfg0.N, win0_1.index t = ![0, t.val % 4, 0] := by decide +kernel
theorem index2 : ∀ t : Fin cfg0.N, win0_2.index t = ![t.val / 4, 0, 0, 0] := by decide +kernel
theorem lt_points (t : Fin cfg0.N) : t.val < 8 := t.isLt

section
variable (m : (ℓ : Loc nD τ sig) → Buf (Elt Ideal) ℓ) (c : Dev nD)

/-- The arguments' entries. -/
def us : ℕ → ℕ → EReal := at2 (a := 4096) (b := 1024) (m ((c : Thread nD τ).loc main_arg0))
def gs : ℕ → ℕ → EReal := at2 (a := 4096) (b := 5632) (m ((c : Thread nD τ).loc main_arg1))

theorem V_left : On3 (a := 8) (b := 4096) (c := 704) (V m c main_v3) (fun p k i => gs m c k (704 * p + i)) := by
  have e : V m c main_v3 = transpose S8x4096x704 [1, 0, 2] (shapeCast S4096x8x704 (m ((c : Thread nD τ).loc main_arg1)) shapeCasts_S4096x5632_S4096x8x704)
      transposes_S4096x8x704_S8x4096x704_1_0_2 := by
    entry_read; rfl
  rw [e]
  exact turn_102 _ (cast_cols rfl _ (on_at2 _))

theorem V_right : On3 (a := 1) (b := 4096) (c := 1024) (V m c main_v4) (fun _ => us m c) := by
  have e : V m c main_v4 = broadcastInDim S1x4096x1024 ![1, 2] bcast_S4096x1024_S1x4096x1024_1_2 (m ((c : Thread nD τ).loc main_arg0)) := by
    entry_read; rfl
  rw [e]
  exact lead _ (by decide) (by decide) (on_at2 _)

theorem block0 (t : Fin cfg0.N) : On3 (a := 4) (b := 1024) (c := 704) (iblk m c 0 t) (fun p k i => gs m c (1024 * (t.val % 4) + k) (704 * (4 * (t.val / 4) + p) + i)) := by
  intro p k i
  have ht := lt_points t
  have e : iblk m c 0 t (ix3 p k i) = V m c main_v3 (ix3 ⟨4 * (t.val / 4) + p.val, by omega⟩ ⟨1024 * (t.val % 4) + k.val, by omega⟩ i) := by
    blk_ext [iblk, index0 t]
    all_goals first | (change _ + p.val = _; omega) | (change _ + k.val = _; omega)
  exact e.trans (V_left m c _ _ _)

theorem block1 (t : Fin cfg0.N) : On3 (a := 1) (b := 1024) (c := 1024) (iblk m c 1 t) (fun _ k j => us m c (1024 * (t.val % 4) + k) j) := by
  intro z k j
  have ht := lt_points t
  have e : iblk m c 1 t (ix3 z k j) = V m c main_v4 (ix3 z ⟨1024 * (t.val % 4) + k.val, by omega⟩ j) := by
    blk_ext [iblk, index1 t]
    change _ + k.val = _
    omega
  exact e.trans (V_right m c _ _ _)

/-- The sums after `n` chunks, for the tiles from `4 * q` on. -/
abbrev sums (q n : ℕ) (x : S4x1x704x1024.Idx → EReal) : Prop := On4 (a := 4) (b := 1) (c := 704) (d := 1024) x (rowsOf (gs m c) (us m c) q n)

theorem fresh (q : ℕ) : sums m c q 0 (k0_pay2 (F := Ideal)) := blank _ fun _ _ _ _ => rfl

theorem narrowed {x : S4x1x704x1024.Idx → EReal} {q n : ℕ} (h : sums m c q n x) : sums m c q n (k0_pay1 (F := Ideal) x) := h

theorem first (t : Fin cfg0.N) (h0 : t.val % 4 = 0) : sums m c (t.val / 4) (t.val % 4 + 1) (outsAt0 m c t.val t.isLt).2 := by
  have hx := block0 m c t
  have hw := block1 m c t
  have hz := fresh m c (t.val / 4)
  rw [show t.val % 4 + 1 = 0 + 1 by omega, outsAt0_A m c t h0 (by omega)]
  rw [h0] at hx hw
  frame_out
  exact stepped_rows _ _ _ _ _ _ _ _ _ _ _ _ _ hx hw (filled hz) (skip rfl (filled hz)) (skip rfl (skip rfl (filled hz)))
    (skip rfl (skip rfl (skip rfl (filled hz))))

theorem next (t : Fin cfg0.N) (h0 : ¬t.val % 4 = 0) (h1 : ¬t.val % 4 = 3)
    (ih : sums m c (t.val / 4) (t.val % 4) (outsAt0 m c (t.val - 1) (Nat.lt_of_le_of_lt (Nat.sub_le _ _) t.isLt)).2) :
    sums m c (t.val / 4) (t.val % 4 + 1) (outsAt0 m c t.val t.isLt).2 := by
  rw [outsAt0_B m c t h0 h1]
  frame_out
  simp only [read_unread_whole]
  exact stepped_rows _ _ _ _ _ _ _ _ _ _ _ _ [] (block0 m c t) (block1 m c t) (tile_ld 0 0 _ ih) (tile_ld 1 0 _ ih) (tile_ld 2 0 _ ih) (tile_ld 3 0 _ ih)

theorem last (t : Fin cfg0.N) (h1 : t.val % 4 = 3) : sums m c (t.val / 4) 4 (outsAt0 m c t.val t.isLt).1 := by
  have ih := kept_before (fun n h => (outsAt0 m c n h).2) (sums m c) (kept _ (sums m c) (first m c) (next m c)) t h1
  have hx := block0 m c t
  have hw := block1 m c t
  rw [outsAt0_C m c t (by omega) h1]
  rw [h1] at hx hw ih
  frame_out
  simp only [read_unread_whole]
  refine narrowed m c (loaded (v := View.whole cc0_scratch0) ?_)
  exact stepped_rows _ _ _ _ _ _ _ _ _ _ _ _ [] hx hw (tile_ld 0 0 _ ih) (tile_ld 1 0 _ ih) (tile_ld 2 0 _ ih) (tile_ld 3 0 _ ih)

/-- The gradient's array. -/
def res : S8x1x704x1024.Idx → EReal := fun i => ∑ k ∈ Finset.range 4096, gs m c k (704 * (i 0).val + (i 2).val) * us m c k (i 3).val

theorem array : (dats m 0 c).arrAt 2 (cfgs 0).N = res m c := by
  refine (dats m 0 c).arrAt_eq_of_covers 2 _ (by decide +kernel) fun t hf y => ?_
  have ht := lt_points t
  have h1 : t.val % 4 = 3 := (Gen.flush0_2 t).mp hf
  blk_simp [index2 t]
  obtain ⟨p, q, i, j, rfl⟩ : ∃ (p : Fin 4) (q : Fin 1) (i : Fin 704) (j : Fin 1024), y = ix4 p q i j := ⟨y 0, y 1, y 2, y 3, ValueIdx.eq_ix4 y⟩
  refine (last m c t h1 p q i j).trans ?_
  have e0 : (((win0_2.blk t).view.emb (ix4 p q i j)) 0).val = 4 * (t.val / 4) + p.val := by
    blk_simp [index2 t]
    change _ + p.val = _
    omega
  have e2 : (((win0_2.blk t).view.emb (ix4 p q i j)) 2).val = i.val := by
    blk_simp [index2 t]
    rfl
  have e3 : (((win0_2.blk t).view.emb (ix4 p q i j)) 3).val = j.val := by
    blk_simp [index2 t]
    rfl
  unfold res
  rw [e0, e2, e3]
  exact tally_all _ _ _ _

/-- The reference's result. -/
def outRef (x0 : FVec Ideal Reference3Ideal.S4096x1024 .bf16) (x1 : FVec Ideal Reference3Ideal.S4096x5632 .bf16) : FVec Ideal Reference3Ideal.S8x1x704x1024 .bf16 :=
  shapeCast Reference3Ideal.S8x1x704x1024 (transpose Reference3Ideal.S5632x1024 [1, 0] (transpose Reference3Ideal.S1024x5632 [1, 0]
    (Host.dotGeneral (F := Ideal) (φ₁ := .f32) (φ₂ := .f32) Reference3Ideal.dot_S4096x5632_S4096x1024_S5632x1024_0_0_1_1_n_n none x1 x0)
    Reference3Ideal.Gen.transposes_S5632x1024_S1024x5632_1_0) Reference3Ideal.Gen.transposes_S1024x5632_S5632x1024_1_0) Reference3Ideal.Gen.shapeCasts_S5632x1024_S8x1x704x1024

theorem ref_eq : outRef (m ((c : Thread nD τ).loc main_arg0)) (m ((c : Thread nD τ).loc main_arg1)) = res m c :=
  On4.ext (a := 8) (b := 1) (c := 704) (d := 1024)
    (cast_rows4 rfl _ (flip _ (flip _ (times_rows (φ₁ := .f32) (φ₂ := .f32) (z := fun _ => 0) (on_at2 _) (on_at2 _) fun _ _ => rfl)))) fun p q i j => rfl

end

end Cert.Proof.GradUp

end
-- ==== Proof.GradDown.lean ====
/-
  The gradient of the second feed-forward weight: the sums kept over a run of points, the result array after the run, and
  the reference's result.
-/
module

public import proofs.«01_k».proof.Proof.Chunks
public import proofs.«01_k».proof.Proof.Gen.Kernel4Ideal.Value
public import proofs.«01_k».proof.Proof.Gen.Reference4Ideal.Run
public import Idealize.ShloMosaic.Lib.Claim

@[expose] public section
set_option maxRecDepth 16384
noncomputable section
namespace Cert.Proof.GradDown
open Cert.Kernel4Ideal Cert.Kernel4Ideal.Gen Cert.Proof.Tiles Cert.Proof.Chunks
open Idealize.ShloMosaic hiding ix0 ix1 ix2 ix3 ix4 ix5
open Idealize.ShloMosaic.ValueIdx
open Idealize.ShloMosaic.TcCoe Idealize.ShloMosaic.Tactic

theorem index0 : ∀ t : Fin cfg0.N, win0_0.index t = ![t.val / 4, t.val % 4, 0] := by decide +kernel
theorem index1 : ∀ t : Fin cfg0.N, win0_1.index t = ![0, t.val % 4, 0] := by decide +kernel
theorem index2 : ∀ t : Fin cfg0.N, win0_2.index t = ![t.val / 4, 0, 0, 0] := by decide +kernel
theorem lt_points (t : Fin cfg0.N) : t.val < 4 := t.isLt

section
variable (m : (ℓ : Loc nD τ sig) → Buf (Elt Ideal) ℓ) (c : Dev nD)

/-- The arguments' entries. -/
def acts : ℕ → ℕ → EReal := at2 (a := 4096) (b := 2816) (m ((c : Thread nD τ).loc main_arg0))
def ys : ℕ → ℕ → EReal := at2 (a := 4096) (b := 1024) (m ((c : Thread nD τ).loc main_arg1))

theorem V_left : On3 (a := 4) (b := 4096) (c := 704) (V m c main_v1) (fun p k i => acts m c k (704 * p + i)) := by
  have e : V m c main_v1 = transpose S4x4096x704 [1, 0, 2] (shapeCast S4096x4x704 (m ((c : Thread nD τ).loc main_arg0)) shapeCasts_S4096x2816_S4096x4x704)
      transposes_S4096x4x704_S4x4096x704_1_0_2 := by
    entry_read; rfl
  rw [e]
  exact turn_102 _ (cast_cols rfl _ (on_at2 _))

theorem V_right : On3 (a := 1) (b := 4096) (c := 1024) (V m c main_v2) (fun _ => ys m c) := by
  have e : V m c main_v2 = broadcastInDim S1x4096x1024 ![1, 2] bcast_S4096x1024_S1x4096x1024_1_2 (m ((c : Thread nD τ).loc main_arg1)) := by
    entry_read; rfl
  rw [e]
  exact lead _ (by decide) (by decide) (on_at2 _)

theorem block0 (t : Fin cfg0.N) : On3 (a := 4) (b := 1024) (c := 704) (iblk m c 0 t) (fun p k i => acts m c (1024 * (t.val % 4) + k) (704 * (4 * (t.val / 4) + p) + i)) := by
  intro p k i
  have ht := lt_points t
  have e : iblk m c 0 t (ix3 p k i) = V m c main_v1 (ix3 ⟨4 * (t.val / 4) + p.val, by omega⟩ ⟨1024 * (t.val % 4) + k.val, by omega⟩ i) := by
    blk_ext [iblk, index0 t]
    all_goals first | (change _ + p.val = _; omega) | (change _ + k.val = _; omega)
  exact e.trans (V_left m c _ _ _)

theorem block1 (t : Fin cfg0.N) : On3 (a := 1) (b := 1024) (c := 1024) (iblk m c 1 t) (fun _ k j => ys m c (1024 * (t.val % 4) + k) j) := by
  intro z k j
  have ht := lt_points t
  have e : iblk m c 1 t (ix3 z k j) = V m c main_v2 (ix3 z ⟨1024 * (t.val % 4) + k.val, by omega⟩ j) := by
    blk_ext [iblk, index1 t]
    change _ + k.val = _
    omega
  exact e.trans (V_right m c _ _ _)

/-- The sums after `n` chunks, for the tiles from `4 * q` on. -/
abbrev sums (q n : ℕ) (x : S4x1x704x1024.Idx → EReal) : Prop := On4 (a := 4) (b := 1) (c := 704) (d := 1024) x (rowsOf (acts m c) (ys m c) q n)

theorem fresh (q : ℕ) : sums m c q 0 (k0_pay2 (F := Ideal)) := blank _ fun _ _ _ _ => rfl

theorem narrowed {x : S4x1x704x1024.Idx → EReal} {q n : ℕ} (h : sums m c q n x) : sums m c q n (k0_pay1 (F := Ideal) x) := h

theorem first (t : Fin cfg0.N) (h0 : t.val % 4 = 0) : sums m c (t.val / 4) (t.val % 4 + 1) (outsAt0 m c t.val t.isLt).2 := by
  have hx := block0 m c t
  have hw := block1 m c t
  have hz := fresh m c (t.val / 4)
  rw [show t.val % 4 + 1 = 0 + 1 by omega, outsAt0_A m c t h0 (by omega)]
  rw [h0] at hx hw
  frame_out
  exact stepped_rows _ _ _ _ _ _ _ _ _ _ _ _ _ hx hw (filled hz) (skip rfl (filled hz)) (skip rfl (skip rfl (filled hz)))
    (skip rfl (skip rfl (skip rfl (filled hz))))

theorem next (t : Fin cfg0.N) (h0 : ¬t.val % 4 = 0) (h1 : ¬t.val % 4 = 3)
    (ih : sums m c (t.val / 4) (t.val % 4) (outsAt0 m c (t.val - 1) (Nat.lt_of_le_of_lt (Nat.sub_le _ _) t.isLt)).2) :
    sums m c (t.val / 4) (t.val % 4 + 1) (outsAt0 m c t.val t.isLt).2 := by
  rw [outsAt0_B m c t h0 h1]
  frame_out
  simp only [read_unread_whole]
  exact stepped_rows _ _ _ _ _ _ _ _ _ _ _ _ [] (block0 m c t) (block1 m c t) (tile_ld 0 0 _ ih) (tile_ld 1 0 _ ih) (tile_ld 2 0 _ ih) (tile_ld 3 0 _ ih)

theorem last (t : Fin cfg0.N) (h1 : t.val % 4 = 3) : sums m c (t.val / 4) 4 (outsAt0 m c t.val t.isLt).1 := by
  have ih := kept_before (fun n h => (outsAt0 m c n h).2) (sums m c) (kept _ (sums m c) (first m c) (next m c)) t h1
  have hx := block0 m c t
  have hw := block1 m c t
  rw [outsAt0_C m c t (by omega) h1]
  rw [h1] at hx hw ih
  frame_out
  simp only [read_unread_whole]
  refine narrowed m c (loaded (v := View.whole cc0_scratch0) ?_)
  exact stepped_rows _ _ _ _ _ _ _ _ _ _ _ _ [] hx hw (tile_ld 0 0 _ ih) (tile_ld 1 0 _ ih) (tile_ld 2 0 _ ih) (tile_ld 3 0 _ ih)

/-- The gradient's array. -/
def res : S4x1x704x1024.Idx → EReal := fun i => ∑ k ∈ Finset.range 4096, acts m c k (704 * (i 0).val + (i 2).val) * ys m c k (i 3).val

theorem array : (dats m 0 c).arrAt 2 (cfgs 0).N = res m c := by
  refine (dats m 0 c).arrAt_eq_of_covers 2 _ (by decide +kernel) fun t hf y => ?_
  have ht := lt_points t
  have h1 : t.val % 4 = 3 := (Gen.flush0_2 t).mp hf
  blk_simp [index2 t]
  obtain ⟨p, q, i, j, rfl⟩ : ∃ (p : Fin 4) (q : Fin 1) (i : Fin 704) (j : Fin 1024), y = ix4 p q i j := ⟨y 0, y 1, y 2, y 3, ValueIdx.eq_ix4 y⟩
  refine (last m c t h1 p q i j).trans ?_
  have e0 : (((win0_2.blk t).view.emb (ix4 p q i j)) 0).val = 4 * (t.val / 4) + p.val := by
    blk_simp [index2 t]
    change _ + p.val = _
    omega
  have e2 : (((win0_2.blk t).view.emb (ix4 p q i j)) 2).val = i.val := by
    blk_simp [index2 t]
    rfl
  have e3 : (((win0_2.blk t).view.emb (ix4 p q i j)) 3).val = j.val := by
    blk_simp [index2 t]
    rfl
  unfold res
  rw [e0, e2, e3]
  exact tally_all _ _ _ _

/-- The reference's result. -/
def outRef (x0 : FVec Ideal Reference4Ideal.S4096x2816 .bf16) (x1 : FVec Ideal Reference4Ideal.S4096x1024 .bf16) : FVec Ideal Reference4Ideal.S4x1x704x1024 .bf16 :=
  shapeCast Reference4Ideal.S4x1x704x1024 (transpose Reference4Ideal.S2816x1024 [1, 0]
    (Host.dotGeneral (F := Ideal) (φ₁ := .f32) (φ₂ := .f32) Reference4Ideal.dot_S4096x1024_S4096x2816_S1024x2816_0_0_1_1_n_n none x1 x0)
    Reference4Ideal.Gen.transposes_S1024x2816_S2816x1024_1_0) Reference4Ideal.Gen.shapeCasts_S2816x1024_S4x1x704x1024

theorem ref_eq : outRef (m ((c : Thread nD τ).loc main_arg0)) (m ((c : Thread nD τ).loc main_arg1)) = res m c :=
  On4.ext (a := 4) (b := 1) (c := 704) (d := 1024)
    (cast_rows4 rfl _ (flip _ (times_rows (φ₁ := .f32) (φ₂ := .f32) (z := fun _ => 0) (on_at2 _) (on_at2 _) fun _ _ => rfl)))
    fun p q i j => Finset.sum_congr rfl fun k _ => mul_comm _ _

end

end Cert.Proof.GradDown

end
-- ==== Proof.GradMix.lean ====
/-
  The gradient of the mixer's projection: the sums kept over a run of points, the result array after the run, and
  the reference's result.
-/
module

public import proofs.«01_k».proof.Proof.Chunks
public import proofs.«01_k».proof.Proof.Gen.Kernel5Ideal.Value
public import proofs.«01_k».proof.Proof.Gen.Reference5Ideal.Run
public import Idealize.ShloMosaic.Lib.Claim

@[expose] public section
set_option maxRecDepth 16384
noncomputable section
namespace Cert.Proof.GradMix
open Cert.Kernel5Ideal Cert.Kernel5Ideal.Gen Cert.Proof.Tiles Cert.Proof.Chunks
open Idealize.ShloMosaic hiding ix0 ix1 ix2 ix3 ix4 ix5
open Idealize.ShloMosaic.ValueIdx
open Idealize.ShloMosaic.TcCoe Idealize.ShloMosaic.Tactic

theorem index0 : ∀ t : Fin cfg0.N, win0_0.index t = ![0, t.val % 4, 0] := by decide +kernel
theorem index1 : ∀ t : Fin cfg0.N, win0_1.index t = ![t.val % 4, t.val / 4] := by decide +kernel
theorem index2 : ∀ t : Fin cfg0.N, win0_2.index t = ![0, t.val / 4, 0, 0] := by decide +kernel
theorem lt_points (t : Fin cfg0.N) : t.val < 8 := t.isLt

section
variable (m : (ℓ : Loc nD τ sig) → Buf (Elt Ideal) ℓ) (c : Dev nD)

/-- The arguments' entries. -/
def us : ℕ → ℕ → EReal := at2 (a := 4096) (b := 1024) (m ((c : Thread nD τ).loc main_arg0))
def gs : ℕ → ℕ → EReal := at2 (a := 4096) (b := 5120) (m ((c : Thread nD τ).loc main_arg1))

theorem V_left : On3 (a := 1) (b := 4096) (c := 1024) (V m c main_v0) (fun _ => us m c) := by
  have e : V m c main_v0 = broadcastInDim S1x4096x1024 ![1, 2] bcast_S4096x1024_S1x4096x1024_1_2 (m ((c : Thread nD τ).loc main_arg0)) := by
    entry_read; rfl
  rw [e]
  exact lead _ (by decide) (by decide) (on_at2 _)

theorem block0 (t : Fin cfg0.N) : On3 (a := 1) (b := 1024) (c := 1024) (iblk m c 0 t) (fun _ k i => us m c (1024 * (t.val % 4) + k) i) := by
  intro z k i
  have ht := lt_points t
  have e : iblk m c 0 t (ix3 z k i) = V m c main_v0 (ix3 z ⟨1024 * (t.val % 4) + k.val, by omega⟩ i) := by
    blk_ext [iblk, index0 t]
    change _ + k.val = _
    omega
  exact e.trans (V_left m c _ _ _)

theorem block1 (t : Fin cfg0.N) : On2 (a := 1024) (b := 2560) (iblk m c 1 t) (fun k j => gs m c (1024 * (t.val % 4) + k) (2560 * (t.val / 4) + j)) := by
  intro k j
  have ht := lt_points t
  have e : iblk m c 1 t (ix2 k j) = V m c main_arg1 (ix2 ⟨1024 * (t.val % 4) + k.val, by omega⟩ ⟨2560 * (t.val / 4) + j.val, by omega⟩) := by
    blk_ext [iblk, index1 t]
    all_goals first | (change _ + k.val = _; omega) | (change _ + j.val = _; omega)
  rw [e, V_main_arg1]
  exact on_at2 _ _ _

/-- The sums after `n` chunks, for the tiles from `4 * q` on. -/
abbrev sums (q n : ℕ) (x : S1x4x1024x640.Idx → EReal) : Prop := On4 (a := 1) (b := 4) (c := 1024) (d := 640) x (colsOf (us m c) (gs m c) q n)

theorem fresh (q : ℕ) : sums m c q 0 (k0_pay5 (F := Ideal)) := blank _ fun _ _ _ _ => rfl

theorem narrowed {x : S1x4x1024x640.Idx → EReal} {q n : ℕ} (h : sums m c q n x) : sums m c q n (k0_pay4 (F := Ideal) x) := h

section
variable {g0 n : ℕ} {x : S1x1024x1024.Idx → EReal} {w : S1024x2560.Idx → EReal} {o0 o1 o2 o3 : S1x1x1024x640.Idx → EReal}

/-- What a point makes of the sums. -/
theorem stepped (i0) (i1) (i2) (i3) (j0) (j1) (L : List (View.Piece (Elt Ideal) S1x4x1024x640 .f32))
    (hx : On3 (a := 1) (b := 1024) (c := 1024) x fun _ k i => us m c (1024 * n + k) i) (hw : On2 (a := 1024) (b := 2560) w fun k j => gs m c (1024 * n + k) (2560 * g0 + j))
    (h0 : On4 (a := 1) (b := 1) (c := 1024) (d := 640) o0 fun _ _ => colsOf (us m c) (gs m c) g0 n 0 0) (h1 : On4 (a := 1) (b := 1) (c := 1024) (d := 640) o1 fun _ _ => colsOf (us m c) (gs m c) g0 n 0 1)
    (h2 : On4 (a := 1) (b := 1) (c := 1024) (d := 640) o2 fun _ _ => colsOf (us m c) (gs m c) g0 n 0 2) (h3 : On4 (a := 1) (b := 1) (c := 1024) (d := 640) o3 fun _ _ => colsOf (us m c) (gs m c) g0 n 0 3) :
    sums m c g0 (n + 1) (View.canon (Val := Elt Ideal) (s := S1x4x1024x640) (e := .f32)
      (⟨Rect.unit ![0, 3, 0, 0] ![1, 1, 1024, 640] i3, k0_pay3 (F := Ideal) (k0_pay9 (F := Ideal) x) (View.ld (Val := Elt Ideal) (e' := .bf16) w (Rect.unit (s := S1024x2560) ![0, 1280] ![1024, 1280] j1)) (constant (F := Ideal) S1024x1280 .f32 0x00000000#32) o3⟩ ::
        ⟨Rect.unit ![0, 2, 0, 0] ![1, 1, 1024, 640] i2, k0_pay2 (F := Ideal) (k0_pay9 (F := Ideal) x) (View.ld (Val := Elt Ideal) (e' := .bf16) w (Rect.unit (s := S1024x2560) ![0, 1280] ![1024, 1280] j1)) (constant (F := Ideal) S1024x1280 .f32 0x00000000#32) o2⟩ ::
        ⟨Rect.unit ![0, 1, 0, 0] ![1, 1, 1024, 640] i1, k0_pay8 (F := Ideal) x (View.ld (Val := Elt Ideal) (e' := .bf16) w (Rect.unit (s := S1024x2560) ![0, 0] ![1024, 1280] j0)) o1⟩ ::
        ⟨Rect.unit ![0, 0, 0, 0] ![1, 1, 1024, 640] i0, k0_pay7 (F := Ideal) x (View.ld (Val := Elt Ideal) (e' := .bf16) w (Rect.unit (s := S1024x2560) ![0, 0] ![1024, 1280] j0)) o0⟩ :: L)) := by
  refine across _ _ _ _ L ?_ ?_ ?_ ?_
  · exact moreCols 0 0 (by decide) (by omega) _ _ _ _ hx (cols_ld 0 _ hw) h0
  · exact moreCols 640 0 (by decide) (by omega) _ _ _ _ hx (cols_ld 0 _ hw) h1
  · exact moreCols 0 1280 (by decide) (by omega) _ _ _ _ hx (cols_ld 1280 _ hw) h2
  · exact moreCols 640 1280 (by decide) (by omega) _ _ _ _ hx (cols_ld 1280 _ hw) h3

end

theorem first (t : Fin cfg0.N) (h0 : t.val % 4 = 0) : sums m c (t.val / 4) (t.val % 4 + 1) (outsAt0 m c t.val t.isLt).2 := by
  have hx := block0 m c t
  have hw := block1 m c t
  have hz := fresh m c (t.val / 4)
  rw [show t.val % 4 + 1 = 0 + 1 by omega, outsAt0_A m c t h0 (by omega)]
  rw [h0] at hx hw
  frame_out
  exact stepped m c _ _ _ _ _ _ _ hx hw (filled hz) (skip rfl (filled hz)) (skip rfl (skip rfl (filled hz)))
    (skip rfl (skip rfl (skip rfl (filled hz))))

theorem next (t : Fin cfg0.N) (h0 : ¬t.val % 4 = 0) (h1 : ¬t.val % 4 = 3)
    (ih : sums m c (t.val / 4) (t.val % 4) (outsAt0 m c (t.val - 1) (Nat.lt_of_le_of_lt (Nat.sub_le _ _) t.isLt)).2) :
    sums m c (t.val / 4) (t.val % 4 + 1) (outsAt0 m c t.val t.isLt).2 := by
  rw [outsAt0_B m c t h0 h1]
  frame_out
  simp only [read_unread_whole]
  exact stepped m c _ _ _ _ _ _ [] (block0 m c t) (block1 m c t) (tile_ld 0 0 _ ih) (tile_ld 0 1 _ ih) (tile_ld 0 2 _ ih) (tile_ld 0 3 _ ih)

theorem last (t : Fin cfg0.N) (h1 : t.val % 4 = 3) : sums m c (t.val / 4) 4 (outsAt0 m c t.val t.isLt).1 := by
  have ih := kept_before (fun n h => (outsAt0 m c n h).2) (sums m c) (kept _ (sums m c) (first m c) (next m c)) t h1
  have hx := block0 m c t
  have hw := block1 m c t
  rw [outsAt0_C m c t (by omega) h1]
  rw [h1] at hx hw ih
  frame_out
  simp only [read_unread_whole]
  refine narrowed m c (loaded (v := View.whole cc0_scratch0) ?_)
  exact stepped m c _ _ _ _ _ _ [] hx hw (tile_ld 0 0 _ ih) (tile_ld 0 1 _ ih) (tile_ld 0 2 _ ih) (tile_ld 0 3 _ ih)

/-- The gradient's array. -/
def res : S1x8x1024x640.Idx → EReal := fun i => ∑ k ∈ Finset.range 4096, us m c k (i 2).val * gs m c k (640 * (i 1).val + (i 3).val)

theorem array : (dats m 0 c).arrAt 2 (cfgs 0).N = res m c := by
  refine (dats m 0 c).arrAt_eq_of_covers 2 _ (by decide +kernel) fun t hf y => ?_
  have ht := lt_points t
  have h1 : t.val % 4 = 3 := (Gen.flush0_2 t).mp hf
  blk_simp [index2 t]
  obtain ⟨p, q, i, j, rfl⟩ : ∃ (p : Fin 1) (q : Fin 4) (i : Fin 1024) (j : Fin 640), y = ix4 p q i j := ⟨y 0, y 1, y 2, y 3, ValueIdx.eq_ix4 y⟩
  refine (last m c t h1 p q i j).trans ?_
  have e1 : (((win0_2.blk t).view.emb (ix4 p q i j)) 1).val = 4 * (t.val / 4) + q.val := by
    blk_simp [index2 t]
    change _ + q.val = _
    omega
  have e2 : (((win0_2.blk t).view.emb (ix4 p q i j)) 2).val = i.val := by
    blk_simp [index2 t]
    rfl
  have e3 : (((win0_2.blk t).view.emb (ix4 p q i j)) 3).val = j.val := by
    blk_simp [index2 t]
    rfl
  unfold res
  rw [e1, e2, e3]
  exact tally_all _ _ _ _

/-- The reference's result. -/
def outRef (x0 : FVec Ideal Reference5Ideal.S4096x1024 .bf16) (x1 : FVec Ideal Reference5Ideal.S4096x5120 .bf16) : FVec Ideal Reference5Ideal.S1x8x1024x640 .bf16 :=
  broadcastInDim Reference5Ideal.S1x8x1024x640 ![1, 2, 3] Reference5Ideal.Gen.bcast_S8x1024x640_S1x8x1024x640_1_2_3 (transpose Reference5Ideal.S8x1024x640 [1, 0, 2]
    (shapeCast Reference5Ideal.S1024x8x640 (transpose Reference5Ideal.S1024x5120 [1, 0]
      (Host.dotGeneral (F := Ideal) (φ₁ := .f32) (φ₂ := .f32) Reference5Ideal.dot_S4096x5120_S4096x1024_S5120x1024_0_0_1_1_n_n none x1 x0)
      Reference5Ideal.Gen.transposes_S5120x1024_S1024x5120_1_0) Reference5Ideal.Gen.shapeCasts_S1024x5120_S1024x8x640) Reference5Ideal.Gen.transposes_S1024x8x640_S8x1024x640_1_0_2)

theorem ref_eq : outRef (m ((c : Thread nD τ).loc main_arg0)) (m ((c : Thread nD τ).loc main_arg1)) = res m c :=
  On4.ext (a := 1) (b := 8) (c := 1024) (d := 640)
    (lead3 _ (by decide) (by decide) (by decide) (turn_102 _ (cast_cols rfl _ (flip _ (times_rows (φ₁ := .f32) (φ₂ := .f32) (z := fun _ => 0) (on_at2 _) (on_at2 _) fun _ _ => rfl)))))
    fun p q i j => Finset.sum_congr rfl fun k _ => mul_comm _ _

end

end Cert.Proof.GradMix

end
-- ==== Proof.Norm.lean ====
/-
  The RMS norm with its modulation, entry by entry over the extended reals, as a kernel and as the host write it.
-/
module

public import proofs.«01_k».proof.Proof.Tiles
public import Idealize.ShloMosaic.Lib.Pipeline.ValueKit

@[expose] public section

noncomputable section

namespace Cert.Proof.Norm

open Cert.Proof.Tiles
open Idealize.ShloMosaic hiding ix0 ix1 ix2 ix3 ix4 ix5
open Idealize.ShloMosaic.ValueIdx

/-- One over the root of the mean square of row `r`, the small constant added. -/
def root (x : ℕ → ℕ → EReal) (r : ℕ) : EReal :=
  Ideal.rsqrt (Ideal.div (∑ k ∈ Finset.range 1024, x r k * x r k) (Ideal.ofBits .f32 0x44800000#32) + Ideal.ofBits .f32 0x358637BD#32)

/-- The normed and modulated row. -/
def normed (x g sh sc : ℕ → ℕ → EReal) (r d : ℕ) : EReal := x r d * root x r * g 0 d * (1 + sc 0 d) + sh 0 d

/-- x times its logistic function. -/
def silu (x : EReal) : EReal := x * Ideal.div 1 (1 + Ideal.exp (-x))

/-- The column of the rows' roots, as a kernel computes it. -/
def rootCol {a : ℕ} (x : FVec Ideal ⟨2, ![a, 1024]⟩ .f32) (h : (⟨2, ![a, 1024]⟩ : Shape).Reduces [1] ⟨1, ![a]⟩) (h' : (⟨1, ![a]⟩ : Shape).ShapeCasts ⟨2, ![a, 1]⟩) : FVec Ideal ⟨2, ![a, 1]⟩ .f32 :=
  rsqrt (addf (divf (shapeCast ⟨2, ![a, 1]⟩ (multiReduction .add [1] ⟨1, ![a]⟩ (mulf x x) 0x00000000#32 h (.inl rfl) rfl) h') (broadcast ⟨2, ![a, 1]⟩ (Scalar.ofBits .f32 0x44800000#32)))
    (broadcast ⟨2, ![a, 1]⟩ (Scalar.ofBits .f32 0x358637BD#32)))

theorem root_on {a : ℕ} {x : FVec Ideal ⟨2, ![a, 1024]⟩ .f32} {f : ℕ → ℕ → EReal} (hx : On2 x f) (h) (h') :
    On2 (rootCol x h h') (fun r _ => root f r) := by
  intro r z
  show Ideal.rsqrt (Ideal.div (shapeCast ⟨2, ![a, 1]⟩ (multiReduction (F := Ideal) .add [1] ⟨1, ![a]⟩ (mulf x x) 0x00000000#32 h (.inl rfl) rfl) h' (ix2 r z)) (Ideal.ofBits .f32 0x44800000#32)
    + Ideal.ofBits .f32 0x358637BD#32) = _
  refine congrArg (fun s => Ideal.rsqrt (Ideal.div s (Ideal.ofBits .f32 0x44800000#32) + Ideal.ofBits .f32 0x358637BD#32)) ?_
  refine (shapeCast_a_a1_apply _ _ r z).trans ((Ideal.multiReduction_add_single (φ := .f32) (mulf x x) 0x00000000#32 h (.inl rfl) rfl (ix1 r)).trans ?_)
  refine sum_up 1024 _ (fun k => f r k * f r k) fun k => ?_
  have e : h.lift (ix1 r) k = ix2 r k := by
    funext b
    match b with
    | ⟨0, _⟩ => rfl
    | ⟨1, _⟩ => rfl
  show x (h.lift (ix1 r) k) * x (h.lift (ix1 r) k) = _
  rw [e]
  exact congrArg₂ (· * ·) (hx r k) (hx r k)

/-- A column along the rows. -/
theorem across_on {a : ℕ} {x : FVec Ideal ⟨2, ![a, 1]⟩ .f32} {f : ℕ → EReal} (hx : On2 x fun r _ => f r) (h : (⟨2, ![a, 1]⟩ : Shape).Broadcasts ⟨2, ![a, 1024]⟩)
    (r : Fin a) (d : Fin 1024) : broadcastTo ⟨2, ![a, 1024]⟩ x h (ix2 r d) = f r := by
  refine (broadcastTo_apply x h (ix2 r d) (ix2 r (0 : Fin 1)) fun ax => ?_).trans (hx _ _)
  match ax with
  | ⟨0, _⟩ =>
    show r.val = if a = 1 then 0 else r.val
    split_ifs with e
    · have := r.isLt
      omega
    · rfl
  | ⟨1, _⟩ => rfl

end Cert.Proof.Norm

end
-- ==== Proof.Up.lean ====
/-
  The first half of the feed-forward pair: norm, modulation, the product and the gated activation, block by block of
  tokens, and the three result arrays after the run.
-/
module

public import proofs.«01_k».proof.Proof.Chunks
public import proofs.«01_k».proof.Proof.Norm
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import Idealize.ShloMosaic.Lib.WholeRead
public import Idealize.ShloMosaic.Lib.Pipeline.ValueKit
public import Idealize.ShloMosaic.Lib.Claim

@[expose] public section

set_option maxRecDepth 16384

noncomputable section

namespace Cert.Proof.Up

open Cert.Kernel6Ideal Cert.Kernel6Ideal.Gen Cert.Proof.Tiles Cert.Proof.Chunks Cert.Proof.Norm
open Idealize.ShloMosaic hiding ix0 ix1 ix2 ix3 ix4 ix5
open Idealize.ShloMosaic.ValueIdx
open Idealize.ShloMosaic.TcCoe Idealize.ShloMosaic.Tactic

/-! ### One block of tokens -/

/-- The block's product with a tile of the weight. -/
def prod (u : FVec Ideal S512x1024 .bf16) (w : Vec Ideal S1x704x1024 .bf16) : FVec Ideal S512x704 .f32 :=
  matmul dot_S512x1024_S704x1024_S512x704_1_1_0_0_n_n none u (shapeCast S704x1024 w shapeCasts_S1x704x1024_S704x1024 : FVec Ideal S704x1024 .bf16) (constant S512x704 .f32 0x00000000#32)

theorem prod_on {u : FVec Ideal S512x1024 .bf16} {w : Vec Ideal S1x704x1024 .bf16} {f g : ℕ → ℕ → EReal} (hu : On2 u f) (hw : On3 w fun _ => g) :
    On2 (prod u w) (fun r n => ∑ d ∈ Finset.range 1024, f r d * g n d) :=
  times_turned (φ₁ := .bf16) (φ₂ := .bf16) hu (cast_off shapeCasts_S1x704x1024_S704x1024 hw) zeros

/-- The gated activation of two products. -/
def gated (g up : FVec Ideal S512x704 .f32) : FVec Ideal S1x512x704 .bf16 :=
  shapeCast S1x512x704 (mulf (mulf g (divf (broadcast S512x704 (Scalar.ofBits .f32 0x3F800000#32)) (addf (broadcast S512x704 (Scalar.ofBits .f32 0x3F800000#32))
    (exp (subf (broadcast S512x704 (Scalar.ofBits .f32 0x00000000#32)) g))))) up : FVec Ideal S512x704 .f32) shapeCasts_S512x704_S1x512x704

theorem gated_on {g up : FVec Ideal S512x704 .f32} {f h : ℕ → ℕ → EReal} (hg : On2 g f) (hu : On2 up h) :
    On3 (gated g up) (fun _ r n => silu (f r n) * h r n) :=
  cast_on shapeCasts_S512x704_S1x512x704 fun r n => by
    show g (ix2 r n) * Ideal.div (Ideal.ofBits .f32 0x3F800000#32) (Ideal.ofBits .f32 0x3F800000#32 + Ideal.exp (Ideal.ofBits .f32 0x00000000#32 - g (ix2 r n))) * up (ix2 r n) = _
    rw [hg, hu, Ideal.ofBits_zero_f32, Ideal.ofBits_one_f32, zero_sub]
    rfl

section
variable {x0 : Vec Ideal S512x1024 .f32} {x1 x2 x3 : Vec Ideal S1x1024 .f32} {x4 : Vec Ideal S8x704x1024 .bf16}
  {x g sh sc w : ℕ → ℕ → EReal} (h0 : On2 x0 x) (h1 : On2 x1 g) (h2 : On2 x2 sh) (h3 : On2 x3 sc) (h4 : On3 x4 fun q n d => w d (704 * q + n))

theorem whole0 (y : Vec Ideal S512x1024 .f32) : View.ld y r0_0 = y := View.ld_unit_lit _ _ (by decide)
theorem whole1 (y : Vec Ideal S1x1024 .f32) : View.ld y r0_1 = y := View.ld_unit_lit _ _ (by decide)

include h0 h1 h2 h3 in
theorem norm_on : On2 (k0_pay2 (F := Ideal) x0 x1 x3 x2) (normed x g sh sc) := by
  intro r d
  show x0 (ix2 r d) * broadcastTo S512x1024 (rootCol x0 reduces_S512x1024_S512 shapeCasts_S512_S512x1) broadcasts_S512x1_S512x1024 (ix2 r d)
      * broadcastTo S512x1024 x1 broadcasts_S1x1024_S512x1024 (ix2 r d)
      * broadcastTo S512x1024 (addf (F := Ideal) (φ := .f32) (broadcast S1x1024 (Scalar.ofBits .f32 0x3F800000#32)) x3) broadcasts_S1x1024_S512x1024 (ix2 r d)
      + broadcastTo S512x1024 x2 broadcasts_S1x1024_S512x1024 (ix2 r d) = _
  rw [across_on (root_on h0 _ _) broadcasts_S512x1_S512x1024, broadcastTo_1b_ab_apply, broadcastTo_1b_ab_apply, broadcastTo_1b_ab_apply, h0, h1, h2]
  show _ * (Ideal.ofBits .f32 0x3F800000#32 + x3 (ix2 0 d)) + _ = _
  rw [h3, Ideal.ofBits_one_f32]
  rfl

include h0 h1 h2 h3 in
theorem out5_on : On2 (out0_5 x0 x1 x2 x3 x4) (normed x g sh sc) := by
  unfold out0_5
  rw [View.canon_unit_zero (by funext a; match a with | ⟨0, _⟩ => rfl | ⟨1, _⟩ => rfl), whole0, whole1, whole1, whole1]
  exact norm_on h0 h1 h2 h3

theorem named26 (x0 : Vec Ideal S512x1024 .f32) (x1 x2 x3 : Vec Ideal S1x1024 .f32) (x4 : Vec Ideal S8x704x1024 .bf16) :
    k0_pay26 x0 x1 x2 x3 x4 = k0_pay2 (F := Ideal) x0 x1 x3 x2 := by
  unfold k0_pay26
  rw [whole0, whole1, whole1, whole1]

theorem named27 (x0 : Vec Ideal S512x1024 .f32) (x1 x2 x3 : Vec Ideal S1x1024 .f32) (x4 : Vec Ideal S8x704x1024 .bf16) :
    k0_pay27 x0 x1 x2 x3 x4 = prod (k0_pay2 (F := Ideal) x0 x1 x3 x2) (View.ld x4 r0_3) := by
  unfold k0_pay27
  rw [whole0, whole1, whole1, whole1]
  rfl

/-- Row `r` of the normed input against column `n` of the weight. -/
def inner (x g sh sc w : ℕ → ℕ → EReal) (r n : ℕ) : EReal := ∑ d ∈ Finset.range 1024, normed x g sh sc r d * w d n

/-- The products' tiles, and the activation's. -/
def tiles (x g sh sc w : ℕ → ℕ → EReal) (s j r n : ℕ) : EReal := inner x g sh sc w r (704 * (4 * s + j) + n)
def acts (x g sh sc w : ℕ → ℕ → EReal) (j r n : ℕ) : EReal := silu (inner x g sh sc w r (704 * j + n)) * inner x g sh sc w r (704 * (4 + j) + n)

include h0 h1 h2 h3 h4 in
theorem slab_on (q : ℕ) (inb) : On2 (prod (k0_pay2 (F := Ideal) x0 x1 x3 x2) (View.ld x4 (Rect.unit (s := S8x704x1024) ![q, 0, 0] S1x704x1024.size inb)))
    (fun r n => inner x g sh sc w r (704 * q + n)) :=
  prod_on (norm_on h0 h1 h2 h3) (slab_ld (P := 8) (a := 704) (b := 1024) q inb h4)

include h0 h1 h2 h3 h4 in
theorem tile_on (s j : ℕ) (inb) : On4 (shapeCast S1x1x512x704 (prod (k0_pay2 (F := Ideal) x0 x1 x3 x2) (View.ld x4 (Rect.unit (s := S8x704x1024) ![4 * s + j, 0, 0] S1x704x1024.size inb)) : FVec Ideal S512x704 .f32) shapeCasts_S512x704_S1x1x512x704)
    (fun _ _ => tiles x g sh sc w s j) :=
  cast_on2 shapeCasts_S512x704_S1x1x512x704 (slab_on h0 h1 h2 h3 h4 (4 * s + j) inb)

include h0 h1 h2 h3 h4 in
theorem out6_on : On4 (out0_6 x0 x1 x2 x3 x4) (tiles x g sh sc w) := by
  intro s j r n
  unfold out0_6
  rw [whole0, whole1, whole1, whole1]
  simp only [named26, named27]
  refine View.canon_apply_of_pieces (Val := Elt Ideal) (e := .bf16) (S := S2x4x512x704) (fun y => tiles x g sh sc w (y 0).val (y 1).val (y 2).val (y 3).val) _ ?_ _ (cover0_6 _ _ _ _ _ _ _ _ _)
  intro p hp
  simp only [List.mem_cons, List.mem_nil_iff, or_false] at hp
  rcases hp with rfl | rfl | rfl | rfl | rfl | rfl | rfl | rfl
  · exact tile_is (inb := inb_S2x4x512x704_S1x1x512x704_1_3_0_0) (tile_on h0 h1 h2 h3 h4 1 3 inb_S8x704x1024_S1x704x1024_7_0_0)
  · exact tile_is (inb := inb_S2x4x512x704_S1x1x512x704_0_3_0_0) (tile_on h0 h1 h2 h3 h4 0 3 inb_S8x704x1024_S1x704x1024_3_0_0)
  · exact tile_is (inb := inb_S2x4x512x704_S1x1x512x704_1_2_0_0) (tile_on h0 h1 h2 h3 h4 1 2 inb_S8x704x1024_S1x704x1024_6_0_0)
  · exact tile_is (inb := inb_S2x4x512x704_S1x1x512x704_0_2_0_0) (tile_on h0 h1 h2 h3 h4 0 2 inb_S8x704x1024_S1x704x1024_2_0_0)
  · exact tile_is (inb := inb_S2x4x512x704_S1x1x512x704_1_1_0_0) (tile_on h0 h1 h2 h3 h4 1 1 inb_S8x704x1024_S1x704x1024_5_0_0)
  · exact tile_is (inb := inb_S2x4x512x704_S1x1x512x704_0_1_0_0) (tile_on h0 h1 h2 h3 h4 0 1 inb_S8x704x1024_S1x704x1024_1_0_0)
  · exact tile_is (inb := inb_S2x4x512x704_S1x1x512x704_1_0_0_0) (tile_on h0 h1 h2 h3 h4 1 0 inb_S8x704x1024_S1x704x1024_4_0_0)
  · exact tile_is (inb := inb_S2x4x512x704_S1x1x512x704_0_0_0_0) (tile_on h0 h1 h2 h3 h4 0 0 inb_S8x704x1024_S1x704x1024_0_0_0)

include h0 h1 h2 h3 h4 in
theorem act_on (j : ℕ) (i1) (i2) : On3 (gated (prod (k0_pay2 (F := Ideal) x0 x1 x3 x2) (View.ld x4 (Rect.unit (s := S8x704x1024) ![j, 0, 0] S1x704x1024.size i1)))
      (prod (k0_pay2 (F := Ideal) x0 x1 x3 x2) (View.ld x4 (Rect.unit (s := S8x704x1024) ![4 + j, 0, 0] S1x704x1024.size i2)))) (fun _ => acts x g sh sc w j) :=
  gated_on (slab_on h0 h1 h2 h3 h4 j i1) (slab_on h0 h1 h2 h3 h4 (4 + j) i2)

include h0 h1 h2 h3 h4 in
theorem out7_on : On3 (out0_7 x0 x1 x2 x3 x4) (acts x g sh sc w) := by
  intro j r n
  unfold out0_7
  rw [whole0, whole1, whole1, whole1]
  simp only [named26, named27]
  refine View.canon_apply_of_pieces (Val := Elt Ideal) (e := .bf16) (S := S4x512x704) (fun y => acts x g sh sc w (y 0).val (y 1).val (y 2).val) _ ?_ _ (cover0_7 _ _ _ _ _)
  intro p hp
  simp only [List.mem_cons, List.mem_nil_iff, or_false] at hp
  rcases hp with rfl | rfl | rfl | rfl
  · exact slab_is (inb := inb_S4x512x704_S1x512x704_3_0_0) (act_on h0 h1 h2 h3 h4 3 inb_S8x704x1024_S1x704x1024_3_0_0 inb_S8x704x1024_S1x704x1024_7_0_0)
  · exact slab_is (inb := inb_S4x512x704_S1x512x704_2_0_0) (act_on h0 h1 h2 h3 h4 2 inb_S8x704x1024_S1x704x1024_2_0_0 inb_S8x704x1024_S1x704x1024_6_0_0)
  · exact slab_is (inb := inb_S4x512x704_S1x512x704_1_0_0) (act_on h0 h1 h2 h3 h4 1 inb_S8x704x1024_S1x704x1024_1_0_0 inb_S8x704x1024_S1x704x1024_5_0_0)
  · exact slab_is (inb := inb_S4x512x704_S1x512x704_0_0_0) (act_on h0 h1 h2 h3 h4 0 inb_S8x704x1024_S1x704x1024_0_0_0 inb_S8x704x1024_S1x704x1024_4_0_0)

end

/-! ### The arrays -/

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0, 0] := by decide +kernel
theorem index5 : ∀ t : Fin cfg0.N, win0_5.index t = ![t.val, 0] := by decide +kernel
theorem index6 : ∀ t : Fin cfg0.N, win0_6.index t = ![0, 0, t.val, 0] := by decide +kernel
theorem index7 : ∀ t : Fin cfg0.N, win0_7.index t = ![0, t.val, 0] := by decide +kernel
theorem lt_points (t : Fin cfg0.N) : t.val < 8 := t.isLt

section
variable (m : (ℓ : Loc nD τ sig) → Buf (Elt Ideal) ℓ) (c : Dev nD)

/-- The arguments' entries. -/
def xs : ℕ → ℕ → EReal := at2 (a := 4096) (b := 1024) (m ((c : Thread nD τ).loc main_arg0))
def gs : ℕ → ℕ → EReal := at2 (a := 1) (b := 1024) (m ((c : Thread nD τ).loc main_arg1))
def shs : ℕ → ℕ → EReal := at2 (a := 1) (b := 1024) (m ((c : Thread nD τ).loc main_arg2))
def scs : ℕ → ℕ → EReal := at2 (a := 1) (b := 1024) (m ((c : Thread nD τ).loc main_arg3))
def ws : ℕ → ℕ → EReal := at2 (a := 1024) (b := 5632) (m ((c : Thread nD τ).loc main_arg4))

theorem V_up : On3 (a := 8) (b := 704) (c := 1024) (V m c main_v1) (fun q n d => ws m c d (704 * q + n)) := by
  have e : V m c main_v1 = shapeCast S8x704x1024 (transpose S5632x1024 [1, 0] (m ((c : Thread nD τ).loc main_arg4)) transposes_S1024x5632_S5632x1024_1_0) shapeCasts_S5632x1024_S8x704x1024 := by
    entry_read; rfl
  rw [e]
  exact cast_23 rfl _ (flip _ (on_at2 _))

theorem block0 (t : Fin cfg0.N) : On2 (a := 512) (b := 1024) (iblk m c 0 t) (fun r d => xs m c (512 * t.val + r) d) := by
  intro r d
  have ht := lt_points t
  have e : iblk m c 0 t (ix2 r d) = V m c main_arg0 (ix2 ⟨512 * t.val + r.val, by omega⟩ d) := by
    blk_ext [iblk, index0 t]
    change _ + r.val = _
    omega
  rw [e, V_main_arg0]
  exact on_at2 _ _ _

theorem block1 (t : Fin cfg0.N) : On2 (a := 1) (b := 1024) (iblk m c 1 t) (gs m c) := by
  intro r d
  have e : iblk m c 1 t (ix2 r d) = V m c main_arg1 (ix2 r d) := by
    blk_ext [iblk, index1 t]
  rw [e, V_main_arg1]
  exact on_at2 _ _ _

theorem block2 (t : Fin cfg0.N) : On2 (a := 1) (b := 1024) (iblk m c 2 t) (shs m c) := by
  intro r d
  have e : iblk m c 2 t (ix2 r d) = V m c main_arg2 (ix2 r d) := by
    blk_ext [iblk, index2 t]
  rw [e, V_main_arg2]
  exact on_at2 _ _ _

theorem block3 (t : Fin cfg0.N) : On2 (a := 1) (b := 1024) (iblk m c 3 t) (scs m c) := by
  intro r d
  have e : iblk m c 3 t (ix2 r d) = V m c main_arg3 (ix2 r d) := by
    blk_ext [iblk, index3 t]
  rw [e, V_main_arg3]
  exact on_at2 _ _ _

theorem block4 (t : Fin cfg0.N) : On3 (a := 8) (b := 704) (c := 1024) (iblk m c 4 t) (fun q n d => ws m c d (704 * q + n)) := by
  intro q k d
  have e : iblk m c 4 t (ix3 q k d) = V m c main_v1 (ix3 q k d) := by
    blk_ext [iblk, index4 t]
  exact e.trans (V_up m c q k d)

/-- The normed input, the inner products in tiles, the activation in tiles. -/
def resNorm : S4096x1024.Idx → EReal := fun i => normed (xs m c) (gs m c) (shs m c) (scs m c) (i 0).val (i 1).val
def resInner : S2x4x4096x704.Idx → EReal := fun i => tiles (xs m c) (gs m c) (shs m c) (scs m c) (ws m c) (i 0).val (i 1).val (i 2).val (i 3).val
def resAct : S4x4096x704.Idx → EReal := fun i => acts (xs m c) (gs m c) (shs m c) (scs m c) (ws m c) (i 0).val (i 1).val (i 2).val

theorem array5 : (dats m 0 c).arrAt 5 (cfgs 0).N = resNorm m c := by
  refine (dats m 0 c).arrAt_eq_of_covers 5 _ (by decide +kernel) fun t hf y => ?_
  have ht := lt_points t
  blk_simp [index5 t]
  rw [after0_5]
  obtain ⟨r, d, rfl⟩ : ∃ (r : Fin 512) (d : Fin 1024), y = ix2 r d := ⟨y 0, y 1, ValueIdx.eq_ix2 y⟩
  refine (out5_on (block0 m c t) (block1 m c t) (block2 m c t) (block3 m c t) r d).trans ?_
  have e0 : (((win0_5.blk t).view.emb (ix2 r d)) 0).val = 512 * t.val + r.val := by
    blk_simp [index5 t]
    change _ + r.val = _
    omega
  have e1 : (((win0_5.blk t).view.emb (ix2 r d)) 1).val = d.val := by
    blk_simp [index5 t]
    rfl
  unfold resNorm
  rw [e0, e1]
  rfl

theorem array6 : (dats m 0 c).arrAt 6 (cfgs 0).N = resInner m c := by
  refine (dats m 0 c).arrAt_eq_of_covers 6 _ (by decide +kernel) fun t hf y => ?_
  have ht := lt_points t
  blk_simp [index6 t]
  rw [after0_6]
  obtain ⟨s, j, r, k, rfl⟩ : ∃ (s : Fin 2) (j : Fin 4) (r : Fin 512) (k : Fin 704), y = ix4 s j r k := ⟨y 0, y 1, y 2, y 3, ValueIdx.eq_ix4 y⟩
  refine (out6_on (block0 m c t) (block1 m c t) (block2 m c t) (block3 m c t) (block4 m c t) s j r k).trans ?_
  have e0 : (((win0_6.blk t).view.emb (ix4 s j r k)) 0).val = s.val := by
    blk_simp [index6 t]
    rfl
  have e1 : (((win0_6.blk t).view.emb (ix4 s j r k)) 1).val = j.val := by
    blk_simp [index6 t]
    rfl
  have e2 : (((win0_6.blk t).view.emb (ix4 s j r k)) 2).val = 512 * t.val + r.val := by
    blk_simp [index6 t]
    change _ + r.val = _
    omega
  have e3 : (((win0_6.blk t).view.emb (ix4 s j r k)) 3).val = k.val := by
    blk_simp [index6 t]
    rfl
  unfold resInner
  rw [e0, e1, e2, e3]
  rfl

theorem array7 : (dats m 0 c).arrAt 7 (cfgs 0).N = resAct m c := by
  refine (dats m 0 c).arrAt_eq_of_covers 7 _ (by decide +kernel) fun t hf y => ?_
  have ht := lt_points t
  blk_simp [index7 t]
  rw [after0_7]
  obtain ⟨j, r, k, rfl⟩ : ∃ (j : Fin 4) (r : Fin 512) (k : Fin 704), y = ix3 j r k := ⟨y 0, y 1, y 2, ValueIdx.eq_ix3 y⟩
  refine (out7_on (block0 m c t) (block1 m c t) (block2 m c t) (block3 m c t) (block4 m c t) j r k).trans ?_
  have e0 : (((win0_7.blk t).view.emb (ix3 j r k)) 0).val = j.val := by
    blk_simp [index7 t]
    rfl
  have e1 : (((win0_7.blk t).view.emb (ix3 j r k)) 1).val = 512 * t.val + r.val := by
    blk_simp [index7 t]
    change _ + r.val = _
    omega
  have e2 : (((win0_7.blk t).view.emb (ix3 j r k)) 2).val = k.val := by
    blk_simp [index7 t]
    rfl
  unfold resAct
  rw [e0, e1, e2]
  rfl

end

end Cert.Proof.Up

end
-- ==== Proof.UpRef.lean ====
/-
  The reference's first half of the feed-forward pair, entry by entry; it is the kernel's.
-/
module

public import proofs.«01_k».proof.Proof.Up
public import proofs.«01_k».proof.Proof.Gen.Reference6Ideal
public import proofs.«01_k».proof.Proof.Gen.Reference6Ideal.Run

@[expose] public section

set_option maxRecDepth 16384

noncomputable section

namespace Cert.Proof.UpRef

open Cert.Reference6Ideal Cert.Reference6Ideal.Gen Cert.Proof.Tiles Cert.Proof.Norm
open Idealize.ShloMosaic hiding ix0 ix1 ix2 ix3 ix4 ix5
open Idealize.ShloMosaic.ValueIdx

/-! ### The reference's stages -/

section
variable (x : FVec Ideal S4096x1024 .f32) (g sh sc : FVec Ideal S1x1024 .f32) (w : FVec Ideal S1024x5632 .bf16)

def rootR : FVec Ideal S4096x1 .f32 :=
  Host.rsqrt (addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))
def rowsR (v : FVec Ideal S1x1024 .f32) : FVec Ideal S4096x1024 .f32 := broadcastInDim S4096x1024 ![0, 1] bcast_S1x1024_S4096x1024_0_1 v
def normR : FVec Ideal S4096x1024 .f32 :=
  addf (mulf (mulf (mulf x (broadcastInDim S4096x1024 ![0, 1] bcast_S4096x1_S4096x1024_0_1 (rootR x))) (rowsR g))
    (rowsR (addf (broadcastInDim S1x1024 ![] bcast_S_S1x1024 (constant S_ .f32 0x3F800000#32)) sc))) (rowsR sh)
def prodR : FVec Ideal S4096x5632 .f32 := Host.dotGeneral dot_S4096x1024_S1024x5632_S4096x5632_1_0_0_1_n_n none (normR x g sh sc) (extf .f32 w bitsLt_bf16_f32)
def gateR : FVec Ideal S4096x2816 .f32 := extractStridedSlice S4096x2816 ![0, 0] (prodR x g sh sc w) slices_S4096x5632_S4096x2816_0_0
def upR : FVec Ideal S4096x2816 .f32 := extractStridedSlice S4096x2816 ![0, 2816] (prodR x g sh sc w) slices_S4096x5632_S4096x2816_0_2816
def oneR : FVec Ideal S4096x2816 .f32 := broadcastInDim S4096x2816 ![] bcast_S_S4096x2816 (constant S_ .f32 0x3F800000#32)
def actR : FVec Ideal S4096x2816 .f32 :=
  mulf (mulf (gateR x g sh sc w) (Host.divf oneR (addf oneR (Host.exp (Host.negf (gateR x g sh sc w)))))) (upR x g sh sc w)

def outNorm : FVec Ideal S4096x1024 .bf16 := truncf .bf16 (normR x g sh sc) bitsLt_bf16_f32
def outInner : FVec Ideal S2x4x4096x704 .bf16 :=
  truncf .bf16 (transpose S2x4x4096x704 [1, 2, 0, 3] (shapeCast S4096x2x4x704 (prodR x g sh sc w) shapeCasts_S4096x5632_S4096x2x4x704 : FVec Ideal S4096x2x4x704 .f32) transposes_S4096x2x4x704_S2x4x4096x704_1_2_0_3) bitsLt_bf16_f32
def outAct : FVec Ideal S4x4096x704 .bf16 :=
  truncf .bf16 (transpose S4x4096x704 [1, 0, 2] (shapeCast S4096x4x704 (actR x g sh sc w) shapeCasts_S4096x2816_S4096x4x704 : FVec Ideal S4096x4x704 .f32) transposes_S4096x4x704_S4x4096x704_1_0_2) bitsLt_bf16_f32

end

theorem red : Shape.Reduces S4096x1024 [1] S4096 := by decide

section
variable {x0 : FVec Ideal S4096x1024 .f32} {x1 x2 x3 : FVec Ideal S1x1024 .f32} {x4 : FVec Ideal S1024x5632 .bf16}
  {x g sh sc w : ℕ → ℕ → EReal} (h0 : On2 x0 x) (h1 : On2 x1 g) (h2 : On2 x2 sh) (h3 : On2 x3 sc) (h4 : On2 x4 w)

include h0 in
theorem root_on : On2 (rootR x0) (fun r _ => root x r) := by
  intro r z
  show Ideal.rsqrt (Ideal.div (broadcastInDim S4096x1 ![0] bcast_S4096_S4096x1_0 (Host.reduceAdd (mulf x0 x0) (constant (F := Ideal) S_ .f32 0x00000000#32) reducesTo_S4096x1024_S4096_d1 h_S_) (ix2 r z))
    (Ideal.ofBits .f32 0x44800000#32) + Ideal.ofBits .f32 0x358637BD#32) = _
  refine congrArg (fun s => Ideal.rsqrt (Ideal.div s (Ideal.ofBits .f32 0x44800000#32) + Ideal.ofBits .f32 0x358637BD#32)) ?_
  refine (broadcastInDim_apply _ _ _ _ (ix1 r) fun a => by match a with | ⟨0, _⟩ => rfl).trans ?_
  rw [hostReduceAdd_apply]
  refine (Ideal.hostReduceAdd_single _ red _ _ _).trans ?_
  have z : constant (F := Ideal) S_ .f32 0x00000000#32 (Shape.Idx.first h_S_) = (0 : EReal) := Ideal.ofBits_zero_f32
  rw [z, zero_add]
  refine sum_up 1024 _ (fun k => x r k * x r k) fun k => ?_
  have e : red.lift (ix1 r) k = ix2 r k := by
    funext b
    match b with
    | ⟨0, _⟩ => rfl
    | ⟨1, _⟩ => rfl
  show x0 (red.lift (ix1 r) k) * x0 (red.lift (ix1 r) k) = _
  rw [e]
  exact congrArg₂ (· * ·) (h0 r k) (h0 r k)

theorem rows_on {v : FVec Ideal S1x1024 .f32} {f : ℕ → ℕ → EReal} (h : On2 v f) : On2 (rowsR v) (fun _ d => f 0 d) := fun r d =>
  (broadcastInDim_apply _ _ _ (ix2 r d) (ix2 (0 : Fin 1) d) fun a => by match a with | ⟨0, _⟩ => rfl | ⟨1, _⟩ => rfl).trans (h 0 d)

include h0 h1 h2 h3 in
theorem norm_on : On2 (normR x0 x1 x2 x3) (normed x g sh sc) := by
  intro r d
  have e : broadcastInDim S4096x1024 ![0, 1] bcast_S4096x1_S4096x1024_0_1 (rootR x0) (ix2 r d) = root x r :=
    (broadcastInDim_apply _ _ _ (ix2 r d) (ix2 r (0 : Fin 1)) fun a => by match a with | ⟨0, _⟩ => rfl | ⟨1, _⟩ => rfl).trans (root_on h0 r 0)
  have e3 : On2 (addf (broadcastInDim S1x1024 ![] bcast_S_S1x1024 (constant (F := Ideal) S_ .f32 0x3F800000#32)) x3) (fun r d => 1 + sc r d) := fun r d => by
    show Ideal.ofBits .f32 0x3F800000#32 + x3 (ix2 r d) = _
    rw [h3, Ideal.ofBits_one_f32]
  show x0 (ix2 r d) * broadcastInDim S4096x1024 ![0, 1] bcast_S4096x1_S4096x1024_0_1 (rootR x0) (ix2 r d) * rowsR x1 (ix2 r d) * rowsR _ (ix2 r d) + rowsR x2 (ix2 r d) = _
  rw [e, h0, rows_on h1, rows_on h2, rows_on e3]
  rfl

include h0 h1 h2 h3 h4 in
theorem prod_on : On2 (prodR x0 x1 x2 x3 x4) (Up.inner x g sh sc w) := times (φ₁ := .f32) (φ₂ := .f32) (z := fun _ => 0) (norm_on h0 h1 h2 h3) h4 fun _ _ => rfl

include h0 h1 h2 h3 h4 in
theorem act_on : On2 (actR x0 x1 x2 x3 x4) (fun r n => silu (Up.inner x g sh sc w r n) * Up.inner x g sh sc w r (2816 + n)) := by
  intro r n
  have eg : gateR x0 x1 x2 x3 x4 (ix2 r n) = Up.inner x g sh sc w r n :=
    (slice_cols (by decide) _ (prod_on h0 h1 h2 h3 h4) r n).trans (congrArg (Up.inner x g sh sc w r.val) (Nat.zero_add _))
  have eu : upR x0 x1 x2 x3 x4 (ix2 r n) = Up.inner x g sh sc w r (2816 + n) := slice_cols (by decide) _ (prod_on h0 h1 h2 h3 h4) r n
  have e1 (i : S4096x2816.Idx) : oneR i = (1 : EReal) := Ideal.ofBits_one_f32
  show gateR x0 x1 x2 x3 x4 (ix2 r n) * Ideal.div (oneR _) (oneR _ + Ideal.exp (-(gateR x0 x1 x2 x3 x4 (ix2 r n)))) * upR x0 x1 x2 x3 x4 (ix2 r n) = _
  rw [e1, eg, eu]
  rfl

include h0 h1 h2 h3 h4 in
theorem outInner_on : On4 (outInner x0 x1 x2 x3 x4) (fun s j r k => Up.inner x g sh sc w r (2816 * s + 704 * j + k)) :=
  turn_1203 (a := 4096) (b := 2) (c := 4) (d := 704) _ (cast_24 (p := 2) (q := 4) (b := 704) rfl _ (prod_on h0 h1 h2 h3 h4))

include h0 h1 h2 h3 h4 in
theorem outAct_on : On3 (outAct x0 x1 x2 x3 x4) (fun j r k => silu (Up.inner x g sh sc w r (704 * j + k)) * Up.inner x g sh sc w r (2816 + (704 * j + k))) :=
  turn_102 (a := 4096) (b := 4) (c := 704) _ (cast_cols (p := 4) (b := 704) rfl _ (act_on h0 h1 h2 h3 h4))

end

/-! ### Both programs' results -/

section
variable (m : (ℓ : Loc nD τ Cert.Kernel6Ideal.sig) → Buf (Elt Ideal) ℓ) (c : Dev nD)

theorem outNorm_eq : outNorm (m ((c.tc : Thread nD τ).loc Cert.Kernel6Ideal.main_arg0)) (m ((c.tc : Thread nD τ).loc Cert.Kernel6Ideal.main_arg1)) (m ((c.tc : Thread nD τ).loc Cert.Kernel6Ideal.main_arg2))
    (m ((c.tc : Thread nD τ).loc Cert.Kernel6Ideal.main_arg3)) = Up.resNorm m c :=
  On2.ext (norm_on (on_at2 _) (on_at2 _) (on_at2 _) (on_at2 _)) fun _ _ => rfl

theorem outInner_eq : outInner (m ((c.tc : Thread nD τ).loc Cert.Kernel6Ideal.main_arg0)) (m ((c.tc : Thread nD τ).loc Cert.Kernel6Ideal.main_arg1)) (m ((c.tc : Thread nD τ).loc Cert.Kernel6Ideal.main_arg2))
    (m ((c.tc : Thread nD τ).loc Cert.Kernel6Ideal.main_arg3)) (m ((c.tc : Thread nD τ).loc Cert.Kernel6Ideal.main_arg4)) = Up.resInner m c := by
  funext i
  obtain ⟨s, j, r, k, rfl⟩ : ∃ (s : Fin 2) (j : Fin 4) (r : Fin 4096) (k : Fin 704), i = ix4 s j r k := ⟨i 0, i 1, i 2, i 3, ValueIdx.eq_ix4 i⟩
  refine (outInner_on (on_at2 _) (on_at2 _) (on_at2 _) (on_at2 _) (on_at2 _) s j r k).trans ?_
  exact congrArg (Up.inner _ _ _ _ _ r.val) (by show 2816 * s.val + 704 * j.val + k.val = 704 * (4 * s.val + j.val) + k.val; omega)

theorem outAct_eq : outAct (m ((c.tc : Thread nD τ).loc Cert.Kernel6Ideal.main_arg0)) (m ((c.tc : Thread nD τ).loc Cert.Kernel6Ideal.main_arg1)) (m ((c.tc : Thread nD τ).loc Cert.Kernel6Ideal.main_arg2))
    (m ((c.tc : Thread nD τ).loc Cert.Kernel6Ideal.main_arg3)) (m ((c.tc : Thread nD τ).loc Cert.Kernel6Ideal.main_arg4)) = Up.resAct m c := by
  funext i
  obtain ⟨j, r, k, rfl⟩ : ∃ (j : Fin 4) (r : Fin 4096) (k : Fin 704), i = ix3 j r k := ⟨i 0, i 1, i 2, ValueIdx.eq_ix3 i⟩
  refine (outAct_on (on_at2 _) (on_at2 _) (on_at2 _) (on_at2 _) (on_at2 _) j r k).trans ?_
  exact congrArg (fun n => silu (Up.inner _ _ _ _ _ r.val (704 * j.val + k.val)) * Up.inner _ _ _ _ _ r.val n) (by show 2816 + (704 * j.val + k.val) = 704 * (4 + j.val) + k.val; omega)

end

end Cert.Proof.UpRef

end
-- ==== Proof.OutBwd.lean ====
/-
  The gradients of the two branches through their output products: the blocks of tokens, the two result arrays after the
  run, and the reference's results.
-/
module

public import proofs.«01_k».proof.Proof.Chunks
public import proofs.«01_k».proof.Proof.Gen.Kernel7Ideal.Value
public import proofs.«01_k».proof.Proof.Gen.Reference7Ideal.Run
public import Idealize.ShloMosaic.Lib.WholeRead
public import Idealize.ShloMosaic.Lib.Pipeline.ValueKit
public import Idealize.ShloMosaic.Lib.Claim

@[expose] public section
set_option maxRecDepth 16384
noncomputable section
namespace Cert.Proof.OutBwd
open Cert.Kernel7Ideal Cert.Kernel7Ideal.Gen Cert.Proof.Tiles Cert.Proof.Chunks
open Idealize.ShloMosaic hiding ix0 ix1 ix2 ix3 ix4 ix5
open Idealize.ShloMosaic.ValueIdx
open Idealize.ShloMosaic.TcCoe Idealize.ShloMosaic.Tactic

/-- Row `r` of the gradient against row `n` of the weight. -/
def inner (y w : ℕ → ℕ → EReal) (r n : ℕ) : EReal := ∑ d ∈ Finset.range 1024, y r d * w n d

theorem whole0 (y : Vec Ideal S512x1024 .bf16) : View.ld y r0_0 = y := View.ld_unit_lit _ _ (by decide)

theorem pay_on {y w : Vec Ideal S512x1024 .bf16} {f g : ℕ → ℕ → EReal} (hy : On2 y f) (hw : On2 w g) : On2 (k0_pay1 (F := Ideal) y w) (inner f g) :=
  times_turned (φ₁ := .bf16) (φ₂ := .bf16) hy hw zeros

section
variable {x0 x1 x2 x3 : Vec Ideal S512x1024 .bf16} {f g : ℕ → ℕ → EReal}

theorem out4_on (h0 : On2 x0 f) (h2 : On2 x2 g) : On2 (out0_4 x0 x1 x2 x3) (inner f g) := by
  unfold out0_4
  rw [View.canon_unit_zero (by funext a; match a with | ⟨0, _⟩ => rfl | ⟨1, _⟩ => rfl), whole0, whole0]
  exact pay_on h0 h2

theorem out5_on (h1 : On2 x1 f) (h3 : On2 x3 g) : On2 (out0_5 x0 x1 x2 x3) (inner f g) := by
  unfold out0_5
  rw [View.canon_unit_zero (by funext a; match a with | ⟨0, _⟩ => rfl | ⟨1, _⟩ => rfl), whole0, whole0]
  exact pay_on h1 h3

end

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel
theorem lt_points (t : Fin cfg0.N) : t.val < 8 := t.isLt

section
variable (m : (ℓ : Loc nD τ sig) → Buf (Elt Ideal) ℓ) (c : Dev nD)

/-- The arguments' entries. -/
def ays : ℕ → ℕ → EReal := at2 (a := 4096) (b := 1024) (m ((c : Thread nD τ).loc main_arg0))
def bys : ℕ → ℕ → EReal := at2 (a := 4096) (b := 1024) (m ((c : Thread nD τ).loc main_arg1))
def cws : ℕ → ℕ → EReal := at2 (a := 512) (b := 1024) (m ((c : Thread nD τ).loc main_arg2))
def aws : ℕ → ℕ → EReal := at2 (a := 512) (b := 1024) (m ((c : Thread nD τ).loc main_arg3))

theorem block0 (t : Fin cfg0.N) : On2 (a := 512) (b := 1024) (iblk m c 0 t) (fun r d => ays m c (512 * t.val + r) d) := by
  intro r d
  have ht := lt_points t
  have e : iblk m c 0 t (ix2 r d) = V m c main_arg0 (ix2 ⟨512 * t.val + r.val, by omega⟩ d) := by
    blk_ext [iblk, index0 t]
    change _ + r.val = _
    omega
  rw [e, V_main_arg0]
  exact on_at2 _ _ _

theorem block1 (t : Fin cfg0.N) : On2 (a := 512) (b := 1024) (iblk m c 1 t) (fun r d => bys m c (512 * t.val + r) d) := by
  intro r d
  have ht := lt_points t
  have e : iblk m c 1 t (ix2 r d) = V m c main_arg1 (ix2 ⟨512 * t.val + r.val, by omega⟩ d) := by
    blk_ext [iblk, index1 t]
    change _ + r.val = _
    omega
  rw [e, V_main_arg1]
  exact on_at2 _ _ _

theorem block2 (t : Fin cfg0.N) : On2 (a := 512) (b := 1024) (iblk m c 2 t) (cws m c) := by
  intro r d
  have e : iblk m c 2 t (ix2 r d) = V m c main_arg2 (ix2 r d) := by
    blk_ext [iblk, index2 t]
  rw [e, V_main_arg2]
  exact on_at2 _ _ _

theorem block3 (t : Fin cfg0.N) : On2 (a := 512) (b := 1024) (iblk m c 3 t) (aws m c) := by
  intro r d
  have e : iblk m c 3 t (ix2 r d) = V m c main_arg3 (ix2 r d) := by
    blk_ext [iblk, index3 t]
  rw [e, V_main_arg3]
  exact on_at2 _ _ _

/-- The two branches' gradients. -/
def resA : S4096x512.Idx → EReal := fun i => inner (ays m c) (cws m c) (i 0).val (i 1).val
def resB : S4096x512.Idx → EReal := fun i => inner (bys m c) (aws m c) (i 0).val (i 1).val

theorem array4 : (dats m 0 c).arrAt 4 (cfgs 0).N = resA m c := by
  refine (dats m 0 c).arrAt_eq_of_covers 4 _ (by decide +kernel) fun t hf y => ?_
  have ht := lt_points t
  blk_simp [index4 t]
  rw [after0_4]
  obtain ⟨r, d, rfl⟩ : ∃ (r : Fin 512) (d : Fin 512), y = ix2 r d := ⟨y 0, y 1, ValueIdx.eq_ix2 y⟩
  refine (out4_on (block0 m c t) (block2 m c t) r d).trans ?_
  have e0 : (((win0_4.blk t).view.emb (ix2 r d)) 0).val = 512 * t.val + r.val := by
    blk_simp [index4 t]
    change _ + r.val = _
    omega
  have e1 : (((win0_4.blk t).view.emb (ix2 r d)) 1).val = d.val := by
    blk_simp [index4 t]
    rfl
  unfold resA
  rw [e0, e1]
  rfl

theorem array5 : (dats m 0 c).arrAt 5 (cfgs 0).N = resB m c := by
  refine (dats m 0 c).arrAt_eq_of_covers 5 _ (by decide +kernel) fun t hf y => ?_
  have ht := lt_points t
  blk_simp [index5 t]
  rw [after0_5]
  obtain ⟨r, d, rfl⟩ : ∃ (r : Fin 512) (d : Fin 512), y = ix2 r d := ⟨y 0, y 1, ValueIdx.eq_ix2 y⟩
  refine (out5_on (block1 m c t) (block3 m c t) r d).trans ?_
  have e0 : (((win0_5.blk t).view.emb (ix2 r d)) 0).val = 512 * t.val + r.val := by
    blk_simp [index5 t]
    change _ + r.val = _
    omega
  have e1 : (((win0_5.blk t).view.emb (ix2 r d)) 1).val = d.val := by
    blk_simp [index5 t]
    rfl
  unfold resB
  rw [e0, e1]
  rfl

/-- The reference's results. -/
def branchR (y : FVec Ideal Reference7Ideal.S4096x1024 .bf16) (w : FVec Ideal Reference7Ideal.S512x1024 .bf16) : FVec Ideal Reference7Ideal.S4096x512 .bf16 :=
  Host.dotGeneral (F := Ideal) (φ₁ := .f32) (φ₂ := .f32) Reference7Ideal.dot_S4096x1024_S512x1024_S4096x512_1_1_0_0_n_n none y w

theorem branch_on {y : FVec Ideal Reference7Ideal.S4096x1024 .bf16} {w : FVec Ideal Reference7Ideal.S512x1024 .bf16} {f g : ℕ → ℕ → EReal} (hy : On2 y f) (hw : On2 w g) :
    On2 (branchR y w) (inner f g) :=
  times_turned (φ₁ := .f32) (φ₂ := .f32) (z := fun _ => 0) hy hw fun _ _ => rfl

theorem refA_eq : branchR (m ((c.tc : Thread nD τ).loc main_arg0)) (m ((c.tc : Thread nD τ).loc main_arg2)) = resA m c :=
  On2.ext (branch_on (on_at2 _) (on_at2 _)) fun _ _ => rfl

theorem refB_eq : branchR (m ((c.tc : Thread nD τ).loc main_arg1)) (m ((c.tc : Thread nD τ).loc main_arg3)) = resB m c :=
  On2.ext (branch_on (on_at2 _) (on_at2 _)) fun _ _ => rfl

end

end Cert.Proof.OutBwd

end
-- ==== Proof.GradOut.lean ====
/-
  The gradient of the output product's weight: the points' steps, the result array after the run, and the reference's
  result.
-/
module

public import proofs.«01_k».proof.Proof.Chunks
public import proofs.«01_k».proof.Proof.Gen.Kernel8Ideal.Value
public import proofs.«01_k».proof.Proof.Gen.Reference8Ideal.Run
public import Idealize.ShloMosaic.Lib.Claim

@[expose] public section
set_option maxRecDepth 16384
noncomputable section
namespace Cert.Proof.GradOut
open Cert.Kernel8Ideal Cert.Kernel8Ideal.Gen Cert.Proof.Tiles Cert.Proof.Chunks
open Idealize.ShloMosaic hiding ix0 ix1 ix2 ix3 ix4 ix5
open Idealize.ShloMosaic.ValueIdx
open Idealize.ShloMosaic.TcCoe Idealize.ShloMosaic.Tactic

theorem index0 : ∀ t : Fin cfg0.N, win0_0.index t = ![0, t.val % 4, 0] := by decide +kernel
theorem index1 : ∀ t : Fin cfg0.N, win0_1.index t = ![0, t.val % 4, 0] := by decide +kernel
theorem index2 : ∀ t : Fin cfg0.N, win0_2.index t = ![0, 0, 0, 0] := by decide +kernel

section
variable (m : (ℓ : Loc nD τ sig) → Buf (Elt Ideal) ℓ) (c : Dev nD)

/-- The arguments' entries. -/
def merged : ℕ → ℕ → EReal := at2 (a := 4096) (b := 1024) (m ((c : Thread nD τ).loc main_arg0))
def ys : ℕ → ℕ → EReal := at2 (a := 4096) (b := 1024) (m ((c : Thread nD τ).loc main_arg1))

theorem V_left : On3 (a := 1) (b := 4096) (c := 1024) (V m c main_v0) (fun _ => merged m c) := by
  have e : V m c main_v0 = broadcastInDim S1x4096x1024 ![1, 2] bcast_S4096x1024_S1x4096x1024_1_2 (m ((c : Thread nD τ).loc main_arg0)) := by
    entry_read; rfl
  rw [e]
  exact lead _ (by decide) (by decide) (on_at2 _)

theorem V_right : On3 (a := 1) (b := 4096) (c := 1024) (V m c main_v1) (fun _ => ys m c) := by
  have e : V m c main_v1 = broadcastInDim S1x4096x1024 ![1, 2] bcast_S4096x1024_S1x4096x1024_1_2 (m ((c : Thread nD τ).loc main_arg1)) := by
    entry_read; rfl
  rw [e]
  exact lead _ (by decide) (by decide) (on_at2 _)

theorem block0 (t : Fin cfg0.N) : On3 (a := 1) (b := 1024) (c := 1024) (iblk m c 0 t) (fun _ k i => merged m c (1024 * (t.val % 4) + k) i) := by
  intro z k i
  have e : iblk m c 0 t (ix3 z k i) = V m c main_v0 (ix3 z ⟨1024 * (t.val % 4) + k.val, by omega⟩ i) := by
    blk_ext [iblk, index0 t]
    change _ + k.val = _
    omega
  exact e.trans (V_left m c _ _ _)

theorem block1 (t : Fin cfg0.N) : On3 (a := 1) (b := 1024) (c := 1024) (iblk m c 1 t) (fun _ k j => ys m c (1024 * (t.val % 4) + k) j) := by
  intro z k j
  have e : iblk m c 1 t (ix3 z k j) = V m c main_v1 (ix3 z ⟨1024 * (t.val % 4) + k.val, by omega⟩ j) := by
    blk_ext [iblk, index1 t]
    change _ + k.val = _
    omega
  exact e.trans (V_right m c _ _ _)

theorem last (t : Fin cfg0.N) (h1 : t.val % 4 = 3) :
    On4 (a := 1) (b := 1) (c := 1024) (d := 1024) (outsAt0 m c t.val t.isLt).1 (fun _ _ i j => ∑ k ∈ Finset.range 4096, merged m c k i * ys m c k j) := by
  have all := one_tile (iblk m c 0) (iblk m c 1) (fun n h => (outsAt0 m c n h).2) shapeCasts_S1x1x1024x1024_S1024x1024 shapeCasts_S1x1024x1024_S1024x1024
    shapeCasts_S1x1024x1024_S1024x1024 shapeCasts_S1024x1024_S1x1x1024x1024 shapeCasts_S1x1x1024x1024_S1x1x1024x1024 (block0 m c) (block1 m c)
    (fun t h0 => by
      rw [outsAt0_A m c t h0 (by omega)]
      frame_out
      rfl)
    (fun t h0 h1 => by
      rw [outsAt0_B m c t h0 h1]
      frame_out
      rw [read_unread_whole]
      rfl) t h1
  rw [outsAt0_C m c t (by omega) h1]
  frame_out
  rw [read_unread_whole]
  exact all

/-- The gradient's array. -/
def res : S1x1x1024x1024.Idx → EReal := fun i => ∑ k ∈ Finset.range 4096, merged m c k (i 2).val * ys m c k (i 3).val

theorem array : (dats m 0 c).arrAt 2 (cfgs 0).N = res m c := by
  refine (dats m 0 c).arrAt_eq_of_covers 2 _ (by decide +kernel) fun t hf y => ?_
  have h1 : t.val % 4 = 3 := (Gen.flush0_2 t).mp hf
  blk_simp [index2 t]
  obtain ⟨p, q, i, j, rfl⟩ : ∃ (p q : Fin 1) (i j : Fin 1024), y = ix4 p q i j := ⟨y 0, y 1, y 2, y 3, ValueIdx.eq_ix4 y⟩
  refine (last m c t h1 p q i j).trans ?_
  have e2 : (((win0_2.blk t).view.emb (ix4 p q i j)) 2).val = i.val := by
    blk_simp [index2 t]
    rfl
  have e3 : (((win0_2.blk t).view.emb (ix4 p q i j)) 3).val = j.val := by
    blk_simp [index2 t]
    rfl
  unfold res
  rw [e2, e3]

/-- The reference's result. -/
def outRef (x0 x1 : FVec Ideal Reference8Ideal.S4096x1024 .bf16) : FVec Ideal Reference8Ideal.S1x1x1024x1024 .bf16 :=
  broadcastInDim Reference8Ideal.S1x1x1024x1024 ![2, 3] Reference8Ideal.Gen.bcast_S1024x1024_S1x1x1024x1024_2_3 (transpose Reference8Ideal.S1024x1024 [1, 0]
    (Host.dotGeneral (F := Ideal) (φ₁ := .f32) (φ₂ := .f32) Reference8Ideal.dot_S4096x1024_S4096x1024_S1024x1024_0_0_1_1_n_n none x1 x0)
    Reference8Ideal.Gen.transposes_S1024x1024_S1024x1024_1_0)

theorem ref_eq : outRef (m ((c.tc : Thread nD τ).loc main_arg0)) (m ((c.tc : Thread nD τ).loc main_arg1)) = res m c :=
  On4.ext (a := 1) (b := 1) (c := 1024) (d := 1024) (one_plain (φ := .f32) (z := fun _ => 0) (by decide) (by decide) _ _ (fun _ _ => rfl) (on_at2 _) (on_at2 _)) fun _ _ _ _ => rfl

end

end Cert.Proof.GradOut

end
-- ==== Proof.GradConv.lean ====
/-
  The gradient of a branch's output weight: the points' steps, the result array after the run, and the reference's result.
-/
module

public import proofs.«01_k».proof.Proof.Chunks
public import proofs.«01_k».proof.Proof.Gen.Kernel9Ideal.Value
public import proofs.«01_k».proof.Proof.Gen.Reference9Ideal.Run
public import Idealize.ShloMosaic.Lib.Claim

@[expose] public section
set_option maxRecDepth 16384
noncomputable section
namespace Cert.Proof.GradConv
open Cert.Kernel9Ideal Cert.Kernel9Ideal.Gen Cert.Proof.Tiles Cert.Proof.Chunks
open Idealize.ShloMosaic hiding ix0 ix1 ix2 ix3 ix4 ix5
open Idealize.ShloMosaic.ValueIdx
open Idealize.ShloMosaic.TcCoe Idealize.ShloMosaic.Tactic

theorem index0 : ∀ t : Fin cfg0.N, win0_0.index t = ![0, t.val % 4, 0] := by decide +kernel
theorem index1 : ∀ t : Fin cfg0.N, win0_1.index t = ![0, t.val % 4, 0] := by decide +kernel
theorem index2 : ∀ t : Fin cfg0.N, win0_2.index t = ![0, 0, 0, 0] := by decide +kernel

section
variable (m : (ℓ : Loc nD τ sig) → Buf (Elt Ideal) ℓ) (c : Dev nD)

/-- The branch's entries and the gradient's. -/
def branch : ℕ → ℕ → EReal := at2 (a := 4096) (b := 512) (m ((c : Thread nD τ).loc main_arg0))
def ys : ℕ → ℕ → EReal := at2 (a := 4096) (b := 1024) (m ((c : Thread nD τ).loc main_arg1))

theorem left (t : Fin cfg0.N) : On3 (a := 1) (b := 1024) (c := 512) (iblk m c 0 t) (fun _ k i => branch m c (1024 * (t.val % 4) + k) i) := by
  intro z k i
  have v : V m c main_v0 = broadcastInDim S1x4096x512 ![1, 2] bcast_S4096x512_S1x4096x512_1_2 (m ((c : Thread nD τ).loc main_arg0)) := by
    entry_read; rfl
  have e : iblk m c 0 t (ix3 z k i) = V m c main_v0 (ix3 z ⟨1024 * (t.val % 4) + k.val, by omega⟩ i) := by
    blk_ext [iblk, index0 t]
    change _ + k.val = _
    omega
  rw [e, v]
  exact lead _ (by decide) (by decide) (on_at2 _) _ _ _

theorem right (t : Fin cfg0.N) : On3 (a := 1) (b := 1024) (c := 1024) (iblk m c 1 t) (fun _ k j => ys m c (1024 * (t.val % 4) + k) j) := by
  intro z k j
  have v : V m c main_v1 = broadcastInDim S1x4096x1024 ![1, 2] bcast_S4096x1024_S1x4096x1024_1_2 (m ((c : Thread nD τ).loc main_arg1)) := by
    entry_read; rfl
  have e : iblk m c 1 t (ix3 z k j) = V m c main_v1 (ix3 z ⟨1024 * (t.val % 4) + k.val, by omega⟩ j) := by
    blk_ext [iblk, index1 t]
    change _ + k.val = _
    omega
  rw [e, v]
  exact lead _ (by decide) (by decide) (on_at2 _) _ _ _

/-- The gradient's array. -/
def res : S1x1x512x1024.Idx → EReal := fun i => ∑ k ∈ Finset.range 4096, branch m c k (i 2).val * ys m c k (i 3).val

theorem array : (dats m 0 c).arrAt 2 (cfgs 0).N = res m c := by
  refine (dats m 0 c).arrAt_eq_of_covers 2 _ (by decide +kernel) fun t hf y => ?_
  have h1 : t.val % 4 = 3 := (Gen.flush0_2 t).mp hf
  have all := one_tile (iblk m c 0) (iblk m c 1) (fun n h => (outsAt0 m c n h).2) shapeCasts_S1x1x512x1024_S512x1024 shapeCasts_S1x1024x512_S1024x512
    shapeCasts_S1x1024x1024_S1024x1024 shapeCasts_S512x1024_S1x1x512x1024 shapeCasts_S1x1x512x1024_S1x1x512x1024 (left m c) (right m c)
    (fun t h0 => by
      rw [outsAt0_A m c t h0 (by omega)]
      frame_out
      rfl)
    (fun t h0 h1 => by
      rw [outsAt0_B m c t h0 h1]
      frame_out
      rw [read_unread_whole]
      rfl) t h1
  have last : On4 (a := 1) (b := 1) (c := 512) (d := 1024) (outsAt0 m c t.val t.isLt).1 (fun _ _ i j => ∑ k ∈ Finset.range 4096, branch m c k i * ys m c k j) := by
    rw [outsAt0_C m c t (by omega) h1]
    frame_out
    rw [read_unread_whole]
    exact all
  blk_simp [index2 t]
  obtain ⟨p, q, i, j, rfl⟩ : ∃ (p q : Fin 1) (i : Fin 512) (j : Fin 1024), y = ix4 p q i j := ⟨y 0, y 1, y 2, y 3, ValueIdx.eq_ix4 y⟩
  refine (last p q i j).trans ?_
  have e2 : (((win0_2.blk t).view.emb (ix4 p q i j)) 2).val = i.val := by
    blk_simp [index2 t]
    rfl
  have e3 : (((win0_2.blk t).view.emb (ix4 p q i j)) 3).val = j.val := by
    blk_simp [index2 t]
    rfl
  unfold res
  rw [e2, e3]

/-- The reference's result. -/
def outRef (x0 : FVec Ideal Reference9Ideal.S4096x512 .bf16) (x1 : FVec Ideal Reference9Ideal.S4096x1024 .bf16) : FVec Ideal Reference9Ideal.S1x1x512x1024 .bf16 :=
  broadcastInDim Reference9Ideal.S1x1x512x1024 ![2, 3] Reference9Ideal.Gen.bcast_S512x1024_S1x1x512x1024_2_3 (transpose Reference9Ideal.S512x1024 [1, 0]
    (Host.dotGeneral (F := Ideal) (φ₁ := .f32) (φ₂ := .f32) Reference9Ideal.dot_S4096x1024_S4096x512_S1024x512_0_0_1_1_n_n none x1 x0)
    Reference9Ideal.Gen.transposes_S1024x512_S512x1024_1_0)

theorem ref_eq : outRef (m ((c.tc : Thread nD τ).loc main_arg0)) (m ((c.tc : Thread nD τ).loc main_arg1)) = res m c :=
  On4.ext (a := 1) (b := 1) (c := 512) (d := 1024) (one_plain (φ := .f32) (z := fun _ => 0) (by decide) (by decide) _ _ (fun _ _ => rfl) (on_at2 _) (on_at2 _)) fun _ _ _ _ => rfl

end

end Cert.Proof.GradConv

end
-- ==== Proof.MixIn.lean ====
/-
  The mixer's input: norm, modulation and the product with the mixing weight, block by block of tokens; the two result
  arrays after the run and the reference's results.
-/
module

public import proofs.«01_k».proof.Proof.UpRef
public import proofs.«01_k».proof.Proof.Gen.Kernel10Ideal.Value
public import proofs.«01_k».proof.Proof.Gen.Reference10Ideal.Run

@[expose] public section
set_option maxRecDepth 16384
noncomputable section
namespace Cert.Proof.MixIn
open Cert.Kernel10Ideal Cert.Kernel10Ideal.Gen Cert.Proof.Tiles Cert.Proof.Chunks Cert.Proof.Norm
open Idealize.ShloMosaic hiding ix0 ix1 ix2 ix3 ix4 ix5
open Idealize.ShloMosaic.ValueIdx
open Idealize.ShloMosaic.TcCoe Idealize.ShloMosaic.Tactic

/-! ### One block of tokens -/

/-- A band of columns of a matrix. -/
theorem band_is {a n b : ℕ} {o : ℕ} {inb} {v : (⟨2, ![a, b]⟩ : Shape).Idx → EReal} {f : ℕ → ℕ → EReal} (h : On2 v fun i j => f i (o + j))
    (x : (⟨2, ![a, b]⟩ : Shape).Idx) : v x = (fun y : (⟨2, ![a, n]⟩ : Shape).Idx => f (y 0).val (y 1).val)
      ((Rect.unit (s := ⟨2, ![a, n]⟩) ![0, o] ![a, b] inb).emb x) := by
  have e (k) := ValueKit.rect_emb_unit_val (s := ⟨2, ![a, n]⟩) ![0, o] ![a, b] inb x k
  have e0 := e 0
  have e1 := e 1
  change _ = 0 + (x 0).val at e0
  change _ = o + (x 1).val at e1
  show _ = f _ _
  rw [e0, e1, Nat.zero_add]
  conv_lhs => rw [ValueIdx.eq_ix2 x]
  exact h _ _

/-- The block's product with two neighbouring tiles of the weight. -/
def pair (u : FVec Ideal S512x1024 .bf16) (a b : Vec Ideal S1x1024x640 .bf16) : FVec Ideal S512x1280 .f32 :=
  matmul dot_S512x1024_S1024x1280_S512x1280_1_0_0_1_n_n none u (concatenate S1024x1280 1 [⟨S1024x640, (shapeCast S1024x640 a shapeCasts_S1x1024x640_S1024x640 : FVec Ideal S1024x640 .bf16)⟩,
    ⟨S1024x640, (shapeCast S1024x640 b shapeCasts_S1x1024x640_S1024x640 : FVec Ideal S1024x640 .bf16)⟩] concatenates_S1024x640_S1024x640_S1024x1280_d1 : FVec Ideal S1024x1280 .bf16)
    (constant S512x1280 .f32 0x00000000#32)

theorem pair_on {u : FVec Ideal S512x1024 .bf16} {a b : Vec Ideal S1x1024x640 .bf16} {f g : ℕ → ℕ → EReal} (hu : On2 u f) (ha : On3 a fun _ => g) (hb : On3 b fun _ i j => g i (640 + j)) :
    On2 (pair u a b) (fun r n => ∑ d ∈ Finset.range 1024, f r d * g d n) :=
  times (φ₁ := .bf16) (φ₂ := .bf16) hu (beside (b := 640) (c := 640) rfl concatenates_S1024x640_S1024x640_S1024x1280_d1 (cast_off shapeCasts_S1x1024x640_S1024x640 ha)
    (cast_off shapeCasts_S1x1024x640_S1024x640 hb)) zeros

section
variable {x0 : Vec Ideal S512x1024 .f32} {x1 x2 x3 : Vec Ideal S1x1024 .f32} {x4 : Vec Ideal S8x1024x640 .bf16}
  {x g sh sc w : ℕ → ℕ → EReal} (h0 : On2 x0 x) (h1 : On2 x1 g) (h2 : On2 x2 sh) (h3 : On2 x3 sc) (h4 : On3 x4 fun q d n => w d (640 * q + n))

theorem whole0 (y : Vec Ideal S512x1024 .f32) : View.ld y r0_0 = y := View.ld_unit_lit _ _ (by decide)
theorem whole1 (y : Vec Ideal S1x1024 .f32) : View.ld y r0_1 = y := View.ld_unit_lit _ _ (by decide)

include h0 h1 h2 h3 in
theorem norm_on : On2 (k0_pay4 (F := Ideal) x0 x1 x3 x2) (normed x g sh sc) := Up.norm_on h0 h1 h2 h3

include h0 h1 h2 h3 in
theorem out5_on : On2 (out0_5 x0 x1 x2 x3 x4) (normed x g sh sc) := by
  unfold out0_5
  rw [View.canon_unit_zero (by funext a; match a with | ⟨0, _⟩ => rfl | ⟨1, _⟩ => rfl), whole0, whole1, whole1, whole1]
  exact norm_on h0 h1 h2 h3

theorem named6 (x0 : Vec Ideal S512x1024 .f32) (x1 x2 x3 : Vec Ideal S1x1024 .f32) (x4 : Vec Ideal S8x1024x640 .bf16) :
    k0_pay6 x0 x1 x2 x3 x4 = k0_pay4 (F := Ideal) x0 x1 x3 x2 := by
  unfold k0_pay6
  rw [whole0, whole1, whole1, whole1]

include h0 h1 h2 h3 h4 in
theorem band_on (q : ℕ) (i) (j) : On2 (pair (k0_pay4 (F := Ideal) x0 x1 x3 x2) (View.ld x4 (Rect.unit (s := S8x1024x640) ![2 * q, 0, 0] S1x1024x640.size i))
      (View.ld x4 (Rect.unit (s := S8x1024x640) ![2 * q + 1, 0, 0] S1x1024x640.size j))) (fun r n => Up.inner x g sh sc w r (1280 * q + n)) := by
  have ha : On3 (a := 1) (b := 1024) (c := 640) (View.ld x4 (Rect.unit (s := S8x1024x640) ![2 * q, 0, 0] S1x1024x640.size i)) (fun _ d n => w d (1280 * q + n)) := fun z d n =>
    (slab_ld (P := 8) (a := 1024) (b := 640) (2 * q) i h4 z d n).trans (congrArg (w d) (by omega))
  have hb : On3 (a := 1) (b := 1024) (c := 640) (View.ld x4 (Rect.unit (s := S8x1024x640) ![2 * q + 1, 0, 0] S1x1024x640.size j)) (fun _ d n => w d (1280 * q + (640 + n))) := fun z d n =>
    (slab_ld (P := 8) (a := 1024) (b := 640) (2 * q + 1) j h4 z d n).trans (congrArg (w d) (by omega))
  exact pair_on (norm_on h0 h1 h2 h3) ha hb

include h0 h1 h2 h3 h4 in
theorem out6_on : On2 (out0_6 x0 x1 x2 x3 x4) (Up.inner x g sh sc w) := by
  intro r n
  unfold out0_6
  rw [whole0, whole1, whole1, whole1]
  simp only [named6]
  refine View.canon_apply_of_pieces (Val := Elt Ideal) (e := .bf16) (S := S512x5120) (fun y => Up.inner x g sh sc w (y 0).val (y 1).val) _ ?_ _ (cover0_6 _ _ _ _ _)
  intro p hp
  simp only [List.mem_cons, List.mem_nil_iff, or_false] at hp
  rcases hp with rfl | rfl | rfl | rfl
  · exact band_is (inb := inb_S512x5120_S512x1280_0_3840) (band_on h0 h1 h2 h3 h4 3 inb_S8x1024x640_S1x1024x640_6_0_0 inb_S8x1024x640_S1x1024x640_7_0_0)
  · exact band_is (inb := inb_S512x5120_S512x1280_0_2560) (band_on h0 h1 h2 h3 h4 2 inb_S8x1024x640_S1x1024x640_4_0_0 inb_S8x1024x640_S1x1024x640_5_0_0)
  · exact band_is (inb := inb_S512x5120_S512x1280_0_1280) (band_on h0 h1 h2 h3 h4 1 inb_S8x1024x640_S1x1024x640_2_0_0 inb_S8x1024x640_S1x1024x640_3_0_0)
  · exact band_is (inb := inb_S512x5120_S512x1280_0_0) (band_on h0 h1 h2 h3 h4 0 inb_S8x1024x640_S1x1024x640_0_0_0 inb_S8x1024x640_S1x1024x640_1_0_0)

end

/-! ### The arrays -/

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0, 0] := by decide +kernel
theorem index5 : ∀ t : Fin cfg0.N, win0_5.index t = ![t.val, 0] := by decide +kernel
theorem index6 : ∀ t : Fin cfg0.N, win0_6.index t = ![t.val, 0] := by decide +kernel
theorem lt_points (t : Fin cfg0.N) : t.val < 8 := t.isLt

section
variable (m : (ℓ : Loc nD τ sig) → Buf (Elt Ideal) ℓ) (c : Dev nD)

/-- The arguments' entries. -/
def xs : ℕ → ℕ → EReal := at2 (a := 4096) (b := 1024) (m ((c : Thread nD τ).loc main_arg0))
def gs : ℕ → ℕ → EReal := at2 (a := 1) (b := 1024) (m ((c : Thread nD τ).loc main_arg1))
def shs : ℕ → ℕ → EReal := at2 (a := 1) (b := 1024) (m ((c : Thread nD τ).loc main_arg2))
def scs : ℕ → ℕ → EReal := at2 (a := 1) (b := 1024) (m ((c : Thread nD τ).loc main_arg3))
def ws : ℕ → ℕ → EReal := at2 (a := 1024) (b := 5120) (m ((c : Thread nD τ).loc main_arg4))

theorem V_mix : On3 (a := 8) (b := 1024) (c := 640) (V m c main_v1) (fun q d n => ws m c d (640 * q + n)) := by
  have e : V m c main_v1 = transpose S8x1024x640 [1, 0, 2] (shapeCast S1024x8x640 (m ((c : Thread nD τ).loc main_arg4)) shapeCasts_S1024x5120_S1024x8x640)
      transposes_S1024x8x640_S8x1024x640_1_0_2 := by
    entry_read; rfl
  rw [e]
  exact turn_102 _ (cast_cols rfl _ (on_at2 _))

theorem block0 (t : Fin cfg0.N) : On2 (a := 512) (b := 1024) (iblk m c 0 t) (fun r d => xs m c (512 * t.val + r) d) := by
  intro r d
  have ht := lt_points t
  have e : iblk m c 0 t (ix2 r d) = V m c main_arg0 (ix2 ⟨512 * t.val + r.val, by omega⟩ d) := by
    blk_ext [iblk, index0 t]
    change _ + r.val = _
    omega
  rw [e, V_main_arg0]
  exact on_at2 _ _ _

theorem block1 (t : Fin cfg0.N) : On2 (a := 1) (b := 1024) (iblk m c 1 t) (gs m c) := by
  intro r d
  have e : iblk m c 1 t (ix2 r d) = V m c main_arg1 (ix2 r d) := by
    blk_ext [iblk, index1 t]
  rw [e, V_main_arg1]
  exact on_at2 _ _ _

theorem block2 (t : Fin cfg0.N) : On2 (a := 1) (b := 1024) (iblk m c 2 t) (shs m c) := by
  intro r d
  have e : iblk m c 2 t (ix2 r d) = V m c main_arg2 (ix2 r d) := by
    blk_ext [iblk, index2 t]
  rw [e, V_main_arg2]
  exact on_at2 _ _ _

theorem block3 (t : Fin cfg0.N) : On2 (a := 1) (b := 1024) (iblk m c 3 t) (scs m c) := by
  intro r d
  have e : iblk m c 3 t (ix2 r d) = V m c main_arg3 (ix2 r d) := by
    blk_ext [iblk, index3 t]
  rw [e, V_main_arg3]
  exact on_at2 _ _ _

theorem block4 (t : Fin cfg0.N) : On3 (a := 8) (b := 1024) (c := 640) (iblk m c 4 t) (fun q d n => ws m c d (640 * q + n)) := by
  intro q k d
  have e : iblk m c 4 t (ix3 q k d) = V m c main_v1 (ix3 q k d) := by
    blk_ext [iblk, index4 t]
  exact e.trans (V_mix m c q k d)

/-- The normed input and its product with the weight. -/
def resNorm : S4096x1024.Idx → EReal := fun i => normed (xs m c) (gs m c) (shs m c) (scs m c) (i 0).val (i 1).val
def resProj : S4096x5120.Idx → EReal := fun i => Up.inner (xs m c) (gs m c) (shs m c) (scs m c) (ws m c) (i 0).val (i 1).val

theorem array5 : (dats m 0 c).arrAt 5 (cfgs 0).N = resNorm m c := by
  refine (dats m 0 c).arrAt_eq_of_covers 5 _ (by decide +kernel) fun t hf y => ?_
  have ht := lt_points t
  blk_simp [index5 t]
  rw [after0_5]
  obtain ⟨r, d, rfl⟩ : ∃ (r : Fin 512) (d : Fin 1024), y = ix2 r d := ⟨y 0, y 1, ValueIdx.eq_ix2 y⟩
  refine (out5_on (block0 m c t) (block1 m c t) (block2 m c t) (block3 m c t) r d).trans ?_
  have e0 : (((win0_5.blk t).view.emb (ix2 r d)) 0).val = 512 * t.val + r.val := by
    blk_simp [index5 t]
    change _ + r.val = _
    omega
  have e1 : (((win0_5.blk t).view.emb (ix2 r d)) 1).val = d.val := by
    blk_simp [index5 t]
    rfl
  unfold resNorm
  rw [e0, e1]
  rfl

theorem array6 : (dats m 0 c).arrAt 6 (cfgs 0).N = resProj m c := by
  refine (dats m 0 c).arrAt_eq_of_covers 6 _ (by decide +kernel) fun t hf y => ?_
  have ht := lt_points t
  blk_simp [index6 t]
  rw [after0_6]
  obtain ⟨r, n, rfl⟩ : ∃ (r : Fin 512) (n : Fin 5120), y = ix2 r n := ⟨y 0, y 1, ValueIdx.eq_ix2 y⟩
  refine (out6_on (block0 m c t) (block1 m c t) (block2 m c t) (block3 m c t) (block4 m c t) r n).trans ?_
  have e0 : (((win0_6.blk t).view.emb (ix2 r n)) 0).val = 512 * t.val + r.val := by
    blk_simp [index6 t]
    change _ + r.val = _
    omega
  have e1 : (((win0_6.blk t).view.emb (ix2 r n)) 1).val = n.val := by
    blk_simp [index6 t]
    rfl
  unfold resProj
  rw [e0, e1]
  rfl

/-! ### The reference -/

/-- The reference's results; its norm is the one of the feed-forward pair. -/
def outNorm (x : FVec Ideal Reference10Ideal.S4096x1024 .f32) (g sh sc : FVec Ideal Reference10Ideal.S1x1024 .f32) : FVec Ideal Reference10Ideal.S4096x1024 .bf16 := UpRef.normR x g sh sc
def outProj (x : FVec Ideal Reference10Ideal.S4096x1024 .f32) (g sh sc : FVec Ideal Reference10Ideal.S1x1024 .f32) (w : FVec Ideal Reference10Ideal.S1024x5120 .bf16) : FVec Ideal Reference10Ideal.S4096x5120 .bf16 :=
  Host.dotGeneral (F := Ideal) (φ₁ := .f32) (φ₂ := .f32) Reference10Ideal.dot_S4096x1024_S1024x5120_S4096x5120_1_0_0_1_n_n none (UpRef.normR x g sh sc) w

theorem refNorm_eq : outNorm (m ((c.tc : Thread nD τ).loc main_arg0)) (m ((c.tc : Thread nD τ).loc main_arg1)) (m ((c.tc : Thread nD τ).loc main_arg2)) (m ((c.tc : Thread nD τ).loc main_arg3)) = resNorm m c :=
  On2.ext (UpRef.norm_on (on_at2 _) (on_at2 _) (on_at2 _) (on_at2 _)) fun _ _ => rfl

theorem refProj_eq : outProj (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) = resProj m c :=
  On2.ext (times (φ₁ := .f32) (φ₂ := .f32) (z := fun _ => 0) (UpRef.norm_on (on_at2 _) (on_at2 _) (on_at2 _) (on_at2 _)) (on_at2 _) fun _ _ => rfl) fun _ _ => rfl

end

end Cert.Proof.MixIn

end
-- ==== Proof.Slabs.lean ====
/-
  A product summed slab by slab: both factors cut along the contracted axis.
-/
module

public import proofs.«01_k».proof.Proof.Chunks

@[expose] public section
noncomputable section
namespace Cert.Proof.Slabs
open Cert.Proof.Tiles Cert.Proof.Chunks
open Idealize.ShloMosaic hiding ix0 ix1 ix2 ix3 ix4 ix5
open Idealize.ShloMosaic.ValueIdx

section
variable {P M K N : ℕ} {f g : ℕ → ℕ → ℕ → EReal}

/-- One slab's product. -/
def slabProd (x : (⟨3, ![1, M, K]⟩ : Shape).Idx → EReal) (w : (⟨3, ![1, K, N]⟩ : Shape).Idx → EReal)
    (e1 : (⟨3, ![1, M, K]⟩ : Shape).ShapeCasts ⟨2, ![M, K]⟩) (e2 : (⟨3, ![1, K, N]⟩ : Shape).ShapeCasts ⟨2, ![K, N]⟩) : (⟨2, ![M, N]⟩ : Shape).Idx → EReal :=
  FloatOps.matmul (F := Ideal) (φ₁ := .bf16) (φ₂ := .bf16) (DotDims.plain M K N) none (shapeCast ⟨2, ![M, K]⟩ x e1) (shapeCast ⟨2, ![K, N]⟩ w e2)
    (constant (F := Ideal) ⟨2, ![M, N]⟩ .f32 0x00000000#32)

/-- The sum of the first slabs' products. -/
def upTo (K : ℕ) (f g : ℕ → ℕ → ℕ → EReal) (n r d : ℕ) : EReal := ∑ q ∈ Finset.range n, ∑ k ∈ Finset.range K, f q r k * g q k d

variable {X : (⟨3, ![P, M, K]⟩ : Shape).Idx → EReal} {W : (⟨3, ![P, K, N]⟩ : Shape).Idx → EReal}

theorem slab_on (q : ℕ) (i) (j) (e1) (e2) (hX : On3 X f) (hW : On3 W g) :
    On2 (slabProd (N := N) (View.ld (Val := Elt Ideal) (e' := .bf16) X (Rect.unit (s := ⟨3, ![P, M, K]⟩) ![q, 0, 0] ![1, M, K] i))
      (View.ld (Val := Elt Ideal) (e' := .bf16) W (Rect.unit (s := ⟨3, ![P, K, N]⟩) ![q, 0, 0] ![1, K, N] j)) e1 e2) (fun r d => ∑ k ∈ Finset.range K, f q r k * g q k d) :=
  times (cast_off e1 (slab_ld q i hX)) (cast_off e2 (slab_ld q j hW)) zeros

theorem one (i) (j) (e1) (e2) (hX : On3 X f) (hW : On3 W g) :
    On2 (slabProd (N := N) (View.ld (Val := Elt Ideal) (e' := .bf16) X (Rect.unit (s := ⟨3, ![P, M, K]⟩) ![0, 0, 0] ![1, M, K] i))
      (View.ld (Val := Elt Ideal) (e' := .bf16) W (Rect.unit (s := ⟨3, ![P, K, N]⟩) ![0, 0, 0] ![1, K, N] j)) e1 e2) (upTo K f g 1) :=
  (slab_on 0 i j e1 e2 hX hW).congr fun r d _ _ => (Finset.sum_range_one fun q => ∑ k ∈ Finset.range K, f q r k * g q k d).symm

theorem more (n : ℕ) (i) (j) (e1) (e2) (hX : On3 X f) (hW : On3 W g) {acc : (⟨2, ![M, N]⟩ : Shape).Idx → EReal} (h : On2 acc (upTo K f g n)) :
    On2 (addf (F := Ideal) (φ := .f32) acc (slabProd (View.ld (Val := Elt Ideal) (e' := .bf16) X (Rect.unit (s := ⟨3, ![P, M, K]⟩) ![n, 0, 0] ![1, M, K] i))
      (View.ld (Val := Elt Ideal) (e' := .bf16) W (Rect.unit (s := ⟨3, ![P, K, N]⟩) ![n, 0, 0] ![1, K, N] j)) e1 e2)) (upTo K f g (n + 1)) :=
  (add_on h (slab_on n i j e1 e2 hX hW)).congr fun r d _ _ => (Finset.sum_range_succ (fun q => ∑ k ∈ Finset.range K, f q r k * g q k d) n).symm

/-- All the slabs of two matrices are their whole product. -/
theorem upTo_all (u v : ℕ → ℕ → EReal) (K n r d : ℕ) : upTo K (fun q r k => u r (K * q + k)) (fun q k d => v (K * q + k) d) n r d = ∑ k ∈ Finset.range (n * K), u r k * v k d :=
  (sum_chunks (fun k => u r k * v k d) K n).symm

end

end Cert.Proof.Slabs

end
-- ==== Proof.Du.lean ====
/-
  The gradient of the feed-forward pair's input, from the inner gradient and the first weight: the blocks of tokens, the
  result array after the run, and the reference's result.
-/
module

public import proofs.«01_k».proof.Proof.Slabs
public import proofs.«01_k».proof.Proof.Gen.Kernel11Ideal.Value
public import proofs.«01_k».proof.Proof.Gen.Reference11Ideal.Run
public import Idealize.ShloMosaic.Lib.WholeRead
public import Idealize.ShloMosaic.Lib.Pipeline.ValueKit
public import Idealize.ShloMosaic.Lib.Claim

@[expose] public section
set_option maxRecDepth 16384
noncomputable section
namespace Cert.Proof.Du
open Cert.Kernel11Ideal Cert.Kernel11Ideal.Gen Cert.Proof.Tiles Cert.Proof.Chunks Cert.Proof.Slabs
open Idealize.ShloMosaic hiding ix0 ix1 ix2 ix3 ix4 ix5
open Idealize.ShloMosaic.ValueIdx
open Idealize.ShloMosaic.TcCoe Idealize.ShloMosaic.Tactic

theorem out2_on {x0 : Vec Ideal S8x512x704 .bf16} {x1 : Vec Ideal S8x704x1024 .bf16} {f g : ℕ → ℕ → ℕ → EReal} (h0 : On3 x0 f) (h1 : On3 x1 g) :
    On2 (out0_2 x0 x1) (upTo 704 f g 8) := by
  unfold out0_2
  rw [View.canon_unit_zero (by funext a; match a with | ⟨0, _⟩ => rfl | ⟨1, _⟩ => rfl)]
  have s := one inb_S8x512x704_S1x512x704_0_0_0 inb_S8x704x1024_S1x704x1024_0_0_0 shapeCasts_S1x512x704_S512x704 shapeCasts_S1x704x1024_S704x1024 h0 h1
  have s := more 1 inb_S8x512x704_S1x512x704_1_0_0 inb_S8x704x1024_S1x704x1024_1_0_0 shapeCasts_S1x512x704_S512x704 shapeCasts_S1x704x1024_S704x1024 h0 h1 s
  have s := more 2 inb_S8x512x704_S1x512x704_2_0_0 inb_S8x704x1024_S1x704x1024_2_0_0 shapeCasts_S1x512x704_S512x704 shapeCasts_S1x704x1024_S704x1024 h0 h1 s
  have s := more 3 inb_S8x512x704_S1x512x704_3_0_0 inb_S8x704x1024_S1x704x1024_3_0_0 shapeCasts_S1x512x704_S512x704 shapeCasts_S1x704x1024_S704x1024 h0 h1 s
  have s := more 4 inb_S8x512x704_S1x512x704_4_0_0 inb_S8x704x1024_S1x704x1024_4_0_0 shapeCasts_S1x512x704_S512x704 shapeCasts_S1x704x1024_S704x1024 h0 h1 s
  have s := more 5 inb_S8x512x704_S1x512x704_5_0_0 inb_S8x704x1024_S1x704x1024_5_0_0 shapeCasts_S1x512x704_S512x704 shapeCasts_S1x704x1024_S704x1024 h0 h1 s
  have s := more 6 inb_S8x512x704_S1x512x704_6_0_0 inb_S8x704x1024_S1x704x1024_6_0_0 shapeCasts_S1x512x704_S512x704 shapeCasts_S1x704x1024_S704x1024 h0 h1 s
  exact more 7 inb_S8x512x704_S1x512x704_7_0_0 inb_S8x704x1024_S1x704x1024_7_0_0 shapeCasts_S1x512x704_S512x704 shapeCasts_S1x704x1024_S704x1024 h0 h1 s

theorem index0 : ∀ t : Fin cfg0.N, win0_0.index t = ![0, t.val, 0] := by decide +kernel
theorem index1 : ∀ t : Fin cfg0.N, win0_1.index t = ![0, 0, 0] := by decide +kernel
theorem index2 : ∀ t : Fin cfg0.N, win0_2.index t = ![t.val, 0] := by decide +kernel
theorem lt_points (t : Fin cfg0.N) : t.val < 8 := t.isLt

section
variable (m : (ℓ : Loc nD τ sig) → Buf (Elt Ideal) ℓ) (c : Dev nD)

/-- The arguments' entries. -/
def ws : ℕ → ℕ → EReal := at2 (a := 1024) (b := 5632) (m ((c : Thread nD τ).loc main_arg0))
def ds : ℕ → ℕ → EReal := at2 (a := 4096) (b := 5632) (m ((c : Thread nD τ).loc main_arg1))

theorem V_left : On3 (a := 8) (b := 4096) (c := 704) (V m c main_v1) (fun q r k => ds m c r (704 * q + k)) := by
  have e : V m c main_v1 = transpose S8x4096x704 [1, 0, 2] (shapeCast S4096x8x704 (m ((c : Thread nD τ).loc main_arg1)) shapeCasts_S4096x5632_S4096x8x704)
      transposes_S4096x8x704_S8x4096x704_1_0_2 := by
    entry_read; rfl
  rw [e]
  exact turn_102 _ (cast_cols rfl _ (on_at2 _))

theorem V_right : On3 (a := 8) (b := 704) (c := 1024) (V m c main_v3) (fun q k d => ws m c d (704 * q + k)) := by
  have e : V m c main_v3 = shapeCast S8x704x1024 (transpose S5632x1024 [1, 0] (m ((c : Thread nD τ).loc main_arg0)) transposes_S1024x5632_S5632x1024_1_0) shapeCasts_S5632x1024_S8x704x1024 := by
    entry_read; rfl
  rw [e]
  exact cast_23 rfl _ (flip _ (on_at2 _))

theorem block0 (t : Fin cfg0.N) : On3 (a := 8) (b := 512) (c := 704) (iblk m c 0 t) (fun q r k => ds m c (512 * t.val + r) (704 * q + k)) := by
  intro q r k
  have ht := lt_points t
  have e : iblk m c 0 t (ix3 q r k) = V m c main_v1 (ix3 q ⟨512 * t.val + r.val, by omega⟩ k) := by
    blk_ext [iblk, index0 t]
    change _ + r.val = _
    omega
  exact e.trans (V_left m c _ _ _)

theorem block1 (t : Fin cfg0.N) : On3 (a := 8) (b := 704) (c := 1024) (iblk m c 1 t) (fun q k d => ws m c d (704 * q + k)) := by
  intro q k d
  have e : iblk m c 1 t (ix3 q k d) = V m c main_v3 (ix3 q k d) := by
    blk_ext [iblk, index1 t]
  exact e.trans (V_right m c q k d)

/-- The gradient's array. -/
def res : S4096x1024.Idx → EReal := fun i => ∑ n ∈ Finset.range 5632, ds m c (i 0).val n * ws m c (i 1).val n

theorem array : (dats m 0 c).arrAt 2 (cfgs 0).N = res m c := by
  refine (dats m 0 c).arrAt_eq_of_covers 2 _ (by decide +kernel) fun t hf y => ?_
  have ht := lt_points t
  blk_simp [index2 t]
  rw [after0_2]
  obtain ⟨r, d, rfl⟩ : ∃ (r : Fin 512) (d : Fin 1024), y = ix2 r d := ⟨y 0, y 1, ValueIdx.eq_ix2 y⟩
  refine (out2_on (block0 m c t) (block1 m c t) r d).trans ?_
  have e0 : (((win0_2.blk t).view.emb (ix2 r d)) 0).val = 512 * t.val + r.val := by
    blk_simp [index2 t]
    change _ + r.val = _
    omega
  have e1 : (((win0_2.blk t).view.emb (ix2 r d)) 1).val = d.val := by
    blk_simp [index2 t]
    rfl
  unfold res
  rw [e0, e1]
  exact upTo_all (fun r n => ds m c (512 * t.val + r) n) (fun n d => ws m c d n) 704 8 r d

/-- The reference's result. -/
def outRef (w : FVec Ideal Reference11Ideal.S1024x5632 .bf16) (d : FVec Ideal Reference11Ideal.S4096x5632 .bf16) : FVec Ideal Reference11Ideal.S4096x1024 .f32 :=
  Host.dotGeneral (F := Ideal) (φ₁ := .f32) (φ₂ := .f32) Reference11Ideal.dot_S4096x5632_S1024x5632_S4096x1024_1_1_0_0_n_n none d w

theorem ref_eq : outRef (m ((c.tc : Thread nD τ).loc main_arg0)) (m ((c.tc : Thread nD τ).loc main_arg1)) = res m c :=
  On2.ext (times_turned (φ₁ := .f32) (φ₂ := .f32) (z := fun _ => 0) (on_at2 _) (on_at2 _) fun _ _ => rfl) fun _ _ => rfl

end

end Cert.Proof.Du

end
-- ==== Proof.Residual.lean ====
/-
  The second product of the feed-forward pair with its residual: the blocks of tokens, the two result arrays after the
  run, and the reference's results.
-/
module

public import proofs.«01_k».proof.Proof.Slabs
public import proofs.«01_k».proof.Proof.UpRef
public import proofs.«01_k».proof.Proof.Gen.Kernel12Ideal.Value
public import proofs.«01_k».proof.Proof.Gen.Reference12Ideal.Run

@[expose] public section
set_option maxRecDepth 16384
noncomputable section
namespace Cert.Proof.Residual
open Cert.Kernel12Ideal Cert.Kernel12Ideal.Gen Cert.Proof.Tiles Cert.Proof.Chunks Cert.Proof.Slabs
open Idealize.ShloMosaic hiding ix0 ix1 ix2 ix3 ix4 ix5
open Idealize.ShloMosaic.ValueIdx
open Idealize.ShloMosaic.TcCoe Idealize.ShloMosaic.Tactic

/-- One half, as its bits. -/
def half : EReal := Ideal.ofBits .f32 0x3F000000#32

theorem whole8 (y : Vec Ideal S512x1024 .f32) : View.ld y r0_8 = y := View.ld_unit_lit _ _ (by decide)
theorem whole9 (y : Vec Ideal S1x1024 .f32) : View.ld y r0_9 = y := View.ld_unit_lit _ _ (by decide)

section
variable {x0 : Vec Ideal S4x512x704 .bf16} {x1 : Vec Ideal S4x704x1024 .bf16} {x2 : Vec Ideal S512x1024 .f32} {x3 : Vec Ideal S1x1024 .f32}
  {f g : ℕ → ℕ → ℕ → EReal} {x v : ℕ → ℕ → EReal} (h0 : On3 x0 f) (h1 : On3 x1 g) (h2 : On2 x2 x) (h3 : On2 x3 v)

include h0 h1 in
theorem sum_on : On2 (k0_pay2 (View.ld x0 r0_0) (View.ld x1 r0_1) (View.ld x0 r0_2) (View.ld x1 r0_3) (View.ld x0 r0_4) (View.ld x1 r0_5) (View.ld x0 r0_6) (View.ld x1 r0_7))
    (upTo 704 f g 4) := by
  have s := one inb_S4x512x704_S1x512x704_0_0_0 inb_S4x704x1024_S1x704x1024_0_0_0 shapeCasts_S1x512x704_S512x704 shapeCasts_S1x704x1024_S704x1024 h0 h1
  have s := more 1 inb_S4x512x704_S1x512x704_1_0_0 inb_S4x704x1024_S1x704x1024_1_0_0 shapeCasts_S1x512x704_S512x704 shapeCasts_S1x704x1024_S704x1024 h0 h1 s
  have s := more 2 inb_S4x512x704_S1x512x704_2_0_0 inb_S4x704x1024_S1x704x1024_2_0_0 shapeCasts_S1x512x704_S512x704 shapeCasts_S1x704x1024_S704x1024 h0 h1 s
  exact more 3 inb_S4x512x704_S1x512x704_3_0_0 inb_S4x704x1024_S1x704x1024_3_0_0 shapeCasts_S1x512x704_S512x704 shapeCasts_S1x704x1024_S704x1024 h0 h1 s

include h0 h1 h2 h3 in
theorem out4_on : On2 (out0_4 x0 x1 x2 x3) (fun r d => x r d + half * v 0 d * upTo 704 f g 4 r d) := by
  unfold out0_4
  rw [View.canon_unit_zero (by funext a; match a with | ⟨0, _⟩ => rfl | ⟨1, _⟩ => rfl), whole8, whole9]
  intro r d
  show x2 (ix2 r d) + broadcastTo S512x1024 (mulf (F := Ideal) (φ := .f32) (broadcast S1x1024 (Scalar.ofBits .f32 0x3F000000#32)) x3) broadcasts_S1x1024_S512x1024 (ix2 r d) * k0_pay2 (F := Ideal) _ _ _ _ _ _ _ _ (ix2 r d) = _
  rw [broadcastTo_1b_ab_apply, sum_on h0 h1 r d, h2]
  show _ + half * x3 (ix2 0 d) * _ = _
  rw [h3]
  rfl

include h0 h1 in
theorem out5_on : On2 (out0_5 x0 x1 x2 x3) (upTo 704 f g 4) := by
  unfold out0_5
  rw [View.canon_unit_zero (by funext a; match a with | ⟨0, _⟩ => rfl | ⟨1, _⟩ => rfl)]
  exact sum_on h0 h1

end

theorem index0 : ∀ t : Fin cfg0.N, win0_0.index t = ![0, t.val, 0] := by decide +kernel
theorem index1 : ∀ t : Fin cfg0.N, win0_1.index t = ![0, 0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel
theorem lt_points (t : Fin cfg0.N) : t.val < 8 := t.isLt

/-- Row `r` of the activation against column `d` of the weight. -/
def inner (a w : ℕ → ℕ → EReal) (r d : ℕ) : EReal := ∑ n ∈ Finset.range 2816, a r n * w n d

section
variable (m : (ℓ : Loc nD τ sig) → Buf (Elt Ideal) ℓ) (c : Dev nD)

/-- The arguments' entries. -/
def acts : ℕ → ℕ → EReal := at2 (a := 4096) (b := 2816) (m ((c : Thread nD τ).loc main_arg0))
def ws : ℕ → ℕ → EReal := at2 (a := 2816) (b := 1024) (m ((c : Thread nD τ).loc main_arg1))
def xs : ℕ → ℕ → EReal := at2 (a := 4096) (b := 1024) (m ((c : Thread nD τ).loc main_arg2))
def gates : ℕ → ℕ → EReal := at2 (a := 1) (b := 1024) (m ((c : Thread nD τ).loc main_arg3))

theorem V_left : On3 (a := 4) (b := 4096) (c := 704) (V m c main_v1) (fun q r k => acts m c r (704 * q + k)) := by
  have e : V m c main_v1 = transpose S4x4096x704 [1, 0, 2] (shapeCast S4096x4x704 (m ((c : Thread nD τ).loc main_arg0)) shapeCasts_S4096x2816_S4096x4x704)
      transposes_S4096x4x704_S4x4096x704_1_0_2 := by
    entry_read; rfl
  rw [e]
  exact turn_102 _ (cast_cols rfl _ (on_at2 _))

theorem V_right : On3 (a := 4) (b := 704) (c := 1024) (V m c main_v2) (fun q k d => ws m c (704 * q + k) d) := by
  have e : V m c main_v2 = shapeCast S4x704x1024 (m ((c : Thread nD τ).loc main_arg1)) shapeCasts_S2816x1024_S4x704x1024 := by
    entry_read; rfl
  rw [e]
  exact cast_23 rfl _ (on_at2 _)

theorem block0 (t : Fin cfg0.N) : On3 (a := 4) (b := 512) (c := 704) (iblk m c 0 t) (fun q r k => acts m c (512 * t.val + r) (704 * q + k)) := by
  intro q r k
  have ht := lt_points t
  have e : iblk m c 0 t (ix3 q r k) = V m c main_v1 (ix3 q ⟨512 * t.val + r.val, by omega⟩ k) := by
    blk_ext [iblk, index0 t]
    change _ + r.val = _
    omega
  exact e.trans (V_left m c _ _ _)

theorem block1 (t : Fin cfg0.N) : On3 (a := 4) (b := 704) (c := 1024) (iblk m c 1 t) (fun q k d => ws m c (704 * q + k) d) := by
  intro q k d
  have e : iblk m c 1 t (ix3 q k d) = V m c main_v2 (ix3 q k d) := by
    blk_ext [iblk, index1 t]
  exact e.trans (V_right m c q k d)

theorem block2 (t : Fin cfg0.N) : On2 (a := 512) (b := 1024) (iblk m c 2 t) (fun r d => xs m c (512 * t.val + r) d) := by
  intro r d
  have ht := lt_points t
  have e : iblk m c 2 t (ix2 r d) = V m c main_arg2 (ix2 ⟨512 * t.val + r.val, by omega⟩ d) := by
    blk_ext [iblk, index2 t]
    change _ + r.val = _
    omega
  rw [e, V_main_arg2]
  exact on_at2 _ _ _

theorem block3 (t : Fin cfg0.N) : On2 (a := 1) (b := 1024) (iblk m c 3 t) (gates m c) := by
  intro r d
  have e : iblk m c 3 t (ix2 r d) = V m c main_arg3 (ix2 r d) := by
    blk_ext [iblk, index3 t]
  rw [e, V_main_arg3]
  exact on_at2 _ _ _

/-- The residual stream and the product. -/
def resX : S4096x1024.Idx → EReal := fun i => xs m c (i 0).val (i 1).val + half * gates m c 0 (i 1).val * inner (acts m c) (ws m c) (i 0).val (i 1).val
def resY : S4096x1024.Idx → EReal := fun i => inner (acts m c) (ws m c) (i 0).val (i 1).val

theorem inner_all (s r d : ℕ) : upTo 704 (fun q r k => acts m c (s + r) (704 * q + k)) (fun q k d => ws m c (704 * q + k) d) 4 r d = inner (acts m c) (ws m c) (s + r) d :=
  upTo_all (fun r n => acts m c (s + r) n) (ws m c) 704 4 r d

theorem array4 : (dats m 0 c).arrAt 4 (cfgs 0).N = resX m c := by
  refine (dats m 0 c).arrAt_eq_of_covers 4 _ (by decide +kernel) fun t hf y => ?_
  have ht := lt_points t
  blk_simp [index4 t]
  rw [after0_4]
  obtain ⟨r, d, rfl⟩ : ∃ (r : Fin 512) (d : Fin 1024), y = ix2 r d := ⟨y 0, y 1, ValueIdx.eq_ix2 y⟩
  refine (out4_on (block0 m c t) (block1 m c t) (block2 m c t) (block3 m c t) r d).trans ?_
  have e0 : (((win0_4.blk t).view.emb (ix2 r d)) 0).val = 512 * t.val + r.val := by
    blk_simp [index4 t]
    change _ + r.val = _
    omega
  have e1 : (((win0_4.blk t).view.emb (ix2 r d)) 1).val = d.val := by
    blk_simp [index4 t]
    rfl
  unfold resX
  rw [e0, e1]
  exact congrArg (fun y => xs m c (512 * t.val + r.val) d.val + half * gates m c 0 d.val * y) (inner_all m c _ _ _)

theorem array5 : (dats m 0 c).arrAt 5 (cfgs 0).N = resY m c := by
  refine (dats m 0 c).arrAt_eq_of_covers 5 _ (by decide +kernel) fun t hf y => ?_
  have ht := lt_points t
  blk_simp [index5 t]
  rw [after0_5]
  obtain ⟨r, d, rfl⟩ : ∃ (r : Fin 512) (d : Fin 1024), y = ix2 r d := ⟨y 0, y 1, ValueIdx.eq_ix2 y⟩
  refine (out5_on (block0 m c t) (block1 m c t) r d).trans ?_
  have e0 : (((win0_5.blk t).view.emb (ix2 r d)) 0).val = 512 * t.val + r.val := by
    blk_simp [index5 t]
    change _ + r.val = _
    omega
  have e1 : (((win0_5.blk t).view.emb (ix2 r d)) 1).val = d.val := by
    blk_simp [index5 t]
    rfl
  unfold resY
  rw [e0, e1]
  exact inner_all m c _ _ _

/-- The reference's results. -/
def outY (a : FVec Ideal Reference12Ideal.S4096x2816 .bf16) (w : FVec Ideal Reference12Ideal.S2816x1024 .bf16) : FVec Ideal Reference12Ideal.S4096x1024 .f32 :=
  Host.dotGeneral (F := Ideal) (φ₁ := .f32) (φ₂ := .f32) Reference12Ideal.dot_S4096x2816_S2816x1024_S4096x1024_1_0_0_1_n_n none a w
def outX (a : FVec Ideal Reference12Ideal.S4096x2816 .bf16) (w : FVec Ideal Reference12Ideal.S2816x1024 .bf16) (x : FVec Ideal Reference12Ideal.S4096x1024 .f32)
    (v : FVec Ideal Reference12Ideal.S1x1024 .f32) : FVec Ideal Reference12Ideal.S4096x1024 .f32 :=
  addf x (mulf (UpRef.rowsR (mulf (broadcastInDim Reference12Ideal.S1x1024 ![] Reference12Ideal.Gen.bcast_S_S1x1024 (constant Reference12Ideal.S_ .f32 0x3F000000#32)) v)) (outY a w))

theorem outY_on {a : FVec Ideal Reference12Ideal.S4096x2816 .bf16} {w : FVec Ideal Reference12Ideal.S2816x1024 .bf16} {f g : ℕ → ℕ → EReal} (ha : On2 a f) (hw : On2 w g) : On2 (outY a w) (inner f g) :=
  times (φ₁ := .f32) (φ₂ := .f32) (z := fun _ => 0) ha hw fun _ _ => rfl

theorem refY_eq : outY (m ((c.tc : Thread nD τ).loc main_arg0)) (m ((c.tc : Thread nD τ).loc main_arg1)) = resY m c :=
  On2.ext (outY_on (on_at2 _) (on_at2 _)) fun _ _ => rfl

theorem refX_eq : outX (m ((c.tc : Thread nD τ).loc main_arg0)) (m ((c.tc : Thread nD τ).loc main_arg1)) (m ((c.tc : Thread nD τ).loc main_arg2)) (m ((c.tc : Thread nD τ).loc main_arg3)) = resX m c := by
  refine On2.ext (a := 4096) (b := 1024) (f := fun r d => xs m c r d + half * gates m c 0 d * inner (acts m c) (ws m c) r d) (fun r d => ?_) fun _ _ => rfl
  have e : On2 (a := 1) (b := 1024) (mulf (broadcastInDim Reference12Ideal.S1x1024 ![] Reference12Ideal.Gen.bcast_S_S1x1024 (constant (F := Ideal) Reference12Ideal.S_ .f32 0x3F000000#32)) (m ((c.tc : Thread nD τ).loc main_arg3)))
      (fun r d => half * gates m c r d) := fun r d => congrArg (half * ·) (on_at2 _ r d)
  exact congrArg₂ (· + ·) (on_at2 _ r d) (congrArg₂ (· * ·) (UpRef.rows_on e r d) (outY_on (on_at2 _) (on_at2 _) r d))

end

end Cert.Proof.Residual

end
-- ==== Proof.Dact.lean ====
/-
  The gradient of the first pair's inner products: the blocks of tokens and the result array after the run, which are
  those of the second pair's call, and the reference's result over finite arguments.
-/
module

public import proofs.«01_k».proof.Proof.MlpRef
public import proofs.«01_k».proof.Pre_finite13
public import proofs.«01_k».proof.Proof.Gen.Kernel13Ideal.Value
public import proofs.«01_k».proof.Proof.Gen.Reference13Ideal.Run

@[expose] public section
set_option maxRecDepth 16384
noncomputable section
namespace Cert.Proof.Dact
open Cert.Kernel13Ideal Cert.Kernel13Ideal.Gen Cert.Proof.Tiles
open Idealize.ShloMosaic hiding ix0 ix1 ix2 ix3 ix4 ix5
open Idealize.ShloMosaic.ValueIdx
open Idealize.ShloMosaic.TcCoe Idealize.ShloMosaic.Tactic

/-- A block leaves what the other pair's call leaves, whatever that call's last weight is. -/
theorem out3_eq (x0 : Vec Ideal S512x1024 .bf16) (x1 : Vec Ideal S4x704x1024 .bf16) (x2 : Vec Ideal S2x4x512x704 .bf16) (x3 : Vec Ideal Kernel2Ideal.S8x704x1024 .bf16) :
    out0_3 x0 x1 x2 = Kernel2Ideal.Gen.out0_4 x0 x1 x2 x3 := rfl

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![0, 0, t.val, 0] := by decide +kernel
theorem index3 : ∀ t : Fin cfg0.N, win0_3.index t = ![0, 0, t.val, 0] := by decide +kernel
theorem lt_points (t : Fin cfg0.N) : t.val < 8 := t.isLt

section
variable (m : (ℓ : Loc nD τ sig) → Buf (Elt Ideal) ℓ) (c : Dev nD)

/-- The arguments' entries. -/
def gus : ℕ → ℕ → EReal := at2 (a := 4096) (b := 5632) (m ((c : Thread nD τ).loc main_arg0))
def ds : ℕ → ℕ → EReal := at2 (a := 2816) (b := 1024) (m ((c : Thread nD τ).loc main_arg1))
def ys : ℕ → ℕ → EReal := at2 (a := 4096) (b := 1024) (m ((c : Thread nD τ).loc main_arg2))

theorem V_down : On3 (a := 4) (b := 704) (c := 1024) (V m c main_v0) (fun j k d => ds m c (704 * j + k) d) := by
  have e : V m c main_v0 = shapeCast S4x704x1024 (m ((c : Thread nD τ).loc main_arg1)) shapeCasts_S2816x1024_S4x704x1024 := by
    entry_read; rfl
  rw [e]
  exact cast_23 rfl _ (on_at2 _)

theorem V_gu : On4 (a := 2) (b := 4) (c := 4096) (d := 704) (V m c main_v2) (fun s j r k => gus m c r (2816 * s + 704 * j + k)) := by
  have e : V m c main_v2 = transpose S2x4x4096x704 [1, 2, 0, 3] (shapeCast S4096x2x4x704 (m ((c : Thread nD τ).loc main_arg0)) shapeCasts_S4096x5632_S4096x2x4x704)
      transposes_S4096x2x4x704_S2x4x4096x704_1_2_0_3 := by
    entry_read; rfl
  rw [e]
  exact turn_1203 _ (cast_24 (p := 2) (q := 4) (b := 704) rfl _ (on_at2 _))

theorem block0 (t : Fin cfg0.N) : On2 (a := 512) (b := 1024) (iblk m c 0 t) (fun r d => ys m c (512 * t.val + r) d) := by
  intro r d
  have ht := lt_points t
  have e : iblk m c 0 t (ix2 r d) = V m c main_arg2 (ix2 ⟨512 * t.val + r.val, by omega⟩ d) := by
    blk_ext [iblk, index0 t]
    change _ + r.val = _
    omega
  rw [e, V_main_arg2]
  exact on_at2 _ _ _

theorem block1 (t : Fin cfg0.N) : On3 (a := 4) (b := 704) (c := 1024) (iblk m c 1 t) (fun j k d => ds m c (704 * j + k) d) := by
  intro j k d
  have e : iblk m c 1 t (ix3 j k d) = V m c main_v0 (ix3 j k d) := by
    blk_ext [iblk, index1 t]
  exact e.trans (V_down m c j k d)

theorem block2 (t : Fin cfg0.N) : On4 (a := 2) (b := 4) (c := 512) (d := 704) (iblk m c 2 t) (fun s j r k => gus m c (512 * t.val + r) (2816 * s + 704 * j + k)) := by
  intro s j r k
  have ht := lt_points t
  have e : iblk m c 2 t (ix4 s j r k) = V m c main_v2 (ix4 s j ⟨512 * t.val + r.val, by omega⟩ k) := by
    blk_ext [iblk, index2 t]
    change _ + r.val = _
    omega
  exact e.trans (V_gu m c s j _ k)

/-- The inner gradient's array. -/
def res : S2x4x4096x704.Idx → EReal := fun i => Mlp.inner (ys m c) (ds m c) (gus m c) (i 0).val (i 2).val (704 * (i 1).val + (i 3).val)

theorem array : (dats m 0 c).arrAt 3 (cfgs 0).N = res m c := by
  refine (dats m 0 c).arrAt_eq_of_covers 3 _ (by decide +kernel) fun t hf y => ?_
  have ht := lt_points t
  blk_simp [index3 t]
  rw [after0_3]
  obtain ⟨s, j, r, k, rfl⟩ : ∃ (s : Fin 2) (j : Fin 4) (r : Fin 512) (k : Fin 704), y = ix4 s j r k := ⟨y 0, y 1, y 2, y 3, ValueIdx.eq_ix4 y⟩
  rw [out3_eq _ _ _ fun _ => 0]
  refine (Mlp.out4_on (block0 m c t) (block1 m c t) (block2 m c t) s j r k).trans ?_
  have e0 : (((win0_3.blk t).view.emb (ix4 s j r k)) 0).val = s.val := by
    blk_simp [index3 t]
    rfl
  have e1 : (((win0_3.blk t).view.emb (ix4 s j r k)) 1).val = j.val := by
    blk_simp [index3 t]
    rfl
  have e2 : (((win0_3.blk t).view.emb (ix4 s j r k)) 2).val = 512 * t.val + r.val := by
    blk_simp [index3 t]
    change _ + r.val = _
    omega
  have e3 : (((win0_3.blk t).view.emb (ix4 s j r k)) 3).val = k.val := by
    blk_simp [index3 t]
    rfl
  unfold res
  rw [e0, e1, e2, e3]
  rfl

end

/-! ### The reference -/

section
variable (x0 : FVec Ideal Reference13Ideal.S4096x5632 .bf16) (x1 : FVec Ideal Reference13Ideal.S2816x1024 .bf16) (x2 : FVec Ideal Reference13Ideal.S4096x1024 .bf16)

def gateR : FVec Ideal Reference13Ideal.S4096x2816 .f32 := extractStridedSlice Reference13Ideal.S4096x2816 ![0, 0] x0 Reference13Ideal.Gen.slices_S4096x5632_S4096x2816_0_0
def upR : FVec Ideal Reference13Ideal.S4096x2816 .f32 := extractStridedSlice Reference13Ideal.S4096x2816 ![0, 2816] x0 Reference13Ideal.Gen.slices_S4096x5632_S4096x2816_0_2816
def logisR : FVec Ideal Reference13Ideal.S4096x2816 .f32 := Host.divf MlpRef.oneR (addf MlpRef.oneR (Host.exp (Host.negf (gateR x0))))
def leftR : FVec Ideal Reference13Ideal.S4096x2816 .f32 :=
  addf (mulf (mulf (MlpRef.dactR x1 x2) (upR x0)) (logisR x0)) (mulf (mulf (gateR x0) (mulf (MlpRef.dactR x1 x2) (upR x0))) (mulf (logisR x0) (subf MlpRef.oneR (logisR x0))))
def rightR : FVec Ideal Reference13Ideal.S4096x2816 .f32 := mulf (mulf (gateR x0) (logisR x0)) (MlpRef.dactR x1 x2)
def innerR : FVec Ideal Reference13Ideal.S4096x5632 .f32 :=
  concatenate Reference13Ideal.S4096x5632 1 [⟨Reference13Ideal.S4096x2816, leftR x0 x1 x2⟩, ⟨Reference13Ideal.S4096x2816, rightR x0 x1 x2⟩] Reference13Ideal.Gen.concatenates_S4096x2816_S4096x2816_S4096x5632_d1
def outR : FVec Ideal Reference13Ideal.S2x4x4096x704 .bf16 :=
  truncf .bf16 (transpose Reference13Ideal.S2x4x4096x704 [1, 2, 0, 3] (shapeCast Reference13Ideal.S4096x2x4x704 (innerR x0 x1 x2) Reference13Ideal.Gen.shapeCasts_S4096x5632_S4096x2x4x704 : FVec Ideal Reference13Ideal.S4096x2x4x704 .f32)
    Reference13Ideal.Gen.transposes_S4096x2x4x704_S2x4x4096x704_1_2_0_3) Reference13Ideal.Gen.bitsLt_bf16_f32

end

section
variable {x0 : FVec Ideal Reference13Ideal.S4096x5632 .bf16} {x1 : FVec Ideal Reference13Ideal.S2816x1024 .bf16} {x2 : FVec Ideal Reference13Ideal.S4096x1024 .bf16}
  {gu wd y : ℕ → ℕ → EReal} (h0 : On2 x0 gu) (h1 : On2 x1 wd) (h2 : On2 x2 y)
  (f0 : ∀ r n, r < 4096 → n < 5632 → MlpRef.Real (gu r n)) (f1 : ∀ n d, n < 2816 → d < 1024 → MlpRef.Real (wd n d))
  (f2 : ∀ r d, r < 4096 → d < 1024 → MlpRef.Real (y r d))

include h0 in
theorem gate_on : On2 (gateR x0) gu := (slice_cols (by decide) _ h0).congr fun i j _ _ => by rw [Nat.zero_add]

include h0 in
theorem up_on : On2 (upR x0) (fun r n => gu r (2816 + n)) := slice_cols (by decide) _ h0

include h0 in
theorem logis_on : On2 (logisR x0) (fun r n => Mlp.logis (gu r n)) := fun r n => by
  show Ideal.div (MlpRef.oneR _) (MlpRef.oneR _ + Ideal.exp (-(gateR x0 (ix2 r n)))) = _
  rw [MlpRef.one_on, gate_on h0]
  rfl

include h0 h1 h2 f0 f1 f2 in
theorem left_on : On2 (leftR x0 x1 x2) (fun r n => Mlp.inner y wd gu 0 r n) := fun r n => by
  have hr := r.isLt
  have hn := n.isLt
  show MlpRef.dactR x1 x2 (ix2 r n) * upR x0 (ix2 r n) * logisR x0 (ix2 r n)
    + gateR x0 (ix2 r n) * (MlpRef.dactR x1 x2 (ix2 r n) * upR x0 (ix2 r n)) * (logisR x0 (ix2 r n) * (MlpRef.oneR (ix2 r n) - logisR x0 (ix2 r n))) = _
  rw [MlpRef.dact_on h1 h2, up_on h0, logis_on h0, gate_on h0, MlpRef.one_on]
  exact MlpRef.gather (MlpRef.real_sum _ _ fun d hd => MlpRef.real_mul (f2 _ _ hr hd) (f1 _ _ hn hd)) (f0 _ _ hr (by omega)) (f0 _ _ hr (by omega))

include h0 h1 h2 in
theorem right_on : On2 (rightR x0 x1 x2) (fun r n => Mlp.inner y wd gu 1 r n) := fun r n => by
  show gateR x0 (ix2 r n) * logisR x0 (ix2 r n) * MlpRef.dactR x1 x2 (ix2 r n) = _
  rw [MlpRef.dact_on h1 h2, logis_on h0, gate_on h0, mul_comm]
  rfl

include h0 h1 h2 f0 f1 f2 in
theorem inner_on : On2 (innerR x0 x1 x2) (Mlp.flat y wd gu) := by
  refine beside rfl _ ((left_on h0 h1 h2 f0 f1 f2).congr fun i j _ hj => ?_) ((right_on h0 h1 h2).congr fun i j _ hj => ?_)
  · unfold Mlp.flat
    rw [show j / 2816 = 0 by omega, show j % 2816 = j by omega]
  · unfold Mlp.flat
    rw [show (2816 + j) / 2816 = 1 by omega, show (2816 + j) % 2816 = j by omega]

include h0 h1 h2 f0 f1 f2 in
theorem out_on : On4 (outR x0 x1 x2) (fun s j r k => Mlp.flat y wd gu r (2816 * s + 704 * j + k)) :=
  turn_1203 (a := 4096) (b := 2) (c := 4) (d := 704) _ (cast_24 (p := 2) (q := 4) (b := 704) rfl _ (inner_on h0 h1 h2 f0 f1 f2))

end

theorem finite_facts : Cert.Pre_finite13.Facts := by constructor <;> decide

section
variable {m : (ℓ : Loc nD τ sig) → Buf (Elt Ideal) ℓ} {c : Dev nD}

theorem ref_eq [hf : Cert.Pre_finite13.Facts]
    (h : Cert.Pre_finite13.fn (F := Ideal) (m ((c.tc : Thread nD τ).loc main_arg0)) (m ((c.tc : Thread nD τ).loc main_arg1)) (m ((c.tc : Thread nD τ).loc main_arg2)) = fun _ => 1#1) :
    outR (m ((c.tc : Thread nD τ).loc main_arg0)) (m ((c.tc : Thread nD τ).loc main_arg1)) (m ((c.tc : Thread nD τ).loc main_arg2)) = res m c := by
  have e := congrFun h (Shape.Idx.first Cert.Pre_finite13.Facts.h_S_)
  obtain ⟨e, e2⟩ := (IntOp.andi_eq_one).1 e
  obtain ⟨e0, e1⟩ := (IntOp.andi_eq_one).1 e
  have : Subsingleton Cert.Pre_finite13.S_.Idx := ⟨fun a b => funext fun i => i.elim0⟩
  refine On4.ext (a := 2) (b := 4) (c := 4096) (d := 704) (out_on (gu := gus m c) (wd := ds m c) (y := ys m c) (on_at2 _) (on_at2 _) (on_at2 _)
    (MlpRef.real_at2 fun i => Host.reduce_andi_all _ _ _ _ _ e0 i) (MlpRef.real_at2 fun i => Host.reduce_andi_all _ _ _ _ _ e1 i)
    (MlpRef.real_at2 fun i => Host.reduce_andi_all _ _ _ _ _ e2 i)) fun s j r k => ?_
  have hs := s.isLt
  have hj := j.isLt
  have hk := k.isLt
  show Mlp.inner _ _ _ s.val r.val (704 * j.val + k.val) = Mlp.flat _ _ _ r.val (2816 * s.val + 704 * j.val + k.val)
  unfold Mlp.flat
  rw [show (2816 * s.val + 704 * j.val + k.val) / 2816 = s.val by omega, show (2816 * s.val + 704 * j.val + k.val) % 2816 = 704 * j.val + k.val by omega]

end

end Cert.Proof.Dact

end
-- ==== Proof.Gates.lean ====
/-
  The two branches' gates, in a block of tokens and over all tokens, and a block's place among the rows.
-/
module

public import proofs.«01_k».proof.Proof.Mlp
public import Idealize.ShloMosaic.Lib.Pipeline.ValueKit
public import Idealize.ShloMosaic.Lib.Claim

@[expose] public section
set_option maxRecDepth 16384
noncomputable section
namespace Cert.Proof.Gates
open Cert.Proof.Tiles
open Idealize.ShloMosaic hiding ix0 ix1 ix2 ix3 ix4 ix5
open Idealize.ShloMosaic.ValueIdx
open Idealize.ShloMosaic.TcCoe Idealize.ShloMosaic.Tactic

abbrev Block : Shape := ⟨2, ![512, 1024]⟩
abbrev Row : Shape := ⟨2, ![1, 1024]⟩
abbrev Rows : Shape := ⟨2, ![2, 1024]⟩
abbrev Flat : Shape := ⟨1, ![1024]⟩
abbrev Tokens : Shape := ⟨2, ![4096, 1024]⟩

/-- The gate of one branch: the logistic function of its projection with the bias added. -/
def gate (p : ℕ → ℕ → EReal) (b : ℕ → EReal) (r d : ℕ) : EReal := Mlp.logis (p r d + b d)

/-- A block's gate. -/
def gateB (v : FVec Ideal Block .bf16) (b : FVec Ideal Row .f32) (hw : FTy.bits .bf16 < FTy.bits .f32) (h : Row.Broadcasts Block) : FVec Ideal Block .f32 :=
  divf (broadcast Block (Scalar.ofBits .f32 0x3F800000#32)) (addf (broadcast Block (Scalar.ofBits .f32 0x3F800000#32))
    (exp (subf (broadcast Block (Scalar.ofBits .f32 0x00000000#32)) (addf (extf .f32 v hw) (broadcastTo Block b h)))))

theorem gateB_on {v : FVec Ideal Block .bf16} {b : FVec Ideal Row .f32} {p : ℕ → ℕ → EReal} {g : ℕ → EReal} (hv : On2 v p) (hb : On2 b fun _ => g) (hw) (h) :
    On2 (gateB v b hw h) (gate p g) := fun r d => by
  show Ideal.div (Ideal.ofBits .f32 0x3F800000#32) (Ideal.ofBits .f32 0x3F800000#32 + Ideal.exp (Ideal.ofBits .f32 0x00000000#32 - (v (ix2 r d) + broadcastTo Block b h (ix2 r d)))) = _
  rw [broadcastTo_1b_ab_apply, hv, hb, Ideal.ofBits_zero_f32, Ideal.ofBits_one_f32, zero_sub]
  rfl

/-- One of the two rows, read alone. -/
theorem row_ld {x : FVec Ideal Rows .f32} {b : ℕ → ℕ → EReal} (q : ℕ) (inb) (h : On2 x b) :
    On2 (a := 1) (b := 1024) (View.ld (Val := Elt Ideal) (e' := .f32) x (Rect.unit (s := Rows) ![q, 0] ![1, 1024] inb)) (fun _ => b q) := fun z d => by
  have hq : q + 1 ≤ 2 := inb 0
  refine (View.ld_unit_apply_of (Val := Elt Ideal) (e := .f32) x _ _ _ _ (ix2 (⟨q, by omega⟩ : Fin 2) d) fun a => ?_).trans (h _ _)
  match a with
  | ⟨0, _⟩ => show q = q + z.val; omega
  | ⟨1, _⟩ => exact (Nat.zero_add _).symm

/-- One of the two rows along all tokens. -/
def along (q : ℕ) (b : FVec Ideal Rows .f32) (h0 : Rows.Slices ![q, 0] Row) (h1 : Row.ShapeCasts Flat) (h2 : Flat.BroadcastsInDim Row ![1]) (h3 : Row.BroadcastsInDim Tokens ![0, 1]) : FVec Ideal Tokens .f32 :=
  broadcastInDim Tokens ![0, 1] h3 (broadcastInDim Row ![1] h2 (shapeCast Flat (extractStridedSlice Row ![q, 0] b h0) h1))

theorem along_on {x : FVec Ideal Rows .f32} {b : ℕ → ℕ → EReal} (q : ℕ) (h : On2 x b) (h0) (h1) (h2) (h3) : On2 (along q x h0 h1 h2 h3) (fun _ => b q) := fun r d => by
  have hq : q + 1 ≤ 2 := h0.2 0
  refine (broadcastInDim_apply _ _ _ (ix2 r d) (ix2 (0 : Fin 1) d) fun a => by match a with | ⟨0, _⟩ => rfl | ⟨1, _⟩ => rfl).trans ?_
  refine (broadcastInDim_apply _ _ _ (ix2 (0 : Fin 1) d) (ix1 d) fun a => by match a with | ⟨0, _⟩ => rfl).trans ?_
  refine (shapeCast_1a_a_apply _ _ _).trans ?_
  refine (extractStridedSlice_apply ![q, 0] x h0 (ix2 (0 : Fin 1) d) (ix2 (⟨q, by omega⟩ : Fin 2) d) fun a => ?_).trans (h _ _)
  match a with
  | ⟨0, _⟩ => rfl
  | ⟨1, _⟩ => exact (Nat.zero_add _).symm

/-- One over all tokens. -/
def ones (h : Shape.BroadcastsInDim ⟨0, ![]⟩ Tokens ![]) : FVec Ideal Tokens .f32 := broadcastInDim Tokens ![] h (constant ⟨0, ![]⟩ .f32 0x3F800000#32)

theorem ones_on (h) (i : Tokens.Idx) : ones h i = (1 : EReal) := Ideal.ofBits_one_f32

/-- The gate over all tokens. -/
def gateR (p c : FVec Ideal Tokens .f32) (h : Shape.BroadcastsInDim ⟨0, ![]⟩ Tokens ![]) : FVec Ideal Tokens .f32 :=
  Host.divf (ones h) (addf (ones h) (Host.exp (Host.negf (addf p c))))

theorem gateR_on {x c : FVec Ideal Tokens .f32} {p : ℕ → ℕ → EReal} {g : ℕ → EReal} (hx : On2 x p) (hc : On2 c fun _ => g) (h) : On2 (gateR x c h) (gate p g) := fun r d => by
  show Ideal.div (ones h _) (ones h _ + Ideal.exp (-(x (ix2 r d) + c (ix2 r d)))) = _
  rw [ones_on, hx, hc]
  rfl

/-- A block's entry is the entry of the whole at the block's place. -/
theorem placed {x : Block.Idx → EReal} {f : ℕ → ℕ → EReal} (s : ℕ) (h : On2 x fun r d => f (s + r) d) (y : Block.Idx) (i j : ℕ) (hi : i = s + (y 0).val) (hj : j = (y 1).val) :
    x y = f i j := by
  subst hi hj
  exact (congrArg x (ValueIdx.eq_ix2 y)).trans (h (y 0) (y 1))

end Cert.Proof.Gates

end
-- ==== Proof.Merge.lean ====
/-
  The merge of the two branches: their output products, the gated sum, its product and the residual, over the blocks of
  tokens and after the run, and the reference's results.
-/
module

public import proofs.«01_k».proof.Proof.Gates
public import proofs.«01_k».proof.Proof.UpRef
public import proofs.«01_k».proof.Proof.Gen.Kernel14Ideal.Value
public import proofs.«01_k».proof.Proof.Gen.Reference14Ideal.Run

@[expose] public section
set_option maxRecDepth 16384
noncomputable section
namespace Cert.Proof.Merge
open Cert.Kernel14Ideal Cert.Kernel14Ideal.Gen Cert.Proof.Tiles Cert.Proof.Gates
open Idealize.ShloMosaic hiding ix0 ix1 ix2 ix3 ix4 ix5
open Idealize.ShloMosaic.ValueIdx
open Idealize.ShloMosaic.TcCoe Idealize.ShloMosaic.Tactic

/-- A branch's output product. -/
def branch (s w : ℕ → ℕ → EReal) (r d : ℕ) : EReal := ∑ k ∈ Finset.range 512, s r k * w k d

/-- The gated sum of the branches. -/
def mixed (s o wc wa pa pb b : ℕ → ℕ → EReal) (r d : ℕ) : EReal := gate pa (b 0) r d * branch s wc r d + gate pb (b 1) r d * branch o wa r d

/-- A product over the model width. -/
def outer (x w : ℕ → ℕ → EReal) (r d : ℕ) : EReal := ∑ k ∈ Finset.range 1024, x r k * w k d

theorem whole0 (y : Vec Ideal S512x512 .bf16) : View.ld y r0_0 = y := View.ld_unit_lit _ _ (by decide)
theorem whole1 (y : Vec Ideal S512x1024 .bf16) : View.ld y r0_1 = y := View.ld_unit_lit _ _ (by decide)
theorem whole1' (y : Vec Ideal S512x1024 .f32) : View.ld y r0_1 = y := View.ld_unit_lit _ _ (by decide)
theorem whole4 (y : Vec Ideal S1024x1024 .bf16) : View.ld y r0_4 = y := View.ld_unit_lit _ _ (by decide)
theorem whole5 (y : Vec Ideal S1x1024 .f32) : View.ld y r0_5 = y := View.ld_unit_lit _ _ (by decide)

section
variable {x0 x1 : Vec Ideal S512x512 .bf16} {x2 x3 x4 x5 : Vec Ideal S512x1024 .bf16} {x6 : Vec Ideal S2x1024 .f32} {x7 : Vec Ideal S1024x1024 .bf16} {x8 : Vec Ideal S512x1024 .f32}
  {x9 : Vec Ideal S1x1024 .f32} {s o wc wa pa pb b w x g : ℕ → ℕ → EReal}
  (h0 : On2 x0 s) (h1 : On2 x1 o) (h2 : On2 x2 pa) (h3 : On2 x3 pb) (h4 : On2 x4 wc) (h5 : On2 x5 wa) (h6 : On2 x6 b) (h7 : On2 x7 w) (h8 : On2 x8 x) (h9 : On2 x9 g)

include h0 h4 in
theorem left_on : On2 (k0_pay6 (F := Ideal) x0 x4) (branch s wc) := times (φ₁ := .bf16) (φ₂ := .bf16) h0 h4 zeros

include h1 h5 in
theorem right_on : On2 (k0_pay7 (F := Ideal) x1 x5) (branch o wa) := times (φ₁ := .bf16) (φ₂ := .bf16) h1 h5 zeros

include h0 h1 h2 h3 h4 h5 h6 in
theorem mixed_on : On2 (k0_pay9 x0 x1 x2 x3 x4 x5 x6 x7 x8 x9) (mixed s o wc wa pa pb b) := by
  unfold k0_pay9
  rw [whole0, whole0, whole1, whole1, whole1, whole1]
  intro r d
  show gateB x2 (View.ld x6 r0_2) bitsLt_bf16_f32 broadcasts_S1x1024_S512x1024 (ix2 r d) * k0_pay6 (F := Ideal) x0 x4 (ix2 r d)
    + gateB x3 (View.ld x6 r0_3) bitsLt_bf16_f32 broadcasts_S1x1024_S512x1024 (ix2 r d) * k0_pay7 (F := Ideal) x1 x5 (ix2 r d) = _
  rw [gateB_on h2 (row_ld 0 inb_S2x1024_S1x1024_0_0 h6), gateB_on h3 (row_ld 1 inb_S2x1024_S1x1024_1_0 h6), left_on h0 h4, right_on h1 h5]
  rfl

include h0 h1 h2 h3 h4 h5 h6 h7 in
theorem outer_on : On2 (k0_pay3 (k0_pay9 x0 x1 x2 x3 x4 x5 x6 x7 x8 x9) x7) (outer (mixed s o wc wa pa pb b) w) :=
  times (φ₁ := .bf16) (φ₂ := .bf16) (mixed_on h0 h1 h2 h3 h4 h5 h6) h7 zeros

include h0 h1 h2 h3 h4 h5 h6 in
theorem out10_on : On2 (out0_10 x0 x1 x2 x3 x4 x5 x6 x7 x8 x9) (mixed s o wc wa pa pb b) := by
  unfold out0_10
  rw [View.canon_unit_zero (by funext a; match a with | ⟨0, _⟩ => rfl | ⟨1, _⟩ => rfl)]
  exact mixed_on h0 h1 h2 h3 h4 h5 h6

include h0 h4 in
theorem out11_on : On2 (out0_11 x0 x1 x2 x3 x4 x5 x6 x7 x8 x9) (branch s wc) := by
  unfold out0_11
  rw [View.canon_unit_zero (by funext a; match a with | ⟨0, _⟩ => rfl | ⟨1, _⟩ => rfl), whole0, whole1]
  exact left_on h0 h4

include h1 h5 in
theorem out12_on : On2 (out0_12 x0 x1 x2 x3 x4 x5 x6 x7 x8 x9) (branch o wa) := by
  unfold out0_12
  rw [View.canon_unit_zero (by funext a; match a with | ⟨0, _⟩ => rfl | ⟨1, _⟩ => rfl), whole0, whole1]
  exact right_on h1 h5

include h0 h1 h2 h3 h4 h5 h6 h7 in
theorem out13_on : On2 (out0_13 x0 x1 x2 x3 x4 x5 x6 x7 x8 x9) (outer (mixed s o wc wa pa pb b) w) := by
  unfold out0_13
  rw [View.canon_unit_zero (by funext a; match a with | ⟨0, _⟩ => rfl | ⟨1, _⟩ => rfl), whole4]
  exact outer_on h0 h1 h2 h3 h4 h5 h6 h7

include h0 h1 h2 h3 h4 h5 h6 h7 h8 h9 in
theorem out14_on : On2 (out0_14 x0 x1 x2 x3 x4 x5 x6 x7 x8 x9) (fun r d => x r d + g 0 d * outer (mixed s o wc wa pa pb b) w r d) := by
  unfold out0_14
  rw [View.canon_unit_zero (by funext a; match a with | ⟨0, _⟩ => rfl | ⟨1, _⟩ => rfl), whole4, whole1', whole5]
  intro r d
  show x8 (ix2 r d) + broadcastTo S512x1024 x9 broadcasts_S1x1024_S512x1024 (ix2 r d) * k0_pay3 (F := Ideal) _ _ (ix2 r d) = _
  rw [broadcastTo_1b_ab_apply, h8, h9, outer_on h0 h1 h2 h3 h4 h5 h6 h7]
  rfl

end

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 3] := by decide +kernel
theorem index3 : ∀ t : Fin cfg0.N, win0_3.index t = ![t.val, 4] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![t.val, 0] := by decide +kernel
theorem index9 : ∀ t : Fin cfg0.N, win0_9.index t = ![0, 0] := by decide +kernel
theorem index10 : ∀ t : Fin cfg0.N, win0_10.index t = ![t.val, 0] := by decide +kernel
theorem index11 : ∀ t : Fin cfg0.N, win0_11.index t = ![t.val, 0] := by decide +kernel
theorem index12 : ∀ t : Fin cfg0.N, win0_12.index t = ![t.val, 0] := by decide +kernel
theorem index13 : ∀ t : Fin cfg0.N, win0_13.index t = ![t.val, 0] := by decide +kernel
theorem index14 : ∀ t : Fin cfg0.N, win0_14.index t = ![t.val, 0] := by decide +kernel
theorem lt_points (t : Fin cfg0.N) : t.val < 8 := t.isLt

section
variable (m : (ℓ : Loc nD τ sig) → Buf (Elt Ideal) ℓ) (c : Dev nD)

/-- The arguments' entries. -/
def ss : ℕ → ℕ → EReal := at2 (a := 4096) (b := 512) (m ((c : Thread nD τ).loc main_arg0))
def os : ℕ → ℕ → EReal := at2 (a := 4096) (b := 512) (m ((c : Thread nD τ).loc main_arg1))
def ps : ℕ → ℕ → EReal := at2 (a := 4096) (b := 5120) (m ((c : Thread nD τ).loc main_arg2))
def cws : ℕ → ℕ → EReal := at2 (a := 512) (b := 1024) (m ((c : Thread nD τ).loc main_arg3))
def aws : ℕ → ℕ → EReal := at2 (a := 512) (b := 1024) (m ((c : Thread nD τ).loc main_arg4))
def bs : ℕ → ℕ → EReal := at2 (a := 2) (b := 1024) (m ((c : Thread nD τ).loc main_arg5))
def ws : ℕ → ℕ → EReal := at2 (a := 1024) (b := 1024) (m ((c : Thread nD τ).loc main_arg6))
def xs : ℕ → ℕ → EReal := at2 (a := 4096) (b := 1024) (m ((c : Thread nD τ).loc main_arg7))
def gs : ℕ → ℕ → EReal := at2 (a := 1) (b := 1024) (m ((c : Thread nD τ).loc main_arg8))

theorem block0 (t : Fin cfg0.N) : On2 (a := 512) (b := 512) (iblk m c 0 t) (fun r d => ss m c (512 * t.val + r) d) := fun r d => by
  have ht := lt_points t
  have e : iblk m c 0 t (ix2 r d) = V m c main_arg0 (ix2 ⟨512 * t.val + r.val, by omega⟩ d) := by
    blk_ext [iblk, index0 t]
    change _ + r.val = _
    omega
  rw [e, V_main_arg0]
  exact on_at2 _ _ _

theorem block1 (t : Fin cfg0.N) : On2 (a := 512) (b := 512) (iblk m c 1 t) (fun r d => os m c (512 * t.val + r) d) := fun r d => by
  have ht := lt_points t
  have e : iblk m c 1 t (ix2 r d) = V m c main_arg1 (ix2 ⟨512 * t.val + r.val, by omega⟩ d) := by
    blk_ext [iblk, index1 t]
    change _ + r.val = _
    omega
  rw [e, V_main_arg1]
  exact on_at2 _ _ _

theorem block2 (t : Fin cfg0.N) : On2 (a := 512) (b := 1024) (iblk m c 2 t) (fun r d => ps m c (512 * t.val + r) (3072 + d)) := fun r d => by
  have ht := lt_points t
  have e : iblk m c 2 t (ix2 r d) = V m c main_arg2 (ix2 ⟨512 * t.val + r.val, by omega⟩ ⟨3072 + d.val, by omega⟩) := by
    blk_ext [iblk, index2 t]
    all_goals first | (change _ + r.val = _; omega) | (change _ + d.val = _; omega)
  rw [e, V_main_arg2]
  exact on_at2 _ _ _

theorem block3 (t : Fin cfg0.N) : On2 (a := 512) (b := 1024) (iblk m c 3 t) (fun r d => ps m c (512 * t.val + r) (4096 + d)) := fun r d => by
  have ht := lt_points t
  have e : iblk m c 3 t (ix2 r d) = V m c main_arg2 (ix2 ⟨512 * t.val + r.val, by omega⟩ ⟨4096 + d.val, by omega⟩) := by
    blk_ext [iblk, index3 t]
    all_goals first | (change _ + r.val = _; omega) | (change _ + d.val = _; omega)
  rw [e, V_main_arg2]
  exact on_at2 _ _ _

theorem block4 (t : Fin cfg0.N) : On2 (a := 512) (b := 1024) (iblk m c 4 t) (cws m c) := fun r d => by
  have e : iblk m c 4 t (ix2 r d) = V m c main_arg3 (ix2 r d) := by
    blk_ext [iblk, index4 t]
  rw [e, V_main_arg3]
  exact on_at2 _ _ _

theorem block5 (t : Fin cfg0.N) : On2 (a := 512) (b := 1024) (iblk m c 5 t) (aws m c) := fun r d => by
  have e : iblk m c 5 t (ix2 r d) = V m c main_arg4 (ix2 r d) := by
    blk_ext [iblk, index5 t]
  rw [e, V_main_arg4]
  exact on_at2 _ _ _

theorem block6 (t : Fin cfg0.N) : On2 (a := 2) (b := 1024) (iblk m c 6 t) (bs m c) := fun r d => by
  have e : iblk m c 6 t (ix2 r d) = V m c main_arg5 (ix2 r d) := by
    blk_ext [iblk, index6 t]
  rw [e, V_main_arg5]
  exact on_at2 _ _ _

theorem block7 (t : Fin cfg0.N) : On2 (a := 1024) (b := 1024) (iblk m c 7 t) (ws m c) := fun r d => by
  have e : iblk m c 7 t (ix2 r d) = V m c main_arg6 (ix2 r d) := by
    blk_ext [iblk, index7 t]
  rw [e, V_main_arg6]
  exact on_at2 _ _ _

theorem block8 (t : Fin cfg0.N) : On2 (a := 512) (b := 1024) (iblk m c 8 t) (fun r d => xs m c (512 * t.val + r) d) := fun r d => by
  have ht := lt_points t
  have e : iblk m c 8 t (ix2 r d) = V m c main_arg7 (ix2 ⟨512 * t.val + r.val, by omega⟩ d) := by
    blk_ext [iblk, index8 t]
    change _ + r.val = _
    omega
  rw [e, V_main_arg7]
  exact on_at2 _ _ _

theorem block9 (t : Fin cfg0.N) : On2 (a := 1) (b := 1024) (iblk m c 9 t) (gs m c) := fun r d => by
  have e : iblk m c 9 t (ix2 r d) = V m c main_arg8 (ix2 r d) := by
    blk_ext [iblk, index9 t]
  rw [e, V_main_arg8]
  exact on_at2 _ _ _

/-- The five results: the gated sum, the branches' products, the sum's product and the residual stream. -/
def mix : ℕ → ℕ → EReal := mixed (ss m c) (os m c) (cws m c) (aws m c) (fun r d => ps m c r (3072 + d)) (fun r d => ps m c r (4096 + d)) (bs m c)
def resMix : S4096x1024.Idx → EReal := fun i => mix m c (i 0).val (i 1).val
def resA : S4096x1024.Idx → EReal := fun i => branch (ss m c) (cws m c) (i 0).val (i 1).val
def resB : S4096x1024.Idx → EReal := fun i => branch (os m c) (aws m c) (i 0).val (i 1).val
def resY : S4096x1024.Idx → EReal := fun i => outer (mix m c) (ws m c) (i 0).val (i 1).val
def stream (r d : ℕ) : EReal := xs m c r d + gs m c 0 d * outer (mix m c) (ws m c) r d
def resX : S4096x1024.Idx → EReal := fun i => stream m c (i 0).val (i 1).val

theorem array10 : (dats m 0 c).arrAt 10 (cfgs 0).N = resMix m c := by
  refine (dats m 0 c).arrAt_eq_of_covers 10 _ (by decide +kernel) fun t hf y => ?_
  have e0 : (((win0_10.blk t).view.emb y) 0).val = 512 * t.val + (y 0).val := by
    blk_simp [index10 t]
    change _ + (y 0).val = _
    omega
  have e1 : (((win0_10.blk t).view.emb y) 1).val = (y 1).val := by
    blk_simp [index10 t]
  blk_simp [index10 t]
  rw [after0_10]
  exact placed (f := mix m c) (512 * t.val) (out10_on (block0 m c t) (block1 m c t) (block2 m c t) (block3 m c t) (block4 m c t) (block5 m c t) (block6 m c t)) y _ _ e0 e1

theorem array11 : (dats m 0 c).arrAt 11 (cfgs 0).N = resA m c := by
  refine (dats m 0 c).arrAt_eq_of_covers 11 _ (by decide +kernel) fun t hf y => ?_
  have e0 : (((win0_11.blk t).view.emb y) 0).val = 512 * t.val + (y 0).val := by
    blk_simp [index11 t]
    change _ + (y 0).val = _
    omega
  have e1 : (((win0_11.blk t).view.emb y) 1).val = (y 1).val := by
    blk_simp [index11 t]
  blk_simp [index11 t]
  rw [after0_11]
  exact placed (f := branch (ss m c) (cws m c)) (512 * t.val) (out11_on (block0 m c t) (block4 m c t)) y _ _ e0 e1

theorem array12 : (dats m 0 c).arrAt 12 (cfgs 0).N = resB m c := by
  refine (dats m 0 c).arrAt_eq_of_covers 12 _ (by decide +kernel) fun t hf y => ?_
  have e0 : (((win0_12.blk t).view.emb y) 0).val = 512 * t.val + (y 0).val := by
    blk_simp [index12 t]
    change _ + (y 0).val = _
    omega
  have e1 : (((win0_12.blk t).view.emb y) 1).val = (y 1).val := by
    blk_simp [index12 t]
  blk_simp [index12 t]
  rw [after0_12]
  exact placed (f := branch (os m c) (aws m c)) (512 * t.val) (out12_on (block1 m c t) (block5 m c t)) y _ _ e0 e1

theorem array13 : (dats m 0 c).arrAt 13 (cfgs 0).N = resY m c := by
  refine (dats m 0 c).arrAt_eq_of_covers 13 _ (by decide +kernel) fun t hf y => ?_
  have e0 : (((win0_13.blk t).view.emb y) 0).val = 512 * t.val + (y 0).val := by
    blk_simp [index13 t]
    change _ + (y 0).val = _
    omega
  have e1 : (((win0_13.blk t).view.emb y) 1).val = (y 1).val := by
    blk_simp [index13 t]
  blk_simp [index13 t]
  rw [after0_13]
  exact placed (f := outer (mix m c) (ws m c)) (512 * t.val)
    (out13_on (block0 m c t) (block1 m c t) (block2 m c t) (block3 m c t) (block4 m c t) (block5 m c t) (block6 m c t) (block7 m c t)) y _ _ e0 e1

theorem array14 : (dats m 0 c).arrAt 14 (cfgs 0).N = resX m c := by
  refine (dats m 0 c).arrAt_eq_of_covers 14 _ (by decide +kernel) fun t hf y => ?_
  have e0 : (((win0_14.blk t).view.emb y) 0).val = 512 * t.val + (y 0).val := by
    blk_simp [index14 t]
    change _ + (y 0).val = _
    omega
  have e1 : (((win0_14.blk t).view.emb y) 1).val = (y 1).val := by
    blk_simp [index14 t]
  blk_simp [index14 t]
  rw [after0_14]
  exact placed (f := stream m c) (512 * t.val)
    (out14_on (block0 m c t) (block1 m c t) (block2 m c t) (block3 m c t) (block4 m c t) (block5 m c t) (block6 m c t) (block7 m c t) (block8 m c t) (block9 m c t)) y _ _ e0 e1

end

/-! ### The reference -/

section
variable (x0 x1 : FVec Ideal Reference14Ideal.S4096x512 .bf16) (x2 : FVec Ideal Reference14Ideal.S4096x5120 .bf16) (x3 x4 : FVec Ideal Reference14Ideal.S512x1024 .bf16) (x5 : FVec Ideal Reference14Ideal.S2x1024 .f32)
  (x6 : FVec Ideal Reference14Ideal.S1024x1024 .bf16) (x7 : FVec Ideal Reference14Ideal.S4096x1024 .f32) (x8 : FVec Ideal Reference14Ideal.S1x1024 .f32)

def branchR (x : FVec Ideal Reference14Ideal.S4096x512 .bf16) (w : FVec Ideal Reference14Ideal.S512x1024 .bf16) : FVec Ideal Reference14Ideal.S4096x1024 .f32 :=
  Host.dotGeneral (F := Ideal) (φ₁ := .f32) (φ₂ := .f32) Reference14Ideal.dot_S4096x512_S512x1024_S4096x1024_1_0_0_1_n_n none x w
def leftR : FVec Ideal Reference14Ideal.S4096x1024 .f32 :=
  gateR (extractStridedSlice Reference14Ideal.S4096x1024 ![0, 3072] x2 Reference14Ideal.Gen.slices_S4096x5120_S4096x1024_0_3072)
    (along 0 x5 Reference14Ideal.Gen.slices_S2x1024_S1x1024_0_0 Reference14Ideal.Gen.shapeCasts_S1x1024_S1024 Reference14Ideal.Gen.bcast_S1024_S1x1024_1 Reference14Ideal.Gen.bcast_S1x1024_S4096x1024_0_1)
    Reference14Ideal.Gen.bcast_S_S4096x1024
def rightR : FVec Ideal Reference14Ideal.S4096x1024 .f32 :=
  gateR (extractStridedSlice Reference14Ideal.S4096x1024 ![0, 4096] x2 Reference14Ideal.Gen.slices_S4096x5120_S4096x1024_0_4096)
    (along 1 x5 Reference14Ideal.Gen.slices_S2x1024_S1x1024_1_0 Reference14Ideal.Gen.shapeCasts_S1x1024_S1024 Reference14Ideal.Gen.bcast_S1024_S1x1024_1 Reference14Ideal.Gen.bcast_S1x1024_S4096x1024_0_1)
    Reference14Ideal.Gen.bcast_S_S4096x1024
def mixR : FVec Ideal Reference14Ideal.S4096x1024 .f32 := addf (mulf (leftR x2 x5) (branchR x0 x3)) (mulf (rightR x2 x5) (branchR x1 x4))
def outerR : FVec Ideal Reference14Ideal.S4096x1024 .f32 :=
  Host.dotGeneral (F := Ideal) (φ₁ := .f32) (φ₂ := .f32) Reference14Ideal.dot_S4096x1024_S1024x1024_S4096x1024_1_0_0_1_n_n none (mixR x0 x1 x2 x3 x4 x5) x6
def streamR : FVec Ideal Reference14Ideal.S4096x1024 .f32 := addf x7 (mulf (UpRef.rowsR x8) (outerR x0 x1 x2 x3 x4 x5 x6))

end

section
variable {x0 x1 : FVec Ideal Reference14Ideal.S4096x512 .bf16} {x2 : FVec Ideal Reference14Ideal.S4096x5120 .bf16} {x3 x4 : FVec Ideal Reference14Ideal.S512x1024 .bf16} {x5 : FVec Ideal Reference14Ideal.S2x1024 .f32}
  {x6 : FVec Ideal Reference14Ideal.S1024x1024 .bf16} {x7 : FVec Ideal Reference14Ideal.S4096x1024 .f32} {x8 : FVec Ideal Reference14Ideal.S1x1024 .f32}
  {s o p wc wa b w x g : ℕ → ℕ → EReal}
  (h0 : On2 x0 s) (h1 : On2 x1 o) (h2 : On2 x2 p) (h3 : On2 x3 wc) (h4 : On2 x4 wa) (h5 : On2 x5 b) (h6 : On2 x6 w) (h7 : On2 x7 x) (h8 : On2 x8 g)

theorem branchR_on {x : FVec Ideal Reference14Ideal.S4096x512 .bf16} {w : FVec Ideal Reference14Ideal.S512x1024 .bf16} {f k : ℕ → ℕ → EReal} (hx : On2 x f) (hw : On2 w k) : On2 (branchR x w) (branch f k) :=
  times (φ₁ := .f32) (φ₂ := .f32) (z := fun _ => 0) hx hw fun _ _ => rfl

include h0 h1 h2 h3 h4 h5 in
theorem mixR_on : On2 (mixR x0 x1 x2 x3 x4 x5) (mixed s o wc wa (fun r d => p r (3072 + d)) (fun r d => p r (4096 + d)) b) := fun r d => by
  show leftR x2 x5 (ix2 r d) * branchR x0 x3 (ix2 r d) + rightR x2 x5 (ix2 r d) * branchR x1 x4 (ix2 r d) = _
  rw [branchR_on h0 h3, branchR_on h1 h4]
  unfold leftR rightR
  rw [gateR_on (slice_cols (by decide) _ h2) (along_on 0 h5 _ _ _ _), gateR_on (slice_cols (by decide) _ h2) (along_on 1 h5 _ _ _ _)]
  rfl

include h0 h1 h2 h3 h4 h5 h6 in
theorem outerR_on : On2 (outerR x0 x1 x2 x3 x4 x5 x6) (outer (mixed s o wc wa (fun r d => p r (3072 + d)) (fun r d => p r (4096 + d)) b) w) :=
  times (φ₁ := .f32) (φ₂ := .f32) (z := fun _ => 0) (mixR_on h0 h1 h2 h3 h4 h5) h6 fun _ _ => rfl

include h0 h1 h2 h3 h4 h5 h6 h7 h8 in
theorem streamR_on : On2 (streamR x0 x1 x2 x3 x4 x5 x6 x7 x8) (fun r d => x r d + g 0 d * outer (mixed s o wc wa (fun r d => p r (3072 + d)) (fun r d => p r (4096 + d)) b) w r d) := fun r d => by
  show x7 (ix2 r d) + UpRef.rowsR x8 (ix2 r d) * outerR x0 x1 x2 x3 x4 x5 x6 (ix2 r d) = _
  rw [h7, UpRef.rows_on h8, outerR_on h0 h1 h2 h3 h4 h5 h6]

end

section
variable (m : (ℓ : Loc nD τ sig) → Buf (Elt Ideal) ℓ) (c : Dev nD)

theorem refMix_eq : mixR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) = resMix m c :=
  On2.ext (mixR_on (on_at2 _) (on_at2 _) (on_at2 _) (on_at2 _) (on_at2 _) (on_at2 _)) fun _ _ => rfl

theorem refA_eq : branchR (m ((c.tc : Thread nD τ).loc main_arg0)) (m ((c.tc : Thread nD τ).loc main_arg3)) = resA m c :=
  On2.ext (branchR_on (on_at2 _) (on_at2 _)) fun _ _ => rfl

theorem refB_eq : branchR (m ((c.tc : Thread nD τ).loc main_arg1)) (m ((c.tc : Thread nD τ).loc main_arg4)) = resB m c :=
  On2.ext (branchR_on (on_at2 _) (on_at2 _)) fun _ _ => rfl

theorem refY_eq : outerR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) = resY m c :=
  On2.ext (outerR_on (on_at2 _) (on_at2 _) (on_at2 _) (on_at2 _) (on_at2 _) (on_at2 _) (on_at2 _)) fun _ _ => rfl

theorem refX_eq : streamR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) = resX m c :=
  On2.ext (streamR_on (on_at2 _) (on_at2 _) (on_at2 _) (on_at2 _) (on_at2 _) (on_at2 _) (on_at2 _) (on_at2 _) (on_at2 _)) fun _ _ => rfl

end

end Cert.Proof.Merge

end
-- ==== Proof.MergeBwd.lean ====
/-
  The merge's gradients: what the gates pass on to the branches, the gates' own, and the biases', summed block of tokens
  by block of tokens; the reference's results.
-/
module

public import proofs.«01_k».proof.Proof.Gates
public import proofs.«01_k».proof.Proof.Gen.Kernel15Ideal.Value
public import proofs.«01_k».proof.Proof.Gen.Reference15Ideal.Run
public import Idealize.ShloMosaic.Lib.Pipeline.ReadBack
public import Idealize.ShloMosaic.Lib.KernelVsHost

@[expose] public section
set_option maxRecDepth 16384
noncomputable section
namespace Cert.Proof.MergeBwd
open Cert.Kernel15Ideal Cert.Kernel15Ideal.Gen Cert.Proof.Tiles Cert.Proof.Gates
open Idealize.ShloMosaic hiding ix0 ix1 ix2 ix3 ix4 ix5
open Idealize.ShloMosaic.ValueIdx
open Idealize.ShloMosaic.TcCoe Idealize.ShloMosaic.Tactic

/-- The gated sum's gradient: a product with the rows of the weight. -/
def back (u w : ℕ → ℕ → EReal) (r d : ℕ) : EReal := ∑ k ∈ Finset.range 1024, u r k * w d k

/-- What a gate passes on to its branch. -/
def passed (v g : ℕ → ℕ → EReal) (r d : ℕ) : EReal := v r d * g r d

/-- The gradient of a gate's argument. -/
def slope (v y g : ℕ → ℕ → EReal) (r d : ℕ) : EReal := v r d * y r d * g r d * (1 - g r d)

/-- A column's sum over the first `n` blocks of tokens. -/
def tally (f : ℕ → ℕ → EReal) (n d : ℕ) : EReal := ∑ q ∈ Finset.range n, ∑ k ∈ Finset.range 512, f (512 * q + k) d

theorem tally_all (f : ℕ → ℕ → EReal) (d : ℕ) : tally f 8 d = ∑ k ∈ Finset.range 4096, f k d := (sum_chunks (fun k => f k d) 512 8).symm

/-! ### Two rows stored one after the other, and read again -/

section
variable {sig : RefSig} {κ : Kind} {sp : Space} {v : View sig κ sp Rows .f32}

theorem row_is {q : ℕ} {inb} {w : Row.Idx → EReal} {f : ℕ → ℕ → EReal} (h : On2 w fun _ => f q) (x : Row.Idx) :
    w x = (fun y : Rows.Idx => f (y 0).val (y 1).val) ((Rect.unit (s := Rows) ![q, 0] ![1, 1024] inb).emb x) := by
  have e (k) := ValueKit.rect_emb_unit_val (s := Rows) ![q, 0] ![1, 1024] inb x k
  have z0 : (x 0).val < 1 := (x 0).isLt
  have e0 := e 0
  have e1 := e 1
  change _ = q + (x 0).val at e0
  change _ = 0 + (x 1).val at e1
  show _ = f _ _
  rw [e0, e1, show q + (x 0).val = q by omega, Nat.zero_add]
  conv_lhs => rw [ValueIdx.eq_ix2 x]
  exact h _ _

theorem row_mem (q : ℕ) (inb) (i : Fin 2) (d : Fin 1024) (h : i.val = q) : ix2 i d ∈ (Rect.unit (s := Rows) ![q, 0] ![1, 1024] inb).set := by
  rw [Rect.mem_set_unit]
  intro k
  match k with
  | ⟨0, _⟩ => exact ⟨le_of_eq h.symm, by show i.val < q + 1; omega⟩
  | ⟨1, _⟩ => exact ⟨Nat.zero_le _, by show d.val < 0 + 1024; omega⟩

theorem stored {w0 w1 : Row.Idx → EReal} {f : ℕ → ℕ → EReal} (i0) (i1) (L : List (View.Piece (Elt Ideal) Rows .f32)) (h0 : On2 w0 fun _ => f 0) (h1 : On2 w1 fun _ => f 1) :
    On2 (a := 2) (b := 1024) (View.canon (Val := Elt Ideal) (s := Rows) (e := .f32) (⟨Rect.unit ![1, 0] ![1, 1024] i1, w1⟩ :: ⟨Rect.unit ![0, 0] ![1, 1024] i0, w0⟩ :: L)) f := by
  intro q d
  refine View.canon_append_of_piecesOf (Val := Elt Ideal) (e := .f32) (fun y : Rows.Idx => f (y 0).val (y 1).val) L
    [⟨Rect.unit ![1, 0] ![1, 1024] i1, w1⟩, ⟨Rect.unit ![0, 0] ![1, 1024] i0, w0⟩] ⟨row_is (inb := i1) h1, row_is (inb := i0) h0, trivial⟩ (ix2 q d) ?_
  match q with
  | ⟨0, _⟩ => exact ⟨_, .tail _ (.head _), row_mem 0 i0 _ d rfl⟩
  | ⟨1, _⟩ => exact ⟨_, .head _, row_mem 1 i1 _ d rfl⟩

/-- A row of an array filled at once. -/
theorem filled {x : Rows.Idx → EReal} {i} {L : List (View.Piece (Elt Ideal) Rows .f32)} {q : ℕ} {inb} {f : ℕ → ℕ → EReal} (h : On2 x f) :
    On2 (a := 1) (b := 1024) (v.readCov (Val := Elt Ideal) (⟨Rect.unit (s := Rows) ![0, 0] ![2, 1024] i, x⟩ :: L) (Rect.unit (s := Rows) ![q, 0] ![1, 1024] inb).toLoadRect) (fun _ => f q) := by
  have e := View.readCov_fill (Val := Elt Ideal) v i x L (Rect.unit (s := Rows) ![q, 0] ![1, 1024] inb) fun k => by fin_cases k <;> rfl
  rw [show v.readCov (Val := Elt Ideal) (⟨Rect.unit (s := Rows) ![0, 0] ![2, 1024] i, x⟩ :: L) (Rect.unit (s := Rows) ![q, 0] ![1, 1024] inb).toLoadRect = _ from e]
  exact row_ld q inb h

/-- The other row's store is not seen. -/
theorem skipped {r : Rect Rows} {w : r.shape.Idx → EReal} {L : List (View.Piece (Elt Ideal) Rows .f32)} {q : ℕ} {inb} {g : ℕ → ℕ → EReal}
    (h : LoadRect.disj r (Rect.unit (s := Rows) ![q, 0] ![1, 1024] inb).toLoadRect = true)
    (hL : On2 (a := 1) (b := 1024) (v.readCov (Val := Elt Ideal) L (Rect.unit (s := Rows) ![q, 0] ![1, 1024] inb).toLoadRect) g) :
    On2 (a := 1) (b := 1024) (v.readCov (Val := Elt Ideal) (⟨r, w⟩ :: L) (Rect.unit (s := Rows) ![q, 0] ![1, 1024] inb).toLoadRect) g := by
  rw [View.readCov_skip (Val := Elt Ideal) v r w L _ h]
  exact hL

end

/-! ### What a point computes -/

section
variable {x0 x2 x3 x4 x5 : Vec Ideal S512x1024 .bf16} {x1 : Vec Ideal S1024x1024 .bf16} {b o : Vec Ideal S1x1024 .f32} {v g w1 : FVec Ideal S512x1024 .f32} {x : Vec Ideal S512x1024 .bf16}
  {u w p y f k : ℕ → ℕ → EReal} {l s : ℕ → EReal}

theorem back_on (h0 : On2 x0 u) (h1 : On2 x1 w) : On2 (k0_pay2 (F := Ideal) x0 x1) (back u w) := times_turned (φ₁ := .bf16) (φ₂ := .bf16) h0 h1 zeros

theorem gate3_on (h : On2 x p) (hb : On2 b fun _ => l) : On2 (k0_pay3 (F := Ideal) x b) (gate p l) := gateB_on h hb _ _

theorem gate4_on (h : On2 x p) (hb : On2 b fun _ => l) : On2 (k0_pay4 (F := Ideal) x b) (gate p l) := gateB_on h hb _ _

theorem passed_on (hv : On2 v f) (hg : On2 g k) : On2 (mulf (F := Ideal) (φ := .f32) v g) (passed f k) := fun r d => by
  show v (ix2 r d) * g (ix2 r d) = _
  rw [hv, hg]
  rfl

theorem slope8_on (hv : On2 v f) (hg : On2 g k) (hx : On2 x y) : On2 (k0_pay8 (F := Ideal) v g x) (slope f y k) := fun r d => by
  show v (ix2 r d) * x (ix2 r d) * g (ix2 r d) * (Ideal.ofBits .f32 0x3F800000#32 - g (ix2 r d)) = _
  rw [hv, hg, hx, Ideal.ofBits_one_f32]
  rfl

theorem slope9_on (hv : On2 v f) (hg : On2 g k) (hx : On2 x y) : On2 (k0_pay9 (F := Ideal) v g x) (slope f y k) := slope8_on hv hg hx

/-- A row with a block's column sums added. -/
theorem more_on (hv : On2 v f) (hg : On2 g k) (hx : On2 x y) (ho : On2 o fun _ => s) : On2 (k0_pay12 (F := Ideal) v g x o) (fun _ d => s d + ∑ r ∈ Finset.range 512, slope f y k r d) := fun z d => by
  show shapeCast S1x1024 o shapeCasts_S1x1024_S1x1024 (ix2 z d)
    + shapeCast S1x1024 (multiReduction (F := Ideal) .add [0] S1024 (k0_pay8 v g x) 0x00000000#32 reduces_S512x1024_S1024 (.inl rfl) rfl) shapeCasts_S1024_S1x1024 (ix2 z d) = _
  rw [shapeCast_self, ho]
  refine congrArg (s d.val + ·) ((shapeCast_a_1a_apply _ _ z d).trans ((Ideal.multiReduction_add_single (φ := .f32) _ 0x00000000#32 reduces_S512x1024_S1024 (.inl rfl) rfl (ix1 d)).trans ?_))
  refine sum_up 512 _ (fun r => slope f y k r d) fun r => ?_
  have e : reduces_S512x1024_S1024.lift (ix1 d) r = ix2 r d := by
    funext a
    match a with
    | ⟨0, _⟩ => rfl
    | ⟨1, _⟩ => rfl
  exact (congrArg _ e).trans (slope8_on hv hg hx r d)

theorem more13_on (hv : On2 v f) (hg : On2 g k) (hx : On2 x y) (ho : On2 o fun _ => s) : On2 (k0_pay13 (F := Ideal) v g x o) (fun _ d => s d + ∑ r ∈ Finset.range 512, slope f y k r d) := more_on hv hg hx ho

theorem blank_on : On2 (k0_pay1 (F := Ideal)) fun _ _ => 0 := fun _ _ => Ideal.ofBits_zero_f32

end

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 3] := by decide +kernel
theorem index3 : ∀ t : Fin cfg0.N, win0_3.index t = ![t.val, 4] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![0, 0] := by decide +kernel
theorem index7 : ∀ t : Fin cfg0.N, win0_7.index t = ![t.val, 0] := by decide +kernel
theorem index8 : ∀ t : Fin cfg0.N, win0_8.index t = ![t.val, 0] := by decide +kernel
theorem index9 : ∀ t : Fin cfg0.N, win0_9.index t = ![t.val, 0] := by decide +kernel
theorem index10 : ∀ t : Fin cfg0.N, win0_10.index t = ![t.val, 0] := by decide +kernel
theorem index11 : ∀ t : Fin cfg0.N, win0_11.index t = ![0, 0] := by decide +kernel
theorem lt_points (t : Fin cfg0.N) : t.val < 8 := t.isLt

section
variable (m : (ℓ : Loc nD τ sig) → Buf (Elt Ideal) ℓ) (c : Dev nD)

/-- The arguments' entries. -/
def us : ℕ → ℕ → EReal := at2 (a := 4096) (b := 1024) (m ((c : Thread nD τ).loc main_arg0))
def ws : ℕ → ℕ → EReal := at2 (a := 1024) (b := 1024) (m ((c : Thread nD τ).loc main_arg1))
def ps : ℕ → ℕ → EReal := at2 (a := 4096) (b := 5120) (m ((c : Thread nD τ).loc main_arg2))
def yas : ℕ → ℕ → EReal := at2 (a := 4096) (b := 1024) (m ((c : Thread nD τ).loc main_arg3))
def ybs : ℕ → ℕ → EReal := at2 (a := 4096) (b := 1024) (m ((c : Thread nD τ).loc main_arg4))
def bs : ℕ → ℕ → EReal := at2 (a := 2) (b := 1024) (m ((c : Thread nD τ).loc main_arg5))

theorem block0 (t : Fin cfg0.N) : On2 (a := 512) (b := 1024) (iblk m c 0 t) (fun r d => us m c (512 * t.val + r) d) := fun r d => by
  have ht := lt_points t
  have e : iblk m c 0 t (ix2 r d) = V m c main_arg0 (ix2 ⟨512 * t.val + r.val, by omega⟩ d) := by
    blk_ext [iblk, index0 t]
    change _ + r.val = _
    omega
  rw [e, V_main_arg0]
  exact on_at2 _ _ _

theorem block1 (t : Fin cfg0.N) : On2 (a := 1024) (b := 1024) (iblk m c 1 t) (ws m c) := fun r d => by
  have e : iblk m c 1 t (ix2 r d) = V m c main_arg1 (ix2 r d) := by
    blk_ext [iblk, index1 t]
  rw [e, V_main_arg1]
  exact on_at2 _ _ _

theorem block2 (t : Fin cfg0.N) : On2 (a := 512) (b := 1024) (iblk m c 2 t) (fun r d => ps m c (512 * t.val + r) (3072 + d)) := fun r d => by
  have ht := lt_points t
  have e : iblk m c 2 t (ix2 r d) = V m c main_arg2 (ix2 ⟨512 * t.val + r.val, by omega⟩ ⟨3072 + d.val, by omega⟩) := by
    blk_ext [iblk, index2 t]
    change _ + r.val = _
    omega
  rw [e, V_main_arg2]
  exact on_at2 _ _ _

theorem block3 (t : Fin cfg0.N) : On2 (a := 512) (b := 1024) (iblk m c 3 t) (fun r d => ps m c (512 * t.val + r) (4096 + d)) := fun r d => by
  have ht := lt_points t
  have e : iblk m c 3 t (ix2 r d) = V m c main_arg2 (ix2 ⟨512 * t.val + r.val, by omega⟩ ⟨4096 + d.val, by omega⟩) := by
    blk_ext [iblk, index3 t]
    change _ + r.val = _
    omega
  rw [e, V_main_arg2]
  exact on_at2 _ _ _

theorem block4 (t : Fin cfg0.N) : On2 (a := 512) (b := 1024) (iblk m c 4 t) (fun r d => yas m c (512 * t.val + r) d) := fun r d => by
  have ht := lt_points t
  have e : iblk m c 4 t (ix2 r d) = V m c main_arg3 (ix2 ⟨512 * t.val + r.val, by omega⟩ d) := by
    blk_ext [iblk, index4 t]
    change _ + r.val = _
    omega
  rw [e, V_main_arg3]
  exact on_at2 _ _ _

theorem block5 (t : Fin cfg0.N) : On2 (a := 512) (b := 1024) (iblk m c 5 t) (fun r d => ybs m c (512 * t.val + r) d) := fun r d => by
  have ht := lt_points t
  have e : iblk m c 5 t (ix2 r d) = V m c main_arg4 (ix2 ⟨512 * t.val + r.val, by omega⟩ d) := by
    blk_ext [iblk, index5 t]
    change _ + r.val = _
    omega
  rw [e, V_main_arg4]
  exact on_at2 _ _ _

theorem block6 (t : Fin cfg0.N) : On2 (a := 2) (b := 1024) (iblk m c 6 t) (bs m c) := fun r d => by
  have e : iblk m c 6 t (ix2 r d) = V m c main_arg5 (ix2 r d) := by
    blk_ext [iblk, index6 t]
  rw [e, V_main_arg5]
  exact on_at2 _ _ _

/-- The gated sum's gradient, the two gates and their gradients. -/
def vs : ℕ → ℕ → EReal := back (us m c) (ws m c)
def gas : ℕ → ℕ → EReal := gate (fun r d => ps m c r (3072 + d)) (bs m c 0)
def gbs : ℕ → ℕ → EReal := gate (fun r d => ps m c r (4096 + d)) (bs m c 1)
def das : ℕ → ℕ → EReal := slope (vs m c) (yas m c) (gas m c)
def dbs : ℕ → ℕ → EReal := slope (vs m c) (ybs m c) (gbs m c)

theorem point_back (t : Fin cfg0.N) : On2 (k0_pay2 (F := Ideal) (iblk m c 0 t) (iblk m c 1 t)) (fun r d => vs m c (512 * t.val + r) d) := back_on (block0 m c t) (block1 m c t)

theorem point_left (t : Fin cfg0.N) (inb) : On2 (k0_pay3 (F := Ideal) (iblk m c 2 t) (View.ld (iblk m c 6 t) (Rect.unit (s := Rows) ![0, 0] ![1, 1024] inb))) (fun r d => gas m c (512 * t.val + r) d) :=
  gate3_on (block2 m c t) (row_ld 0 inb (block6 m c t))

theorem point_right (t : Fin cfg0.N) (inb) : On2 (k0_pay4 (F := Ideal) (iblk m c 3 t) (View.ld (iblk m c 6 t) (Rect.unit (s := Rows) ![1, 0] ![1, 1024] inb))) (fun r d => gbs m c (512 * t.val + r) d) :=
  gate4_on (block3 m c t) (row_ld 1 inb (block6 m c t))

theorem leaves7 (t : Fin cfg0.N) : On2 (a := 512) (b := 1024) (outsAt0 m c t.val t.isLt).1 (fun r d => passed (vs m c) (gas m c) (512 * t.val + r) d) := by
  by_cases h0 : t.val % 8 = 0
  · rw [outsAt0_A m c t h0]
    frame_out
    exact passed_on (point_back m c t) (point_left m c t _)
  · rw [outsAt0_B m c t h0]
    frame_out
    exact passed_on (point_back m c t) (point_left m c t _)

theorem leaves8 (t : Fin cfg0.N) : On2 (a := 512) (b := 1024) (outsAt0 m c t.val t.isLt).2.1 (fun r d => passed (vs m c) (gbs m c) (512 * t.val + r) d) := by
  by_cases h0 : t.val % 8 = 0
  · rw [outsAt0_A m c t h0]
    frame_out
    exact passed_on (point_back m c t) (point_right m c t _)
  · rw [outsAt0_B m c t h0]
    frame_out
    exact passed_on (point_back m c t) (point_right m c t _)

theorem leaves9 (t : Fin cfg0.N) : On2 (a := 512) (b := 1024) (outsAt0 m c t.val t.isLt).2.2.1 (fun r d => das m c (512 * t.val + r) d) := by
  by_cases h0 : t.val % 8 = 0
  · rw [outsAt0_A m c t h0]
    frame_out
    exact slope8_on (point_back m c t) (point_left m c t _) (block4 m c t)
  · rw [outsAt0_B m c t h0]
    frame_out
    exact slope8_on (point_back m c t) (point_left m c t _) (block4 m c t)

theorem leaves10 (t : Fin cfg0.N) : On2 (a := 512) (b := 1024) (outsAt0 m c t.val t.isLt).2.2.2.1 (fun r d => dbs m c (512 * t.val + r) d) := by
  by_cases h0 : t.val % 8 = 0
  · rw [outsAt0_A m c t h0]
    frame_out
    exact slope9_on (point_back m c t) (point_right m c t _) (block5 m c t)
  · rw [outsAt0_B m c t h0]
    frame_out
    exact slope9_on (point_back m c t) (point_right m c t _) (block5 m c t)

/-- The two rows' sums over the first `n` blocks. -/
def sums (n q d : ℕ) : EReal := if q = 0 then tally (das m c) n d else tally (dbs m c) n d

theorem sums_next (f : ℕ → ℕ → EReal) (n d : ℕ) : tally f n d + ∑ r ∈ Finset.range 512, f (512 * n + r) d = tally f (n + 1) d :=
  (Finset.sum_range_succ (fun q => ∑ k ∈ Finset.range 512, f (512 * q + k) d) n).symm

theorem first (t : Fin cfg0.N) (h0 : t.val = 0) : On2 (a := 2) (b := 1024) (outsAt0 m c t.val t.isLt).2.2.2.2 (sums m c (t.val + 1)) := by
  rw [outsAt0_A m c t (by omega)]
  frame_out
  have z : On2 (a := 2) (b := 1024) (k0_pay1 (F := Ideal)) (sums m c t.val) := blank_on.congr fun q d _ _ => by
    rw [h0]
    unfold sums tally
    simp
  refine stored _ _ _ ?_ ?_
  · exact (more_on (point_back m c t) (point_left m c t _) (block4 m c t) (filled (i := inb_S2x1024_S2x1024_0_0) z)).congr fun _ d _ _ => sums_next (das m c) t.val d
  · exact (more13_on (point_back m c t) (point_right m c t _) (block5 m c t) (skipped rfl (filled (i := inb_S2x1024_S2x1024_0_0) z))).congr fun _ d _ _ => sums_next (dbs m c) t.val d

theorem next (t : Fin cfg0.N) (h0 : ¬t.val = 0) (ih : On2 (a := 2) (b := 1024) (outsAt0 m c (t.val - 1) (Nat.lt_of_le_of_lt (Nat.sub_le _ _) t.isLt)).2.2.2.2 (sums m c t.val)) :
    On2 (a := 2) (b := 1024) (outsAt0 m c t.val t.isLt).2.2.2.2 (sums m c (t.val + 1)) := by
  have ht := lt_points t
  rw [outsAt0_B m c t (by omega)]
  frame_out
  refine stored _ _ [] ?_ ?_
  · exact (more_on (point_back m c t) (point_left m c t _) (block4 m c t) (row_ld 0 _ ih)).congr fun _ d _ _ => sums_next (das m c) t.val d
  · exact (more13_on (point_back m c t) (point_right m c t _) (block5 m c t) (row_ld 1 _ ih)).congr fun _ d _ _ => sums_next (dbs m c) t.val d

theorem leaves11 : ∀ (n : ℕ) (h : n < cfg0.N), On2 (a := 2) (b := 1024) (outsAt0 m c n h).2.2.2.2 (sums m c (n + 1)) := by
  intro n
  induction n with
  | zero => exact fun h => first m c ⟨0, h⟩ rfl
  | succ n ih => exact fun h => next m c ⟨n + 1, h⟩ (Nat.succ_ne_zero n) (ih (Nat.lt_of_succ_lt h))

/-- The five results: what the gates pass on, their gradients and the biases'. -/
def resYa : S4096x1024.Idx → EReal := fun i => passed (vs m c) (gas m c) (i 0).val (i 1).val
def resYb : S4096x1024.Idx → EReal := fun i => passed (vs m c) (gbs m c) (i 0).val (i 1).val
def resGa : S4096x1024.Idx → EReal := fun i => das m c (i 0).val (i 1).val
def resGb : S4096x1024.Idx → EReal := fun i => dbs m c (i 0).val (i 1).val
def resBias : S2x1024.Idx → EReal := fun i => sums m c 8 (i 0).val (i 1).val

theorem array7 : (dats m 0 c).arrAt 7 (cfgs 0).N = resYa m c := by
  refine (dats m 0 c).arrAt_eq_of_covers 7 _ (by decide +kernel) fun t hf y => ?_
  have e0 : (((win0_7.blk t).view.emb y) 0).val = 512 * t.val + (y 0).val := by
    blk_simp [index7 t]
    change _ + (y 0).val = _
    omega
  have e1 : (((win0_7.blk t).view.emb y) 1).val = (y 1).val := by
    blk_simp [index7 t]
  blk_simp [index7 t]
  rw [after0_7]
  exact placed (f := passed (vs m c) (gas m c)) (512 * t.val) (leaves7 m c t) y _ _ e0 e1

theorem array8 : (dats m 0 c).arrAt 8 (cfgs 0).N = resYb m c := by
  refine (dats m 0 c).arrAt_eq_of_covers 8 _ (by decide +kernel) fun t hf y => ?_
  have e0 : (((win0_8.blk t).view.emb y) 0).val = 512 * t.val + (y 0).val := by
    blk_simp [index8 t]
    change _ + (y 0).val = _
    omega
  have e1 : (((win0_8.blk t).view.emb y) 1).val = (y 1).val := by
    blk_simp [index8 t]
  blk_simp [index8 t]
  rw [after0_8]
  exact placed (f := passed (vs m c) (gbs m c)) (512 * t.val) (leaves8 m c t) y _ _ e0 e1

theorem array9 : (dats m 0 c).arrAt 9 (cfgs 0).N = resGa m c := by
  refine (dats m 0 c).arrAt_eq_of_covers 9 _ (by decide +kernel) fun t hf y => ?_
  have e0 : (((win0_9.blk t).view.emb y) 0).val = 512 * t.val + (y 0).val := by
    blk_simp [index9 t]
    change _ + (y 0).val = _
    omega
  have e1 : (((win0_9.blk t).view.emb y) 1).val = (y 1).val := by
    blk_simp [index9 t]
  blk_simp [index9 t]
  rw [after0_9]
  exact placed (f := das m c) (512 * t.val) (leaves9 m c t) y _ _ e0 e1

theorem array10 : (dats m 0 c).arrAt 10 (cfgs 0).N = resGb m c := by
  refine (dats m 0 c).arrAt_eq_of_covers 10 _ (by decide +kernel) fun t hf y => ?_
  have e0 : (((win0_10.blk t).view.emb y) 0).val = 512 * t.val + (y 0).val := by
    blk_simp [index10 t]
    change _ + (y 0).val = _
    omega
  have e1 : (((win0_10.blk t).view.emb y) 1).val = (y 1).val := by
    blk_simp [index10 t]
  blk_simp [index10 t]
  rw [after0_10]
  exact placed (f := dbs m c) (512 * t.val) (leaves10 m c t) y _ _ e0 e1

theorem array11 : (dats m 0 c).arrAt 11 (cfgs 0).N = resBias m c := by
  refine (dats m 0 c).arrAt_eq_of_covers 11 _ (by decide +kernel) fun t hf y => ?_
  have ht := lt_points t
  have h7 : t.val % 8 = 7 := (Gen.flush0_11 t).mp hf
  have e0 : (((win0_11.blk t).view.emb y) 0).val = (y 0).val := by
    blk_simp [index11 t]
  have e1 : (((win0_11.blk t).view.emb y) 1).val = (y 1).val := by
    blk_simp [index11 t]
  blk_simp [index11 t]
  rw [after0_11]
  have l := leaves11 m c t.val t.isLt
  rw [show t.val + 1 = 8 by omega] at l
  obtain ⟨q, d, rfl⟩ : ∃ (q : Fin 2) (d : Fin 1024), y = ix2 q d := ⟨y 0, y 1, ValueIdx.eq_ix2 y⟩
  refine (l q d).trans ?_
  unfold resBias
  rw [e0, e1]
  rfl

end

/-! ### The reference -/

section
variable (x0 x3 x4 : FVec Ideal Reference15Ideal.S4096x1024 .bf16) (x1 : FVec Ideal Reference15Ideal.S1024x1024 .bf16) (x2 : FVec Ideal Reference15Ideal.S4096x5120 .bf16) (x5 : FVec Ideal Reference15Ideal.S2x1024 .f32)

def backR : FVec Ideal Reference15Ideal.S4096x1024 .f32 :=
  Host.dotGeneral (F := Ideal) (φ₁ := .f32) (φ₂ := .f32) Reference15Ideal.dot_S4096x1024_S1024x1024_S4096x1024_1_1_0_0_n_n none x0 x1
def leftR : FVec Ideal Reference15Ideal.S4096x1024 .f32 :=
  gateR (extractStridedSlice Reference15Ideal.S4096x1024 ![0, 3072] x2 Reference15Ideal.Gen.slices_S4096x5120_S4096x1024_0_3072)
    (along 0 x5 Reference15Ideal.Gen.slices_S2x1024_S1x1024_0_0 Reference15Ideal.Gen.shapeCasts_S1x1024_S1024 Reference15Ideal.Gen.bcast_S1024_S1x1024_1 Reference15Ideal.Gen.bcast_S1x1024_S4096x1024_0_1)
    Reference15Ideal.Gen.bcast_S_S4096x1024
def rightR : FVec Ideal Reference15Ideal.S4096x1024 .f32 :=
  gateR (extractStridedSlice Reference15Ideal.S4096x1024 ![0, 4096] x2 Reference15Ideal.Gen.slices_S4096x5120_S4096x1024_0_4096)
    (along 1 x5 Reference15Ideal.Gen.slices_S2x1024_S1x1024_1_0 Reference15Ideal.Gen.shapeCasts_S1x1024_S1024 Reference15Ideal.Gen.bcast_S1024_S1x1024_1 Reference15Ideal.Gen.bcast_S1x1024_S4096x1024_0_1)
    Reference15Ideal.Gen.bcast_S_S4096x1024
def slopeR (v y g : FVec Ideal Reference15Ideal.S4096x1024 .f32) : FVec Ideal Reference15Ideal.S4096x1024 .f32 :=
  mulf (mulf v y) (mulf g (subf (ones Reference15Ideal.Gen.bcast_S_S4096x1024) g))
def yaR : FVec Ideal Reference15Ideal.S4096x1024 .f32 := mulf (leftR x2 x5) (backR x0 x1)
def ybR : FVec Ideal Reference15Ideal.S4096x1024 .f32 := mulf (rightR x2 x5) (backR x0 x1)
def gaR : FVec Ideal Reference15Ideal.S4096x1024 .f32 := slopeR (backR x0 x1) x3 (leftR x2 x5)
def gbR : FVec Ideal Reference15Ideal.S4096x1024 .f32 := slopeR (backR x0 x1) x4 (rightR x2 x5)

/-- The columns' sums, as a row. -/
def colsR (x : FVec Ideal Reference15Ideal.S4096x1024 .f32) : FVec Ideal Reference15Ideal.S1x1024 .f32 :=
  broadcastInDim Reference15Ideal.S1x1024 ![1] Reference15Ideal.Gen.bcast_S1024_S1x1024_1 (Host.reduceAdd (F := Ideal) (φ := .f32) (shapeCast Reference15Ideal.S1x1024
    (Host.reduceAdd (F := Ideal) (φ := .f32) x (constant (F := Ideal) Reference15Ideal.S_ .f32 0x00000000#32) Reference15Ideal.Gen.reducesTo_S4096x1024_S1024_d0 Reference15Ideal.Gen.h_S_)
    Reference15Ideal.Gen.shapeCasts_S1024_S1x1024) (constant (F := Ideal) Reference15Ideal.S_ .f32 0x00000000#32) Reference15Ideal.Gen.reducesTo_S1x1024_S1024_d0 Reference15Ideal.Gen.h_S_)

/-- Two rows one under the other, each padded with a row of zeros. -/
def biasR (a b : FVec Ideal Reference15Ideal.S1x1024 .f32) : FVec Ideal Reference15Ideal.S2x1024 .f32 :=
  addf (F := Ideal) (φ := .f32) (pad Reference15Ideal.S2x1024 ![1, 0] ![0, 0] ![0, 0] b (constant (F := Ideal) Reference15Ideal.S_ .f32 0x00000000#32) Reference15Ideal.Gen.pads_S1x1024_S2x1024_100_000 Reference15Ideal.Gen.h_S_)
    (pad Reference15Ideal.S2x1024 ![0, 0] ![1, 0] ![0, 0] a (constant (F := Ideal) Reference15Ideal.S_ .f32 0x00000000#32) Reference15Ideal.Gen.pads_S1x1024_S2x1024_010_000 Reference15Ideal.Gen.h_S_)
def resR : FVec Ideal Reference15Ideal.S2x1024 .f32 := biasR (colsR (gaR x0 x3 x1 x2 x5)) (colsR (gbR x0 x4 x1 x2 x5))

end

theorem down4096 : (⟨2, ![4096, 1024]⟩ : Shape).Reduces [0] ⟨1, ![1024]⟩ := by decide
theorem down1 : (⟨2, ![1, 1024]⟩ : Shape).Reduces [0] ⟨1, ![1024]⟩ := by decide

section
variable {x0 x3 x4 : FVec Ideal Reference15Ideal.S4096x1024 .bf16} {x1 : FVec Ideal Reference15Ideal.S1024x1024 .bf16} {x2 : FVec Ideal Reference15Ideal.S4096x5120 .bf16} {x5 : FVec Ideal Reference15Ideal.S2x1024 .f32}
  {u w p ya yb b : ℕ → ℕ → EReal} (h0 : On2 x0 u) (h1 : On2 x1 w) (h2 : On2 x2 p) (h3 : On2 x3 ya) (h4 : On2 x4 yb) (h5 : On2 x5 b)

include h0 h1 in
theorem backR_on : On2 (backR x0 x1) (back u w) := times_turned (φ₁ := .f32) (φ₂ := .f32) (z := fun _ => 0) h0 h1 fun _ _ => rfl

include h2 h5 in
theorem leftR_on : On2 (leftR x2 x5) (gate (fun r d => p r (3072 + d)) (b 0)) := gateR_on (slice_cols (by decide) _ h2) (along_on 0 h5 _ _ _ _) _

include h2 h5 in
theorem rightR_on : On2 (rightR x2 x5) (gate (fun r d => p r (4096 + d)) (b 1)) := gateR_on (slice_cols (by decide) _ h2) (along_on 1 h5 _ _ _ _) _

/-- What a gate passes on, the factors the other way round. -/
theorem passed_turned {g v : FVec Ideal Reference15Ideal.S4096x1024 .f32} {f k : ℕ → ℕ → EReal} (hg : On2 g k) (hv : On2 v f) : On2 (mulf (F := Ideal) (φ := .f32) g v) (passed f k) := fun r d => by
  show g (ix2 r d) * v (ix2 r d) = _
  rw [hg, hv, mul_comm]
  rfl

theorem slopeR_on {v y g : FVec Ideal Reference15Ideal.S4096x1024 .f32} {f s k : ℕ → ℕ → EReal} (hv : On2 v f) (hy : On2 y s) (hg : On2 g k) : On2 (slopeR v y g) (slope f s k) := fun r d => by
  show v (ix2 r d) * y (ix2 r d) * (g (ix2 r d) * (ones _ (ix2 r d) - g (ix2 r d))) = _
  rw [ones_on, hv, hy, hg, ← mul_assoc]
  rfl

theorem colsR_on {x : FVec Ideal Reference15Ideal.S4096x1024 .f32} {f : ℕ → ℕ → EReal} (h : On2 x f) : On2 (colsR x) (fun _ d => ∑ r ∈ Finset.range 4096, f r d) := fun z d => by
  have zero : constant (F := Ideal) Reference15Ideal.S_ .f32 0x00000000#32 (Shape.Idx.first Reference15Ideal.Gen.h_S_) = (0 : EReal) := Ideal.ofBits_zero_f32
  refine (broadcastInDim_apply _ _ _ _ (ix1 d) fun a => by match a with | ⟨0, _⟩ => rfl).trans ?_
  rw [hostReduceAdd_apply]
  refine (Ideal.hostReduceAdd_single _ down1 _ _ _).trans ?_
  rw [zero, zero_add]
  refine (Fin.sum_univ_one _).trans ?_
  have e1 : down1.lift (ix1 d) (0 : Fin 1) = ix2 (0 : Fin 1) d := by
    funext a
    match a with
    | ⟨0, _⟩ => rfl
    | ⟨1, _⟩ => rfl
  refine (congrArg _ e1).trans ((shapeCast_a_1a_apply _ _ (0 : Fin 1) d).trans ?_)
  rw [hostReduceAdd_apply]
  refine (Ideal.hostReduceAdd_single _ down4096 _ _ _).trans ?_
  rw [zero, zero_add]
  refine sum_up 4096 _ (fun r => f r d) fun r => ?_
  have e : down4096.lift (ix1 d) r = ix2 r d := by
    funext a
    match a with
    | ⟨0, _⟩ => rfl
    | ⟨1, _⟩ => rfl
  exact (congrArg x e).trans (h r d)

theorem biasR_on {x y : FVec Ideal Reference15Ideal.S1x1024 .f32} {f g : ℕ → EReal} (hx : On2 x fun _ => f) (hy : On2 y fun _ => g) : On2 (biasR x y) (fun q d => if q = 0 then f d else g d) := fun q d => by
  have zero : constant (F := Ideal) Reference15Ideal.S_ .f32 0x00000000#32 (Shape.Idx.first Reference15Ideal.Gen.h_S_) = (0 : EReal) := Ideal.ofBits_zero_f32
  match q with
  | ⟨0, _⟩ =>
    refine (congrArg₂ (· + ·) (pad_apply_of_not_inside _ _ _ _ _ _ _ _ (0 : Fin 2) fun h => absurd (show 1 ≤ 0 from h.1) (by decide))
      (pad_apply_of_inside _ _ _ _ _ _ _ _ (ix2 (0 : Fin 1) d) fun a => by match a with | ⟨0, _⟩ => rfl | ⟨1, _⟩ => exact (by show d.val = 0 + d.val * (0 + 1); omega))).trans ?_
    show (_ : EReal) + x (ix2 (0 : Fin 1) d) = _
    rw [zero, zero_add, hx]
    rfl
  | ⟨1, _⟩ =>
    refine (congrArg₂ (· + ·) (pad_apply_of_inside _ _ _ _ _ _ _ _ (ix2 (0 : Fin 1) d) fun a => by match a with | ⟨0, _⟩ => rfl | ⟨1, _⟩ => exact (by show d.val = 0 + d.val * (0 + 1); omega))
      (pad_apply_of_not_inside _ _ _ _ _ _ _ _ (0 : Fin 2) fun h => absurd (show (1 - 0) / (0 + 1) < 1 from h.2.2) (by decide))).trans ?_
    show y (ix2 (0 : Fin 1) d) + (_ : EReal) = _
    rw [zero, add_zero, hy]
    rfl

end

section
variable (m : (ℓ : Loc nD τ sig) → Buf (Elt Ideal) ℓ) (c : Dev nD)

theorem refYa_eq : yaR (m ((c.tc : Thread nD τ).loc main_arg0)) (m ((c.tc : Thread nD τ).loc main_arg1)) (m ((c.tc : Thread nD τ).loc main_arg2)) (m ((c.tc : Thread nD τ).loc main_arg5)) = resYa m c :=
  On2.ext (passed_turned (leftR_on (on_at2 _) (on_at2 _)) (backR_on (on_at2 _) (on_at2 _))) fun _ _ => rfl

theorem refYb_eq : ybR (m ((c.tc : Thread nD τ).loc main_arg0)) (m ((c.tc : Thread nD τ).loc main_arg1)) (m ((c.tc : Thread nD τ).loc main_arg2)) (m ((c.tc : Thread nD τ).loc main_arg5)) = resYb m c :=
  On2.ext (passed_turned (rightR_on (on_at2 _) (on_at2 _)) (backR_on (on_at2 _) (on_at2 _))) fun _ _ => rfl

theorem refGa_eq : gaR (m ((c.tc : Thread nD τ).loc main_arg0)) (m ((c.tc : Thread nD τ).loc main_arg3)) (m ((c.tc : Thread nD τ).loc main_arg1)) (m ((c.tc : Thread nD τ).loc main_arg2))
    (m ((c.tc : Thread nD τ).loc main_arg5)) = resGa m c :=
  On2.ext (slopeR_on (backR_on (on_at2 _) (on_at2 _)) (on_at2 _) (leftR_on (on_at2 _) (on_at2 _))) fun _ _ => rfl

theorem refGb_eq : gbR (m ((c.tc : Thread nD τ).loc main_arg0)) (m ((c.tc : Thread nD τ).loc main_arg4)) (m ((c.tc : Thread nD τ).loc main_arg1)) (m ((c.tc : Thread nD τ).loc main_arg2))
    (m ((c.tc : Thread nD τ).loc main_arg5)) = resGb m c :=
  On2.ext (slopeR_on (backR_on (on_at2 _) (on_at2 _)) (on_at2 _) (rightR_on (on_at2 _) (on_at2 _))) fun _ _ => rfl

theorem refBias_eq : resR (m ((c.tc : Thread nD τ).loc main_arg0)) (m ((c.tc : Thread nD τ).loc main_arg3)) (m ((c.tc : Thread nD τ).loc main_arg4)) (m ((c.tc : Thread nD τ).loc main_arg1))
    (m ((c.tc : Thread nD τ).loc main_arg2)) (m ((c.tc : Thread nD τ).loc main_arg5)) = resBias m c :=
  On2.ext ((biasR_on (colsR_on (slopeR_on (backR_on (on_at2 _) (on_at2 _)) (on_at2 _) (leftR_on (on_at2 _) (on_at2 _))))
    (colsR_on (slopeR_on (backR_on (on_at2 _) (on_at2 _)) (on_at2 _) (rightR_on (on_at2 _) (on_at2 _))))).congr fun q d _ _ => by
      show (if q = 0 then _ else _) = sums m c 8 q d
      unfold sums
      rw [tally_all, tally_all]
      rfl) fun _ _ => rfl

end

end Cert.Proof.MergeBwd

end
-- ==== Proof.NormGrad.lean ====
/-
  The RMS norm's gradient over the extended reals: as a kernel computes it and as the chain rule gives it; they agree
  whatever the row holds.
-/
module

public import proofs.«01_k».proof.Proof.Norm
public import Idealize.ShloMosaic.Lib.KernelVsHost

@[expose] public section
noncomputable section
namespace Cert.Proof.NormGrad
open Cert.Proof.Tiles Cert.Proof.Norm
open Idealize.ShloMosaic hiding ix0 ix1 ix2 ix3 ix4 ix5

/-- A row's mean square, the small constant added. -/
def meansq (x : ℕ → ℕ → EReal) (r : ℕ) : EReal :=
  Ideal.div (∑ k ∈ Finset.range 1024, x r k * x r k) (Ideal.ofBits .f32 0x44800000#32) + Ideal.ofBits .f32 0x358637BD#32

/-- The row divided by its root. -/
def scaled (x : ℕ → ℕ → EReal) (r d : ℕ) : EReal := x r d * root x r

/-- The input's gradient from the normed row's `v`, as a kernel computes it. -/
def fused (x v : ℕ → ℕ → EReal) (r d : ℕ) : EReal :=
  root x r * (v r d - scaled x r d * Ideal.div (∑ k ∈ Finset.range 1024, v r k * scaled x r k) (Ideal.ofBits .f32 0x44800000#32))

/-- What the mean square passes on to an entry's square, once. -/
def through (x v : ℕ → ℕ → EReal) (r : ℕ) : EReal :=
  Ideal.div ((∑ k ∈ Finset.range 1024, x r k * v r k) * (Ideal.ofBits .f32 0xBF000000#32 * Ideal.div (root x r) (meansq x r))) (Ideal.ofBits .f32 0x44800000#32)

/-- The input's gradient as the chain rule gives it: through the row itself, and twice through its square. -/
def pulled (x v : ℕ → ℕ → EReal) (r d : ℕ) : EReal := v r d * root x r + x r d * through x v r + through x v r * x r d

/-! ### The constants -/

theorem half_f32 : Ideal.ofBits .f32 0x3F000000#32 = ((1 / 2 : ℝ) : EReal) := by
  simp [Ideal.ofBits, Ideal.ieee, -EReal.coe_mul]
  norm_num

theorem minus_half_f32 : Ideal.ofBits .f32 0xBF000000#32 = ((-(1 / 2) : ℝ) : EReal) := by
  simp [Ideal.ofBits, Ideal.ieee, -EReal.coe_mul, -EReal.coe_neg]
  norm_num

theorem width_f32 : Ideal.ofBits .f32 0x44800000#32 = ((1024 : ℝ) : EReal) := by
  simp [Ideal.ofBits, Ideal.ieee, -EReal.coe_mul]
  norm_num

theorem eps_pos : 0 < Ideal.ofBits .f32 0x358637BD#32 := by
  simp [Ideal.ofBits, Ideal.ieee, -EReal.coe_mul]

/-! ### The two agree -/

/-- A real factor that isn't negative leaves a sum. -/
theorem sum_mul_real {ρ : ℝ} (h : 0 ≤ ρ) (f : ℕ → EReal) (n : ℕ) : ∑ k ∈ Finset.range n, f k * (ρ : EReal) = (∑ k ∈ Finset.range n, f k) * (ρ : EReal) := by
  induction n with
  | zero => simp
  | succ n ih =>
    rw [Finset.sum_range_succ, Finset.sum_range_succ, ih]
    exact (EReal.right_distrib_of_nonneg_of_ne_top (by exact_mod_cast h) (EReal.coe_ne_top ρ) _ _).symm

/-- A whole is what two halves make, at the infinities too. -/
theorem halves (z : EReal) {t : ℝ} (h : 0 < t) : z * ((-(t / 2) : ℝ) : EReal) + z * ((-(t / 2) : ℝ) : EReal) = -(z * (t : EReal)) := by
  have h2 : -(t / 2) < 0 := by linarith
  cases z with
  | bot => rw [EReal.bot_mul_coe_of_neg h2, EReal.bot_mul_coe_of_pos h]; rfl
  | top => rw [EReal.top_mul_coe_of_neg h2, EReal.top_mul_coe_of_pos h]; rfl
  | coe z =>
    norm_cast
    ring

theorem square_nonneg (x : EReal) : 0 ≤ x * x := by
  cases x with
  | bot => rw [EReal.bot_mul_bot]; exact le_top
  | top => rw [EReal.top_mul_top]; exact le_top
  | coe x => exact_mod_cast mul_self_nonneg x

theorem meansq_pos (x : ℕ → ℕ → EReal) (r : ℕ) : 0 < meansq x r := by
  unfold meansq
  rw [width_f32, Ideal.div_coe (by norm_num)]
  refine lt_of_lt_of_le eps_pos (le_add_of_nonneg_left (mul_nonneg (Finset.sum_nonneg fun k _ => square_nonneg _) ?_))
  exact_mod_cast (by norm_num : (0 : ℝ) ≤ 1 / 1024)

theorem fused_eq (x v : ℕ → ℕ → EReal) (r d : ℕ) : fused x v r d = pulled x v r d := by
  have hq := meansq_pos x r
  have hr : root x r = Ideal.rsqrt (meansq x r) := rfl
  unfold fused pulled through scaled
  rw [hr, width_f32, minus_half_f32]
  generalize meansq x r = q at hq ⊢
  cases q with
  | bot => exact absurd hq (by simp)
  | top =>
    have z : Ideal.div 0 ⊤ = 0 := by simp [Ideal.div]
    have z' : Ideal.div 0 ((1024 : ℝ) : EReal) = 0 := by
      rw [Ideal.div_coe (by norm_num), zero_mul]
    simp [z, z']
  | coe q =>
    have hq : 0 < q := by exact_mod_cast hq
    obtain ⟨ρ, hρ, e, er⟩ : ∃ ρ : ℝ, 0 < ρ ∧ ρ * ρ = 1 / q ∧ Ideal.rsqrt (q : EReal) = (ρ : EReal) := by
      refine ⟨(Real.sqrt q)⁻¹, inv_pos.mpr (Real.sqrt_pos.mpr hq), ?_, ?_⟩
      · rw [← mul_inv, Real.mul_self_sqrt hq.le, one_div]
      · rw [Ideal.rsqrt_coe, if_neg (not_lt.mpr hq.le), if_neg hq.ne']
    rw [er, Ideal.div_coe hq.ne', Ideal.div_coe (by norm_num), Ideal.div_coe (by norm_num), ← e]
    have s : ∑ k ∈ Finset.range 1024, v r k * (x r k * (ρ : EReal)) = (∑ k ∈ Finset.range 1024, x r k * v r k) * (ρ : EReal) := by
      rw [← sum_mul_real hρ.le]
      exact Finset.sum_congr rfl fun k _ => by rw [← mul_assoc, mul_comm (v r k)]
    rw [s]
    generalize ∑ k ∈ Finset.range 1024, x r k * v r k = S
    have ht : (0 : ℝ) < ρ * ρ * ρ * (1 / 1024) := by positivity
    have left : (ρ : EReal) * (x r d * (ρ : EReal) * (S * (ρ : EReal) * ((1 / 1024 : ℝ) : EReal))) = x r d * S * ((ρ * ρ * ρ * (1 / 1024) : ℝ) : EReal) := by
      simp only [EReal.coe_mul]
      ac_rfl
    have right : x r d * (S * (((-(1 / 2) : ℝ) : EReal) * ((ρ : EReal) * ((ρ * ρ : ℝ) : EReal))) * ((1 / 1024 : ℝ) : EReal)) = x r d * S * ((-(ρ * ρ * ρ * (1 / 1024) / 2) : ℝ) : EReal) := by
      rw [show -(ρ * ρ * ρ * (1 / 1024) / 2) = -(1 / 2) * (ρ * (ρ * ρ)) * (1 / 1024) by ring]
      simp only [EReal.coe_mul]
      ac_rfl
    rw [EReal.mul_sub_of_nonneg_of_ne_top (by exact_mod_cast hρ.le) (EReal.coe_ne_top ρ), left, mul_comm _ (x r d), right, add_assoc, halves _ ht, sub_eq_add_neg, mul_comm (ρ : EReal)]

end Cert.Proof.NormGrad

end
-- ==== Proof.NormBwd.lean ====
/-
  The backward pass of the mixer's norm: the product with the mixing weight, the norm's and the modulation's gradients
  and those of the residual branch before, block by block of tokens; the reference's results.
-/
module

public import proofs.«01_k».proof.Proof.NormGrad
public import proofs.«01_k».proof.Proof.UpRef
public import proofs.«01_k».proof.Proof.Slabs
public import proofs.«01_k».proof.Proof.MergeBwd
public import proofs.«01_k».proof.Proof.Gen.Kernel16Ideal.Value
public import proofs.«01_k».proof.Proof.Gen.Reference16Ideal.Run

@[expose] public section
set_option maxRecDepth 16384
noncomputable section
namespace Cert.Proof.NormBwd
open Cert.Kernel16Ideal Cert.Kernel16Ideal.Gen Cert.Proof.Tiles Cert.Proof.Slabs Cert.Proof.Norm Cert.Proof.NormGrad Cert.Proof.Gates
open Cert.Proof.Chunks hiding tally tally_all
open Cert.Proof.MergeBwd (tally tally_all sums_next)
open Idealize.ShloMosaic hiding ix0 ix1 ix2 ix3 ix4 ix5
open Idealize.ShloMosaic.ValueIdx
open Idealize.ShloMosaic.TcCoe Idealize.ShloMosaic.Tactic

/-- The modulated row's gradient: a product with the rows of the weight. -/
def back (p w : ℕ → ℕ → EReal) (r d : ℕ) : EReal := ∑ k ∈ Finset.range 5120, p r k * w d k

/-- The gradient of the normed row before the modulation, and before the norm's own factors. -/
def unmod (u sc : ℕ → ℕ → EReal) (r d : ℕ) : EReal := u r d * (1 + sc 0 d)
def unscaled (u sc g : ℕ → ℕ → EReal) (r d : ℕ) : EReal := unmod u sc r d * g 0 d

/-- What the sums over the tokens add up. -/
def scaleTerm (u x g : ℕ → ℕ → EReal) (r d : ℕ) : EReal := u r d * (scaled x r d * g 0 d)
def normTerm (u sc x : ℕ → ℕ → EReal) (r d : ℕ) : EReal := unmod u sc r d * scaled x r d

/-- The input's gradient, the residual's added. -/
def dinput (o x v : ℕ → ℕ → EReal) (r d : ℕ) : EReal := o r d + fused x v r d

/-- What the branch before gets, halved. -/
def branch (t v : ℕ → ℕ → EReal) (r d : ℕ) : EReal := Ideal.ofBits .f32 0x3F000000#32 * t 0 d * v r d

/-! ### What a point computes -/

/-- Columns read out of a block. -/
theorem cols_ld {a n b : ℕ} {x : (⟨2, ![a, n]⟩ : Shape).Idx → EReal} {f : ℕ → ℕ → EReal} (o : ℕ) (inb) (h : On2 x f) :
    On2 (a := a) (b := b) (View.ld (Val := Elt Ideal) (e' := .bf16) x (Rect.unit (s := ⟨2, ![a, n]⟩) ![0, o] ![a, b] inb)) (fun i j => f i (o + j)) := fun i j => by
  have b1 : o + b ≤ n := inb 1
  refine (View.ld_unit_apply_of (Val := Elt Ideal) (e := .bf16) x _ _ _ _ (ix2 i (⟨o + j.val, by omega⟩ : Fin n)) fun k => ?_).trans (h _ _)
  match k with
  | ⟨0, _⟩ => exact (Nat.zero_add _).symm
  | ⟨1, _⟩ => rfl

/-- The product of a block's columns with two neighbouring tiles of the weight. -/
def pair (x : FVec Ideal S512x1280 .bf16) (a b : Vec Ideal S1x1024x640 .bf16) : FVec Ideal S512x1024 .f32 :=
  matmul dot_S512x1280_S1024x1280_S512x1024_1_1_0_0_n_n none x (concatenate S1024x1280 1 [⟨S1024x640, (shapeCast S1024x640 a shapeCasts_S1x1024x640_S1024x640 : FVec Ideal S1024x640 .bf16)⟩,
    ⟨S1024x640, (shapeCast S1024x640 b shapeCasts_S1x1024x640_S1024x640 : FVec Ideal S1024x640 .bf16)⟩] concatenates_S1024x640_S1024x640_S1024x1280_d1 : FVec Ideal S1024x1280 .bf16)
    (constant S512x1024 .f32 0x00000000#32)

/-- The product of a whole block of tokens with all the tiles. -/
def backB (x0 : Vec Ideal S512x5120 .bf16) (x1 : Vec Ideal S8x1024x640 .bf16) : FVec Ideal S512x1024 .f32 :=
  k0_pay7 (k0_pay6
      (View.ld x1 (Rect.unit (s := S8x1024x640) ![0, 0, 0] S1x1024x640.size inb_S8x1024x640_S1x1024x640_0_0_0)) (View.ld x1 (Rect.unit (s := S8x1024x640) ![1, 0, 0] S1x1024x640.size inb_S8x1024x640_S1x1024x640_1_0_0))
      (View.ld x0 (Rect.unit (s := S512x5120) ![0, 0] S512x1280.size inb_S512x5120_S512x1280_0_0))
      (View.ld x1 (Rect.unit (s := S8x1024x640) ![2, 0, 0] S1x1024x640.size inb_S8x1024x640_S1x1024x640_2_0_0)) (View.ld x1 (Rect.unit (s := S8x1024x640) ![3, 0, 0] S1x1024x640.size inb_S8x1024x640_S1x1024x640_3_0_0))
      (View.ld x0 (Rect.unit (s := S512x5120) ![0, 1280] S512x1280.size inb_S512x5120_S512x1280_0_1280))
      (View.ld x1 (Rect.unit (s := S8x1024x640) ![4, 0, 0] S1x1024x640.size inb_S8x1024x640_S1x1024x640_4_0_0)) (View.ld x1 (Rect.unit (s := S8x1024x640) ![5, 0, 0] S1x1024x640.size inb_S8x1024x640_S1x1024x640_5_0_0))
      (View.ld x0 (Rect.unit (s := S512x5120) ![0, 2560] S512x1280.size inb_S512x5120_S512x1280_0_2560)))
    (View.ld x1 (Rect.unit (s := S8x1024x640) ![6, 0, 0] S1x1024x640.size inb_S8x1024x640_S1x1024x640_6_0_0)) (View.ld x1 (Rect.unit (s := S8x1024x640) ![7, 0, 0] S1x1024x640.size inb_S8x1024x640_S1x1024x640_7_0_0))
    (View.ld x0 (Rect.unit (s := S512x5120) ![0, 3840] S512x1280.size inb_S512x5120_S512x1280_0_3840))

section
variable {x0 : Vec Ideal S512x5120 .bf16} {x1 : Vec Ideal S8x1024x640 .bf16} {p w : ℕ → ℕ → EReal} (h0 : On2 x0 p) (h1 : On3 x1 fun q d k => w d (640 * q + k))

include h0 h1 in
theorem pair_on (q : ℕ) (i) (j) (l) : On2 (pair (View.ld x0 (Rect.unit (s := S512x5120) ![0, 1280 * q] S512x1280.size i)) (View.ld x1 (Rect.unit (s := S8x1024x640) ![2 * q, 0, 0] S1x1024x640.size j))
      (View.ld x1 (Rect.unit (s := S8x1024x640) ![2 * q + 1, 0, 0] S1x1024x640.size l))) (fun r d => ∑ k ∈ Finset.range 1280, p r (1280 * q + k) * w d (1280 * q + k)) := by
  have ha : On3 (a := 1) (b := 1024) (c := 640) (View.ld x1 (Rect.unit (s := S8x1024x640) ![2 * q, 0, 0] S1x1024x640.size j)) (fun _ d n => w d (1280 * q + n)) := fun z d n =>
    (slab_ld (P := 8) (a := 1024) (b := 640) (2 * q) j h1 z d n).trans (congrArg (w d) (by omega))
  have hb : On3 (a := 1) (b := 1024) (c := 640) (View.ld x1 (Rect.unit (s := S8x1024x640) ![2 * q + 1, 0, 0] S1x1024x640.size l)) (fun _ d n => w d (1280 * q + (640 + n))) := fun z d n =>
    (slab_ld (P := 8) (a := 1024) (b := 640) (2 * q + 1) l h1 z d n).trans (congrArg (w d) (by omega))
  exact times_turned (φ₁ := .bf16) (φ₂ := .bf16) (cols_ld (a := 512) (n := 5120) (b := 1280) (1280 * q) i h0)
    (beside (b := 640) (c := 640) rfl concatenates_S1024x640_S1024x640_S1024x1280_d1 (cast_off shapeCasts_S1x1024x640_S1024x640 ha) (cast_off shapeCasts_S1x1024x640_S1024x640 hb)) zeros

include h0 h1 in
theorem back_on : On2 (backB x0 x1) (back p w) := by
  have s (f : ℕ → EReal) : f 0 + f 1 + f 2 + f 3 = ∑ q ∈ Finset.range 4, f q := by
    simp [Finset.sum_range_succ]
  refine (add_on (add_on (add_on (pair_on h0 h1 0 _ _ _) (pair_on h0 h1 1 _ _ _)) (pair_on h0 h1 2 _ _ _)) (pair_on h0 h1 3 _ _ _)).congr fun r d _ _ => ?_
  rw [s fun q => ∑ k ∈ Finset.range 1280, p r (1280 * q + k) * w d (1280 * q + k)]
  exact (sum_chunks (fun k => p r k * w d k) 1280 4).symm

end

/-- A row with a block's column sums added. -/
theorem more_on {v : FVec Ideal S512x1024 .f32} {o : Vec Ideal S1x1024 .f32} {f : ℕ → ℕ → EReal} {s : ℕ → EReal} (hv : On2 v f) (ho : On2 o fun _ => s) :
    On2 (addf (F := Ideal) (φ := .f32) (shapeCast S1x1024 o shapeCasts_S1x1024_S1x1024)
      (shapeCast S1x1024 (multiReduction (F := Ideal) .add [0] S1024 v 0x00000000#32 reduces_S512x1024_S1024 (.inl rfl) rfl) shapeCasts_S1024_S1x1024))
      (fun _ d => s d + ∑ r ∈ Finset.range 512, f r d) := fun z d => by
  show shapeCast S1x1024 o shapeCasts_S1x1024_S1x1024 (ix2 z d)
    + shapeCast S1x1024 (multiReduction (F := Ideal) .add [0] S1024 v 0x00000000#32 reduces_S512x1024_S1024 (.inl rfl) rfl) shapeCasts_S1024_S1x1024 (ix2 z d) = _
  rw [shapeCast_self, ho]
  refine congrArg (s d.val + ·) ((shapeCast_a_1a_apply _ _ z d).trans ((Ideal.multiReduction_add_single (φ := .f32) _ 0x00000000#32 reduces_S512x1024_S1024 (.inl rfl) rfl (ix1 d)).trans ?_))
  refine sum_up 512 _ (fun r => f r d) fun r => ?_
  have e : reduces_S512x1024_S1024.lift (ix1 d) r = ix2 r d := by
    funext a
    match a with
    | ⟨0, _⟩ => rfl
    | ⟨1, _⟩ => rfl
  exact (congrArg _ e).trans (hv r d)

theorem mul_on {a b : ℕ} {x y : (⟨2, ![a, b]⟩ : Shape).Idx → EReal} {f g : ℕ → ℕ → EReal} (hx : On2 x f) (hy : On2 y g) :
    On2 (mulf (F := Ideal) (φ := .f32) x y) (fun i j => f i j * g i j) := fun i j => by
  show x _ * y _ = _
  rw [hx, hy]

/-- A row repeated down a block. -/
theorem repeated {x : Vec Ideal S1x1024 .f32} {f : ℕ → ℕ → EReal} (h : On2 x f) : On2 (broadcastTo S512x1024 x broadcasts_S1x1024_S512x1024) (fun _ d => f 0 d) := fun r d => by
  rw [broadcastTo_1b_ab_apply]
  exact h 0 d

section
variable {v e : FVec Ideal S512x1024 .f32} {x o : Vec Ideal S512x1024 .f32} {y : Vec Ideal S512x1024 .bf16} {g sc t a : Vec Ideal S1x1024 .f32}
  {u fx fo fy fg fs ft : ℕ → ℕ → EReal} {s : ℕ → EReal}

theorem scaled_on (hx : On2 x fx) : On2 (k0_pay9 (F := Ideal) x) (scaled fx) := mul_on hx fun r d => across_on (root_on hx _ _) _ r d

theorem unmod_on (hv : On2 v u) (hs : On2 sc fs) : On2 (k0_pay12 (F := Ideal) v sc) (unmod u fs) := by
  refine mul_on hv (repeated (f := fun r d => 1 + fs r d) fun r d => ?_)
  show Ideal.ofBits .f32 0x3F800000#32 + sc (ix2 r d) = _
  rw [Ideal.ofBits_one_f32, hs]

theorem unscaled_on (hv : On2 v u) (hs : On2 sc fs) (hg : On2 g fg) :
    On2 (mulf (F := Ideal) (φ := .f32) (k0_pay12 v sc) (broadcastTo S512x1024 g broadcasts_S1x1024_S512x1024)) (unscaled u fs fg) := mul_on (unmod_on hv hs) (repeated hg)

theorem dinput_on (hv : On2 v u) (hg : On2 g fg) (hx : On2 x fx) (hs : On2 sc fs) (ho : On2 o fo) :
    On2 (k0_pay14 (F := Ideal) v g (k0_pay8 x) (k0_pay9 x) sc o) (dinput fo fx (unscaled u fs fg)) := by
  have hn := unscaled_on hv hs hg
  have hr : On2 (k0_pay8 (F := Ideal) x) (fun r _ => root fx r) := root_on hx _ _
  have hm : On2 (divf (F := Ideal) (φ := .f32) (shapeCast S512x1 (multiReduction (F := Ideal) .add [1] S512
      (mulf (φ := .f32) (mulf (φ := .f32) (k0_pay12 v sc) (broadcastTo S512x1024 g broadcasts_S1x1024_S512x1024)) (k0_pay9 x)) 0x00000000#32 reduces_S512x1024_S512 (.inl rfl) rfl) shapeCasts_S512_S512x1)
      (broadcast S512x1 (Scalar.ofBits .f32 0x44800000#32))) (fun r _ => Ideal.div (∑ k ∈ Finset.range 1024, unscaled u fs fg r k * scaled fx r k) (Ideal.ofBits .f32 0x44800000#32)) := fun r z => by
    refine congrArg (fun s => Ideal.div s (Ideal.ofBits .f32 0x44800000#32)) ?_
    refine (shapeCast_a_a1_apply _ _ r z).trans ((Ideal.multiReduction_add_single (φ := .f32) _ 0x00000000#32 reduces_S512x1024_S512 (.inl rfl) rfl (ix1 r)).trans ?_)
    refine sum_up 1024 _ (fun k => unscaled u fs fg r k * scaled fx r k) fun k => ?_
    have e : reduces_S512x1024_S512.lift (ix1 r) k = ix2 r k := by
      funext b
      match b with
      | ⟨0, _⟩ => rfl
      | ⟨1, _⟩ => rfl
    exact (congrArg _ e).trans (mul_on hn (scaled_on hx) r k)
  intro r d
  have q1 := across_on hr broadcasts_S512x1_S512x1024 r d
  have q2 := across_on hm broadcasts_S512x1_S512x1024 r d
  refine (congrArg₂ (· + ·) (ho r d) (congrArg₂ (· * ·) q1 (congrArg₂ (· - ·) (hn r d) (congrArg₂ (· * ·) (scaled_on hx r d) q2)))).trans ?_
  rfl

theorem branch_on (he : On2 e u) (ht : On2 t ft) : On2 (mulf (F := Ideal) (φ := .f32) (broadcastTo S512x1024 (mulf (F := Ideal) (φ := .f32) (broadcast S1x1024 (Scalar.ofBits .f32 0x3F000000#32)) t) broadcasts_S1x1024_S512x1024) e)
    (branch ft u) := mul_on (repeated (f := fun r d => Ideal.ofBits .f32 0x3F000000#32 * ft r d) fun r d => congrArg (Ideal.ofBits .f32 0x3F000000#32 * ·) (ht r d)) he

/-- A row with half of a block's column sums added. -/
theorem moreHalf_on (he : On2 e u) (hy : On2 y fy) (ha : On2 a fun _ => s) :
    On2 (k0_pay1 (F := Ideal) e (k0_pay16 a) y) (fun _ d => s d + Ideal.ofBits .f32 0x3F000000#32 * ∑ r ∈ Finset.range 512, u r d * fy r d) := fun z d => by
  have zero : On2 (k0_pay2 (F := Ideal)) (fun _ _ => 0) := fun _ _ => Ideal.ofBits_zero_f32
  have h := more_on (mul_on he (y := (extf .f32 y bitsLt_bf16_f32 : FVec Ideal S512x1024 .f32)) hy) zero z d
  show shapeCast S1x1024 a shapeCasts_S1x1024_S1x1024 (ix2 z d) + Ideal.ofBits .f32 0x3F000000#32
    * shapeCast S1x1024 (multiReduction (F := Ideal) .add [0] S1024 (mulf (φ := .f32) e (extf .f32 y bitsLt_bf16_f32)) 0x00000000#32 reduces_S512x1024_S1024 (.inl rfl) rfl) shapeCasts_S1024_S1x1024 (ix2 z d) = _
  rw [shapeCast_self, ha]
  refine congrArg (fun q => s d.val + Ideal.ofBits .f32 0x3F000000#32 * q) ?_
  change shapeCast S1x1024 (k0_pay2 (F := Ideal)) shapeCasts_S1x1024_S1x1024 (ix2 z d) + _ = _ at h
  rw [shapeCast_self, zero, zero_add] at h
  exact h.trans (zero_add _)

end

/-! ### The arrays -/

theorem index0 : ∀ t : Fin cfg0.N, win0_0.index t = ![t.val, 0] := by decide +kernel
theorem index1 : ∀ t : Fin cfg0.N, win0_1.index t = ![0, 0, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val, 0] := by decide +kernel
theorem index8 : ∀ t : Fin cfg0.N, win0_8.index t = ![t.val, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![0, 0] := by decide +kernel
theorem index12 : ∀ t : Fin cfg0.N, win0_12.index t = ![t.val, 0] := by decide +kernel
theorem index13 : ∀ t : Fin cfg0.N, win0_13.index t = ![0, 0] := by decide +kernel
theorem lt_points (t : Fin cfg0.N) : t.val < 8 := t.isLt

section
variable (m : (ℓ : Loc nD τ sig) → Buf (Elt Ideal) ℓ) (c : Dev nD)

/-- The arguments' entries. -/
def ps : ℕ → ℕ → EReal := at2 (a := 4096) (b := 5120) (m ((c : Thread nD τ).loc main_arg0))
def ws : ℕ → ℕ → EReal := at2 (a := 1024) (b := 5120) (m ((c : Thread nD τ).loc main_arg1))
def xs : ℕ → ℕ → EReal := at2 (a := 4096) (b := 1024) (m ((c : Thread nD τ).loc main_arg2))
def os : ℕ → ℕ → EReal := at2 (a := 4096) (b := 1024) (m ((c : Thread nD τ).loc main_arg3))
def gs : ℕ → ℕ → EReal := at2 (a := 1) (b := 1024) (m ((c : Thread nD τ).loc main_arg4))
def scs : ℕ → ℕ → EReal := at2 (a := 1) (b := 1024) (m ((c : Thread nD τ).loc main_arg5))
def ts : ℕ → ℕ → EReal := at2 (a := 1) (b := 1024) (m ((c : Thread nD τ).loc main_arg6))
def ys : ℕ → ℕ → EReal := at2 (a := 4096) (b := 1024) (m ((c : Thread nD τ).loc main_arg7))

theorem V_mix : On3 (a := 8) (b := 1024) (c := 640) (V m c main_v1) (fun q d n => ws m c d (640 * q + n)) := by
  have e : V m c main_v1 = transpose S8x1024x640 [1, 0, 2] (shapeCast S1024x8x640 (m ((c : Thread nD τ).loc main_arg1)) shapeCasts_S1024x5120_S1024x8x640)
      transposes_S1024x8x640_S8x1024x640_1_0_2 := by
    entry_read; rfl
  rw [e]
  exact turn_102 _ (cast_cols rfl _ (on_at2 _))

theorem block0 (t : Fin cfg0.N) : On2 (a := 512) (b := 5120) (iblk m c 0 t) (fun r k => ps m c (512 * t.val + r) k) := fun r k => by
  have ht := lt_points t
  have e : iblk m c 0 t (ix2 r k) = V m c main_arg0 (ix2 ⟨512 * t.val + r.val, by omega⟩ k) := by
    blk_ext [iblk, index0 t]
    change _ + r.val = _
    omega
  rw [e, V_main_arg0]
  exact on_at2 _ _ _

theorem block1 (t : Fin cfg0.N) : On3 (a := 8) (b := 1024) (c := 640) (iblk m c 1 t) (fun q d n => ws m c d (640 * q + n)) := fun q d n => by
  have e : iblk m c 1 t (ix3 q d n) = V m c main_v1 (ix3 q d n) := by
    blk_ext [iblk, index1 t]
  exact e.trans (V_mix m c q d n)

theorem block2 (t : Fin cfg0.N) : On2 (a := 512) (b := 1024) (iblk m c 2 t) (fun r d => xs m c (512 * t.val + r) d) := fun r d => by
  have ht := lt_points t
  have e : iblk m c 2 t (ix2 r d) = V m c main_arg2 (ix2 ⟨512 * t.val + r.val, by omega⟩ d) := by
    blk_ext [iblk, index2 t]
    change _ + r.val = _
    omega
  rw [e, V_main_arg2]
  exact on_at2 _ _ _

theorem block3 (t : Fin cfg0.N) : On2 (a := 512) (b := 1024) (iblk m c 3 t) (fun r d => os m c (512 * t.val + r) d) := fun r d => by
  have ht := lt_points t
  have e : iblk m c 3 t (ix2 r d) = V m c main_arg3 (ix2 ⟨512 * t.val + r.val, by omega⟩ d) := by
    blk_ext [iblk, index3 t]
    change _ + r.val = _
    omega
  rw [e, V_main_arg3]
  exact on_at2 _ _ _

theorem block4 (t : Fin cfg0.N) : On2 (a := 1) (b := 1024) (iblk m c 4 t) (gs m c) := fun r d => by
  have e : iblk m c 4 t (ix2 r d) = V m c main_arg4 (ix2 r d) := by
    blk_ext [iblk, index4 t]
  rw [e, V_main_arg4]
  exact on_at2 _ _ _

theorem block5 (t : Fin cfg0.N) : On2 (a := 1) (b := 1024) (iblk m c 5 t) (scs m c) := fun r d => by
  have e : iblk m c 5 t (ix2 r d) = V m c main_arg5 (ix2 r d) := by
    blk_ext [iblk, index5 t]
  rw [e, V_main_arg5]
  exact on_at2 _ _ _

theorem block6 (t : Fin cfg0.N) : On2 (a := 1) (b := 1024) (iblk m c 6 t) (ts m c) := fun r d => by
  have e : iblk m c 6 t (ix2 r d) = V m c main_arg6 (ix2 r d) := by
    blk_ext [iblk, index6 t]
  rw [e, V_main_arg6]
  exact on_at2 _ _ _

theorem block7 (t : Fin cfg0.N) : On2 (a := 512) (b := 1024) (iblk m c 7 t) (fun r d => ys m c (512 * t.val + r) d) := fun r d => by
  have ht := lt_points t
  have e : iblk m c 7 t (ix2 r d) = V m c main_arg7 (ix2 ⟨512 * t.val + r.val, by omega⟩ d) := by
    blk_ext [iblk, index7 t]
    change _ + r.val = _
    omega
  rw [e, V_main_arg7]
  exact on_at2 _ _ _

/-- The modulated row's gradient, the input's, and the terms of the sums over the tokens. -/
def us : ℕ → ℕ → EReal := back (ps m c) (ws m c)
def dxs : ℕ → ℕ → EReal := dinput (os m c) (xs m c) (unscaled (us m c) (scs m c) (gs m c))
def scaleTerms : ℕ → ℕ → EReal := scaleTerm (us m c) (xs m c) (gs m c)
def normTerms : ℕ → ℕ → EReal := normTerm (us m c) (scs m c) (xs m c)
def gateTerms (r d : ℕ) : EReal := dxs m c r d * ys m c r d

theorem point_back (t : Fin cfg0.N) : On2 (backB (iblk m c 0 t) (iblk m c 1 t)) (fun r d => us m c (512 * t.val + r) d) := back_on (block0 m c t) (block1 m c t)

theorem point_dinput (t : Fin cfg0.N) :
    On2 (k0_pay14 (F := Ideal) (backB (iblk m c 0 t) (iblk m c 1 t)) (iblk m c 4 t) (k0_pay8 (iblk m c 2 t)) (k0_pay9 (iblk m c 2 t)) (iblk m c 5 t) (iblk m c 3 t)) (fun r d => dxs m c (512 * t.val + r) d) :=
  dinput_on (point_back m c t) (block4 m c t) (block2 m c t) (block5 m c t) (block3 m c t)

theorem leaves8 (t : Fin cfg0.N) : On2 (a := 512) (b := 1024) (outsAt0 m c t.val t.isLt).1 (fun r d => dxs m c (512 * t.val + r) d) := by
  by_cases h0 : t.val % 8 = 0
  · rw [outsAt0_A m c t h0]
    frame_out
    exact point_dinput m c t
  · rw [outsAt0_B m c t h0]
    frame_out
    exact point_dinput m c t

theorem leaves12 (t : Fin cfg0.N) : On2 (a := 512) (b := 1024) (outsAt0 m c t.val t.isLt).2.2.2.2.1 (fun r d => branch (ts m c) (dxs m c) (512 * t.val + r) d) := by
  by_cases h0 : t.val % 8 = 0
  · rw [outsAt0_A m c t h0]
    frame_out
    exact branch_on (point_dinput m c t) (block6 m c t)
  · rw [outsAt0_B m c t h0]
    frame_out
    exact branch_on (point_dinput m c t) (block6 m c t)

/-- A row of zeros is what no block at all adds up to. -/
theorem blank_on (f : ℕ → ℕ → EReal) {n : ℕ} (h : n = 0) : On2 (k0_pay2 (F := Ideal)) (fun _ d => tally f n d) := fun z d => by
  subst h
  show Ideal.ofBits .f32 0x00000000#32 = ∑ q ∈ Finset.range 0, _
  rw [Ideal.ofBits_zero_f32, Finset.sum_range_zero]

theorem blankHalf_on (f : ℕ → ℕ → EReal) {n : ℕ} (h : n = 0) : On2 (k0_pay5 (F := Ideal)) (fun _ d => Ideal.ofBits .f32 0x3F000000#32 * tally f n d) := fun z d => by
  subst h
  show Ideal.ofBits .f32 0x00000000#32 = _ * ∑ q ∈ Finset.range 0, _
  rw [Ideal.ofBits_zero_f32, Finset.sum_range_zero, mul_zero]

theorem first9 (t : Fin cfg0.N) (h0 : t.val = 0) : On2 (a := 1) (b := 1024) (outsAt0 m c t.val t.isLt).2.1 (fun _ d => tally (us m c) (t.val + 1) d) := by
  rw [outsAt0_A m c t (by omega)]
  frame_out
  exact (more_on (point_back m c t) (blank_on (us m c) h0)).congr fun _ d _ _ => sums_next (us m c) t.val d

theorem next9 (t : Fin cfg0.N) (h0 : ¬t.val = 0) (ih : On2 (a := 1) (b := 1024) (outsAt0 m c (t.val - 1) (Nat.lt_of_le_of_lt (Nat.sub_le _ _) t.isLt)).2.1 (fun _ d => tally (us m c) t.val d)) :
    On2 (a := 1) (b := 1024) (outsAt0 m c t.val t.isLt).2.1 (fun _ d => tally (us m c) (t.val + 1) d) := by
  have ht := lt_points t
  rw [outsAt0_B m c t (by omega)]
  frame_out
  exact (more_on (point_back m c t) ih).congr fun _ d _ _ => sums_next (us m c) t.val d

theorem leaves9 : ∀ (n : ℕ) (h : n < cfg0.N), On2 (a := 1) (b := 1024) (outsAt0 m c n h).2.1 (fun _ d => tally (us m c) (n + 1) d) := by
  intro n
  induction n with
  | zero => exact fun h => first9 m c ⟨0, h⟩ rfl
  | succ n ih => exact fun h => next9 m c ⟨n + 1, h⟩ (Nat.succ_ne_zero n) (ih (Nat.lt_of_succ_lt h))

theorem first10 (t : Fin cfg0.N) (h0 : t.val = 0) : On2 (a := 1) (b := 1024) (outsAt0 m c t.val t.isLt).2.2.1 (fun _ d => tally (scaleTerms m c) (t.val + 1) d) := by
  rw [outsAt0_A m c t (by omega)]
  frame_out
  exact (more_on (mul_on (point_back m c t) (mul_on (scaled_on (block2 m c t)) (repeated (block4 m c t)))) (blank_on (scaleTerms m c) h0)).congr fun _ d _ _ => sums_next (scaleTerms m c) t.val d

theorem next10 (t : Fin cfg0.N) (h0 : ¬t.val = 0) (ih : On2 (a := 1) (b := 1024) (outsAt0 m c (t.val - 1) (Nat.lt_of_le_of_lt (Nat.sub_le _ _) t.isLt)).2.2.1 (fun _ d => tally (scaleTerms m c) t.val d)) :
    On2 (a := 1) (b := 1024) (outsAt0 m c t.val t.isLt).2.2.1 (fun _ d => tally (scaleTerms m c) (t.val + 1) d) := by
  have ht := lt_points t
  rw [outsAt0_B m c t (by omega)]
  frame_out
  exact (more_on (mul_on (point_back m c t) (mul_on (scaled_on (block2 m c t)) (repeated (block4 m c t)))) ih).congr fun _ d _ _ => sums_next (scaleTerms m c) t.val d

theorem leaves10 : ∀ (n : ℕ) (h : n < cfg0.N), On2 (a := 1) (b := 1024) (outsAt0 m c n h).2.2.1 (fun _ d => tally (scaleTerms m c) (n + 1) d) := by
  intro n
  induction n with
  | zero => exact fun h => first10 m c ⟨0, h⟩ rfl
  | succ n ih => exact fun h => next10 m c ⟨n + 1, h⟩ (Nat.succ_ne_zero n) (ih (Nat.lt_of_succ_lt h))

theorem first11 (t : Fin cfg0.N) (h0 : t.val = 0) : On2 (a := 1) (b := 1024) (outsAt0 m c t.val t.isLt).2.2.2.1 (fun _ d => tally (normTerms m c) (t.val + 1) d) := by
  rw [outsAt0_A m c t (by omega)]
  frame_out
  exact (more_on (mul_on (unmod_on (point_back m c t) (block5 m c t)) (scaled_on (block2 m c t))) (blank_on (normTerms m c) h0)).congr fun _ d _ _ => sums_next (normTerms m c) t.val d

theorem next11 (t : Fin cfg0.N) (h0 : ¬t.val = 0) (ih : On2 (a := 1) (b := 1024) (outsAt0 m c (t.val - 1) (Nat.lt_of_le_of_lt (Nat.sub_le _ _) t.isLt)).2.2.2.1 (fun _ d => tally (normTerms m c) t.val d)) :
    On2 (a := 1) (b := 1024) (outsAt0 m c t.val t.isLt).2.2.2.1 (fun _ d => tally (normTerms m c) (t.val + 1) d) := by
  have ht := lt_points t
  rw [outsAt0_B m c t (by omega)]
  frame_out
  exact (more_on (mul_on (unmod_on (point_back m c t) (block5 m c t)) (scaled_on (block2 m c t))) ih).congr fun _ d _ _ => sums_next (normTerms m c) t.val d

theorem leaves11 : ∀ (n : ℕ) (h : n < cfg0.N), On2 (a := 1) (b := 1024) (outsAt0 m c n h).2.2.2.1 (fun _ d => tally (normTerms m c) (n + 1) d) := by
  intro n
  induction n with
  | zero => exact fun h => first11 m c ⟨0, h⟩ rfl
  | succ n ih => exact fun h => next11 m c ⟨n + 1, h⟩ (Nat.succ_ne_zero n) (ih (Nat.lt_of_succ_lt h))

/-- Halves add up to half of the sum. -/
theorem halves_next (f : ℕ → ℕ → EReal) (n d : ℕ) :
    Ideal.ofBits .f32 0x3F000000#32 * tally f n d + Ideal.ofBits .f32 0x3F000000#32 * ∑ r ∈ Finset.range 512, f (512 * n + r) d = Ideal.ofBits .f32 0x3F000000#32 * tally f (n + 1) d := by
  rw [half_f32, ← EReal.left_distrib_of_nonneg_of_ne_top (by exact_mod_cast (by norm_num : (0 : ℝ) ≤ 1 / 2)) (EReal.coe_ne_top _), sums_next]

theorem first13 (t : Fin cfg0.N) (h0 : t.val = 0) :
    On2 (a := 1) (b := 1024) (outsAt0 m c t.val t.isLt).2.2.2.2.2 (fun _ d => Ideal.ofBits .f32 0x3F000000#32 * tally (gateTerms m c) (t.val + 1) d) := by
  rw [outsAt0_A m c t (by omega)]
  frame_out
  exact (moreHalf_on (point_dinput m c t) (block7 m c t) (blankHalf_on (gateTerms m c) h0)).congr fun _ d _ _ => halves_next (gateTerms m c) t.val d

theorem next13 (t : Fin cfg0.N) (h0 : ¬t.val = 0)
    (ih : On2 (a := 1) (b := 1024) (outsAt0 m c (t.val - 1) (Nat.lt_of_le_of_lt (Nat.sub_le _ _) t.isLt)).2.2.2.2.2 (fun _ d => Ideal.ofBits .f32 0x3F000000#32 * tally (gateTerms m c) t.val d)) :
    On2 (a := 1) (b := 1024) (outsAt0 m c t.val t.isLt).2.2.2.2.2 (fun _ d => Ideal.ofBits .f32 0x3F000000#32 * tally (gateTerms m c) (t.val + 1) d) := by
  have ht := lt_points t
  rw [outsAt0_B m c t (by omega)]
  frame_out
  exact (moreHalf_on (point_dinput m c t) (block7 m c t) ih).congr fun _ d _ _ => halves_next (gateTerms m c) t.val d

theorem leaves13 : ∀ (n : ℕ) (h : n < cfg0.N), On2 (a := 1) (b := 1024) (outsAt0 m c n h).2.2.2.2.2 (fun _ d => Ideal.ofBits .f32 0x3F000000#32 * tally (gateTerms m c) (n + 1) d) := by
  intro n
  induction n with
  | zero => exact fun h => first13 m c ⟨0, h⟩ rfl
  | succ n ih => exact fun h => next13 m c ⟨n + 1, h⟩ (Nat.succ_ne_zero n) (ih (Nat.lt_of_succ_lt h))

/-- The six results: the input's gradient, the shift's, the scale's and the norm's weight's, the branch's and the gate's. -/
def resDx : S4096x1024.Idx → EReal := fun i => dxs m c (i 0).val (i 1).val
def resShift : S1x1024.Idx → EReal := fun i => tally (us m c) 8 (i 1).val
def resScale : S1x1024.Idx → EReal := fun i => tally (scaleTerms m c) 8 (i 1).val
def resNorm : S1x1024.Idx → EReal := fun i => tally (normTerms m c) 8 (i 1).val
def resBranch : S4096x1024.Idx → EReal := fun i => branch (ts m c) (dxs m c) (i 0).val (i 1).val
def resGate : S1x1024.Idx → EReal := fun i => Ideal.ofBits .f32 0x3F000000#32 * tally (gateTerms m c) 8 (i 1).val

/-- A block that is a whole row. -/
theorem row_placed {o : S1x1024.Idx → EReal} {f : ℕ → ℕ → EReal} {n : ℕ} (h : On2 o fun _ d => f (n + 1) d) (hn : n % 8 = 7) (lt : n < 8) (y : S1x1024.Idx) (e : ℕ) (he : e = (y 1).val) : o y = f 8 e := by
  subst he
  rw [show n + 1 = 8 by omega] at h
  conv_lhs => rw [ValueIdx.eq_ix2 y]
  exact h _ _

theorem array8 : (dats m 0 c).arrAt 8 (cfgs 0).N = resDx m c := by
  refine (dats m 0 c).arrAt_eq_of_covers 8 _ (by decide +kernel) fun t hf y => ?_
  have e0 : (((win0_8.blk t).view.emb y) 0).val = 512 * t.val + (y 0).val := by
    blk_simp [index8 t]
    change _ + (y 0).val = _
    omega
  have e1 : (((win0_8.blk t).view.emb y) 1).val = (y 1).val := by
    blk_simp [index8 t]
  blk_simp [index8 t]
  rw [after0_8]
  exact placed (f := dxs m c) (512 * t.val) (leaves8 m c t) y _ _ e0 e1

theorem array9 : (dats m 0 c).arrAt 9 (cfgs 0).N = resShift m c := by
  refine (dats m 0 c).arrAt_eq_of_covers 9 _ (by decide +kernel) fun t hf y => ?_
  have e1 : (((win0_9.blk t).view.emb y) 1).val = (y 1).val := by
    blk_simp [index9 t]
  blk_simp [index9 t]
  rw [after0_9]
  exact row_placed (f := tally (us m c)) (leaves9 m c t.val t.isLt) ((Gen.flush0_9 t).mp hf) (lt_points t) y _ e1

theorem array10 : (dats m 0 c).arrAt 10 (cfgs 0).N = resScale m c := by
  refine (dats m 0 c).arrAt_eq_of_covers 10 _ (by decide +kernel) fun t hf y => ?_
  have e1 : (((win0_10.blk t).view.emb y) 1).val = (y 1).val := by
    blk_simp [index10 t]
  blk_simp [index10 t]
  rw [after0_10]
  exact row_placed (f := tally (scaleTerms m c)) (leaves10 m c t.val t.isLt) ((Gen.flush0_10 t).mp hf) (lt_points t) y _ e1

theorem array11 : (dats m 0 c).arrAt 11 (cfgs 0).N = resNorm m c := by
  refine (dats m 0 c).arrAt_eq_of_covers 11 _ (by decide +kernel) fun t hf y => ?_
  have e1 : (((win0_11.blk t).view.emb y) 1).val = (y 1).val := by
    blk_simp [index11 t]
  blk_simp [index11 t]
  rw [after0_11]
  exact row_placed (f := tally (normTerms m c)) (leaves11 m c t.val t.isLt) ((Gen.flush0_11 t).mp hf) (lt_points t) y _ e1

theorem array12 : (dats m 0 c).arrAt 12 (cfgs 0).N = resBranch m c := by
  refine (dats m 0 c).arrAt_eq_of_covers 12 _ (by decide +kernel) fun t hf y => ?_
  have e0 : (((win0_12.blk t).view.emb y) 0).val = 512 * t.val + (y 0).val := by
    blk_simp [index12 t]
    change _ + (y 0).val = _
    omega
  have e1 : (((win0_12.blk t).view.emb y) 1).val = (y 1).val := by
    blk_simp [index12 t]
  blk_simp [index12 t]
  rw [after0_12]
  exact placed (f := branch (ts m c) (dxs m c)) (512 * t.val) (leaves12 m c t) y _ _ e0 e1

theorem array13 : (dats m 0 c).arrAt 13 (cfgs 0).N = resGate m c := by
  refine (dats m 0 c).arrAt_eq_of_covers 13 _ (by decide +kernel) fun t hf y => ?_
  have e1 : (((win0_13.blk t).view.emb y) 1).val = (y 1).val := by
    blk_simp [index13 t]
  blk_simp [index13 t]
  rw [after0_13]
  exact row_placed (f := fun n d => Ideal.ofBits .f32 0x3F000000#32 * tally (gateTerms m c) n d) (leaves13 m c t.val t.isLt) ((Gen.flush0_13 t).mp hf) (lt_points t) y _ e1

end

/-! ### The reference -/

section
variable (x0 : FVec Ideal Reference16Ideal.S4096x5120 .bf16) (x1 : FVec Ideal Reference16Ideal.S1024x5120 .bf16) (x2 x3 : FVec Ideal Reference16Ideal.S4096x1024 .f32) (x4 x5 x6 : FVec Ideal Reference16Ideal.S1x1024 .f32)
  (x7 : FVec Ideal Reference16Ideal.S4096x1024 .bf16)

def backR : FVec Ideal Reference16Ideal.S4096x1024 .f32 :=
  Host.dotGeneral (F := Ideal) (φ₁ := .f32) (φ₂ := .f32) Reference16Ideal.dot_S4096x5120_S1024x5120_S4096x1024_1_1_0_0_n_n none x0 x1
def scaledR : FVec Ideal Reference16Ideal.S4096x1024 .f32 :=
  mulf x2 (broadcastInDim Reference16Ideal.S4096x1024 ![0, 1] Reference16Ideal.Gen.bcast_S4096x1_S4096x1024_0_1 (UpRef.rootR x2))
def unmodR : FVec Ideal Reference16Ideal.S4096x1024 .f32 :=
  mulf (backR x0 x1) (UpRef.rowsR (addf (broadcastInDim Reference16Ideal.S1x1024 ![] Reference16Ideal.Gen.bcast_S_S1x1024 (constant Reference16Ideal.S_ .f32 0x3F800000#32)) x5))
def unscaledR : FVec Ideal Reference16Ideal.S4096x1024 .f32 := mulf (unmodR x0 x1 x5) (UpRef.rowsR x4)
def meansqR : FVec Ideal Reference16Ideal.S4096x1 .f32 :=
  addf (Host.divf (broadcastInDim Reference16Ideal.S4096x1 ![0] Reference16Ideal.Gen.bcast_S4096_S4096x1_0
      (Host.reduceAdd (mulf x2 x2) (constant Reference16Ideal.S_ .f32 0x00000000#32) Reference16Ideal.Gen.reducesTo_S4096x1024_S4096_d1 Reference16Ideal.Gen.h_S_))
    (broadcastInDim Reference16Ideal.S4096x1 ![] Reference16Ideal.Gen.bcast_S_S4096x1 (constant Reference16Ideal.S_ .f32 0x44800000#32)))
    (broadcastInDim Reference16Ideal.S4096x1 ![] Reference16Ideal.Gen.bcast_S_S4096x1 (constant Reference16Ideal.S_ .f32 0x358637BD#32))
def slopeR (v : FVec Ideal Reference16Ideal.S4096x1024 .f32) : FVec Ideal Reference16Ideal.S4096x1 .f32 :=
  Host.divf (mulf (shapeCast Reference16Ideal.S4096x1 (Host.reduceAdd (mulf x2 v) (constant Reference16Ideal.S_ .f32 0x00000000#32) Reference16Ideal.Gen.reducesTo_S4096x1024_S4096_d1 Reference16Ideal.Gen.h_S_)
      Reference16Ideal.Gen.shapeCasts_S4096_S4096x1)
    (mulf (broadcastInDim Reference16Ideal.S4096x1 ![] Reference16Ideal.Gen.bcast_S_S4096x1 (constant Reference16Ideal.S_ .f32 0xBF000000#32)) (Host.divf (UpRef.rootR x2) (meansqR x2))))
    (broadcastInDim Reference16Ideal.S4096x1 ![] Reference16Ideal.Gen.bcast_S_S4096x1 (constant Reference16Ideal.S_ .f32 0x44800000#32))
def throughR (v : FVec Ideal Reference16Ideal.S4096x1024 .f32) : FVec Ideal Reference16Ideal.S4096x1024 .f32 :=
  broadcastInDim Reference16Ideal.S4096x1024 ![0] Reference16Ideal.Gen.bcast_S4096_S4096x1024_0
    (Host.reduceAdd (slopeR x2 v) (constant Reference16Ideal.S_ .f32 0x00000000#32) Reference16Ideal.Gen.reducesTo_S4096x1_S4096_d1 Reference16Ideal.Gen.h_S_)
def pulledR (v : FVec Ideal Reference16Ideal.S4096x1024 .f32) : FVec Ideal Reference16Ideal.S4096x1024 .f32 :=
  addf (addf (mulf v (broadcastInDim Reference16Ideal.S4096x1024 ![0, 1] Reference16Ideal.Gen.bcast_S4096x1_S4096x1024_0_1 (UpRef.rootR x2))) (mulf x2 (throughR x2 v))) (mulf (throughR x2 v) x2)

/-- The columns' sums, as a row. -/
def colsR (v : FVec Ideal Reference16Ideal.S4096x1024 .f32) : FVec Ideal Reference16Ideal.S1x1024 .f32 :=
  shapeCast Reference16Ideal.S1x1024 (Host.reduceAdd (F := Ideal) (φ := .f32) v (constant (F := Ideal) Reference16Ideal.S_ .f32 0x00000000#32) Reference16Ideal.Gen.reducesTo_S4096x1024_S1024_d0
    Reference16Ideal.Gen.h_S_) Reference16Ideal.Gen.shapeCasts_S1024_S1x1024

def halfR : FVec Ideal Reference16Ideal.S1x1024 .f32 := broadcastInDim Reference16Ideal.S1x1024 ![] Reference16Ideal.Gen.bcast_S_S1x1024 (constant Reference16Ideal.S_ .f32 0x3F000000#32)

def dxR : FVec Ideal Reference16Ideal.S4096x1024 .f32 := addf x3 (pulledR x2 (unscaledR x0 x1 x4 x5))
def shiftR : FVec Ideal Reference16Ideal.S1x1024 .f32 := colsR (backR x0 x1)
def scaleR : FVec Ideal Reference16Ideal.S1x1024 .f32 := colsR (mulf (mulf (scaledR x2) (UpRef.rowsR x4)) (backR x0 x1))
def normR : FVec Ideal Reference16Ideal.S1x1024 .f32 := colsR (mulf (scaledR x2) (unmodR x0 x1 x5))
def branchR : FVec Ideal Reference16Ideal.S4096x1024 .bf16 := truncf .bf16 (mulf (UpRef.rowsR (mulf halfR x6)) (dxR x0 x1 x2 x3 x4 x5)) Reference16Ideal.Gen.bitsLt_bf16_f32
def gateR : FVec Ideal Reference16Ideal.S1x1024 .f32 := mulf halfR (colsR (mulf (dxR x0 x1 x2 x3 x4 x5) (extf .f32 x7 Reference16Ideal.Gen.bitsLt_bf16_f32)))

end

theorem across1 : (⟨2, ![4096, 1]⟩ : Shape).Reduces [1] ⟨1, ![4096]⟩ := by decide

section
variable {x0 : FVec Ideal Reference16Ideal.S4096x5120 .bf16} {x1 : FVec Ideal Reference16Ideal.S1024x5120 .bf16} {x2 x3 v : FVec Ideal Reference16Ideal.S4096x1024 .f32} {x4 x5 x6 : FVec Ideal Reference16Ideal.S1x1024 .f32}
  {x7 : FVec Ideal Reference16Ideal.S4096x1024 .bf16} {p w x o g sc t y f : ℕ → ℕ → EReal}
  (h0 : On2 x0 p) (h1 : On2 x1 w) (h2 : On2 x2 x) (h3 : On2 x3 o) (h4 : On2 x4 g) (h5 : On2 x5 sc) (h6 : On2 x6 t) (h7 : On2 x7 y) (hv : On2 v f)

include h0 h1 in
theorem backR_on : On2 (backR x0 x1) (back p w) := times_turned (φ₁ := .f32) (φ₂ := .f32) (z := fun _ => 0) h0 h1 fun _ _ => rfl

include h2 in
theorem rootsR_on : On2 (broadcastInDim Reference16Ideal.S4096x1024 ![0, 1] Reference16Ideal.Gen.bcast_S4096x1_S4096x1024_0_1 (UpRef.rootR x2)) (fun r _ => root x r) := fun r d =>
  (broadcastInDim_apply _ _ _ (ix2 r d) (ix2 r (0 : Fin 1)) fun a => by match a with | ⟨0, _⟩ => rfl | ⟨1, _⟩ => rfl).trans (UpRef.root_on h2 r 0)

include h2 in
theorem scaledR_on : On2 (scaledR x2) (scaled x) := mul_on h2 (rootsR_on h2)

include h0 h1 h5 in
theorem unmodR_on : On2 (unmodR x0 x1 x5) (unmod (back p w) sc) := mul_on (backR_on h0 h1) (UpRef.rows_on (f := fun r d => 1 + sc r d) fun r d => by
  show Ideal.ofBits .f32 0x3F800000#32 + x5 (ix2 r d) = _
  rw [h5, Ideal.ofBits_one_f32])

include h0 h1 h4 h5 in
theorem unscaledR_on : On2 (unscaledR x0 x1 x4 x5) (unscaled (back p w) sc g) := mul_on (unmodR_on h0 h1 h5) (UpRef.rows_on h4)

/-- A row's sum. -/
theorem rowSum (hv : On2 v f) (r : Fin 4096) :
    Host.reduceAdd (F := Ideal) (φ := .f32) v (constant (F := Ideal) Reference16Ideal.S_ .f32 0x00000000#32) Reference16Ideal.Gen.reducesTo_S4096x1024_S4096_d1 Reference16Ideal.Gen.h_S_ (ix1 r)
      = ∑ k ∈ Finset.range 1024, f r k := by
  rw [hostReduceAdd_apply]
  refine (Ideal.hostReduceAdd_single _ UpRef.red _ _ _).trans ?_
  have z : constant (F := Ideal) Reference16Ideal.S_ .f32 0x00000000#32 (Shape.Idx.first Reference16Ideal.Gen.h_S_) = (0 : EReal) := Ideal.ofBits_zero_f32
  rw [z, zero_add]
  refine sum_up 1024 _ (fun k => f r k) fun k => ?_
  have e : UpRef.red.lift (ix1 r) k = ix2 r k := by
    funext b
    match b with
    | ⟨0, _⟩ => rfl
    | ⟨1, _⟩ => rfl
  exact (congrArg v e).trans (hv r k)

include h2 in
theorem meansqR_on : On2 (meansqR x2) (fun r _ => meansq x r) := fun r z => by
  refine congrArg (fun s => Ideal.div s (Ideal.ofBits .f32 0x44800000#32) + Ideal.ofBits .f32 0x358637BD#32) ?_
  exact (broadcastInDim_apply _ _ _ _ (ix1 r) fun a => by match a with | ⟨0, _⟩ => rfl).trans (rowSum (mul_on h2 h2) r)

include h2 hv in
theorem slopeR_on : On2 (slopeR x2 v) (fun r _ => through x f r) := fun r z => by
  refine congrArg (fun s => Ideal.div s (Ideal.ofBits .f32 0x44800000#32)) (congrArg₂ (· * ·) ?_ (congrArg (Ideal.ofBits .f32 0xBF000000#32 * ·) (congrArg₂ Ideal.div (UpRef.root_on h2 r z) (meansqR_on h2 r z))))
  exact (shapeCast_a_a1_apply _ _ r z).trans (rowSum (mul_on h2 hv) r)

include h2 hv in
theorem throughR_on : On2 (throughR x2 v) (fun r _ => through x f r) := fun r d => by
  refine (broadcastInDim_apply _ _ _ (ix2 r d) (ix1 r) fun a => by match a with | ⟨0, _⟩ => rfl).trans ?_
  rw [hostReduceAdd_apply]
  refine (Ideal.hostReduceAdd_single _ across1 _ _ _).trans ?_
  have z : constant (F := Ideal) Reference16Ideal.S_ .f32 0x00000000#32 (Shape.Idx.first Reference16Ideal.Gen.h_S_) = (0 : EReal) := Ideal.ofBits_zero_f32
  rw [z, zero_add]
  refine (Fin.sum_univ_one _).trans ?_
  have e : across1.lift (ix1 r) (0 : Fin 1) = ix2 r (0 : Fin 1) := by
    funext b
    match b with
    | ⟨0, _⟩ => rfl
    | ⟨1, _⟩ => rfl
  exact (congrArg _ e).trans (slopeR_on h2 hv r 0)

include h2 hv in
theorem pulledR_on : On2 (pulledR x2 v) (fused x f) :=
  (add_on (add_on (mul_on hv (rootsR_on h2)) (mul_on h2 (throughR_on h2 hv))) (mul_on (throughR_on h2 hv) h2)).congr fun r d _ _ => (fused_eq x f r d).symm

include hv in
theorem colsR_on : On2 (colsR v) (fun _ d => tally f 8 d) := fun z d => by
  refine (shapeCast_a_1a_apply _ _ z d).trans ?_
  rw [hostReduceAdd_apply]
  refine (Ideal.hostReduceAdd_single _ MergeBwd.down4096 _ _ _).trans ?_
  have z : constant (F := Ideal) Reference16Ideal.S_ .f32 0x00000000#32 (Shape.Idx.first Reference16Ideal.Gen.h_S_) = (0 : EReal) := Ideal.ofBits_zero_f32
  rw [z, zero_add]
  refine (sum_up 4096 _ (fun r => f r d) fun r => ?_).trans (tally_all f d).symm
  have e : MergeBwd.down4096.lift (ix1 d) r = ix2 r d := by
    funext a
    match a with
    | ⟨0, _⟩ => rfl
    | ⟨1, _⟩ => rfl
  exact (congrArg v e).trans (hv r d)

include h0 h1 h2 h3 h4 h5 in
theorem dxR_on : On2 (dxR x0 x1 x2 x3 x4 x5) (dinput o x (unscaled (back p w) sc g)) := add_on h3 (pulledR_on h2 (unscaledR_on h0 h1 h4 h5))

include h0 h1 in
theorem shiftR_on : On2 (shiftR x0 x1) (fun _ d => tally (back p w) 8 d) := colsR_on (backR_on h0 h1)

include h0 h1 h2 h4 in
theorem scaleR_on : On2 (scaleR x0 x1 x2 x4) (fun _ d => tally (scaleTerm (back p w) x g) 8 d) :=
  colsR_on ((mul_on (mul_on (scaledR_on h2) (UpRef.rows_on h4)) (backR_on h0 h1)).congr fun r d _ _ => mul_comm _ _)

include h0 h1 h2 h5 in
theorem normR_on : On2 (normR x0 x1 x2 x5) (fun _ d => tally (normTerm (back p w) sc x) 8 d) :=
  colsR_on ((mul_on (scaledR_on h2) (unmodR_on h0 h1 h5)).congr fun r d _ _ => mul_comm _ _)

theorem half_on : On2 halfR (fun _ _ => Ideal.ofBits .f32 0x3F000000#32) := fun _ _ => rfl

include h0 h1 h2 h3 h4 h5 h6 in
theorem branchR_on : On2 (branchR x0 x1 x2 x3 x4 x5 x6) (branch t (dinput o x (unscaled (back p w) sc g))) := mul_on (UpRef.rows_on (mul_on half_on h6)) (dxR_on h0 h1 h2 h3 h4 h5)

include h0 h1 h2 h3 h4 h5 h7 in
theorem gateR_on : On2 (gateR x0 x1 x2 x3 x4 x5 x7) (fun _ d => Ideal.ofBits .f32 0x3F000000#32 * tally (fun r d => dinput o x (unscaled (back p w) sc g) r d * y r d) 8 d) :=
  mul_on half_on (colsR_on (mul_on (dxR_on h0 h1 h2 h3 h4 h5) h7))

end

section
variable (m : (ℓ : Loc nD τ sig) → Buf (Elt Ideal) ℓ) (c : Dev nD)

theorem refDx_eq : dxR (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) = resDx m c :=
  On2.ext (dxR_on (on_at2 _) (on_at2 _) (on_at2 _) (on_at2 _) (on_at2 _) (on_at2 _)) fun _ _ => rfl

theorem refShift_eq : shiftR (m ((c.tc : Thread nD τ).loc main_arg0)) (m ((c.tc : Thread nD τ).loc main_arg1)) = resShift m c :=
  On2.ext (shiftR_on (on_at2 _) (on_at2 _)) fun _ _ => rfl

theorem refScale_eq : scaleR (m ((c.tc : Thread nD τ).loc main_arg0)) (m ((c.tc : Thread nD τ).loc main_arg1)) (m ((c.tc : Thread nD τ).loc main_arg2)) (m ((c.tc : Thread nD τ).loc main_arg4)) = resScale m c :=
  On2.ext (scaleR_on (on_at2 _) (on_at2 _) (on_at2 _) (on_at2 _)) fun _ _ => rfl

theorem refNorm_eq : normR (m ((c.tc : Thread nD τ).loc main_arg0)) (m ((c.tc : Thread nD τ).loc main_arg1)) (m ((c.tc : Thread nD τ).loc main_arg2)) (m ((c.tc : Thread nD τ).loc main_arg5)) = resNorm m c :=
  On2.ext (normR_on (on_at2 _) (on_at2 _) (on_at2 _) (on_at2 _)) fun _ _ => rfl

theorem refBranch_eq : branchR (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) = resBranch m c :=
  On2.ext (branchR_on (on_at2 _) (on_at2 _) (on_at2 _) (on_at2 _) (on_at2 _) (on_at2 _) (on_at2 _)) fun _ _ => rfl

theorem refGate_eq : gateR (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg7)) = resGate m c :=
  On2.ext (gateR_on (on_at2 _) (on_at2 _) (on_at2 _) (on_at2 _) (on_at2 _) (on_at2 _) (on_at2 _)) fun _ _ => rfl

end

end Cert.Proof.NormBwd

end
-- ==== Proof.LossHead.lean ====
/-
  The head of the loss on top of the last product: the residual stream, its norm, the errors against the target, their
  gradients through the norm, block by block of tokens; the reference's results.
-/
module

public import proofs.«01_k».proof.Proof.NormBwd
public import proofs.«01_k».proof.Proof.Residual
public import proofs.«01_k».proof.Proof.Gen.Kernel17Ideal.Value
public import proofs.«01_k».proof.Proof.Gen.Reference17Ideal.Run

@[expose] public section
set_option maxRecDepth 16384
noncomputable section
namespace Cert.Proof.LossHead
open Cert.Kernel17Ideal Cert.Kernel17Ideal.Gen Cert.Proof.Tiles Cert.Proof.Slabs Cert.Proof.Norm Cert.Proof.NormGrad Cert.Proof.Gates
open Cert.Proof.Chunks hiding tally tally_all
open Cert.Proof.MergeBwd (tally tally_all sums_next)
open Cert.Proof.NormBwd (mul_on repeated more_on branch branch_on blank_on blankHalf_on halves_next row_placed scaledR scaledR_on pulledR pulledR_on colsR colsR_on halfR half_on)
open Cert.Proof.Residual (half inner)
open Idealize.ShloMosaic hiding ix0 ix1 ix2 ix3 ix4 ix5
open Idealize.ShloMosaic.ValueIdx
open Idealize.ShloMosaic.TcCoe Idealize.ShloMosaic.Tactic

/-- The residual stream, the errors, their gradient and the normed row's. -/
def stream (x v y : ℕ → ℕ → EReal) (r d : ℕ) : EReal := x r d + half * v 0 d * y r d
def miss (h g t : ℕ → ℕ → EReal) (r d : ℕ) : EReal := scaled h r d * g 0 d - t r d
def share (h g t : ℕ → ℕ → EReal) (r d : ℕ) : EReal := miss h g t r d * Ideal.ofBits .f32 0x3A800000#32
def normed (h g t : ℕ → ℕ → EReal) (r d : ℕ) : EReal := share h g t r d * g 0 d

/-- What the sums over the tokens add up. -/
def missTerm (h g t : ℕ → ℕ → EReal) (r d : ℕ) : EReal := miss h g t r d * miss h g t r d
def weightTerm (h g t : ℕ → ℕ → EReal) (r d : ℕ) : EReal := share h g t r d * scaled h r d

/-! ### What a point computes -/

theorem sub_on {a b : ℕ} {x y : (⟨2, ![a, b]⟩ : Shape).Idx → EReal} {f g : ℕ → ℕ → EReal} (hx : On2 x f) (hy : On2 y g) :
    On2 (subf (F := Ideal) (φ := .f32) x y) (fun i j => f i j - g i j) := fun i j => congrArg₂ (· - ·) (hx i j) (hy i j)

/-- The product of a block of tokens, its slabs added. -/
def prodB (x0 : Vec Ideal S4x512x704 .bf16) (x1 : Vec Ideal S4x704x1024 .bf16) : FVec Ideal S512x1024 .f32 :=
  k0_pay7 (View.ld x0 (Rect.unit (s := S4x512x704) ![0, 0, 0] S1x512x704.size inb_S4x512x704_S1x512x704_0_0_0)) (View.ld x1 (Rect.unit (s := S4x704x1024) ![0, 0, 0] S1x704x1024.size inb_S4x704x1024_S1x704x1024_0_0_0))
    (View.ld x0 (Rect.unit (s := S4x512x704) ![1, 0, 0] S1x512x704.size inb_S4x512x704_S1x512x704_1_0_0)) (View.ld x1 (Rect.unit (s := S4x704x1024) ![1, 0, 0] S1x704x1024.size inb_S4x704x1024_S1x704x1024_1_0_0))
    (View.ld x0 (Rect.unit (s := S4x512x704) ![2, 0, 0] S1x512x704.size inb_S4x512x704_S1x512x704_2_0_0)) (View.ld x1 (Rect.unit (s := S4x704x1024) ![2, 0, 0] S1x704x1024.size inb_S4x704x1024_S1x704x1024_2_0_0))
    (View.ld x0 (Rect.unit (s := S4x512x704) ![3, 0, 0] S1x512x704.size inb_S4x512x704_S1x512x704_3_0_0)) (View.ld x1 (Rect.unit (s := S4x704x1024) ![3, 0, 0] S1x704x1024.size inb_S4x704x1024_S1x704x1024_3_0_0))

theorem prod_on {x0 : Vec Ideal S4x512x704 .bf16} {x1 : Vec Ideal S4x704x1024 .bf16} {f g : ℕ → ℕ → ℕ → EReal} (h0 : On3 x0 f) (h1 : On3 x1 g) : On2 (prodB x0 x1) (upTo 704 f g 4) := by
  have s := one inb_S4x512x704_S1x512x704_0_0_0 inb_S4x704x1024_S1x704x1024_0_0_0 shapeCasts_S1x512x704_S512x704 shapeCasts_S1x704x1024_S704x1024 h0 h1
  have s := more 1 inb_S4x512x704_S1x512x704_1_0_0 inb_S4x704x1024_S1x704x1024_1_0_0 shapeCasts_S1x512x704_S512x704 shapeCasts_S1x704x1024_S704x1024 h0 h1 s
  have s := more 2 inb_S4x512x704_S1x512x704_2_0_0 inb_S4x704x1024_S1x704x1024_2_0_0 shapeCasts_S1x512x704_S512x704 shapeCasts_S1x704x1024_S704x1024 h0 h1 s
  exact more 3 inb_S4x512x704_S1x512x704_3_0_0 inb_S4x704x1024_S1x704x1024_3_0_0 shapeCasts_S1x512x704_S512x704 shapeCasts_S1x704x1024_S704x1024 h0 h1 s

section
variable {y e : FVec Ideal S512x1024 .f32} {x w : Vec Ideal S512x1024 .f32} {v g a : Vec Ideal S1x1024 .f32} {fx fy fv fg fw u : ℕ → ℕ → EReal} {s : ℕ → EReal}
  (hy : On2 y fy) (hx : On2 x fx) (hv : On2 v fv) (hg : On2 g fg) (hw : On2 w fw)

include hy hx hv in
theorem stream_on : On2 (k0_pay8 (F := Ideal) y v x) (stream fx fv fy) :=
  add_on hx (mul_on (repeated (f := fun r d => half * fv r d) fun r d => congrArg (half * ·) (hv r d)) hy)

include hy hx hv in
theorem roots_on : On2 (k0_pay9 (F := Ideal) y v x) (fun r _ => root (stream fx fv fy) r) := root_on (stream_on hy hx hv) _ _

include hy hx hv in
theorem scaled_on : On2 (k0_pay10 (F := Ideal) y v x) (scaled (stream fx fv fy)) := mul_on (stream_on hy hx hv) fun r d => across_on (roots_on hy hx hv) _ r d

include hy hx hv hg hw in
theorem miss_on : On2 (k0_pay11 (F := Ideal) y v g x w) (miss (stream fx fv fy) fg fw) := sub_on (mul_on (scaled_on hy hx hv) (repeated hg)) hw

include hy hx hv hg hw in
theorem share_on : On2 (k0_pay13 (F := Ideal) y v g x w) (share (stream fx fv fy) fg fw) :=
  mul_on (y := broadcast S512x1024 (Scalar.ofBits (F := Ideal) .f32 0x3A800000#32)) (g := fun _ _ => Ideal.ofBits .f32 0x3A800000#32) (miss_on hy hx hv hg hw) fun _ _ => rfl

include hg in
/-- A gradient of the weighted row brought back through the norm. -/
theorem fused_on {q : FVec Ideal S512x1 .f32} {n : FVec Ideal S512x1024 .f32} (hq : On2 q fun r _ => root fx r) (hn : On2 n (scaled fx)) (he : On2 e u) :
    On2 (k0_pay1 (F := Ideal) g q n e) (fused fx fun r d => u r d * fg 0 d) := by
  have hd := mul_on he (repeated hg)
  have hm : On2 (divf (F := Ideal) (φ := .f32) (shapeCast S512x1 (multiReduction (F := Ideal) .add [1] S512
      (mulf (φ := .f32) (mulf (φ := .f32) e (broadcastTo S512x1024 g broadcasts_S1x1024_S512x1024)) n) 0x00000000#32 reduces_S512x1024_S512 (.inl rfl) rfl) shapeCasts_S512_S512x1)
      (broadcast S512x1 (Scalar.ofBits .f32 0x44800000#32))) (fun r _ => Ideal.div (∑ k ∈ Finset.range 1024, u r k * fg 0 k * scaled fx r k) (Ideal.ofBits .f32 0x44800000#32)) := fun r z => by
    refine congrArg (fun s => Ideal.div s (Ideal.ofBits .f32 0x44800000#32)) ?_
    refine (shapeCast_a_a1_apply _ _ r z).trans ((Ideal.multiReduction_add_single (φ := .f32) _ 0x00000000#32 reduces_S512x1024_S512 (.inl rfl) rfl (ix1 r)).trans ?_)
    refine sum_up 1024 _ (fun k => u r k * fg 0 k * scaled fx r k) fun k => ?_
    have e : reduces_S512x1024_S512.lift (ix1 r) k = ix2 r k := by
      funext b
      match b with
      | ⟨0, _⟩ => rfl
      | ⟨1, _⟩ => rfl
    exact (congrArg _ e).trans (mul_on hd hn r k)
  intro r d
  have q1 := across_on hq broadcasts_S512x1_S512x1024 r d
  have q2 := across_on hm broadcasts_S512x1_S512x1024 r d
  exact congrArg₂ (· * ·) q1 (congrArg₂ (· - ·) (hd r d) (congrArg₂ (· * ·) (hn r d) q2))

include hy hx hv hg hw in
theorem dstream_on : On2 (k0_pay1 (F := Ideal) g (k0_pay9 y v x) (k0_pay10 y v x) (k0_pay13 y v g x w)) (fused (stream fx fv fy) (normed (stream fx fv fy) fg fw)) :=
  fused_on hg (roots_on hy hx hv) (scaled_on hy hx hv) (share_on hy hx hv hg hw)

include hy in
/-- A row with half of a block's column sums of a product added. -/
theorem moreHalf_on (he : On2 e u) (ha : On2 a fun _ => s) :
    On2 (addf (F := Ideal) (φ := .f32) (shapeCast S1x1024 a shapeCasts_S1x1024_S1x1024) (mulf (F := Ideal) (φ := .f32) (broadcast S1x1024 (Scalar.ofBits .f32 0x3F000000#32))
      (shapeCast S1x1024 (multiReduction (F := Ideal) .add [0] S1024 (mulf (F := Ideal) (φ := .f32) e y) 0x00000000#32 reduces_S512x1024_S1024 (.inl rfl) rfl) shapeCasts_S1024_S1x1024)))
      (fun _ d => s d + Ideal.ofBits .f32 0x3F000000#32 * ∑ r ∈ Finset.range 512, u r d * fy r d) :=
  NormBwd.moreHalf_on (y := y) he hy ha

end

/-! ### The arrays -/

theorem index0 : ∀ t : Fin cfg0.N, win0_0.index t = ![0, t.val, 0] := by decide +kernel
theorem index1 : ∀ t : Fin cfg0.N, win0_1.index t = ![0, 0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![0, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0] := by decide +kernel
theorem lt_points (t : Fin cfg0.N) : t.val < 8 := t.isLt

section
variable (m : (ℓ : Loc nD τ sig) → Buf (Elt Ideal) ℓ) (c : Dev nD)

/-- The arguments' entries. -/
def acts : ℕ → ℕ → EReal := at2 (a := 4096) (b := 2816) (m ((c : Thread nD τ).loc main_arg0))
def ws : ℕ → ℕ → EReal := at2 (a := 2816) (b := 1024) (m ((c : Thread nD τ).loc main_arg1))
def xs : ℕ → ℕ → EReal := at2 (a := 4096) (b := 1024) (m ((c : Thread nD τ).loc main_arg2))
def gates : ℕ → ℕ → EReal := at2 (a := 1) (b := 1024) (m ((c : Thread nD τ).loc main_arg3))
def aims : ℕ → ℕ → EReal := at2 (a := 4096) (b := 1024) (m ((c : Thread nD τ).loc main_arg4))
def gs : ℕ → ℕ → EReal := at2 (a := 1) (b := 1024) (m ((c : Thread nD τ).loc main_arg5))

theorem V_left : On3 (a := 4) (b := 4096) (c := 704) (V m c main_v1) (fun q r k => acts m c r (704 * q + k)) := by
  have e : V m c main_v1 = transpose S4x4096x704 [1, 0, 2] (shapeCast S4096x4x704 (m ((c : Thread nD τ).loc main_arg0)) shapeCasts_S4096x2816_S4096x4x704)
      transposes_S4096x4x704_S4x4096x704_1_0_2 := by
    entry_read; rfl
  rw [e]
  exact turn_102 _ (cast_cols rfl _ (on_at2 _))

theorem V_right : On3 (a := 4) (b := 704) (c := 1024) (V m c main_v2) (fun q k d => ws m c (704 * q + k) d) := by
  have e : V m c main_v2 = shapeCast S4x704x1024 (m ((c : Thread nD τ).loc main_arg1)) shapeCasts_S2816x1024_S4x704x1024 := by
    entry_read; rfl
  rw [e]
  exact cast_23 rfl _ (on_at2 _)

theorem block0 (t : Fin cfg0.N) : On3 (a := 4) (b := 512) (c := 704) (iblk m c 0 t) (fun q r k => acts m c (512 * t.val + r) (704 * q + k)) := by
  intro q r k
  have ht := lt_points t
  have e : iblk m c 0 t (ix3 q r k) = V m c main_v1 (ix3 q ⟨512 * t.val + r.val, by omega⟩ k) := by
    blk_ext [iblk, index0 t]
    change _ + r.val = _
    omega
  exact e.trans (V_left m c _ _ _)

theorem block1 (t : Fin cfg0.N) : On3 (a := 4) (b := 704) (c := 1024) (iblk m c 1 t) (fun q k d => ws m c (704 * q + k) d) := by
  intro q k d
  have e : iblk m c 1 t (ix3 q k d) = V m c main_v2 (ix3 q k d) := by
    blk_ext [iblk, index1 t]
  exact e.trans (V_right m c q k d)

theorem block2 (t : Fin cfg0.N) : On2 (a := 512) (b := 1024) (iblk m c 2 t) (fun r d => xs m c (512 * t.val + r) d) := fun r d => by
  have ht := lt_points t
  have e : iblk m c 2 t (ix2 r d) = V m c main_arg2 (ix2 ⟨512 * t.val + r.val, by omega⟩ d) := by
    blk_ext [iblk, index2 t]
    change _ + r.val = _
    omega
  rw [e, V_main_arg2]
  exact on_at2 _ _ _

theorem block3 (t : Fin cfg0.N) : On2 (a := 1) (b := 1024) (iblk m c 3 t) (gates m c) := fun r d => by
  have e : iblk m c 3 t (ix2 r d) = V m c main_arg3 (ix2 r d) := by
    blk_ext [iblk, index3 t]
  rw [e, V_main_arg3]
  exact on_at2 _ _ _

theorem block4 (t : Fin cfg0.N) : On2 (a := 512) (b := 1024) (iblk m c 4 t) (fun r d => aims m c (512 * t.val + r) d) := fun r d => by
  have ht := lt_points t
  have e : iblk m c 4 t (ix2 r d) = V m c main_arg4 (ix2 ⟨512 * t.val + r.val, by omega⟩ d) := by
    blk_ext [iblk, index4 t]
    change _ + r.val = _
    omega
  rw [e, V_main_arg4]
  exact on_at2 _ _ _

theorem block5 (t : Fin cfg0.N) : On2 (a := 1) (b := 1024) (iblk m c 5 t) (gs m c) := fun r d => by
  have e : iblk m c 5 t (ix2 r d) = V m c main_arg5 (ix2 r d) := by
    blk_ext [iblk, index5 t]
  rw [e, V_main_arg5]
  exact on_at2 _ _ _

/-- The product, the stream, its gradient, and the terms of the sums over the tokens. -/
def ys : ℕ → ℕ → EReal := inner (acts m c) (ws m c)
def hs : ℕ → ℕ → EReal := stream (xs m c) (gates m c) (ys m c)
def dxs : ℕ → ℕ → EReal := fused (hs m c) (normed (hs m c) (gs m c) (aims m c))
def missTerms : ℕ → ℕ → EReal := missTerm (hs m c) (gs m c) (aims m c)
def weightTerms : ℕ → ℕ → EReal := weightTerm (hs m c) (gs m c) (aims m c)
def gateTerms (r d : ℕ) : EReal := dxs m c r d * ys m c r d

theorem point_prod (t : Fin cfg0.N) : On2 (prodB (iblk m c 0 t) (iblk m c 1 t)) (fun r d => ys m c (512 * t.val + r) d) :=
  (prod_on (block0 m c t) (block1 m c t)).congr fun r d _ _ => upTo_all (fun r n => acts m c (512 * t.val + r) n) (ws m c) 704 4 r d

theorem point_scaled (t : Fin cfg0.N) : On2 (k0_pay10 (F := Ideal) (prodB (iblk m c 0 t) (iblk m c 1 t)) (iblk m c 3 t) (iblk m c 2 t)) (fun r d => scaled (hs m c) (512 * t.val + r) d) :=
  scaled_on (point_prod m c t) (block2 m c t) (block3 m c t)

theorem point_miss (t : Fin cfg0.N) : On2 (k0_pay11 (F := Ideal) (prodB (iblk m c 0 t) (iblk m c 1 t)) (iblk m c 3 t) (iblk m c 5 t) (iblk m c 2 t) (iblk m c 4 t))
    (fun r d => miss (hs m c) (gs m c) (aims m c) (512 * t.val + r) d) :=
  miss_on (point_prod m c t) (block2 m c t) (block3 m c t) (block5 m c t) (block4 m c t)

theorem point_share (t : Fin cfg0.N) : On2 (k0_pay13 (F := Ideal) (prodB (iblk m c 0 t) (iblk m c 1 t)) (iblk m c 3 t) (iblk m c 5 t) (iblk m c 2 t) (iblk m c 4 t))
    (fun r d => share (hs m c) (gs m c) (aims m c) (512 * t.val + r) d) :=
  share_on (point_prod m c t) (block2 m c t) (block3 m c t) (block5 m c t) (block4 m c t)

theorem point_dstream (t : Fin cfg0.N) :
    On2 (k0_pay1 (F := Ideal) (iblk m c 5 t) (k0_pay9 (prodB (iblk m c 0 t) (iblk m c 1 t)) (iblk m c 3 t) (iblk m c 2 t)) (k0_pay10 (prodB (iblk m c 0 t) (iblk m c 1 t)) (iblk m c 3 t) (iblk m c 2 t))
      (k0_pay13 (prodB (iblk m c 0 t) (iblk m c 1 t)) (iblk m c 3 t) (iblk m c 5 t) (iblk m c 2 t) (iblk m c 4 t))) (fun r d => dxs m c (512 * t.val + r) d) :=
  dstream_on (point_prod m c t) (block2 m c t) (block3 m c t) (block5 m c t) (block4 m c t)

theorem leaves6 (t : Fin cfg0.N) : On2 (a := 512) (b := 1024) (outsAt0 m c t.val t.isLt).1 (fun r d => dxs m c (512 * t.val + r) d) := by
  by_cases h0 : t.val % 8 = 0
  · rw [outsAt0_A m c t h0]
    frame_out
    exact point_dstream m c t
  · rw [outsAt0_B m c t h0]
    frame_out
    exact point_dstream m c t

theorem leaves7 (t : Fin cfg0.N) : On2 (a := 512) (b := 1024) (outsAt0 m c t.val t.isLt).2.1 (fun r d => branch (gates m c) (dxs m c) (512 * t.val + r) d) := by
  by_cases h0 : t.val % 8 = 0
  · rw [outsAt0_A m c t h0]
    frame_out
    exact branch_on (point_dstream m c t) (block3 m c t)
  · rw [outsAt0_B m c t h0]
    frame_out
    exact branch_on (point_dstream m c t) (block3 m c t)

theorem first8 (t : Fin cfg0.N) (h0 : t.val = 0) :
    On2 (a := 1) (b := 1024) (outsAt0 m c t.val t.isLt).2.2.1 (fun _ d => Ideal.ofBits .f32 0x3F000000#32 * tally (gateTerms m c) (t.val + 1) d) := by
  rw [outsAt0_A m c t (by omega)]
  frame_out
  exact (moreHalf_on (point_prod m c t) (point_dstream m c t) (blankHalf_on (gateTerms m c) h0)).congr fun _ d _ _ => halves_next (gateTerms m c) t.val d

theorem next8 (t : Fin cfg0.N) (h0 : ¬t.val = 0)
    (ih : On2 (a := 1) (b := 1024) (outsAt0 m c (t.val - 1) (Nat.lt_of_le_of_lt (Nat.sub_le _ _) t.isLt)).2.2.1 (fun _ d => Ideal.ofBits .f32 0x3F000000#32 * tally (gateTerms m c) t.val d)) :
    On2 (a := 1) (b := 1024) (outsAt0 m c t.val t.isLt).2.2.1 (fun _ d => Ideal.ofBits .f32 0x3F000000#32 * tally (gateTerms m c) (t.val + 1) d) := by
  have ht := lt_points t
  rw [outsAt0_B m c t (by omega)]
  frame_out
  exact (moreHalf_on (point_prod m c t) (point_dstream m c t) ih).congr fun _ d _ _ => halves_next (gateTerms m c) t.val d

theorem leaves8 : ∀ (n : ℕ) (h : n < cfg0.N), On2 (a := 1) (b := 1024) (outsAt0 m c n h).2.2.1 (fun _ d => Ideal.ofBits .f32 0x3F000000#32 * tally (gateTerms m c) (n + 1) d) := by
  intro n
  induction n with
  | zero => exact fun h => first8 m c ⟨0, h⟩ rfl
  | succ n ih => exact fun h => next8 m c ⟨n + 1, h⟩ (Nat.succ_ne_zero n) (ih (Nat.lt_of_succ_lt h))

theorem first9 (t : Fin cfg0.N) (h0 : t.val = 0) : On2 (a := 1) (b := 1024) (outsAt0 m c t.val t.isLt).2.2.2.1 (fun _ d => tally (weightTerms m c) (t.val + 1) d) := by
  rw [outsAt0_A m c t (by omega)]
  frame_out
  exact (more_on (mul_on (point_share m c t) (point_scaled m c t)) (blank_on (weightTerms m c) h0)).congr fun _ d _ _ => sums_next (weightTerms m c) t.val d

theorem next9 (t : Fin cfg0.N) (h0 : ¬t.val = 0) (ih : On2 (a := 1) (b := 1024) (outsAt0 m c (t.val - 1) (Nat.lt_of_le_of_lt (Nat.sub_le _ _) t.isLt)).2.2.2.1 (fun _ d => tally (weightTerms m c) t.val d)) :
    On2 (a := 1) (b := 1024) (outsAt0 m c t.val t.isLt).2.2.2.1 (fun _ d => tally (weightTerms m c) (t.val + 1) d) := by
  have ht := lt_points t
  rw [outsAt0_B m c t (by omega)]
  frame_out
  exact (more_on (mul_on (point_share m c t) (point_scaled m c t)) ih).congr fun _ d _ _ => sums_next (weightTerms m c) t.val d

theorem leaves9 : ∀ (n : ℕ) (h : n < cfg0.N), On2 (a := 1) (b := 1024) (outsAt0 m c n h).2.2.2.1 (fun _ d => tally (weightTerms m c) (n + 1) d) := by
  intro n
  induction n with
  | zero => exact fun h => first9 m c ⟨0, h⟩ rfl
  | succ n ih => exact fun h => next9 m c ⟨n + 1, h⟩ (Nat.succ_ne_zero n) (ih (Nat.lt_of_succ_lt h))

theorem first10 (t : Fin cfg0.N) (h0 : t.val = 0) : On2 (a := 1) (b := 1024) (outsAt0 m c t.val t.isLt).2.2.2.2 (fun _ d => tally (missTerms m c) (t.val + 1) d) := by
  rw [outsAt0_A m c t (by omega)]
  frame_out
  exact (more_on (mul_on (point_miss m c t) (point_miss m c t)) (blank_on (missTerms m c) h0)).congr fun _ d _ _ => sums_next (missTerms m c) t.val d

theorem next10 (t : Fin cfg0.N) (h0 : ¬t.val = 0) (ih : On2 (a := 1) (b := 1024) (outsAt0 m c (t.val - 1) (Nat.lt_of_le_of_lt (Nat.sub_le _ _) t.isLt)).2.2.2.2 (fun _ d => tally (missTerms m c) t.val d)) :
    On2 (a := 1) (b := 1024) (outsAt0 m c t.val t.isLt).2.2.2.2 (fun _ d => tally (missTerms m c) (t.val + 1) d) := by
  have ht := lt_points t
  rw [outsAt0_B m c t (by omega)]
  frame_out
  exact (more_on (mul_on (point_miss m c t) (point_miss m c t)) ih).congr fun _ d _ _ => sums_next (missTerms m c) t.val d

theorem leaves10 : ∀ (n : ℕ) (h : n < cfg0.N), On2 (a := 1) (b := 1024) (outsAt0 m c n h).2.2.2.2 (fun _ d => tally (missTerms m c) (n + 1) d) := by
  intro n
  induction n with
  | zero => exact fun h => first10 m c ⟨0, h⟩ rfl
  | succ n ih => exact fun h => next10 m c ⟨n + 1, h⟩ (Nat.succ_ne_zero n) (ih (Nat.lt_of_succ_lt h))

/-- The five results: the stream's gradient, the product's, the gate's, the norm's weight's, and the squares. -/
def resDx : S4096x1024.Idx → EReal := fun i => dxs m c (i 0).val (i 1).val
def resDy : S4096x1024.Idx → EReal := fun i => branch (gates m c) (dxs m c) (i 0).val (i 1).val
def resGate : S1x1024.Idx → EReal := fun i => Ideal.ofBits .f32 0x3F000000#32 * tally (gateTerms m c) 8 (i 1).val
def resWeight : S1x1024.Idx → EReal := fun i => tally (weightTerms m c) 8 (i 1).val
def resSquares : S1x1024.Idx → EReal := fun i => tally (missTerms m c) 8 (i 1).val

theorem array6 : (dats m 0 c).arrAt 6 (cfgs 0).N = resDx m c := by
  refine (dats m 0 c).arrAt_eq_of_covers 6 _ (by decide +kernel) fun t hf y => ?_
  have e0 : (((win0_6.blk t).view.emb y) 0).val = 512 * t.val + (y 0).val := by
    blk_simp [index6 t]
    change _ + (y 0).val = _
    omega
  have e1 : (((win0_6.blk t).view.emb y) 1).val = (y 1).val := by
    blk_simp [index6 t]
  blk_simp [index6 t]
  rw [after0_6]
  exact placed (f := dxs m c) (512 * t.val) (leaves6 m c t) y _ _ e0 e1

theorem array7 : (dats m 0 c).arrAt 7 (cfgs 0).N = resDy m c := by
  refine (dats m 0 c).arrAt_eq_of_covers 7 _ (by decide +kernel) fun t hf y => ?_
  have e0 : (((win0_7.blk t).view.emb y) 0).val = 512 * t.val + (y 0).val := by
    blk_simp [index7 t]
    change _ + (y 0).val = _
    omega
  have e1 : (((win0_7.blk t).view.emb y) 1).val = (y 1).val := by
    blk_simp [index7 t]
  blk_simp [index7 t]
  rw [after0_7]
  exact placed (f := branch (gates m c) (dxs m c)) (512 * t.val) (leaves7 m c t) y _ _ e0 e1

theorem array8 : (dats m 0 c).arrAt 8 (cfgs 0).N = resGate m c := by
  refine (dats m 0 c).arrAt_eq_of_covers 8 _ (by decide +kernel) fun t hf y => ?_
  have e1 : (((win0_8.blk t).view.emb y) 1).val = (y 1).val := by
    blk_simp [index8 t]
  blk_simp [index8 t]
  rw [after0_8]
  exact row_placed (f := fun n d => Ideal.ofBits .f32 0x3F000000#32 * tally (gateTerms m c) n d) (leaves8 m c t.val t.isLt) ((Gen.flush0_8 t).mp hf) (lt_points t) y _ e1

theorem array9 : (dats m 0 c).arrAt 9 (cfgs 0).N = resWeight m c := by
  refine (dats m 0 c).arrAt_eq_of_covers 9 _ (by decide +kernel) fun t hf y => ?_
  have e1 : (((win0_9.blk t).view.emb y) 1).val = (y 1).val := by
    blk_simp [index9 t]
  blk_simp [index9 t]
  rw [after0_9]
  exact row_placed (f := tally (weightTerms m c)) (leaves9 m c t.val t.isLt) ((Gen.flush0_9 t).mp hf) (lt_points t) y _ e1

theorem array10 : (dats m 0 c).arrAt 10 (cfgs 0).N = resSquares m c := by
  refine (dats m 0 c).arrAt_eq_of_covers 10 _ (by decide +kernel) fun t hf y => ?_
  have e1 : (((win0_10.blk t).view.emb y) 1).val = (y 1).val := by
    blk_simp [index10 t]
  blk_simp [index10 t]
  rw [after0_10]
  exact row_placed (f := tally (missTerms m c)) (leaves10 m c t.val t.isLt) ((Gen.flush0_10 t).mp hf) (lt_points t) y _ e1

end

/-! ### The reference -/

section
variable (x0 : FVec Ideal Reference17Ideal.S4096x2816 .bf16) (x1 : FVec Ideal Reference17Ideal.S2816x1024 .bf16) (x2 x4 h : FVec Ideal Reference17Ideal.S4096x1024 .f32) (x3 x5 : FVec Ideal Reference17Ideal.S1x1024 .f32)

def streamR : FVec Ideal Reference17Ideal.S4096x1024 .f32 := addf x2 (mulf (UpRef.rowsR (mulf halfR x3)) (Residual.outY x0 x1))
def missR : FVec Ideal Reference17Ideal.S4096x1024 .f32 := subf (mulf (scaledR h) (UpRef.rowsR x5)) x4
/-- Half of a mean's share, for every entry. -/
def partR : FVec Ideal Reference17Ideal.S4096x1024 .f32 :=
  broadcastInDim Reference17Ideal.S4096x1024 ![0] Reference17Ideal.Gen.bcast_S4096_S4096x1024_0
    (Host.divf (broadcastInDim Reference17Ideal.S4096 ![] Reference17Ideal.Gen.bcast_S_S4096 (mulf (constant Reference17Ideal.S_ .f32 0x3F000000#32) (constant Reference17Ideal.S_ .f32 0x3F800000#32)))
      (broadcastInDim Reference17Ideal.S4096 ![] Reference17Ideal.Gen.bcast_S_S4096 (constant Reference17Ideal.S_ .f32 0x44800000#32)))
def shareR : FVec Ideal Reference17Ideal.S4096x1024 .f32 :=
  mulf partR (mulf (broadcastInDim Reference17Ideal.S4096x1024 ![] Reference17Ideal.Gen.bcast_S_S4096x1024 (constant Reference17Ideal.S_ .f32 0x40000000#32)) (missR x4 h x5))
def dstreamR : FVec Ideal Reference17Ideal.S4096x1024 .f32 := pulledR h (mulf (shareR x4 h x5) (UpRef.rowsR x5))

def dxR : FVec Ideal Reference17Ideal.S4096x1024 .f32 := dstreamR x4 (streamR x0 x1 x2 x3) x5
def dyR : FVec Ideal Reference17Ideal.S4096x1024 .bf16 := truncf .bf16 (mulf (UpRef.rowsR (mulf halfR x3)) (dxR x0 x1 x2 x4 x3 x5)) Reference17Ideal.Gen.bitsLt_bf16_f32
def gateR : FVec Ideal Reference17Ideal.S1x1024 .f32 := mulf halfR (colsR (mulf (dxR x0 x1 x2 x4 x3 x5) (Residual.outY x0 x1)))
def weightR : FVec Ideal Reference17Ideal.S1x1024 .f32 := colsR (mulf (scaledR (streamR x0 x1 x2 x3)) (shareR x4 (streamR x0 x1 x2 x3) x5))
def squaresR : FVec Ideal Reference17Ideal.S1x1024 .f32 :=
  broadcastInDim Reference17Ideal.S1x1024 ![1] Reference17Ideal.Gen.bcast_S1024_S1x1024_1 (Host.reduceAdd (F := Ideal) (φ := .f32)
    (mulf (missR x4 (streamR x0 x1 x2 x3) x5) (missR x4 (streamR x0 x1 x2 x3) x5)) (constant Reference17Ideal.S_ .f32 0x00000000#32) Reference17Ideal.Gen.reducesTo_S4096x1024_S1024_d0 Reference17Ideal.Gen.h_S_)

end

theorem two_f32 : Ideal.ofBits .f32 0x40000000#32 = ((2 : ℝ) : EReal) := by
  simp [Ideal.ofBits, Ideal.ieee, -EReal.coe_mul]
  norm_num

theorem mean_f32 : Ideal.ofBits .f32 0x3A800000#32 = ((1 / 1024 : ℝ) : EReal) := by
  simp [Ideal.ofBits, Ideal.ieee, -EReal.coe_mul]
  norm_num

/-- Twice a half of a mean's share is the share. -/
theorem twice_half (e : EReal) :
    Ideal.div (Ideal.ofBits .f32 0x3F000000#32 * Ideal.ofBits .f32 0x3F800000#32) (Ideal.ofBits .f32 0x44800000#32) * (Ideal.ofBits .f32 0x40000000#32 * e) = e * Ideal.ofBits .f32 0x3A800000#32 := by
  rw [Ideal.ofBits_one_f32, mul_one, half_f32, width_f32, two_f32, mean_f32, Ideal.div_coe (by norm_num), ← mul_assoc, ← EReal.coe_mul, ← EReal.coe_mul, mul_comm e]
  norm_num

section
variable {x0 : FVec Ideal Reference17Ideal.S4096x2816 .bf16} {x1 : FVec Ideal Reference17Ideal.S2816x1024 .bf16} {x2 x4 h : FVec Ideal Reference17Ideal.S4096x1024 .f32} {x3 x5 : FVec Ideal Reference17Ideal.S1x1024 .f32}
  {a w x v t g f : ℕ → ℕ → EReal} (h0 : On2 x0 a) (h1 : On2 x1 w) (h2 : On2 x2 x) (h3 : On2 x3 v) (h4 : On2 x4 t) (h5 : On2 x5 g) (hh : On2 h f)

include h0 h1 h2 h3 in
theorem streamR_on : On2 (streamR x0 x1 x2 x3) (stream x v (inner a w)) := add_on h2 (mul_on (UpRef.rows_on (mul_on half_on h3)) (Residual.outY_on h0 h1))

include h4 h5 hh in
theorem missR_on : On2 (missR x4 h x5) (miss f g t) := sub_on (mul_on (scaledR_on hh) (UpRef.rows_on h5)) h4

include h4 h5 hh in
theorem shareR_on : On2 (shareR x4 h x5) (share f g t) := fun r d => by
  have e : partR (ix2 r d) = Ideal.div (Ideal.ofBits .f32 0x3F000000#32 * Ideal.ofBits .f32 0x3F800000#32) (Ideal.ofBits .f32 0x44800000#32) :=
    broadcastInDim_apply _ _ _ (ix2 r d) (ix1 r) fun a => by match a with | ⟨0, _⟩ => rfl
  exact (congrArg₂ (· * ·) e (congrArg (Ideal.ofBits .f32 0x40000000#32 * ·) (missR_on h4 h5 hh r d))).trans (twice_half _)

include h4 h5 hh in
theorem dstreamR_on : On2 (dstreamR x4 h x5) (fused f (normed f g t)) := pulledR_on hh (mul_on (shareR_on h4 h5 hh) (UpRef.rows_on h5))

include h0 h1 h2 h3 h4 h5 in
theorem dxR_on : On2 (dxR x0 x1 x2 x4 x3 x5) (fused (stream x v (inner a w)) (normed (stream x v (inner a w)) g t)) := dstreamR_on h4 h5 (streamR_on h0 h1 h2 h3)

include h0 h1 h2 h3 h4 h5 in
theorem dyR_on : On2 (dyR x0 x1 x2 x4 x3 x5) (branch v (fused (stream x v (inner a w)) (normed (stream x v (inner a w)) g t))) :=
  mul_on (UpRef.rows_on (mul_on half_on h3)) (dxR_on h0 h1 h2 h3 h4 h5)

include h0 h1 h2 h3 h4 h5 in
theorem gateR_on : On2 (gateR x0 x1 x2 x4 x3 x5)
    (fun _ d => Ideal.ofBits .f32 0x3F000000#32 * tally (fun r d => fused (stream x v (inner a w)) (normed (stream x v (inner a w)) g t) r d * inner a w r d) 8 d) :=
  mul_on half_on (colsR_on (mul_on (dxR_on h0 h1 h2 h3 h4 h5) (Residual.outY_on h0 h1)))

include h0 h1 h2 h3 h4 h5 in
theorem weightR_on : On2 (weightR x0 x1 x2 x4 x3 x5) (fun _ d => tally (weightTerm (stream x v (inner a w)) g t) 8 d) :=
  colsR_on ((mul_on (scaledR_on (streamR_on h0 h1 h2 h3)) (shareR_on h4 h5 (streamR_on h0 h1 h2 h3))).congr fun r d _ _ => mul_comm _ _)

include h0 h1 h2 h3 h4 h5 in
theorem squaresR_on : On2 (squaresR x0 x1 x2 x4 x3 x5) (fun _ d => tally (missTerm (stream x v (inner a w)) g t) 8 d) := fun z d => by
  have e := missR_on h4 h5 (streamR_on h0 h1 h2 h3)
  refine Eq.trans ?_ (colsR_on (mul_on e e) z d)
  exact (broadcastInDim_apply _ _ _ (ix2 z d) (ix1 d) fun a => by match a with | ⟨0, _⟩ => rfl).trans (shapeCast_a_1a_apply _ _ z d).symm

end

section
variable (m : (ℓ : Loc nD τ sig) → Buf (Elt Ideal) ℓ) (c : Dev nD)

theorem refDx_eq : dxR (m ((c.tc : Thread nD τ).loc main_arg0)) (m ((c.tc : Thread nD τ).loc main_arg1)) (m ((c.tc : Thread nD τ).loc main_arg2)) (m ((c.tc : Thread nD τ).loc main_arg4))
    (m ((c.tc : Thread nD τ).loc main_arg3)) (m ((c.tc : Thread nD τ).loc main_arg5)) = resDx m c :=
  On2.ext (dxR_on (on_at2 _) (on_at2 _) (on_at2 _) (on_at2 _) (on_at2 _) (on_at2 _)) fun _ _ => rfl

theorem refDy_eq : dyR (m ((c.tc : Thread nD τ).loc main_arg0)) (m ((c.tc : Thread nD τ).loc main_arg1)) (m ((c.tc : Thread nD τ).loc main_arg2)) (m ((c.tc : Thread nD τ).loc main_arg4))
    (m ((c.tc : Thread nD τ).loc main_arg3)) (m ((c.tc : Thread nD τ).loc main_arg5)) = resDy m c :=
  On2.ext (dyR_on (on_at2 _) (on_at2 _) (on_at2 _) (on_at2 _) (on_at2 _) (on_at2 _)) fun _ _ => rfl

theorem refGate_eq : gateR (m ((c.tc : Thread nD τ).loc main_arg0)) (m ((c.tc : Thread nD τ).loc main_arg1)) (m ((c.tc : Thread nD τ).loc main_arg2)) (m ((c.tc : Thread nD τ).loc main_arg4))
    (m ((c.tc : Thread nD τ).loc main_arg3)) (m ((c.tc : Thread nD τ).loc main_arg5)) = resGate m c :=
  On2.ext (gateR_on (on_at2 _) (on_at2 _) (on_at2 _) (on_at2 _) (on_at2 _) (on_at2 _)) fun _ _ => rfl

theorem refWeight_eq : weightR (m ((c.tc : Thread nD τ).loc main_arg0)) (m ((c.tc : Thread nD τ).loc main_arg1)) (m ((c.tc : Thread nD τ).loc main_arg2)) (m ((c.tc : Thread nD τ).loc main_arg4))
    (m ((c.tc : Thread nD τ).loc main_arg3)) (m ((c.tc : Thread nD τ).loc main_arg5)) = resWeight m c :=
  On2.ext (weightR_on (on_at2 _) (on_at2 _) (on_at2 _) (on_at2 _) (on_at2 _) (on_at2 _)) fun _ _ => rfl

theorem refSquares_eq : squaresR (m ((c.tc : Thread nD τ).loc main_arg0)) (m ((c.tc : Thread nD τ).loc main_arg1)) (m ((c.tc : Thread nD τ).loc main_arg2)) (m ((c.tc : Thread nD τ).loc main_arg4))
    (m ((c.tc : Thread nD τ).loc main_arg3)) (m ((c.tc : Thread nD τ).loc main_arg5)) = resSquares m c :=
  On2.ext (squaresR_on (on_at2 _) (on_at2 _) (on_at2 _) (on_at2 _) (on_at2 _) (on_at2 _)) fun _ _ => rfl

end

end Cert.Proof.LossHead

end
-- ==== Proof.NormTail.lean ====
/-
  The backward pass of the norm before the second feed-forward pair: the norm's and the modulation's gradients and those
  of the residual branch before, block by block of 256 tokens; the reference's results.
-/
module

public import proofs.«01_k».proof.Proof.NormBwd
public import proofs.«01_k».proof.Proof.Gen.Kernel18Ideal.Value
public import proofs.«01_k».proof.Proof.Gen.Reference18Ideal.Run

@[expose] public section
set_option maxRecDepth 16384
noncomputable section
namespace Cert.Proof.NormTail
open Cert.Kernel18Ideal Cert.Kernel18Ideal.Gen Cert.Proof.Tiles Cert.Proof.Norm Cert.Proof.NormGrad
open Cert.Proof.Chunks hiding tally tally_all
open Cert.Proof.MergeBwd (tally tally_all)
open Cert.Proof.NormBwd (unmod unscaled scaleTerm normTerm dinput mul_on)
open Idealize.ShloMosaic hiding ix0 ix1 ix2 ix3 ix4 ix5
open Idealize.ShloMosaic.ValueIdx
open Idealize.ShloMosaic.TcCoe Idealize.ShloMosaic.Tactic

/-- What the branch before gets. -/
def branch (t v : ℕ → ℕ → EReal) (r d : ℕ) : EReal := t 0 d * v r d

/-- The sum over the tokens of the first blocks. -/
def part (f : ℕ → ℕ → EReal) (n d : ℕ) : EReal := ∑ q ∈ Finset.range n, ∑ k ∈ Finset.range 256, f (256 * q + k) d

theorem part_all (f : ℕ → ℕ → EReal) (d : ℕ) : part f 16 d = tally f 8 d := (sum_chunks (fun k => f k d) 256 16).symm.trans (tally_all f d).symm

theorem part_next (f : ℕ → ℕ → EReal) (n d : ℕ) : part f n d + ∑ r ∈ Finset.range 256, f (256 * n + r) d = part f (n + 1) d :=
  (Finset.sum_range_succ (fun q => ∑ k ∈ Finset.range 256, f (256 * q + k) d) n).symm

/-! ### What a point computes -/

/-- The block's column sums, as a row. -/
theorem cols_on {v : FVec Ideal S256x1024 .f32} {f : ℕ → ℕ → EReal} (hv : On2 v f) :
    On2 (shapeCast S1x1024 (multiReduction (F := Ideal) .add [0] S1024 v 0x00000000#32 reduces_S256x1024_S1024 (.inl rfl) rfl) shapeCasts_S1024_S1x1024)
      (fun _ d => ∑ r ∈ Finset.range 256, f r d) := fun z d => by
  refine (shapeCast_a_1a_apply _ _ z d).trans ((Ideal.multiReduction_add_single (φ := .f32) _ 0x00000000#32 reduces_S256x1024_S1024 (.inl rfl) rfl (ix1 d)).trans ?_)
  refine sum_up 256 _ (fun r => f r d) fun r => ?_
  have e : reduces_S256x1024_S1024.lift (ix1 d) r = ix2 r d := by
    funext a
    match a with
    | ⟨0, _⟩ => rfl
    | ⟨1, _⟩ => rfl
  exact (congrArg _ e).trans (hv r d)

/-- A row with a block's column sums added. -/
theorem more_on {v : FVec Ideal S256x1024 .f32} {o : Vec Ideal S1x1024 .f32} {f : ℕ → ℕ → EReal} {n : ℕ} (hv : On2 v fun r d => f (256 * n + r) d) (ho : On2 o fun _ d => part f n d) :
    On2 (addf (F := Ideal) (φ := .f32) (shapeCast S1x1024 o shapeCasts_S1x1024_S1x1024)
      (shapeCast S1x1024 (multiReduction (F := Ideal) .add [0] S1024 v 0x00000000#32 reduces_S256x1024_S1024 (.inl rfl) rfl) shapeCasts_S1024_S1x1024))
      (fun _ d => part f (n + 1) d) := by
  rw [shapeCast_self]
  exact (add_on ho (cols_on hv)).congr fun _ d _ _ => part_next f n d

/-- The same with the sums multiplied by one first. -/
theorem moreOnce_on {e : FVec Ideal S256x1024 .f32} {y : Vec Ideal S256x1024 .bf16} {a : Vec Ideal S1x1024 .f32} {u w : ℕ → ℕ → EReal} {n : ℕ}
    (he : On2 e fun r d => u (256 * n + r) d) (hy : On2 y fun r d => w (256 * n + r) d) (ha : On2 a fun _ d => part (fun r d => u r d * w r d) n d) :
    On2 (k0_pay1 (F := Ideal) e (k0_pay14 a) (k0_pay15 y)) (fun _ d => part (fun r d => u r d * w r d) (n + 1) d) := fun z d => by
  have s := cols_on (mul_on he (y := k0_pay15 (F := Ideal) y) hy) z d
  show shapeCast S1x1024 a shapeCasts_S1x1024_S1x1024 (ix2 z d) + Ideal.ofBits .f32 0x3F800000#32
    * shapeCast S1x1024 (multiReduction (F := Ideal) .add [0] S1024 (mulf (φ := .f32) e (k0_pay15 y)) 0x00000000#32 reduces_S256x1024_S1024 (.inl rfl) rfl) shapeCasts_S1024_S1x1024 (ix2 z d) = _
  rw [shapeCast_self, Ideal.ofBits_one_f32, one_mul]
  exact (congrArg₂ (· + ·) (ha z d) s).trans (part_next (fun r d => u r d * w r d) n d)

/-- A row repeated down a block. -/
theorem repeated {x : Vec Ideal S1x1024 .f32} {f : ℕ → ℕ → EReal} (h : On2 x f) : On2 (broadcastTo S256x1024 x broadcasts_S1x1024_S256x1024) (fun _ d => f 0 d) := fun r d => by
  rw [broadcastTo_1b_ab_apply]
  exact h 0 d

/-- A row of zeros is what no block at all adds up to. -/
theorem blank_on (f : ℕ → ℕ → EReal) {n : ℕ} (h : n = 0) : On2 (k0_pay2 (F := Ideal)) (fun _ d => part f n d) := fun z d => by
  subst h
  show Ideal.ofBits .f32 0x00000000#32 = ∑ q ∈ Finset.range 0, _
  rw [Ideal.ofBits_zero_f32, Finset.sum_range_zero]

section
variable {v x o : Vec Ideal S256x1024 .f32} {e : FVec Ideal S256x1024 .f32} {g sc t : Vec Ideal S1x1024 .f32} {u fx fo fg fs ft : ℕ → ℕ → EReal}

theorem scaled_on (hx : On2 x fx) : On2 (k0_pay7 (F := Ideal) x) (scaled fx) := mul_on hx fun r d => across_on (root_on hx _ _) _ r d

theorem unmod_on (hv : On2 v u) (hs : On2 sc fs) : On2 (k0_pay10 (F := Ideal) v sc (Scalar.ofBits .f32 0x3F800000#32)) (unmod u fs) := by
  refine mul_on hv (repeated (f := fun r d => 1 + fs r d) fun r d => ?_)
  show Ideal.ofBits .f32 0x3F800000#32 + sc (ix2 r d) = _
  rw [Ideal.ofBits_one_f32, hs]

theorem unscaled_on (hv : On2 v u) (hs : On2 sc fs) (hg : On2 g fg) :
    On2 (mulf (F := Ideal) (φ := .f32) (k0_pay10 v sc (Scalar.ofBits .f32 0x3F800000#32)) (broadcastTo S256x1024 g broadcasts_S1x1024_S256x1024)) (unscaled u fs fg) :=
  mul_on (unmod_on hv hs) (repeated hg)

theorem dinput_on (hv : On2 v u) (hg : On2 g fg) (hx : On2 x fx) (hs : On2 sc fs) (ho : On2 o fo) :
    On2 (k0_pay12 (F := Ideal) v g (k0_pay6 x) (k0_pay7 x) sc (Scalar.ofBits .f32 0x3F800000#32) o) (dinput fo fx (unscaled u fs fg)) := by
  have hn := unscaled_on hv hs hg
  have hr : On2 (k0_pay6 (F := Ideal) x) (fun r _ => root fx r) := root_on hx _ _
  have hm : On2 (divf (F := Ideal) (φ := .f32) (shapeCast S256x1 (multiReduction (F := Ideal) .add [1] S256
      (mulf (φ := .f32) (mulf (φ := .f32) (k0_pay10 v sc (Scalar.ofBits .f32 0x3F800000#32)) (broadcastTo S256x1024 g broadcasts_S1x1024_S256x1024)) (k0_pay7 x)) 0x00000000#32 reduces_S256x1024_S256 (.inl rfl) rfl)
      shapeCasts_S256_S256x1) (broadcast S256x1 (Scalar.ofBits .f32 0x44800000#32)))
      (fun r _ => Ideal.div (∑ k ∈ Finset.range 1024, unscaled u fs fg r k * scaled fx r k) (Ideal.ofBits .f32 0x44800000#32)) := fun r z => by
    refine congrArg (fun s => Ideal.div s (Ideal.ofBits .f32 0x44800000#32)) ?_
    refine (shapeCast_a_a1_apply _ _ r z).trans ((Ideal.multiReduction_add_single (φ := .f32) _ 0x00000000#32 reduces_S256x1024_S256 (.inl rfl) rfl (ix1 r)).trans ?_)
    refine sum_up 1024 _ (fun k => unscaled u fs fg r k * scaled fx r k) fun k => ?_
    have e : reduces_S256x1024_S256.lift (ix1 r) k = ix2 r k := by
      funext b
      match b with
      | ⟨0, _⟩ => rfl
      | ⟨1, _⟩ => rfl
    exact (congrArg _ e).trans (mul_on hn (scaled_on hx) r k)
  intro r d
  have q1 := across_on hr broadcasts_S256x1_S256x1024 r d
  have q2 := across_on hm broadcasts_S256x1_S256x1024 r d
  refine (congrArg₂ (· + ·) (ho r d) (congrArg₂ (· * ·) q1 (congrArg₂ (· - ·) (hn r d) (congrArg₂ (· * ·) (scaled_on hx r d) q2)))).trans ?_
  rfl

theorem branch_on (he : On2 e u) (ht : On2 t ft) : On2 (mulf (F := Ideal) (φ := .f32) (broadcastTo S256x1024 (mulf (F := Ideal) (φ := .f32) (broadcast S1x1024 (Scalar.ofBits .f32 0x3F800000#32)) t) broadcasts_S1x1024_S256x1024) e)
    (branch ft u) := mul_on (repeated (f := ft) fun r d => by
  show Ideal.ofBits .f32 0x3F800000#32 * t (ix2 r d) = _
  rw [Ideal.ofBits_one_f32, one_mul, ht]) he

end

/-! ### The arrays -/

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![t.val, 0] := by decide +kernel
theorem index12 : ∀ t : Fin cfg0.N, win0_12.index t = ![0, 0] := by decide +kernel
theorem lt_points (t : Fin cfg0.N) : t.val < 16 := t.isLt

section
variable (m : (ℓ : Loc nD τ sig) → Buf (Elt Ideal) ℓ) (c : Dev nD)

/-- The arguments' entries. -/
def us : ℕ → ℕ → EReal := at2 (a := 4096) (b := 1024) (m ((c : Thread nD τ).loc main_arg0))
def xs : ℕ → ℕ → EReal := at2 (a := 4096) (b := 1024) (m ((c : Thread nD τ).loc main_arg1))
def os : ℕ → ℕ → EReal := at2 (a := 4096) (b := 1024) (m ((c : Thread nD τ).loc main_arg2))
def gs : ℕ → ℕ → EReal := at2 (a := 1) (b := 1024) (m ((c : Thread nD τ).loc main_arg3))
def scs : ℕ → ℕ → EReal := at2 (a := 1) (b := 1024) (m ((c : Thread nD τ).loc main_arg4))
def ts : ℕ → ℕ → EReal := at2 (a := 1) (b := 1024) (m ((c : Thread nD τ).loc main_arg5))
def ys : ℕ → ℕ → EReal := at2 (a := 4096) (b := 1024) (m ((c : Thread nD τ).loc main_arg6))

theorem block0 (t : Fin cfg0.N) : On2 (a := 256) (b := 1024) (iblk m c 0 t) (fun r d => us m c (256 * t.val + r) d) := fun r d => by
  have ht := lt_points t
  have e : iblk m c 0 t (ix2 r d) = V m c main_arg0 (ix2 ⟨256 * t.val + r.val, by omega⟩ d) := by
    blk_ext [iblk, index0 t]
    change _ + r.val = _
    omega
  rw [e, V_main_arg0]
  exact on_at2 _ _ _

theorem block1 (t : Fin cfg0.N) : On2 (a := 256) (b := 1024) (iblk m c 1 t) (fun r d => xs m c (256 * t.val + r) d) := fun r d => by
  have ht := lt_points t
  have e : iblk m c 1 t (ix2 r d) = V m c main_arg1 (ix2 ⟨256 * t.val + r.val, by omega⟩ d) := by
    blk_ext [iblk, index1 t]
    change _ + r.val = _
    omega
  rw [e, V_main_arg1]
  exact on_at2 _ _ _

theorem block2 (t : Fin cfg0.N) : On2 (a := 256) (b := 1024) (iblk m c 2 t) (fun r d => os m c (256 * t.val + r) d) := fun r d => by
  have ht := lt_points t
  have e : iblk m c 2 t (ix2 r d) = V m c main_arg2 (ix2 ⟨256 * t.val + r.val, by omega⟩ d) := by
    blk_ext [iblk, index2 t]
    change _ + r.val = _
    omega
  rw [e, V_main_arg2]
  exact on_at2 _ _ _

theorem block3 (t : Fin cfg0.N) : On2 (a := 1) (b := 1024) (iblk m c 3 t) (gs m c) := fun r d => by
  have e : iblk m c 3 t (ix2 r d) = V m c main_arg3 (ix2 r d) := by
    blk_ext [iblk, index3 t]
  rw [e, V_main_arg3]
  exact on_at2 _ _ _

theorem block4 (t : Fin cfg0.N) : On2 (a := 1) (b := 1024) (iblk m c 4 t) (scs m c) := fun r d => by
  have e : iblk m c 4 t (ix2 r d) = V m c main_arg4 (ix2 r d) := by
    blk_ext [iblk, index4 t]
  rw [e, V_main_arg4]
  exact on_at2 _ _ _

theorem block5 (t : Fin cfg0.N) : On2 (a := 1) (b := 1024) (iblk m c 5 t) (ts m c) := fun r d => by
  have e : iblk m c 5 t (ix2 r d) = V m c main_arg5 (ix2 r d) := by
    blk_ext [iblk, index5 t]
  rw [e, V_main_arg5]
  exact on_at2 _ _ _

theorem block6 (t : Fin cfg0.N) : On2 (a := 256) (b := 1024) (iblk m c 6 t) (fun r d => ys m c (256 * t.val + r) d) := fun r d => by
  have ht := lt_points t
  have e : iblk m c 6 t (ix2 r d) = V m c main_arg6 (ix2 ⟨256 * t.val + r.val, by omega⟩ d) := by
    blk_ext [iblk, index6 t]
    change _ + r.val = _
    omega
  rw [e, V_main_arg6]
  exact on_at2 _ _ _

/-- The input's gradient, and the terms of the sums over the tokens. -/
def dxs : ℕ → ℕ → EReal := dinput (os m c) (xs m c) (unscaled (us m c) (scs m c) (gs m c))
def scaleTerms : ℕ → ℕ → EReal := scaleTerm (us m c) (xs m c) (gs m c)
def normTerms : ℕ → ℕ → EReal := normTerm (us m c) (scs m c) (xs m c)
def gateTerms (r d : ℕ) : EReal := dxs m c r d * ys m c r d

theorem point_dinput (t : Fin cfg0.N) :
    On2 (k0_pay12 (F := Ideal) (iblk m c 0 t) (iblk m c 3 t) (k0_pay6 (iblk m c 1 t)) (k0_pay7 (iblk m c 1 t)) (iblk m c 4 t) (Scalar.ofBits .f32 0x3F800000#32) (iblk m c 2 t))
      (fun r d => dxs m c (256 * t.val + r) d) :=
  dinput_on (block0 m c t) (block3 m c t) (block1 m c t) (block4 m c t) (block2 m c t)

/-- What the scale's and the weight's sums add up over a block. -/
theorem point_scale (t : Fin cfg0.N) :
    On2 (mulf (F := Ideal) (φ := .f32) (iblk m c 0 t) (mulf (F := Ideal) (φ := .f32) (k0_pay7 (iblk m c 1 t)) (broadcastTo S256x1024 (iblk m c 3 t : Vec Ideal S1x1024 .f32) broadcasts_S1x1024_S256x1024)))
      (fun r d => scaleTerms m c (256 * t.val + r) d) := mul_on (block0 m c t) (mul_on (scaled_on (block1 m c t)) (repeated (block3 m c t)))

theorem point_norm (t : Fin cfg0.N) :
    On2 (mulf (F := Ideal) (φ := .f32) (k0_pay10 (iblk m c 0 t) (iblk m c 4 t) (Scalar.ofBits .f32 0x3F800000#32)) (k0_pay7 (iblk m c 1 t)))
      (fun r d => normTerms m c (256 * t.val + r) d) := mul_on (unmod_on (block0 m c t) (block4 m c t)) (scaled_on (block1 m c t))

theorem leaves7 (t : Fin cfg0.N) : On2 (a := 256) (b := 1024) (outsAt0 m c t.val t.isLt).1 (fun r d => dxs m c (256 * t.val + r) d) := by
  by_cases h0 : t.val % 16 = 0
  · rw [outsAt0_A m c t h0]
    frame_out
    exact point_dinput m c t
  · rw [outsAt0_B m c t h0]
    frame_out
    exact point_dinput m c t

theorem leaves11 (t : Fin cfg0.N) : On2 (a := 256) (b := 1024) (outsAt0 m c t.val t.isLt).2.2.2.2.1 (fun r d => branch (ts m c) (dxs m c) (256 * t.val + r) d) := by
  by_cases h0 : t.val % 16 = 0
  · rw [outsAt0_A m c t h0]
    frame_out
    exact branch_on (point_dinput m c t) (block5 m c t)
  · rw [outsAt0_B m c t h0]
    frame_out
    exact branch_on (point_dinput m c t) (block5 m c t)

/-- A row that starts with the first block's sums and takes one block's more at each point. -/
theorem added {f : ℕ → ℕ → EReal} {o : (n : ℕ) → n < cfg0.N → Vec Ideal S1x1024 .f32} (first : ∀ t : Fin cfg0.N, t.val = 0 → On2 (o t.val t.isLt) fun _ d => part f (t.val + 1) d)
    (next : ∀ t : Fin cfg0.N, ¬t.val = 0 → On2 (o (t.val - 1) (Nat.lt_of_le_of_lt (Nat.sub_le _ _) t.isLt)) (fun _ d => part f t.val d) → On2 (o t.val t.isLt) fun _ d => part f (t.val + 1) d) :
    ∀ (n : ℕ) (h : n < cfg0.N), On2 (o n h) fun _ d => part f (n + 1) d := by
  intro n
  induction n with
  | zero => exact fun h => first ⟨0, h⟩ rfl
  | succ n ih => exact fun h => next ⟨n + 1, h⟩ (Nat.succ_ne_zero n) (ih (Nat.lt_of_succ_lt h))

theorem leaves8 : ∀ (n : ℕ) (h : n < cfg0.N), On2 (a := 1) (b := 1024) (outsAt0 m c n h).2.1 (fun _ d => part (us m c) (n + 1) d) := by
  refine added (o := fun n h => (outsAt0 m c n h).2.1) (fun t h0 => ?_) fun t h0 ih => ?_
  · beta_reduce
    rw [outsAt0_A m c t (by omega)]
    frame_out
    exact more_on (block0 m c t) (blank_on (us m c) h0)
  · have ht := lt_points t
    beta_reduce
    rw [outsAt0_B m c t (by omega)]
    frame_out
    exact more_on (block0 m c t) ih

theorem leaves9 : ∀ (n : ℕ) (h : n < cfg0.N), On2 (a := 1) (b := 1024) (outsAt0 m c n h).2.2.1 (fun _ d => part (scaleTerms m c) (n + 1) d) := by
  refine added (o := fun n h => (outsAt0 m c n h).2.2.1) (fun t h0 => ?_) fun t h0 ih => ?_
  · beta_reduce
    rw [outsAt0_A m c t (by omega)]
    frame_out
    exact more_on (point_scale m c t) (blank_on (scaleTerms m c) h0)
  · have ht := lt_points t
    beta_reduce
    rw [outsAt0_B m c t (by omega)]
    frame_out
    exact more_on (point_scale m c t) ih

theorem leaves10 : ∀ (n : ℕ) (h : n < cfg0.N), On2 (a := 1) (b := 1024) (outsAt0 m c n h).2.2.2.1 (fun _ d => part (normTerms m c) (n + 1) d) := by
  refine added (o := fun n h => (outsAt0 m c n h).2.2.2.1) (fun t h0 => ?_) fun t h0 ih => ?_
  · beta_reduce
    rw [outsAt0_A m c t (by omega)]
    frame_out
    exact more_on (point_norm m c t) (blank_on (normTerms m c) h0)
  · have ht := lt_points t
    beta_reduce
    rw [outsAt0_B m c t (by omega)]
    frame_out
    exact more_on (point_norm m c t) ih

theorem leaves12 : ∀ (n : ℕ) (h : n < cfg0.N), On2 (a := 1) (b := 1024) (outsAt0 m c n h).2.2.2.2.2 (fun _ d => part (gateTerms m c) (n + 1) d) := by
  refine added (o := fun n h => (outsAt0 m c n h).2.2.2.2.2) (fun t h0 => ?_) fun t h0 ih => ?_
  · beta_reduce
    rw [outsAt0_A m c t (by omega)]
    frame_out
    exact moreOnce_on (point_dinput m c t) (block6 m c t) (blank_on (gateTerms m c) h0)
  · have ht := lt_points t
    beta_reduce
    rw [outsAt0_B m c t (by omega)]
    frame_out
    exact moreOnce_on (point_dinput m c t) (block6 m c t) ih

/-- The six results: the input's gradient, the shift's, the scale's and the norm's weight's, the branch's and the gate's. -/
def resDx : S4096x1024.Idx → EReal := fun i => dxs m c (i 0).val (i 1).val
def resShift : S1x1024.Idx → EReal := fun i => tally (us m c) 8 (i 1).val
def resScale : S1x1024.Idx → EReal := fun i => tally (scaleTerms m c) 8 (i 1).val
def resNorm : S1x1024.Idx → EReal := fun i => tally (normTerms m c) 8 (i 1).val
def resBranch : S4096x1024.Idx → EReal := fun i => branch (ts m c) (dxs m c) (i 0).val (i 1).val
def resGate : S1x1024.Idx → EReal := fun i => tally (gateTerms m c) 8 (i 1).val

/-- A block at its place in the array. -/
theorem placed {x : S256x1024.Idx → EReal} {f : ℕ → ℕ → EReal} (s : ℕ) (h : On2 x fun r d => f (s + r) d) (y : S256x1024.Idx) (i j : ℕ) (hi : i = s + (y 0).val) (hj : j = (y 1).val) : x y = f i j := by
  subst hi hj
  conv_lhs => rw [ValueIdx.eq_ix2 y]
  exact h _ _

/-- A block that is a whole row. -/
theorem row_placed {o : S1x1024.Idx → EReal} {f : ℕ → ℕ → EReal} {n : ℕ} (h : On2 o fun _ d => part f (n + 1) d) (hn : n % 16 = 15) (lt : n < 16) (y : S1x1024.Idx) (e : ℕ) (he : e = (y 1).val) :
    o y = tally f 8 e := by
  subst he
  rw [show n + 1 = 16 by omega] at h
  conv_lhs => rw [ValueIdx.eq_ix2 y]
  exact (h _ _).trans (part_all f _)

theorem array7 : (dats m 0 c).arrAt 7 (cfgs 0).N = resDx m c := by
  refine (dats m 0 c).arrAt_eq_of_covers 7 _ (by decide +kernel) fun t hf y => ?_
  have e0 : (((win0_7.blk t).view.emb y) 0).val = 256 * t.val + (y 0).val := by
    blk_simp [index7 t]
    change _ + (y 0).val = _
    omega
  have e1 : (((win0_7.blk t).view.emb y) 1).val = (y 1).val := by
    blk_simp [index7 t]
  blk_simp [index7 t]
  rw [after0_7]
  exact placed (f := dxs m c) (256 * t.val) (leaves7 m c t) y _ _ e0 e1

theorem array8 : (dats m 0 c).arrAt 8 (cfgs 0).N = resShift m c := by
  refine (dats m 0 c).arrAt_eq_of_covers 8 _ (by decide +kernel) fun t hf y => ?_
  have e1 : (((win0_8.blk t).view.emb y) 1).val = (y 1).val := by
    blk_simp [index8 t]
  blk_simp [index8 t]
  rw [after0_8]
  exact row_placed (leaves8 m c t.val t.isLt) ((Gen.flush0_8 t).mp hf) (lt_points t) y _ e1

theorem array9 : (dats m 0 c).arrAt 9 (cfgs 0).N = resScale m c := by
  refine (dats m 0 c).arrAt_eq_of_covers 9 _ (by decide +kernel) fun t hf y => ?_
  have e1 : (((win0_9.blk t).view.emb y) 1).val = (y 1).val := by
    blk_simp [index9 t]
  blk_simp [index9 t]
  rw [after0_9]
  exact row_placed (leaves9 m c t.val t.isLt) ((Gen.flush0_9 t).mp hf) (lt_points t) y _ e1

theorem array10 : (dats m 0 c).arrAt 10 (cfgs 0).N = resNorm m c := by
  refine (dats m 0 c).arrAt_eq_of_covers 10 _ (by decide +kernel) fun t hf y => ?_
  have e1 : (((win0_10.blk t).view.emb y) 1).val = (y 1).val := by
    blk_simp [index10 t]
  blk_simp [index10 t]
  rw [after0_10]
  exact row_placed (leaves10 m c t.val t.isLt) ((Gen.flush0_10 t).mp hf) (lt_points t) y _ e1

theorem array11 : (dats m 0 c).arrAt 11 (cfgs 0).N = resBranch m c := by
  refine (dats m 0 c).arrAt_eq_of_covers 11 _ (by decide +kernel) fun t hf y => ?_
  have e0 : (((win0_11.blk t).view.emb y) 0).val = 256 * t.val + (y 0).val := by
    blk_simp [index11 t]
    change _ + (y 0).val = _
    omega
  have e1 : (((win0_11.blk t).view.emb y) 1).val = (y 1).val := by
    blk_simp [index11 t]
  blk_simp [index11 t]
  rw [after0_11]
  exact placed (f := branch (ts m c) (dxs m c)) (256 * t.val) (leaves11 m c t) y _ _ e0 e1

theorem array12 : (dats m 0 c).arrAt 12 (cfgs 0).N = resGate m c := by
  refine (dats m 0 c).arrAt_eq_of_covers 12 _ (by decide +kernel) fun t hf y => ?_
  have e1 : (((win0_12.blk t).view.emb y) 1).val = (y 1).val := by
    blk_simp [index12 t]
  blk_simp [index12 t]
  rw [after0_12]
  exact row_placed (leaves12 m c t.val t.isLt) ((Gen.flush0_12 t).mp hf) (lt_points t) y _ e1

end

/-! ### The reference -/

section
variable (x0 x1 x2 : FVec Ideal Reference18Ideal.S4096x1024 .f32) (x3 x4 x5 : FVec Ideal Reference18Ideal.S1x1024 .f32) (x6 : FVec Ideal Reference18Ideal.S4096x1024 .bf16)

def duR : FVec Ideal Reference18Ideal.S4096x1024 .f32 := shapeCast Reference18Ideal.S4096x1024 x0 Reference18Ideal.Gen.shapeCasts_S4096x1024_S4096x1024
def unmodR : FVec Ideal Reference18Ideal.S4096x1024 .f32 :=
  mulf (duR x0) (UpRef.rowsR (addf (broadcastInDim Reference18Ideal.S1x1024 ![] Reference18Ideal.Gen.bcast_S_S1x1024 (constant Reference18Ideal.S_ .f32 0x3F800000#32)) x4))
def dxR : FVec Ideal Reference18Ideal.S4096x1024 .f32 := addf x2 (NormBwd.pulledR x1 (mulf (unmodR x0 x4) (UpRef.rowsR x3)))
def shiftR : FVec Ideal Reference18Ideal.S1x1024 .f32 := NormBwd.colsR x0
def scaleR : FVec Ideal Reference18Ideal.S1x1024 .f32 := NormBwd.colsR (mulf (mulf (NormBwd.scaledR x1) (UpRef.rowsR x3)) (duR x0))
def normR : FVec Ideal Reference18Ideal.S1x1024 .f32 := NormBwd.colsR (mulf (NormBwd.scaledR x1) (unmodR x0 x4))
def branchR : FVec Ideal Reference18Ideal.S4096x1024 .bf16 := truncf .bf16 (mulf (UpRef.rowsR x5) (dxR x0 x1 x2 x3 x4)) Reference18Ideal.Gen.bitsLt_bf16_f32
def gateR : FVec Ideal Reference18Ideal.S1x1024 .f32 := NormBwd.colsR (mulf (dxR x0 x1 x2 x3 x4) (extf .f32 x6 Reference18Ideal.Gen.bitsLt_bf16_f32))

end

section
variable {x0 x1 x2 : FVec Ideal Reference18Ideal.S4096x1024 .f32} {x3 x4 x5 : FVec Ideal Reference18Ideal.S1x1024 .f32} {x6 : FVec Ideal Reference18Ideal.S4096x1024 .bf16} {u x o g sc t y : ℕ → ℕ → EReal}
  (h0 : On2 x0 u) (h1 : On2 x1 x) (h2 : On2 x2 o) (h3 : On2 x3 g) (h4 : On2 x4 sc) (h5 : On2 x5 t) (h6 : On2 x6 y)

include h0 in
theorem duR_on : On2 (duR x0) u := by
  unfold duR
  rw [shapeCast_self]
  exact h0

include h0 h4 in
theorem unmodR_on : On2 (unmodR x0 x4) (unmod u sc) := mul_on (duR_on h0) (UpRef.rows_on (f := fun r d => 1 + sc r d) fun r d => by
  show Ideal.ofBits .f32 0x3F800000#32 + x4 (ix2 r d) = _
  rw [h4, Ideal.ofBits_one_f32])

include h0 h1 h2 h3 h4 in
theorem dxR_on : On2 (dxR x0 x1 x2 x3 x4) (dinput o x (unscaled u sc g)) := add_on h2 (NormBwd.pulledR_on h1 (mul_on (unmodR_on h0 h4) (UpRef.rows_on h3)))

include h0 h1 h3 in
theorem scaleR_on : On2 (scaleR x0 x1 x3) (fun _ d => tally (scaleTerm u x g) 8 d) :=
  NormBwd.colsR_on ((mul_on (mul_on (NormBwd.scaledR_on h1) (UpRef.rows_on h3)) (duR_on h0)).congr fun r d _ _ => mul_comm _ _)

include h0 h1 h4 in
theorem normR_on : On2 (normR x0 x1 x4) (fun _ d => tally (normTerm u sc x) 8 d) :=
  NormBwd.colsR_on ((mul_on (NormBwd.scaledR_on h1) (unmodR_on h0 h4)).congr fun r d _ _ => mul_comm _ _)

include h0 h1 h2 h3 h4 h5 in
theorem branchR_on : On2 (branchR x0 x1 x2 x3 x4 x5) (branch t (dinput o x (unscaled u sc g))) := mul_on (UpRef.rows_on h5) (dxR_on h0 h1 h2 h3 h4)

include h0 h1 h2 h3 h4 h6 in
theorem gateR_on : On2 (gateR x0 x1 x2 x3 x4 x6) (fun _ d => tally (fun r d => dinput o x (unscaled u sc g) r d * y r d) 8 d) :=
  NormBwd.colsR_on (mul_on (dxR_on h0 h1 h2 h3 h4) h6)

end

section
variable (m : (ℓ : Loc nD τ sig) → Buf (Elt Ideal) ℓ) (c : Dev nD)

theorem refDx_eq : dxR (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) = resDx m c :=
  On2.ext (dxR_on (on_at2 _) (on_at2 _) (on_at2 _) (on_at2 _) (on_at2 _)) fun _ _ => rfl

theorem refShift_eq : shiftR (m ((c.tc : Thread nD τ).loc main_arg0)) = resShift m c := On2.ext (NormBwd.colsR_on (on_at2 _)) fun _ _ => rfl

theorem refScale_eq : scaleR (m ((c.tc : Thread nD τ).loc main_arg0)) (m ((c.tc : Thread nD τ).loc main_arg1)) (m ((c.tc : Thread nD τ).loc main_arg3)) = resScale m c :=
  On2.ext (scaleR_on (on_at2 _) (on_at2 _) (on_at2 _)) fun _ _ => rfl

theorem refNorm_eq : normR (m ((c.tc : Thread nD τ).loc main_arg0)) (m ((c.tc : Thread nD τ).loc main_arg1)) (m ((c.tc : Thread nD τ).loc main_arg4)) = resNorm m c :=
  On2.ext (normR_on (on_at2 _) (on_at2 _) (on_at2 _)) fun _ _ => rfl

theorem refBranch_eq : branchR (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) = resBranch m c :=
  On2.ext (branchR_on (on_at2 _) (on_at2 _) (on_at2 _) (on_at2 _) (on_at2 _) (on_at2 _)) fun _ _ => rfl

theorem refGate_eq : gateR (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg6)) = resGate m c :=
  On2.ext (gateR_on (on_at2 _) (on_at2 _) (on_at2 _) (on_at2 _) (on_at2 _) (on_at2 _)) fun _ _ => rfl

end

end Cert.Proof.NormTail

end
-- ==== Proof.lean ====
/-
  The claims assembled: the two frames of the attention gradient from its one run, the reference's frame from its
  host-only run, `preserves`, which has no rewritten site, and the equality of the three gradients with the reference's;
  then the same of the other calls, each with its reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Pipe
public import proofs.«01_k».proof.Proof.Same
public import proofs.«01_k».proof.Proof.Arrays
public import proofs.«01_k».proof.Proof.Entry
public import Idealize.ShloMosaic.Lib.Pipeline.ValueKit
public import Idealize.ShloMosaic.Adequacy
public import Idealize.ShloMosaic.Init
public import proofs.«01_k».proof.Proof.MlpRef
public import proofs.«01_k».proof.Proof.GradUp
public import proofs.«01_k».proof.Proof.GradDown
public import proofs.«01_k».proof.Proof.GradMix
public import proofs.«01_k».proof.Proof.UpRef
public import proofs.«01_k».proof.Proof.OutBwd
public import proofs.«01_k».proof.Proof.GradOut
public import proofs.«01_k».proof.Proof.GradConv
public import proofs.«01_k».proof.Proof.MixIn
public import proofs.«01_k».proof.Proof.Du
public import proofs.«01_k».proof.Proof.Residual
public import proofs.«01_k».proof.Proof.Dact
public import proofs.«01_k».proof.Proof.Gates
public import proofs.«01_k».proof.Proof.Merge
public import proofs.«01_k».proof.Proof.MergeBwd
public import proofs.«01_k».proof.Proof.NormBwd
public import proofs.«01_k».proof.Proof.LossHead
public import proofs.«01_k».proof.Proof.NormTail

@[expose] public section

noncomputable section

namespace Cert.Proof

open Idealize.ShloMosaic Idealize.SL.Sem

/-- The kernel over the reals: its run, which counts no memory beyond the arguments. -/
theorem frame_ideal : Cert.quiescent_KernelIdeal := fun m ρ _ => Body.frame (F := Ideal) m ρ

/-- The kernel over float words: the same text, so the same run. -/
theorem frame_kernel : Cert.quiescent_Kernel := fun m ρ _ => Same.run_of m ρ _ (Body.frame (F := Bits) m ρ)

/-- The reference: straight-line host operations and no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two programs' gradients, over finite arguments. -/
theorem algebraic [hf : Cert.Pre_finite.Facts] : Cert.algebraic_KernelIdeal_ReferenceIdeal_pre_finite := by
  intro m g m' g' hp ha
  have h0 := fun c => (Entry.finite_mats (hp c)).1
  have h1 := fun c => (Entry.finite_mats (hp c)).2
  have he := fun c => Entry.enters m c (h0 c) (h1 c)
  let P : Dev Cert.KernelIdeal.nD → ℕ → ℕ → ℝ := fun c => Entry.nums (a := 4096) (b := 5120) (m ((c.tc : Thread Cert.KernelIdeal.nD Cert.KernelIdeal.τ).loc Cert.KernelIdeal.main_arg0))
  let O : Dev Cert.KernelIdeal.nD → ℕ → ℕ → ℝ := fun c => Entry.nums (a := 4096) (b := 512) (m ((c.tc : Thread Cert.KernelIdeal.nD Cert.KernelIdeal.τ).loc Cert.KernelIdeal.main_arg1))
  refine ⟨fun c => Values.resQ (P c) (O c), fun c => Values.resK (P c) (O c), fun c => Values.resV (P c) (O c), ?_, ?_⟩
  · refine (θ_run Cert.KernelIdeal.defs _ _).mono (fun r h c => ?_) (θ_run_and (Body.run_main (F := Ideal) m g) (Body.frame (F := Ideal) m g))
    exact ⟨(h.1.1.out_eq c 6).trans (Values.array_q (he c)), (h.1.1.out_eq c 7).trans (Values.array_k (he c)),
      (h.1.1.out_eq c 8).trans (Values.array_v (he c)), h.2.1 c⟩
  · refine (θ_run Cert.ReferenceIdeal.defs _ _).mono (fun r h c => ?_) (Cert.ReferenceIdeal.Value.run (F := Ideal) m' g')
    have g0 := h0 c
    have g1 := h1 c
    obtain ⟨a0, a1⟩ := ha c
    refine ⟨(h c).1.trans ?_, (h c).2.1.trans ?_, (h c).2.2.1.trans ?_, (h c).2.2.2⟩
    · rw [Heads.res_q, a0, a1]
      exact Heads.outQ_eq g0 g1
    · rw [Heads.res_k, a0, a1]
      exact Heads.outK_eq g0 g1
    · rw [Heads.res_v, a0, a1]
      exact Heads.outV_eq g0 g1

/-! ### The gradient of the feed-forward pair -/

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic2 [hf : Cert.Pre_finite2.Facts] : Cert.algebraic_Kernel2Ideal_Reference2Ideal_pre_finite2 := by
  intro m g m' g' hp ha
  refine ⟨Mlp.resInner m, Mlp.resInput m, ?_, ?_⟩
  · refine (θ_run Cert.Kernel2Ideal.defs _ _).mono (fun r h c => ?_) (Cert.Kernel2Ideal.Value.run_blocks (F := Ideal) m g)
    exact ⟨(h c).1.trans (Mlp.array4 m c), (h c).2.1.trans (Mlp.array5 m c), (h c).2.2⟩
  · refine (θ_run Cert.Reference2Ideal.defs _ _).mono (fun r h c => ?_) (Cert.Reference2Ideal.Value.run (F := Ideal) m' g')
    have hc := MlpRef.finite_of (hp c)
    obtain ⟨a0, a1, a2, a3⟩ := ha c
    refine ⟨(h c).1.trans ?_, (h c).2.1.trans ?_, (h c).2.2⟩
    · rw [MlpRef.res_inner, a0, a1, a2, a3]
      exact MlpRef.outInner_eq hc
    · rw [MlpRef.res_input, a0, a1, a2, a3]
      exact MlpRef.outInput_eq hc

/-! ### The gradients of three weights -/

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := by
  intro m g m' g' _ ha
  refine ⟨GradUp.res m, ?_, ?_⟩
  · refine (θ_run Cert.Kernel3Ideal.defs _ _).mono (fun r h c => ?_) (Cert.Kernel3Ideal.Value.run_blocks (F := Ideal) m g)
    exact ⟨(h c).1.trans (GradUp.array m c), (h c).2⟩
  · refine (θ_run Cert.Reference3Ideal.defs _ _).mono (fun r h c => ?_) (Cert.Reference3Ideal.Value.run (F := Ideal) m' g')
    obtain ⟨a0, a1⟩ := ha c
    refine ⟨(h c).1.trans ?_, (h c).2⟩
    rw [a0, a1]
    exact GradUp.ref_eq m c

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := by
  intro m g m' g' _ ha
  refine ⟨GradDown.res m, ?_, ?_⟩
  · refine (θ_run Cert.Kernel4Ideal.defs _ _).mono (fun r h c => ?_) (Cert.Kernel4Ideal.Value.run_blocks (F := Ideal) m g)
    exact ⟨(h c).1.trans (GradDown.array m c), (h c).2⟩
  · refine (θ_run Cert.Reference4Ideal.defs _ _).mono (fun r h c => ?_) (Cert.Reference4Ideal.Value.run (F := Ideal) m' g')
    obtain ⟨a0, a1⟩ := ha c
    refine ⟨(h c).1.trans ?_, (h c).2⟩
    rw [a0, a1]
    exact GradDown.ref_eq m c

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := by
  intro m g m' g' _ ha
  refine ⟨GradMix.res m, ?_, ?_⟩
  · refine (θ_run Cert.Kernel5Ideal.defs _ _).mono (fun r h c => ?_) (Cert.Kernel5Ideal.Value.run_blocks (F := Ideal) m g)
    exact ⟨(h c).1.trans (GradMix.array m c), (h c).2⟩
  · refine (θ_run Cert.Reference5Ideal.defs _ _).mono (fun r h c => ?_) (Cert.Reference5Ideal.Value.run (F := Ideal) m' g')
    obtain ⟨a0, a1⟩ := ha c
    refine ⟨(h c).1.trans ?_, (h c).2⟩
    rw [a0, a1]
    exact GradMix.ref_eq m c

/-! ### The first half of the feed-forward pair -/

theorem frame_reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem algebraic6 : Cert.algebraic_Kernel6Ideal_Reference6Ideal := by
  intro m g m' g' _ ha
  refine ⟨Up.resNorm m, Up.resInner m, Up.resAct m, ?_, ?_⟩
  · refine (θ_run Cert.Kernel6Ideal.defs _ _).mono (fun r h c => ?_) (Cert.Kernel6Ideal.Value.run_blocks (F := Ideal) m g)
    exact ⟨(h c).1.trans (Up.array5 m c), (h c).2.1.trans (Up.array6 m c), (h c).2.2.1.trans (Up.array7 m c), (h c).2.2.2⟩
  · refine (θ_run Cert.Reference6Ideal.defs _ _).mono (fun r h c => ?_) (Cert.Reference6Ideal.Value.run (F := Ideal) m' g')
    obtain ⟨a0, a1, a2, a3, a4⟩ := ha c
    refine ⟨(h c).1.trans ?_, (h c).2.1.trans ?_, (h c).2.2.1.trans ?_, (h c).2.2.2⟩
    · rw [a0, a1, a2, a3]
      exact UpRef.outNorm_eq m c
    · rw [a0, a1, a2, a3, a4]
      exact UpRef.outInner_eq m c
    · rw [a0, a1, a2, a3, a4]
      exact UpRef.outAct_eq m c

/-! ### The branches' gradients and the gradients of the output weights -/

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem algebraic7 : Cert.algebraic_Kernel7Ideal_Reference7Ideal := by
  intro m g m' g' _ ha
  refine ⟨OutBwd.resA m, OutBwd.resB m, ?_, ?_⟩
  · refine (θ_run Cert.Kernel7Ideal.defs _ _).mono (fun r h c => ?_) (Cert.Kernel7Ideal.Value.run_blocks (F := Ideal) m g)
    exact ⟨(h c).1.trans (OutBwd.array4 m c), (h c).2.1.trans (OutBwd.array5 m c), (h c).2.2⟩
  · refine (θ_run Cert.Reference7Ideal.defs _ _).mono (fun r h c => ?_) (Cert.Reference7Ideal.Value.run (F := Ideal) m' g')
    obtain ⟨dya, dyb, wco, wao⟩ := ha c
    refine ⟨(h c).1.trans ?_, (h c).2.1.trans ?_, (h c).2.2⟩
    · rw [dya, wco]
      exact OutBwd.refA_eq m c
    · rw [dyb, wao]
      exact OutBwd.refB_eq m c

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal := fun m g m' g' _ ha => ⟨GradOut.res m,
  (θ_run Cert.Kernel8Ideal.defs _ _).mono (fun _ h c => ⟨(h c).1.trans (GradOut.array m c), (h c).2⟩) (Cert.Kernel8Ideal.Value.run_blocks (F := Ideal) m g),
  (θ_run Cert.Reference8Ideal.defs _ _).mono (fun _ h c => ⟨(h c).1.trans (by rw [(ha c).1, (ha c).2]; exact GradOut.ref_eq m c), (h c).2⟩)
    (Cert.Reference8Ideal.Value.run (F := Ideal) m' g')⟩

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := fun m g m' g' _ ha => ⟨GradConv.res m,
  (θ_run Cert.Kernel9Ideal.defs _ _).mono (fun _ h c => ⟨(h c).1.trans (GradConv.array m c), (h c).2⟩) (Cert.Kernel9Ideal.Value.run_blocks (F := Ideal) m g),
  (θ_run Cert.Reference9Ideal.defs _ _).mono (fun _ h c => ⟨(h c).1.trans (by rw [(ha c).1, (ha c).2]; exact GradConv.ref_eq m c), (h c).2⟩)
    (Cert.Reference9Ideal.Value.run (F := Ideal) m' g')⟩

/-! ### The projection into the mixer, and the first feed-forward pair's calls -/

theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic10 : Cert.algebraic_Kernel10Ideal_Reference10Ideal := by
  intro m g m' g' _ ha
  refine ⟨MixIn.resNorm m, MixIn.resProj m, ?_, ?_⟩
  · refine (θ_run Cert.Kernel10Ideal.defs _ _).mono (fun r h c => ?_) (Cert.Kernel10Ideal.Value.run_blocks (F := Ideal) m g)
    exact ⟨(h c).1.trans (MixIn.array5 m c), (h c).2.1.trans (MixIn.array6 m c), (h c).2.2⟩
  · refine (θ_run Cert.Reference10Ideal.defs _ _).mono (fun r h c => ?_) (Cert.Reference10Ideal.Value.run (F := Ideal) m' g')
    obtain ⟨x, gain, shift, scale, w⟩ := ha c
    refine ⟨(h c).1.trans ?_, (h c).2.1.trans ?_, (h c).2.2⟩
    · rw [x, gain, shift, scale]
      exact MixIn.refNorm_eq m c
    · rw [x, gain, shift, scale, w]
      exact MixIn.refProj_eq m c

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic11 : Cert.algebraic_Kernel11Ideal_Reference11Ideal := fun m g m' g' _ ha => ⟨Du.res m,
  (θ_run Cert.Kernel11Ideal.defs _ _).mono (fun _ h c => ⟨(h c).1.trans (Du.array m c), (h c).2⟩) (Cert.Kernel11Ideal.Value.run_blocks (F := Ideal) m g),
  (θ_run Cert.Reference11Ideal.defs _ _).mono (fun _ h c => ⟨(h c).1.trans (by rw [(ha c).1, (ha c).2]; exact Du.ref_eq m c), (h c).2⟩)
    (Cert.Reference11Ideal.Value.run (F := Ideal) m' g')⟩

theorem frame_reference12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic12 : Cert.algebraic_Kernel12Ideal_Reference12Ideal := by
  intro m g m' g' _ ha
  refine ⟨Residual.resX m, Residual.resY m, ?_, ?_⟩
  · refine (θ_run Cert.Kernel12Ideal.defs _ _).mono (fun r h c => ?_) (Cert.Kernel12Ideal.Value.run_blocks (F := Ideal) m g)
    exact ⟨(h c).1.trans (Residual.array4 m c), (h c).2.1.trans (Residual.array5 m c), (h c).2.2⟩
  · refine (θ_run Cert.Reference12Ideal.defs _ _).mono (fun r h c => ?_) (Cert.Reference12Ideal.Value.run (F := Ideal) m' g')
    obtain ⟨act, w, x, gate⟩ := ha c
    refine ⟨(h c).1.trans ?_, (h c).2.1.trans ?_, (h c).2.2⟩
    · rw [act, w, x, gate]
      exact Residual.refX_eq m c
    · rw [act, w]
      exact Residual.refY_eq m c

/-! ### The gradient of the first pair's inner products -/

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic13 [hf : Cert.Pre_finite13.Facts] : Cert.algebraic_Kernel13Ideal_Reference13Ideal_pre_finite13 := by
  intro m g m' g' hp ha
  refine ⟨Dact.res m, ?_, ?_⟩
  · refine (θ_run Cert.Kernel13Ideal.defs _ _).mono (fun r h c => ?_) (Cert.Kernel13Ideal.Value.run_blocks (F := Ideal) m g)
    exact ⟨(h c).1.trans (Dact.array m c), (h c).2⟩
  · refine (θ_run Cert.Reference13Ideal.defs _ _).mono (fun r h c => ?_) (Cert.Reference13Ideal.Value.run (F := Ideal) m' g')
    obtain ⟨gu, down, dy⟩ := ha c
    refine ⟨(h c).1.trans ?_, (h c).2⟩
    rw [gu, down, dy]
    exact Dact.ref_eq (hp c)

/-! ### The merge of the two branches, and its backward call -/

theorem frame_reference14 : Cert.quiescent_Reference14Ideal := fun m ρ _ =>
  (θ_run Cert.Reference14Ideal.defs _ _).mono (fun r h => ⟨fun c => (h c).2.2.2.2.2, sem_eq_zero_of_no_sems (by decide) r.2⟩)
    (Cert.Reference14Ideal.Value.run (F := Ideal) m ρ)

theorem algebraic14 : Cert.algebraic_Kernel14Ideal_Reference14Ideal := by
  intro m g m' g' _ ha
  refine ⟨Merge.resMix m, Merge.resA m, Merge.resB m, Merge.resY m, Merge.resX m, ?_, ?_⟩
  · refine (θ_run Cert.Kernel14Ideal.defs _ _).mono (fun r h c => ?_) (Cert.Kernel14Ideal.Value.run_blocks (F := Ideal) m g)
    obtain ⟨hmix, hA, hB, hy, hx, kept⟩ := h c
    exact ⟨hmix.trans (Merge.array10 m c), hA.trans (Merge.array11 m c), hB.trans (Merge.array12 m c), hy.trans (Merge.array13 m c),
      hx.trans (Merge.array14 m c), kept⟩
  · refine (θ_run Cert.Reference14Ideal.defs _ _).mono (fun r h c => ?_) (Cert.Reference14Ideal.Value.run (F := Ideal) m' g')
    obtain ⟨hmix, hA, hB, hy, hx, kept⟩ := h c
    obtain ⟨a0, a1, a2, a3, a4, a5, a6, a7, a8⟩ := ha c
    refine ⟨hmix.trans ?_, hA.trans ?_, hB.trans ?_, hy.trans ?_, hx.trans ?_, kept⟩
    · rw [a0, a1, a2, a3, a4, a5]
      exact Merge.refMix_eq m c
    · rw [a0, a3]
      exact Merge.refA_eq m c
    · rw [a1, a4]
      exact Merge.refB_eq m c
    · rw [a0, a1, a2, a3, a4, a5, a6]
      exact Merge.refY_eq m c
    · rw [a0, a1, a2, a3, a4, a5, a6, a7, a8]
      exact Merge.refX_eq m c

theorem frame_reference15 : Cert.quiescent_Reference15Ideal := fun m ρ _ =>
  (θ_run Cert.Reference15Ideal.defs _ _).mono (fun r h => ⟨fun c => (h c).2.2.2.2.2, sem_eq_zero_of_no_sems (by decide) r.2⟩)
    (Cert.Reference15Ideal.Value.run (F := Ideal) m ρ)

theorem algebraic15 : Cert.algebraic_Kernel15Ideal_Reference15Ideal := by
  intro m g m' g' _ ha
  refine ⟨MergeBwd.resYa m, MergeBwd.resYb m, MergeBwd.resGa m, MergeBwd.resGb m, MergeBwd.resBias m, ?_, ?_⟩
  · refine (θ_run Cert.Kernel15Ideal.defs _ _).mono (fun r h c => ?_) (Cert.Kernel15Ideal.Value.run_blocks (F := Ideal) m g)
    obtain ⟨hya, hyb, hga, hgb, hbias, kept⟩ := h c
    exact ⟨hya.trans (MergeBwd.array7 m c), hyb.trans (MergeBwd.array8 m c), hga.trans (MergeBwd.array9 m c),
      hgb.trans (MergeBwd.array10 m c), hbias.trans (MergeBwd.array11 m c), kept⟩
  · refine (θ_run Cert.Reference15Ideal.defs _ _).mono (fun r h c => ?_) (Cert.Reference15Ideal.Value.run (F := Ideal) m' g')
    obtain ⟨hya, hyb, hga, hgb, hbias, kept⟩ := h c
    obtain ⟨dy, wout, proj, ya, yb, bias⟩ := ha c
    refine ⟨hya.trans ?_, hyb.trans ?_, hga.trans ?_, hgb.trans ?_, hbias.trans ?_, kept⟩
    · rw [dy, wout, proj, bias]
      exact MergeBwd.refYa_eq m c
    · rw [dy, wout, proj, bias]
      exact MergeBwd.refYb_eq m c
    · rw [dy, ya, wout, proj, bias]
      exact MergeBwd.refGa_eq m c
    · rw [dy, yb, wout, proj, bias]
      exact MergeBwd.refGb_eq m c
    · unfold Cert.Reference15Ideal.Value.res_main_v56
      rw [dy, wout, proj, ya, yb, bias]
      exact MergeBwd.refBias_eq m c

theorem frame_reference16 : Cert.quiescent_Reference16Ideal := fun m ρ _ =>
  (θ_run Cert.Reference16Ideal.defs _ _).mono (fun r h => ⟨fun c => (h c).2.2.2.2.2.2, sem_eq_zero_of_no_sems (by decide) r.2⟩)
    (Cert.Reference16Ideal.Value.run (F := Ideal) m ρ)

theorem algebraic16 : Cert.algebraic_Kernel16Ideal_Reference16Ideal := by
  intro m g m' g' _ ha
  refine ⟨NormBwd.resDx m, NormBwd.resShift m, NormBwd.resScale m, NormBwd.resNorm m, NormBwd.resBranch m, NormBwd.resGate m, ?_, ?_⟩
  · refine (θ_run Cert.Kernel16Ideal.defs _ _).mono (fun r h c => ?_) (Cert.Kernel16Ideal.Value.run_blocks (F := Ideal) m g)
    obtain ⟨hdx, hshift, hscale, hnorm, hbranch, hgate, kept⟩ := h c
    exact ⟨hdx.trans (NormBwd.array8 m c), hshift.trans (NormBwd.array9 m c), hscale.trans (NormBwd.array10 m c),
      hnorm.trans (NormBwd.array11 m c), hbranch.trans (NormBwd.array12 m c), hgate.trans (NormBwd.array13 m c), kept⟩
  · refine (θ_run Cert.Reference16Ideal.defs _ _).mono (fun r h c => ?_) (Cert.Reference16Ideal.Value.run (F := Ideal) m' g')
    obtain ⟨hdx, hshift, hscale, hnorm, hbranch, hgate, kept⟩ := h c
    obtain ⟨dproj, wmix, x, dout, weight, scale, gate, y⟩ := ha c
    refine ⟨hdx.trans ?_, hshift.trans ?_, hscale.trans ?_, hnorm.trans ?_, hbranch.trans ?_, hgate.trans ?_, kept⟩
    · unfold Cert.Reference16Ideal.Value.res_main_v53
      rw [dproj, wmix, x, dout, weight, scale]
      exact NormBwd.refDx_eq m c
    · rw [dproj, wmix]
      exact NormBwd.refShift_eq m c
    · rw [dproj, wmix, x, weight]
      exact NormBwd.refScale_eq m c
    · rw [dproj, wmix, x, scale]
      exact NormBwd.refNorm_eq m c
    · unfold Cert.Reference16Ideal.Value.res_main_v65
      rw [dproj, wmix, x, dout, weight, scale, gate]
      exact NormBwd.refBranch_eq m c
    · unfold Cert.Reference16Ideal.Value.res_main_v64
      rw [dproj, wmix, x, dout, weight, scale, y]
      exact NormBwd.refGate_eq m c

theorem frame_reference17 : Cert.quiescent_Reference17Ideal := fun m ρ _ =>
  (θ_run Cert.Reference17Ideal.defs _ _).mono (fun r h => ⟨fun c => (h c).2.2.2.2.2, sem_eq_zero_of_no_sems (by decide) r.2⟩)
    (Cert.Reference17Ideal.Value.run (F := Ideal) m ρ)

set_option maxHeartbeats 1000000 in
theorem algebraic17 : Cert.algebraic_Kernel17Ideal_Reference17Ideal := by
  intro m g m' g' _ ha
  refine ⟨LossHead.resDx m, LossHead.resDy m, LossHead.resGate m, LossHead.resWeight m, LossHead.resSquares m, ?_, ?_⟩
  · refine (θ_run Cert.Kernel17Ideal.defs _ _).mono (fun r h c => ?_) (Cert.Kernel17Ideal.Value.run_blocks (F := Ideal) m g)
    obtain ⟨hdx, hdy, hgate, hweight, hsquares, kept⟩ := h c
    exact ⟨hdx.trans (LossHead.array6 m c), hdy.trans (LossHead.array7 m c), hgate.trans (LossHead.array8 m c),
      hweight.trans (LossHead.array9 m c), hsquares.trans (LossHead.array10 m c), kept⟩
  · refine (θ_run Cert.Reference17Ideal.defs _ _).mono (fun r h c => ?_) (Cert.Reference17Ideal.Value.run (F := Ideal) m' g')
    obtain ⟨hdx, hdy, hgate, hweight, hsquares, kept⟩ := h c
    obtain ⟨act, down, x, gate, target, weight⟩ := ha c
    refine ⟨hdx.trans ?_, hdy.trans ?_, hgate.trans ?_, hweight.trans ?_, hsquares.trans ?_, kept⟩
    · unfold Cert.Reference17Ideal.Value.res_main_v58
      rw [act, down, x, gate, target, weight]
      exact LossHead.refDx_eq m c
    · unfold Cert.Reference17Ideal.Value.res_main_v66
      rw [act, down, x, gate, target, weight]
      exact LossHead.refDy_eq m c
    · unfold Cert.Reference17Ideal.Value.res_main_v65
      rw [act, down, x, gate, target, weight]
      exact LossHead.refGate_eq m c
    · unfold Cert.Reference17Ideal.Value.res_main_v42
      rw [act, down, x, gate, target, weight]
      exact LossHead.refWeight_eq m c
    · unfold Cert.Reference17Ideal.Value.res_main_v33
      rw [act, down, x, gate, target, weight]
      exact LossHead.refSquares_eq m c

theorem frame_reference18 : Cert.quiescent_Reference18Ideal := fun m ρ _ =>
  (θ_run Cert.Reference18Ideal.defs _ _).mono (fun r h => ⟨fun c => (h c).2.2.2.2.2.2, sem_eq_zero_of_no_sems (by decide) r.2⟩)
    (Cert.Reference18Ideal.Value.run (F := Ideal) m ρ)

set_option maxHeartbeats 1000000 in
theorem algebraic18 : Cert.algebraic_Kernel18Ideal_Reference18Ideal := by
  intro m g m' g' _ ha
  refine ⟨NormTail.resDx m, NormTail.resShift m, NormTail.resScale m, NormTail.resNorm m, NormTail.resBranch m, NormTail.resGate m, ?_, ?_⟩
  · refine (θ_run Cert.Kernel18Ideal.defs _ _).mono (fun r h c => ?_) (Cert.Kernel18Ideal.Value.run_blocks (F := Ideal) m g)
    obtain ⟨hdx, hshift, hscale, hnorm, hbranch, hgate, kept⟩ := h c
    exact ⟨hdx.trans (NormTail.array7 m c), hshift.trans (NormTail.array8 m c), hscale.trans (NormTail.array9 m c),
      hnorm.trans (NormTail.array10 m c), hbranch.trans (NormTail.array11 m c), hgate.trans (NormTail.array12 m c), kept⟩
  · refine (θ_run Cert.Reference18Ideal.defs _ _).mono (fun r h c => ?_) (Cert.Reference18Ideal.Value.run (F := Ideal) m' g')
    obtain ⟨hdx, hshift, hscale, hnorm, hbranch, hgate, kept⟩ := h c
    obtain ⟨du, x, dout, weight, scale, gate, y⟩ := ha c
    refine ⟨hdx.trans ?_, hshift.trans ?_, hscale.trans ?_, hnorm.trans ?_, hbranch.trans ?_, hgate.trans ?_, kept⟩
    · unfold Cert.Reference18Ideal.Value.res_main_v49
      rw [du, x, dout, weight, scale]
      exact NormTail.refDx_eq m c
    · rw [du]
      exact NormTail.refShift_eq m c
    · rw [du, x, weight]
      exact NormTail.refScale_eq m c
    · rw [du, x, scale]
      exact NormTail.refNorm_eq m c
    · unfold Cert.Reference18Ideal.Value.res_main_v58
      rw [du, x, dout, weight, scale, gate]
      exact NormTail.refBranch_eq m c
    · unfold Cert.Reference18Ideal.Value.res_main_v57
      rw [du, x, dout, weight, scale, y]
      exact NormTail.refGate_eq m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Entry.finite_facts, MlpRef.finite2_facts, Dact.finite_facts,
  frame_kernel, frame_ideal, fun m ρ _ => Body.frame (F := Ideal) m ρ, frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, fun m ρ _ => Cert.Kernel13Ideal.Gen.frame m ρ,
  frame_reference13, fun m ρ _ => frame_reference13 m ρ trivial,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  trivial, algebraic (hf := Entry.finite_facts),
  trivial, algebraic2 (hf := MlpRef.finite2_facts),
  trivial, algebraic3, trivial, algebraic4, trivial, algebraic5, trivial, algebraic6,
  trivial, algebraic7, trivial, algebraic8, trivial, algebraic9, trivial, algebraic10, trivial, algebraic11, trivial, algebraic12,
  trivial, algebraic13 (hf := Dact.finite_facts), trivial, algebraic14, trivial, algebraic15, trivial, algebraic16, trivial, algebraic17, trivial, algebraic18⟩

end Cert.Proof

end
